-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_2)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v9_0)) (v4 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_2) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v9_0) = v3 c
          ∧ r.2.mem ((c.tc : Thread Cert.KernelIdeal.nD Cert.KernelIdeal.τ).loc Cert.KernelIdeal.main_v9_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "far" .f32 0x43200000#32 ⊤
  ∧ IdealRules.named_const.Statement Cert.Kernel3Ideal.κ "log2e" .f32 0x3FB8AA3B#32 (((Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v51)) (v1 : (c : Dev Cert.Kernel3Ideal.nD) → Buf (Elt Ideal) ((c.tc : Thread Cert.Kernel3Ideal.nD Cert.Kernel3Ideal.τ).loc Cert.Kernel3Ideal.main_v53)) (v2 : (c : Dev Cert.Kernel3Ideal.nD) → Buf (Elt Ideal) ((c.tc : Thread Cert.Kernel3Ideal.nD Cert.Kernel3Ideal.τ).loc Cert.Kernel3Ideal.main_v49_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v51) = v0 c
          ∧ r.2.mem ((c.tc : Thread Cert.Kernel3Ideal.nD Cert.Kernel3Ideal.τ).loc Cert.Kernel3Ideal.main_v53) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S_ 1 :=
  let main_v0 : FVec F S16384x1024 .f32 := subf main_arg0 main_arg0
  let main_cst : FVec F S_ .f32 := constant S_ .f32 0x00000000#32
  let main_v1 : FVec F S16384x1024 .f32 := broadcastInDim S16384x1024 ![] bcast_S_S16384x1024 main_cst
  let main_v2 : IVec S16384x1024 1 := cmpf .oeq main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := subf main_arg2 main_arg2
  let main_cst_0 : FVec F S_ .f32 := constant S_ .f32 0x00000000#32
  let main_v5 : FVec F S1024x2816 .f32 := broadcastInDim S1024x2816 ![] bcast_S_S1024x2816 main_cst_0
  let main_v6 : IVec S1024x2816 1 := cmpf .oeq main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := subf main_arg3 main_arg3
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S16384x1024 .f32 := subf main_arg4 main_arg4
  let main_cst_4 : FVec F S_ .f32 := constant S_ .f32 0x00000000#32
  let main_v15 : FVec F S16384x1024 .f32 := broadcastInDim S16384x1024 ![] bcast_S_S16384x1024 main_cst_4
  let main_v16 : IVec S16384x1024 1 := cmpf .oeq main_v14 main_v15
  fn_part1 (F := F) main_v13 main_v16
-- ==== Pre_finite3.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := subf main_arg0 main_arg0
  let main_cst : FVec F S_ .f32 := constant S_ .f32 0x00000000#32
  let main_v1 : FVec F S16384x1024 .f32 := broadcastInDim S16384x1024 ![] bcast_S_S16384x1024 main_cst
  let main_v2 : IVec S16384x1024 1 := cmpf .oeq main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := subf main_arg1 main_arg1
  let main_cst_0 : FVec F S_ .f32 := constant S_ .f32 0x00000000#32
  let main_v5 : FVec F S16384x1024 .f32 := broadcastInDim S16384x1024 ![] bcast_S_S16384x1024 main_cst_0
  let main_v6 : IVec S16384x1024 1 := cmpf .oeq main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := subf main_arg2 main_arg2
  let main_cst_2 : FVec F S_ .f32 := constant S_ .f32 0x00000000#32
  let main_v10 : FVec F S16384x1024 .f32 := broadcastInDim S16384x1024 ![] bcast_S_S16384x1024 main_cst_2
  let main_v11 : IVec S16384x1024 1 := cmpf .oeq main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := subf main_arg3 main_arg3
  let main_cst_4 : FVec F S_ .f32 := constant S_ .f32 0x00000000#32
  let main_v15 : FVec F S16384x1024 .f32 := broadcastInDim S16384x1024 ![] bcast_S_S16384x1024 main_cst_4
  let main_v16 : IVec S16384x1024 1 := cmpf .oeq main_v14 main_v15
  fn_part1 (F := F) main_v13 main_v16
-- ==== Kernel.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S1024x1024 : Shape := ⟨2, ![1024, 1024]⟩
abbrev S256x1024 : Shape := ⟨2, ![256, 1024]⟩
abbrev S1024x256 : Shape := ⟨2, ![1024, 256]⟩
abbrev S512x2816 : Shape := ⟨2, ![512, 2816]⟩
abbrev S2816x512 : Shape := ⟨2, ![2816, 512]⟩
abbrev S512x512 : Shape := ⟨2, ![512, 512]⟩
abbrev S512x1024 : Shape := ⟨2, ![512, 1024]⟩
abbrev S512x256 : Shape := ⟨2, ![512, 256]⟩

abbrev nBuf : Space → Nat
  | .hbm => 19
  | .vmem => 40
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S16384x1024, .bf16⟩
  | .hbm, ⟨11, _⟩ => ⟨S16384x1024, .bf16⟩
  | .hbm, ⟨12, _⟩ => ⟨S16384x2816, .bf16⟩
  | .hbm, ⟨13, _⟩ => ⟨S16384x2816, .bf16⟩
  | .hbm, ⟨14, _⟩ => ⟨S16384x2816, .bf16⟩
  | .hbm, ⟨15, _⟩ => ⟨S16384x1024, .f32⟩
  | .hbm, ⟨16, _⟩ => ⟨S16384x2816, .bf16⟩
  | .hbm, ⟨17, _⟩ => ⟨S16384x2816, .bf16⟩
  | .hbm, ⟨18, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S512x2816, .bf16⟩
  | .local _ .vmem, ⟨13, _⟩ => ⟨S512x2816, .bf16⟩
  | .local _ .vmem, ⟨14, _⟩ => ⟨S2816x512, .bf16⟩
  | .local _ .vmem, ⟨15, _⟩ => ⟨S2816x512, .bf16⟩
  | .local _ .vmem, ⟨16, _⟩ => ⟨S512x512, .f32⟩
  | .local _ .vmem, ⟨17, _⟩ => ⟨S512x512, .f32⟩
  | .local _ .vmem, ⟨18, _⟩ => ⟨S1024x1024, .bf16⟩
  | .local _ .vmem, ⟨19, _⟩ => ⟨S1024x1024, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S256x1024, .bf16⟩
  | .local _ .vmem, ⟨25, _⟩ => ⟨S256x1024, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S512x2816, .bf16⟩
  | .local _ .vmem, ⟨31, _⟩ => ⟨S512x2816, .bf16⟩
  | .local _ .vmem, ⟨32, _⟩ => ⟨S512x2816, .bf16⟩
  | .local _ .vmem, ⟨33, _⟩ => ⟨S512x2816, .bf16⟩
  | .local _ .vmem, ⟨34, _⟩ => ⟨S2816x512, .bf16⟩
  | .local _ .vmem, ⟨35, _⟩ => ⟨S2816x512, .bf16⟩
  | .local _ .vmem, ⟨36, _⟩ => ⟨S2816x512, .bf16⟩
  | .local _ .vmem, ⟨37, _⟩ => ⟨S2816x512, .bf16⟩
  | .local _ .vmem, ⟨38, _⟩ => ⟨S512x512, .f32⟩
  | .local _ .vmem, ⟨39, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2816x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![32, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2816x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2816x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .bf16⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2816, .bf16⟩
  | .hbm, ⟨34, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel2.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S16384x1024 : Shape := ⟨2, ![16384, 1024]⟩
abbrev S_ : Shape := ⟨0, ![]⟩
abbrev S16384x3072 : Shape := ⟨2, ![16384, 3072]⟩
abbrev S16384x16x64 : Shape := ⟨3, ![16384, 16, 64]⟩
abbrev S16x16384x16384 : Shape := ⟨3, ![16, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S128 : Shape := ⟨1, ![128]⟩
abbrev S1x128 : Shape := ⟨2, ![1, 128]⟩
abbrev S16384x128 : Shape := ⟨2, ![16384, 128]⟩
abbrev S1x1x16384x128 : Shape := ⟨4, ![1, 1, 16384, 128]⟩
abbrev S16x16384x16384x1 : Shape := ⟨4, ![16, 16384, 16384, 1]⟩
abbrev S16x16384x16384x128 : Shape := ⟨4, ![16, 16384, 16384, 128]⟩
abbrev S16x16384x128 : Shape := ⟨3, ![16, 16384, 128]⟩
abbrev S256x128 : Shape := ⟨2, ![256, 128]⟩
abbrev S2x256x128 : Shape := ⟨3, ![2, 256, 128]⟩
abbrev S2x256x256 : Shape := ⟨3, ![2, 256, 256]⟩
abbrev S2 : Shape := ⟨1, ![2]⟩
abbrev S256x256 : Shape := ⟨2, ![256, 256]⟩
abbrev S512x128 : Shape := ⟨2, ![512, 128]⟩
abbrev S1x256x128 : Shape := ⟨3, ![1, 256, 128]⟩
abbrev S1x1x128 : Shape := ⟨3, ![1, 1, 128]⟩
abbrev S1 : Shape := ⟨1, ![1]⟩
abbrev S1x1x1 : Shape := ⟨3, ![1, 1, 1]⟩
abbrev S1x256x256 : Shape := ⟨3, ![1, 256, 256]⟩
abbrev S256 : Shape := ⟨1, ![256]⟩
abbrev S256x1 : Shape := ⟨2, ![256, 1]⟩
abbrev S512x256 : Shape := ⟨2, ![512, 256]⟩

abbrev nBuf : Space → Nat
  | .hbm => 77
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x3072, .f32⟩
  | .hbm, ⟨11, _⟩ => ⟨S16384x3072, .bf16⟩
  | .hbm, ⟨12, _⟩ => ⟨S16384x1024, .bf16⟩
  | .hbm, ⟨13, _⟩ => ⟨S16384x1024, .f32⟩
  | .hbm, ⟨14, _⟩ => ⟨S16384x16x64, .f32⟩
  | .hbm, ⟨15, _⟩ => ⟨S16384x1024, .bf16⟩
  | .hbm, ⟨16, _⟩ => ⟨S16384x1024, .f32⟩
  | .hbm, ⟨17, _⟩ => ⟨S16384x16x64, .f32⟩
  | .hbm, ⟨18, _⟩ => ⟨S16x16384x16384, .f32⟩
  | .hbm, ⟨19, _⟩ => ⟨S16384, .i32⟩
  | .hbm, ⟨20, _⟩ => ⟨S_, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S16x16384x16384, .f32⟩
  | .hbm, ⟨25, _⟩ => ⟨S16x16384x16384, .f32⟩
  | .hbm, ⟨26, _⟩ => ⟨S16x16384x16384, .f32⟩
  | .hbm, ⟨27, _⟩ => ⟨S16x16384x16384, .f32⟩
  | .hbm, ⟨28, _⟩ => ⟨S_, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S16x16384x16384, .f32⟩
  | .hbm, ⟨35, _⟩ => ⟨S1x16384, .i32⟩
  | .hbm, ⟨36, _⟩ => ⟨S16384x1, .i32⟩
  | .hbm, ⟨37, _⟩ => ⟨S16384x16384, .i32⟩
  | .hbm, ⟨38, _⟩ => ⟨S16384x16384, .i32⟩
  | .hbm, ⟨39, _⟩ => ⟨S16384x16384, .i1⟩
  | .hbm, ⟨40, _⟩ => ⟨S1x16384x16384, .i1⟩
  | .hbm, ⟨41, _⟩ => ⟨S_, .f32⟩
  | .hbm, ⟨42, _⟩ => ⟨S_, .f32⟩
  | .hbm, ⟨43, _⟩ => ⟨S16x16384x16384, .i1⟩
  | .hbm, ⟨44, _⟩ => ⟨S16x16384x16384, .f32⟩
  | .hbm, ⟨45, _⟩ => ⟨S16x16384x16384, .f32⟩
  | .hbm, ⟨46, _⟩ => ⟨S16384x1, .i32⟩
  | .hbm, ⟨47, _⟩ => ⟨S128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i32⟩
  | .hbm, ⟨52, _⟩ => ⟨S_, .i32⟩
  | .hbm, ⟨53, _⟩ => ⟨S1x128, .i32⟩
  | .hbm, ⟨54, _⟩ => ⟨S1x128, .i32⟩
  | .hbm, ⟨55, _⟩ => ⟨S16384x128, .i32⟩
  | .hbm, ⟨56, _⟩ => ⟨S16384x128, .i32⟩
  | .hbm, ⟨57, _⟩ => ⟨S16384x128, .i1⟩
  | .hbm, ⟨58, _⟩ => ⟨S1x1x16384x128, .i1⟩
  | .hbm, ⟨59, _⟩ => ⟨S16x16384x16384x1, .f32⟩
  | .hbm, ⟨60, _⟩ => ⟨S_, .f32⟩
  | .hbm, ⟨61, _⟩ => ⟨S_, .f32⟩
  | .hbm, ⟨62, _⟩ => ⟨S16x16384x16384x128, .i1⟩
  | .hbm, ⟨63, _⟩ => ⟨S16x16384x16384x128, .f32⟩
  | .hbm, ⟨64, _⟩ => ⟨S16x16384x16384x128, .f32⟩
  | .hbm, ⟨65, _⟩ => ⟨S16x16384x16384x128, .f32⟩
  | .hbm, ⟨66, _⟩ => ⟨S_, .f32⟩
  | .hbm, ⟨67, _⟩ => ⟨S16x16384x128, .f32⟩
  | .hbm, ⟨68, _⟩ => ⟨S16384x1024, .bf16⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S256x128, .f32⟩
  | .local _ .vmem, ⟨11, _⟩ => ⟨S256x128, .f32⟩
  | .local _ .vmem, ⟨12, _⟩ => ⟨S16384x128, .f32⟩
  | .local _ .vmem, ⟨13, _⟩ => ⟨S16384x128, .f32⟩
  | .local _ .vmem, ⟨14, _⟩ => ⟨S2x256x128, .f32⟩
  | .local _ .vmem, ⟨15, _⟩ => ⟨S2x256x128, .f32⟩
  | .local _ .vmem, ⟨16, _⟩ => ⟨S2x256x256, .f32⟩
  | .local _ .vmem, ⟨17, _⟩ => ⟨S2x256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49_0 : Ref sig .tc := ⟨.hbm, 69, rfl⟩
abbrev main_v49_1 : Ref sig .tc := ⟨.hbm, 70, rfl⟩
abbrev main_v49_2 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 64], ![false, false]⟩

def k0_mult1 (v66 : BitVec 32) : BitVec 32 :=
  let c256_i32 : BitVec 32 := 256#32
  let v67 : BitVec 32 := Scalar.muli v66 c256_i32
  v67

def k0_off1 (v66 : BitVec 32) : Fin 2 → Nat :=
  let c256_i32 : BitVec 32 := 256#32
  let v67 : BitVec 32 := Scalar.muli v66 c256_i32
  let v68 : BitVec 32 := v67
  let v69 : Index := Scalar.indexCast v68
  let c0_25 : Index := 0#32
  ![v69.toNat, 0]
@[reducible] def k0_t1_loop (i : grid0.Coords) (v66 : BitVec 32) : Scf.Loop 32 :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let c1_i32_45 : BitVec 32 := 1#32
  ⟨v66, v95, c1_i32_45⟩
def k0_mult2 (i : grid0.Coords) (v66 : BitVec 32) (k0_t1 : Fin (k0_t1_loop i v66).trips) : BitVec 32 :=
  let c1_i32_45 : BitVec 32 := 1#32
  let arg17 : BitVec 32 := Scf.iv v66 c1_i32_45 k0_t1
  let c256_i32_152 : BitVec 32 := 256#32
  let v294 : BitVec 32 := Scalar.muli arg17 c256_i32_152
  v294
def k0_off2 (i : grid0.Coords) (v66 : BitVec 32) (k0_t1 : Fin (k0_t1_loop i v66).trips) : Fin 2 → Nat :=
  let c1_i32_45 : BitVec 32 := 1#32
  let arg17 : BitVec 32 := Scf.iv v66 c1_i32_45 k0_t1
  let c256_i32_152 : BitVec 32 := 256#32
  let v294 : BitVec 32 := Scalar.muli arg17 c256_i32_152
  let v295 : BitVec 32 := v294
  let v296 : Index := Scalar.indexCast v295
  let c0_153 : Index := 0#32
  ![v296.toNat, 0]
def k0_mult3 (i : grid0.Coords) (v66 : BitVec 32) (k0_t1 : Fin (k0_t1_loop i v66).trips) : BitVec 32 :=
  let c1_i32_45 : BitVec 32 := 1#32
  let arg17 : BitVec 32 := Scf.iv v66 c1_i32_45 k0_t1
  let c1_i32_170 : BitVec 32 := 1#32
  let v333 : BitVec 32 := Scalar.addi arg17 c1_i32_170
  let arg1 : BitVec 32 := BitVec.ofNat 32 (i 1).val
  let v334 : BitVec 32 := Scalar.minsi v333 arg1
  let c256_i32_171 : BitVec 32 := 256#32
  let v335 : BitVec 32 := Scalar.muli v334 c256_i32_171
  v335
def k0_off3 (i : grid0.Coords) (v66 : BitVec 32) (k0_t1 : Fin (k0_t1_loop i v66).trips) : Fin 2 → Nat :=
  let c1_i32_45 : BitVec 32 := 1#32
  let arg17 : BitVec 32 := Scf.iv v66 c1_i32_45 k0_t1
  let c1_i32_170 : BitVec 32 := 1#32
  let v333 : BitVec 32 := Scalar.addi arg17 c1_i32_170
  let arg1 : BitVec 32 := BitVec.ofNat 32 (i 1).val
  let v334 : BitVec 32 := Scalar.minsi v333 arg1
  let c256_i32_171 : BitVec 32 := 256#32
  let v335 : BitVec 32 := Scalar.muli v334 c256_i32_171
  let v336 : BitVec 32 := v335
  let v337 : Index := Scalar.indexCast v336
  let c0_172 : Index := 0#32
  ![v337.toNat, 0]
@[reducible] def k0_t2_loop (i : grid0.Coords) (v66 : BitVec 32) : Scf.Loop 32 :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let v92 : BitVec 32 := Scalar.addi v66 v91
  let c1_i32_46 : BitVec 32 := 1#32
  ⟨v95, v92, c1_i32_46⟩
def k0_mult4 (i : grid0.Coords) (v66 : BitVec 32) (k0_t2 : Fin (k0_t2_loop i v66).trips) : BitVec 32 :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let c1_i32_46 : BitVec 32 := 1#32
  let arg17 : BitVec 32 := Scf.iv v95 c1_i32_46 k0_t2
  let c256_i32_152 : BitVec 32 := 256#32
  let v294 : BitVec 32 := Scalar.muli arg17 c256_i32_152
  v294
def k0_off4 (i : grid0.Coords) (v66 : BitVec 32) (k0_t2 : Fin (k0_t2_loop i v66).trips) : Fin 2 → Nat :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let c1_i32_46 : BitVec 32 := 1#32
  let arg17 : BitVec 32 := Scf.iv v95 c1_i32_46 k0_t2
  let c256_i32_152 : BitVec 32 := 256#32
  let v294 : BitVec 32 := Scalar.muli arg17 c256_i32_152
  let v295 : BitVec 32 := v294
  let v296 : Index := Scalar.indexCast v295
  let c0_153 : Index := 0#32
  ![v296.toNat, 0]
def k0_mult5 (i : grid0.Coords) (v66 : BitVec 32) (k0_t2 : Fin (k0_t2_loop i v66).trips) : BitVec 32 :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let c1_i32_46 : BitVec 32 := 1#32
  let arg17 : BitVec 32 := Scf.iv v95 c1_i32_46 k0_t2
  let c1_i32_170 : BitVec 32 := 1#32
  let v333 : BitVec 32 := Scalar.addi arg17 c1_i32_170
  let v334 : BitVec 32 := Scalar.minsi v333 arg1
  let c256_i32_171 : BitVec 32 := 256#32
  let v335 : BitVec 32 := Scalar.muli v334 c256_i32_171
  v335
def k0_off5 (i : grid0.Coords) (v66 : BitVec 32) (k0_t2 : Fin (k0_t2_loop i v66).trips) : Fin 2 → Nat :=
  let arg1 : BitVec 32 := BitVec.ofNat 32 (i 1).val
  let v91 : BitVec 32 := Scalar.subi arg1 v66
  let c1_i32_44 : BitVec 32 := 1#32
  let v93 : BitVec 32 := Scalar.divsi v91 c1_i32_44
  let v94 : BitVec 32 := Scalar.muli v93 c1_i32_44
  let v95 : BitVec 32 := Scalar.addi v66 v94
  let c1_i32_46 : BitVec 32 := 1#32
  let arg17 : BitVec 32 := Scf.iv v95 c1_i32_46 k0_t2
  let c1_i32_170 : BitVec 32 := 1#32
  let v333 : BitVec 32 := Scalar.addi arg17 c1_i32_170
  let v334 : BitVec 32 := Scalar.minsi v333 arg1
  let c256_i32_171 : BitVec 32 := 256#32
  let v335 : BitVec 32 := Scalar.muli v334 c256_i32_171
  let v336 : BitVec 32 := v335
  let v337 : Index := Scalar.indexCast v336
  let c0_172 : Index := 0#32
  ![v337.toNat, 0]

def k0_chk1 (i : grid0.Coords) (v66 : BitVec 32) : Prop :=
  (256 ∣ (k0_mult1 v66).toNat) ∧
  (∀ a, (k0_off1 v66) a + S256x128.size a ≤ S16384x128.size a) ∧
  ((k0_t1_loop i v66).OK) ∧
  (∀ k0_t1 : Fin (k0_t1_loop i v66).trips, 256 ∣ (k0_mult2 i v66 k0_t1).toNat) ∧
  (∀ k0_t1 : Fin (k0_t1_loop i v66).trips, ∀ a, (k0_off2 i v66 k0_t1) a + S256x128.size a ≤ S16384x128.size a) ∧
  (∀ k0_t1 : Fin (k0_t1_loop i v66).trips, 256 ∣ (k0_mult3 i v66 k0_t1).toNat) ∧
  (∀ k0_t1 : Fin (k0_t1_loop i v66).trips, ∀ a, (k0_off3 i v66 k0_t1) a + S256x128.size a ≤ S16384x128.size a) ∧
  ((k0_t2_loop i v66).OK) ∧
  (∀ k0_t2 : Fin (k0_t2_loop i v66).trips, 256 ∣ (k0_mult4 i v66 k0_t2).toNat) ∧
  (∀ k0_t2 : Fin (k0_t2_loop i v66).trips, ∀ a, (k0_off4 i v66 k0_t2) a + S256x128.size a ≤ S16384x128.size a) ∧
  (∀ k0_t2 : Fin (k0_t2_loop i v66).trips, 256 ∣ (k0_mult5 i v66 k0_t2).toNat) ∧
  (∀ k0_t2 : Fin (k0_t2_loop i v66).trips, ∀ a, (k0_off5 i v66 k0_t2) a + S256x128.size a ≤ S16384x128.size a)
theorem k0_mult1_dvd : ∀ (i : grid0.Coords) (v66 : BitVec 32) (k0_hw1 : k0_chk1 i v66), 256 ∣ (k0_mult1 v66).toNat := fun i v66 k0_hw1 => k0_hw1.1
theorem k0_off1_inb : ∀ (i : grid0.Coords) (v66 : BitVec 32) (k0_hw1 : k0_chk1 i v66), ∀ a, (k0_off1 v66) a + S256x128.size a ≤ S16384x128.size a := fun i v66 k0_hw1 => k0_hw1.2.1
theorem k0_t1_ok : ∀ (i : grid0.Coords) (v66 : BitVec 32) (k0_hw1 : k0_chk1 i v66), (k0_t1_loop i v66).OK := fun i v66 k0_hw1 => k0_hw1.2.2.1
theorem k0_mult2_dvd : ∀ (i : grid0.Coords) (v66 : BitVec 32) (k0_hw1 : k0_chk1 i v66) (k0_t1 : Fin (k0_t1_loop i v66).trips), 256 ∣ (k0_mult2 i v66 k0_t1).toNat := fun i v66 k0_hw1 k0_t1 => k0_hw1.2.2.2.1 k0_t1
theorem k0_off2_inb : ∀ (i : grid0.Coords) (v66 : BitVec 32) (k0_hw1 : k0_chk1 i v66) (k0_t1 : Fin (k0_t1_loop i v66).trips), ∀ a, (k0_off2 i v66 k0_t1) a + S256x128.size a ≤ S16384x128.size a := fun i v66 k0_hw1 k0_t1 => k0_hw1.2.2.2.2.1 k0_t1
theorem k0_mult3_dvd : ∀ (i : grid0.Coords) (v66 : BitVec 32) (k0_hw1 : k0_chk1 i v66) (k0_t1 : Fin (k0_t1_loop i v66).trips), 256 ∣ (k0_mult3 i v66 k0_t1).toNat := fun i v66 k0_hw1 k0_t1 => k0_hw1.2.2.2.2.2.1 k0_t1
theorem k0_off3_inb : ∀ (i : grid0.Coords) (v66 : BitVec 32) (k0_hw1 : k0_chk1 i v66) (k0_t1 : Fin (k0_t1_loop i v66).trips), ∀ a, (k0_off3 i v66 k0_t1) a + S256x128.size a ≤ S16384x128.size a := fun i v66 k0_hw1 k0_t1 => k0_hw1.2.2.2.2.2.2.1 k0_t1
theorem k0_t2_ok : ∀ (i : grid0.Coords) (v66 : BitVec 32) (k0_hw1 : k0_chk1 i v66), (k0_t2_loop i v66).OK := fun i v66 k0_hw1 => k0_hw1.2.2.2.2.2.2.2.1
theorem k0_mult4_dvd : ∀ (i : grid0.Coords) (v66 : BitVec 32) (k0_hw1 : k0_chk1 i v66) (k0_t2 : Fin (k0_t2_loop i v66).trips), 256 ∣ (k0_mult4 i v66 k0_t2).toNat := fun i v66 k0_hw1 k0_t2 => k0_hw1.2.2.2.2.2.2.2.2.1 k0_t2
theorem k0_off4_inb : ∀ (i : grid0.Coords) (v66 : BitVec 32) (k0_hw1 : k0_chk1 i v66) (k0_t2 : Fin (k0_t2_loop i v66).trips), ∀ a, (k0_off4 i v66 k0_t2) a + S256x128.size a ≤ S16384x128.size a := fun i v66 k0_hw1 k0_t2 => k0_hw1.2.2.2.2.2.2.2.2.2.1 k0_t2
theorem k0_mult5_dvd : ∀ (i : grid0.Coords) (v66 : BitVec 32) (k0_hw1 : k0_chk1 i v66) (k0_t2 : Fin (k0_t2_loop i v66).trips), 256 ∣ (k0_mult5 i v66 k0_t2).toNat := fun i v66 k0_hw1 k0_t2 => k0_hw1.2.2.2.2.2.2.2.2.2.2.1 k0_t2
theorem k0_off5_inb : ∀ (i : grid0.Coords) (v66 : BitVec 32) (k0_hw1 : k0_chk1 i v66) (k0_t2 : Fin (k0_t2_loop i v66).trips), ∀ a, (k0_off5 i v66 k0_t2) a + S256x128.size a ≤ S16384x128.size a := fun i v66 k0_hw1 k0_t2 => k0_hw1.2.2.2.2.2.2.2.2.2.2.2 k0_t2

def k0_mult6 (i : grid0.Coords) : BitVec 32 :=
  let arg1 : BitVec 32 := BitVec.ofNat 32 (i 1).val
  let c256_i32_47 : BitVec 32 := 256#32
  let v96 : BitVec 32 := Scalar.muli arg1 c256_i32_47
  v96
def k0_off6 (i : grid0.Coords) : Fin 2 → Nat :=
  let arg1 : BitVec 32 := BitVec.ofNat 32 (i 1).val
  let c256_i32_47 : BitVec 32 := 256#32
  let v96 : BitVec 32 := Scalar.muli arg1 c256_i32_47
  let v97 : BitVec 32 := v96
  let v98 : Index := Scalar.indexCast v97
  let c0_48 : Index := 0#32
  ![v98.toNat, 0]
def k0_mult7 (i : grid0.Coords) : BitVec 32 :=
  let arg1 : BitVec 32 := BitVec.ofNat 32 (i 1).val
  let c1_i32_67 : BitVec 32 := 1#32
  let v141 : BitVec 32 := Scalar.addi arg1 c1_i32_67
  let v142 : BitVec 32 := Scalar.minsi v141 arg1
  let c256_i32_68 : BitVec 32 := 256#32
  let v143 : BitVec 32 := Scalar.muli v142 c256_i32_68
  v143
def k0_off7 (i : grid0.Coords) : Fin 2 → Nat :=
  let arg1 : BitVec 32 := BitVec.ofNat 32 (i 1).val
  let c1_i32_67 : BitVec 32 := 1#32
  let v141 : BitVec 32 := Scalar.addi arg1 c1_i32_67
  let v142 : BitVec 32 := Scalar.minsi v141 arg1
  let c256_i32_68 : BitVec 32 := 256#32
  let v143 : BitVec 32 := Scalar.muli v142 c256_i32_68
  let v144 : BitVec 32 := v143
  let v145 : Index := Scalar.indexCast v144
  let c0_69 : Index := 0#32
  ![v145.toNat, 0]
def k0_cond2 (i : grid0.Coords) : BitVec 1 :=
  let arg1 : BitVec 32 := BitVec.ofNat 32 (i 1).val
  let c63_i32 : BitVec 32 := 63#32
  let v291 : BitVec 1 := Scalar.cmpi .eq arg1 c63_i32
  let v292 : BitVec 32 := Scalar.extui v291
  let c0_i32_151 : BitVec 32 := 0#32
  let v293 : BitVec 1 := Scalar.cmpi .ne v292 c0_i32_151
  v293

def k0_mult8 (i : grid0.Coords) : BitVec 32 :=
  let arg0 : BitVec 32 := BitVec.ofNat 32 (i 0).val
  let c128_i32 : BitVec 32 := 128#32
  let v294 : BitVec 32 := Scalar.muli arg0 c128_i32
  v294
def k0_off8 (i : grid0.Coords) : Fin 2 → Nat :=
  let c0_i32_153 : BitVec 32 := 0#32
  let arg0 : BitVec 32 := BitVec.ofNat 32 (i 0).val
  let c128_i32 : BitVec 32 := 128#32
  let v294 : BitVec 32 := Scalar.muli arg0 c128_i32
  let v295 : BitVec 32 := v294
  ![0, v295.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "far" => some ⊤
  | "log2e" => some (((Real.log 2)⁻¹ : ℝ) : EReal)
  | _ => none
-- ==== Reference3Ideal.lean ====
abbrev S16384x1024 : Shape := ⟨2, ![16384, 1024]⟩
abbrev S16384x16x64 : Shape := ⟨3, ![16384, 16, 64]⟩
abbrev S16x16384x64 : Shape := ⟨3, ![16, 16384, 64]⟩
abbrev S_ : Shape := ⟨0, ![]⟩
abbrev S16x16384x16384 : Shape := ⟨3, ![16, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16x16384x16383 : Shape := ⟨3, ![16, 16384, 16383]⟩
abbrev S16x16384x1 : Shape := ⟨3, ![16, 16384, 1]⟩
abbrev S16x64x16384 : Shape := ⟨3, ![16, 64, 16384]⟩

abbrev nBuf : Space → Nat
  | .hbm => 180
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x16x64, .f32⟩
  | 5 => ⟨S16x16384x64, .f32⟩
  | 6 => ⟨S_, .f32⟩
  | 7 => ⟨S16x16384x64, .f32⟩
  | 8 => ⟨S16x16384x64, .f32⟩
  | 9 => ⟨S16384x16x64, .f32⟩
  | 10 => ⟨S16x16384x64, .f32⟩
  | 11 => ⟨S16384x16x64, .f32⟩
  | 12 => ⟨S16x16384x64, .f32⟩
  | 13 => ⟨S16x16384x16384, .f32⟩
  | 14 => ⟨S16384, .i32⟩
  | 15 => ⟨S1x16384, .i32⟩
  | 16 => ⟨S16384x1, .i32⟩
  | 17 => ⟨S16384x16384, .i32⟩
  | 18 => ⟨S16384x16384, .i32⟩
  | 19 => ⟨S16384x16384, .i1⟩
  | 20 => ⟨S1x16384x16384, .i1⟩
  | 21 => ⟨S_, .f32⟩
  | 22 => ⟨S16x16384x16384, .f32⟩
  | 23 => ⟨S16x16384x16384, .f32⟩
  | 24 => ⟨S16x16384x16384, .f32⟩
  | 25 => ⟨S16x16384x16384, .f32⟩
  | 26 => ⟨S16x16384x16384, .i1⟩
  | 27 => ⟨S16x16384x16384, .f32⟩
  | 28 => ⟨S16x16384x16384, .f32⟩
  | 29 => ⟨S16x16384x16384, .f32⟩
  | 30 => ⟨S16x16384x16384, .f32⟩
  | 31 => ⟨S16x16384x16384, .f32⟩
  | 32 => ⟨S16x16384x16384, .f32⟩
  | 33 => ⟨S16x16384x16384, .f32⟩
  | 34 => ⟨S16x16384x16384, .f32⟩
  | 35 => ⟨S_, .f32⟩
  | 36 => ⟨S16x16384x16384, .f32⟩
  | 37 => ⟨S16x16384x16384, .i1⟩
  | 38 => ⟨S_, .f32⟩
  | 39 => ⟨S16x16384x16384, .f32⟩
  | 40 => ⟨S16x16384x16384, .f32⟩
  | 41 => ⟨S_, .f32⟩
  | 42 => ⟨S16x16384x16384, .f32⟩
  | 43 => ⟨S16x16384x16384, .i1⟩
  | 44 => ⟨S_, .f32⟩
  | 45 => ⟨S16x16384x16384, .f32⟩
  | 46 => ⟨S16x16384x16384, .f32⟩
  | 47 => ⟨S16x16384x16384, .f32⟩
  | 48 => ⟨S16x16384x16384, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S16x16384x16384, .f32⟩
  | 57 => ⟨S16x16384x16384, .i1⟩
  | 58 => ⟨S_, .f32⟩
  | 59 => ⟨S16x16384x16384, .f32⟩
  | 60 => ⟨S16x16384x16384, .f32⟩
  | 61 => ⟨S16x16384x16384, .f32⟩
  | 62 => ⟨S16x16384x16384, .f32⟩
  | 63 => ⟨S16x16384x16384, .f32⟩
  | 64 => ⟨S_, .f32⟩
  | 65 => ⟨S16x16384x16384, .f32⟩
  | 66 => ⟨S16x16384x16384, .f32⟩
  | 67 => ⟨S_, .f32⟩
  | 68 => ⟨S_, .f32⟩
  | 69 => ⟨S16x16384x16384, .i1⟩
  | 70 => ⟨S16x16384x16384, .f32⟩
  | 71 => ⟨S16x16384x16384, .f32⟩
  | 72 => ⟨S_, .f32⟩
  | 73 => ⟨S16x16384x16384, .f32⟩
  | 74 => ⟨S_, .f32⟩
  | 75 => ⟨S_, .f32⟩
  | 76 => ⟨S16x16384x16384, .f32⟩
  | 77 => ⟨S16x16384x16383, .f32⟩
  | 78 => ⟨S16x16384x1, .f32⟩
  | 79 => ⟨S_, .f32⟩
  | 80 => ⟨S16x16384x1, .f32⟩
  | 81 => ⟨S16x16384x16384, .f32⟩
  | 82 => ⟨S_, .f32⟩
  | 83 => ⟨S16x16384x1, .f32⟩
  | 84 => ⟨S16x16384x16384, .f32⟩
  | 85 => ⟨S_, .f32⟩
  | 86 => ⟨S16x16384x16384, .f32⟩
  | 87 => ⟨S16x16384x16384, .f32⟩
  | 88 => ⟨S16x16384x16384, .f32⟩
  | 89 => ⟨S16x16384x16384, .f32⟩
  | 90 => ⟨S16x16384x16384, .i1⟩
  | 91 => ⟨S16x16384x16384, .f32⟩
  | 92 => ⟨S16x16384x16384, .f32⟩
  | 93 => ⟨S16x16384x16384, .f32⟩
  | 94 => ⟨S16x16384x16384, .f32⟩
  | 95 => ⟨S16x16384x16384, .f32⟩
  | 96 => ⟨S16x16384x16384, .f32⟩
  | 97 => ⟨S16x16384x16384, .f32⟩
  | 98 => ⟨S16x16384x16384, .f32⟩
  | 99 => ⟨S_, .f32⟩
  | 100 => ⟨S16x16384x16384, .f32⟩
  | 101 => ⟨S16x16384x16384, .i1⟩
  | 102 => ⟨S_, .f32⟩
  | 103 => ⟨S16x16384x16384, .f32⟩
  | 104 => ⟨S16x16384x16384, .f32⟩
  | 105 => ⟨S_, .f32⟩
  | 106 => ⟨S16x16384x16384, .f32⟩
  | 107 => ⟨S16x16384x16384, .i1⟩
  | 108 => ⟨S_, .f32⟩
  | 109 => ⟨S16x16384x16384, .f32⟩
  | 110 => ⟨S16x16384x16384, .f32⟩
  | 111 => ⟨S16x16384x16384, .f32⟩
  | 112 => ⟨S16x16384x16384, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S16x16384x16384, .f32⟩
  | 121 => ⟨S16x16384x16384, .i1⟩
  | 122 => ⟨S_, .f32⟩
  | 123 => ⟨S16x16384x16384, .f32⟩
  | 124 => ⟨S16x16384x16384, .f32⟩
  | 125 => ⟨S16x16384x16384, .f32⟩
  | 126 => ⟨S16x16384x16384, .f32⟩
  | 127 => ⟨S16x16384x16384, .f32⟩
  | _ => ⟨S16384x1024, .f32⟩

abbrev hbmTy0_1 (i : Nat) : BufTy := match i % 128 with
  | 0 => ⟨S_, .f32⟩
  | 1 => ⟨S16x16384x16384, .f32⟩
  | 2 => ⟨S16x16384x16384, .f32⟩
  | 3 => ⟨S16x16384x16384, .f32⟩
  | 4 => ⟨S16x16384x16384, .f32⟩
  | 5 => ⟨S16x16384x16384, .f32⟩
  | 6 => ⟨S_, .f32⟩
  | 7 => ⟨S_, .f32⟩
  | 8 => ⟨S16x16384x16384, .i1⟩
  | 9 => ⟨S16x16384x16384, .f32⟩
  | 10 => ⟨S16x16384x16384, .f32⟩
  | 11 => ⟨S_, .f32⟩
  | 12 => ⟨S16x16384x16384, .f32⟩
  | 13 => ⟨S16x16384x64, .f32⟩
  | 14 => ⟨S16384x16x64, .f32⟩
  | 15 => ⟨S16384x1024, .f32⟩
  | 16 => ⟨S16384x16x64, .f32⟩
  | 17 => ⟨S16x16384x64, .f32⟩
  | 18 => ⟨S16x64x16384, .f32⟩
  | 19 => ⟨S16x16384x64, .f32⟩
  | 20 => ⟨S16x16384x16384, .f32⟩
  | 21 => ⟨S_, .f32⟩
  | 22 => ⟨S16x16384x16384, .f32⟩
  | 23 => ⟨S16x16384x16384, .f32⟩
  | 24 => ⟨S16x16384x16384, .f32⟩
  | 25 => ⟨S16x16384x16384, .f32⟩
  | 26 => ⟨S16x16384x16384, .f32⟩
  | 27 => ⟨S16x16384x16384, .f32⟩
  | 28 => ⟨S16x16384x16384, .f32⟩
  | 29 => ⟨S16x16384x16383, .f32⟩
  | 30 => ⟨S16x16384x1, .f32⟩
  | 31 => ⟨S_, .f32⟩
  | 32 => ⟨S16x16384x16384, .f32⟩
  | 33 => ⟨S_, .f32⟩
  | 34 => ⟨S_, .f32⟩
  | 35 => ⟨S16x16384x16384, .f32⟩
  | 36 => ⟨S_, .f32⟩
  | 37 => ⟨S16x16384x16384, .f32⟩
  | 38 => ⟨S16x16384x16384, .f32⟩
  | 39 => ⟨S16x16384x16384, .f32⟩
  | 40 => ⟨S16x16384x16384, .f32⟩
  | 41 => ⟨S16x16384x64, .f32⟩
  | 42 => ⟨S16x16384x64, .f32⟩
  | 43 => ⟨S16384x16x64, .f32⟩
  | 44 => ⟨S16384x1024, .f32⟩
  | 45 => ⟨S16384x16x64, .f32⟩
  | 46 => ⟨S16384x1024, .f32⟩
  | 47 => ⟨S_, .f32⟩
  | 48 => ⟨S16x16384x64, .f32⟩
  | 49 => ⟨S16x16384x64, .f32⟩
  | 50 => ⟨S16384x16x64, .f32⟩
  | 51 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16_0 : Ref sig .tc := ⟨.hbm, 34, rfl⟩
abbrev main_call0_cst_0 : Ref sig .tc := ⟨.hbm, 35, rfl⟩
abbrev main_call0_v13 : Ref sig .tc := ⟨.hbm, 36, rfl⟩
abbrev main_call0_v14 : Ref sig .tc := ⟨.hbm, 37, rfl⟩
abbrev main_call0_cst_1 : Ref sig .tc := ⟨.hbm, 38, rfl⟩
abbrev main_call0_v15 : Ref sig .tc := ⟨.hbm, 39, rfl⟩
abbrev main_call0_v16 : Ref sig .tc := ⟨.hbm, 40, rfl⟩
abbrev main_call0_cst_2 : Ref sig .tc := ⟨.hbm, 41, rfl⟩
abbrev main_call0_v17 : Ref sig .tc := ⟨.hbm, 42, rfl⟩
abbrev main_call0_v18 : Ref sig .tc := ⟨.hbm, 43, rfl⟩
abbrev main_call0_cst_3 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v16_1 : Ref sig .tc := ⟨.hbm, 48, rfl⟩
abbrev main_call0_cst_4 : Ref sig .tc := ⟨.hbm, 49, rfl⟩
abbrev main_call0_cst_5 : Ref sig .tc := ⟨.hbm, 50, rfl⟩
abbrev main_call0_v23 : Ref sig .tc := ⟨.hbm, 51, rfl⟩
abbrev main_call0_cst_6 : Ref sig .tc := ⟨.hbm, 52, rfl⟩
abbrev main_call0_cst_7 : Ref sig .tc := ⟨.hbm, 53, rfl⟩
abbrev main_call0_v24 : Ref sig .tc := ⟨.hbm, 54, rfl⟩
abbrev main_call0_cst_8 : Ref sig .tc := ⟨.hbm, 55, rfl⟩
abbrev main_call0_v25 : Ref sig .tc := ⟨.hbm, 56, rfl⟩
abbrev main_call0_v26 : Ref sig .tc := ⟨.hbm, 57, rfl⟩
abbrev main_call0_cst_9 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_cst_10 : Ref sig .tc := ⟨.hbm, 64, rfl⟩
abbrev main_call0_v32 : Ref sig .tc := ⟨.hbm, 65, rfl⟩
abbrev main_v16_2 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_cst_1 : Ref sig .tc := ⟨.hbm, 79, rfl⟩
abbrev main_v21 : Ref sig .tc := ⟨.hbm, 80, rfl⟩
abbrev main_v22 : Ref sig .tc := ⟨.hbm, 81, rfl⟩
abbrev main_cst_2 : Ref sig .tc := ⟨.hbm, 82, rfl⟩
abbrev main_v23 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v24_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v24_2 : Ref sig .tc := ⟨.hbm, 130, rfl⟩
abbrev main_v24_0 : Ref sig .tc := ⟨.hbm, 131, rfl⟩
abbrev main_v25 : Ref sig .tc := ⟨.hbm, 132, rfl⟩
abbrev main_v26 : Ref sig .tc := ⟨.hbm, 133, rfl⟩
abbrev main_cst_3 : Ref sig .tc := ⟨.hbm, 134, rfl⟩
abbrev main_call4_v0 : Ref sig .tc := ⟨.hbm, 135, rfl⟩
abbrev main_v27_1 : Ref sig .tc := ⟨.hbm, 136, rfl⟩
abbrev main_call4_v2 : Ref sig .tc := ⟨.hbm, 137, rfl⟩
abbrev main_v27_0 : Ref sig .tc := ⟨.hbm, 138, rfl⟩
abbrev main_call4_cst : Ref sig .tc := ⟨.hbm, 139, rfl⟩
abbrev main_v27_2 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call5_cst : Ref sig .tc := ⟨.hbm, 149, rfl⟩
abbrev main_call5_v0 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_call6_v0 : Ref sig .tc := ⟨.hbm, 154, rfl⟩
abbrev main_call6_v1 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_cst_4 : Ref sig .tc := ⟨.hbm, 159, rfl⟩
abbrev main_v42 : Ref sig .tc := ⟨.hbm, 160, rfl⟩
abbrev main_call7_cst : Ref sig .tc := ⟨.hbm, 161, rfl⟩
abbrev main_call7_v0 : Ref sig .tc := ⟨.hbm, 162, rfl⟩
abbrev main_v43 : Ref sig .tc := ⟨.hbm, 163, rfl⟩
abbrev main_call8_cst : Ref sig .tc := ⟨.hbm, 164, rfl⟩
abbrev main_call8_v0 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_cst_5 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .f32⟩
  | .hbm, ⟨3, _⟩ => ⟨S16384x1024, .f32⟩
  | .hbm, ⟨4, _⟩ => ⟨S_, .f32⟩
  | .hbm, ⟨5, _⟩ => ⟨S2048x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x3072 : Shape := ⟨2, ![16384, 3072]⟩
abbrev S16384x1024 : Shape := ⟨2, ![16384, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S16384x3072 : Shape := ⟨2, ![16384, 3072]⟩
abbrev S16384x1024 : Shape := ⟨2, ![16384, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x3072 : Shape := ⟨2, ![16384, 3072]⟩
abbrev S16384x1024 : Shape := ⟨2, ![16384, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x3072, .f32⟩
  | .hbm, ⟨3, _⟩ => ⟨S16384x1024, .f32⟩
  | .hbm, ⟨4, _⟩ => ⟨S_, .f32⟩
  | .hbm, ⟨5, _⟩ => ⟨S3072x1024, .f32⟩
  | .hbm, ⟨6, _⟩ => ⟨S16384x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S16384x1024 : Shape := ⟨2, ![16384, 1024]⟩
abbrev S2048x1024 : Shape := ⟨2, ![2048, 1024]⟩
abbrev S1x2048 : Shape := ⟨2, ![1, 2048]⟩
abbrev S16384x2048 : Shape := ⟨2, ![16384, 2048]⟩
abbrev S512x1024 : Shape := ⟨2, ![512, 1024]⟩
abbrev S1x512 : Shape := ⟨2, ![1, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S1x2048, .f32⟩
  | .hbm, ⟨3, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x1024 : Shape := ⟨2, ![16384, 1024]⟩
abbrev S2048x1024 : Shape := ⟨2, ![2048, 1024]⟩
abbrev S1x2048 : Shape := ⟨2, ![1, 2048]⟩
abbrev S1024x2048 : Shape := ⟨2, ![1024, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S1x2048, .f32⟩
  | .hbm, ⟨3, _⟩ => ⟨S16384x1024, .f32⟩
  | .hbm, ⟨4, _⟩ => ⟨S2048x1024, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S16384x1024 : Shape := ⟨2, ![16384, 1024]⟩
abbrev S3072x1024 : Shape := ⟨2, ![3072, 1024]⟩
abbrev S16384x3072 : Shape := ⟨2, ![16384, 3072]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S16384x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x1024 : Shape := ⟨2, ![16384, 1024]⟩
abbrev S3072x1024 : Shape := ⟨2, ![3072, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S3072x1024, .bf16⟩
  | .hbm, ⟨2, _⟩ => ⟨S16384x1024, .f32⟩
  | .hbm, ⟨3, _⟩ => ⟨S3072x1024, .f32⟩
  | .hbm, ⟨4, _⟩ => ⟨S1024x3072, .f32⟩
  | .hbm, ⟨5, _⟩ => ⟨S16384x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x3072 : Shape := ⟨2, ![16384, 3072]⟩
abbrev S3072x1024 : Shape := ⟨2, ![3072, 1024]⟩
abbrev S16384x1024 : Shape := ⟨2, ![16384, 1024]⟩
abbrev S512x3072 : Shape := ⟨2, ![512, 3072]⟩
abbrev S3072x512 : Shape := ⟨2, ![3072, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S3072x512, .bf16⟩
  | .local _ .vmem, ⟨3, _⟩ => ⟨S3072x512, .bf16⟩
  | .local _ .vmem, ⟨4, _⟩ => ⟨S512x512, .f32⟩
  | .local _ .vmem, ⟨5, _⟩ => ⟨S512x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel9Ideal.lean ====
abbrev S16384x3072 : Shape := ⟨2, ![16384, 3072]⟩
abbrev S3072x1024 : Shape := ⟨2, ![3072, 1024]⟩
abbrev S16384x1024 : Shape := ⟨2, ![16384, 1024]⟩
abbrev S512x3072 : Shape := ⟨2, ![512, 3072]⟩
abbrev S3072x512 : Shape := ⟨2, ![3072, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S3072x512, .bf16⟩
  | .local _ .vmem, ⟨3, _⟩ => ⟨S3072x512, .bf16⟩
  | .local _ .vmem, ⟨4, _⟩ => ⟨S512x512, .f32⟩
  | .local _ .vmem, ⟨5, _⟩ => ⟨S512x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x3072 : Shape := ⟨2, ![16384, 3072]⟩
abbrev S3072x1024 : Shape := ⟨2, ![3072, 1024]⟩
abbrev S_ : Shape := ⟨0, ![]⟩
abbrev S16384x1024 : Shape := ⟨2, ![16384, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S3072x1024, .bf16⟩
  | .hbm, ⟨2, _⟩ => ⟨S16384x3072, .f32⟩
  | .hbm, ⟨3, _⟩ => ⟨S3072x1024, .f32⟩
  | .hbm, ⟨4, _⟩ => ⟨S_, .f32⟩
  | .hbm, ⟨5, _⟩ => ⟨S16384x1024, .f32⟩
  | .hbm, ⟨6, _⟩ => ⟨S1024x3072, .f32⟩
  | .hbm, ⟨7, _⟩ => ⟨S16384x3072, .f32⟩
  | .hbm, ⟨8, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S16384x2048 : Shape := ⟨2, ![16384, 2048]⟩
abbrev S2048x1024 : Shape := ⟨2, ![2048, 1024]⟩
abbrev S_ : Shape := ⟨0, ![]⟩
abbrev S16384x1024 : Shape := ⟨2, ![16384, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S_, .f32⟩
  | .hbm, ⟨5, _⟩ => ⟨S16384x1024, .f32⟩
  | .hbm, ⟨6, _⟩ => ⟨S1024x2048, .f32⟩
  | .hbm, ⟨7, _⟩ => ⟨S16384x2048, .f32⟩
  | .hbm, ⟨8, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Arith.lean ====
/- The arithmetic of the SwiGLU layer and of its gradient over the extended reals: the two kinds of product, the
   gate and its two gradients, and the one identity between the two programs' spellings of the gate's gradient,
   which asks that the factor in front be a number. -/
module

public import Idealize.ShloMosaic.Lib.Pointwise
public import Idealize.ShloMosaic.Lib.IdealHost

@[expose] public section

noncomputable section

open Idealize.ShloMosaic

namespace Swiglu

/-- A product with the right factor transposed: entry (r, c) is the sum over k of X[r,k] Y[c,k]. -/
def nt {M N K : ℕ} (X : (⟨2, ![M, K]⟩ : Shape).Idx → EReal) (Y : (⟨2, ![N, K]⟩ : Shape).Idx → EReal) (r : Fin M) (c : Fin N) : EReal :=
  ∑ k : Fin K, X (ix2 r k) * Y (ix2 c k)

/-- A product: entry (r, c) is the sum over k of X[r,k] Y[k,c]. -/
def nn {M N K : ℕ} (X : (⟨2, ![M, K]⟩ : Shape).Idx → EReal) (Y : (⟨2, ![K, N]⟩ : Shape).Idx → EReal) (r : Fin M) (c : Fin N) : EReal :=
  ∑ k : Fin K, X (ix2 r k) * Y (ix2 k c)

/-- The logistic function, spelt as both programs spell it. -/
def sg (z : EReal) : EReal := Ideal.div 1 (1 + Ideal.exp (-z))

/-- The gradient of silu(g1) g3 at g3 and at g1, of the gradient da of the product. -/
def gate3 (da g1 : EReal) : EReal := da * (g1 * sg g1)
def gate1 (da g1 g3 : EReal) : EReal := da * g3 * (sg g1 * (1 + g1 * (1 - sg g1)))

/-- A number: neither infinity. -/
def IsNum (x : EReal) : Prop := ∃ r : ℝ, x = r

theorem IsNum.mul {x y : EReal} (hx : IsNum x) (hy : IsNum y) : IsNum (x * y) := by
  obtain ⟨a, rfl⟩ := hx; obtain ⟨b, rfl⟩ := hy
  exact ⟨a * b, (EReal.coe_mul a b).symm⟩

theorem IsNum.sum {ι : Type} (s : Finset ι) (f : ι → EReal) (h : ∀ i, IsNum (f i)) : IsNum (∑ i ∈ s, f i) := by
  classical
  induction s using Finset.induction_on with
  | empty => exact ⟨0, by simp⟩
  | insert a s ha ih =>
    obtain ⟨x, hx⟩ := h a; obtain ⟨y, hy⟩ := ih
    exact ⟨x + y, by rw [Finset.sum_insert ha, hx, hy, EReal.coe_add]⟩

/-- What the precondition says of an entry: it less itself is zero, so it is a number. -/
theorem IsNum.of_sub_self {x : EReal} (h : x - x = 0) : IsNum x := by
  induction x with
  | bot => simp at h
  | coe r => exact ⟨r, rfl⟩
  | top => simp at h

/-- The gate's gradient as differentiation spells it, x s + (g x) (s (1 - s)), is the kernel's x (s (1 + g (1 - s))),
    for every g (the infinities too), x a number. -/
theorem gate1_eq {da g3 : EReal} (hda : IsNum da) (hg3 : IsNum g3) (g : EReal) :
    da * g3 * sg g + g * (da * g3) * (sg g * (1 - sg g)) = gate1 da g g3 := by
  obtain ⟨x, hx⟩ := hda.mul hg3
  unfold gate1
  rw [hx]
  have hs : sg g = Ideal.logistic g := rfl
  induction g with
  | bot => rw [hs, Ideal.logistic_bot]; simp
  | top =>
    rw [hs, Ideal.logistic_top]
    have h1 : (1 : EReal) - 1 = 0 := by rw [← EReal.coe_one, ← EReal.coe_sub, sub_self, EReal.coe_zero]
    rw [h1]; simp
  | coe a =>
    rw [hs, Ideal.logistic_coe]
    norm_cast
    ring

/-! ## The layer, index by index -/

variable {S D F : ℕ} (H : (⟨2, ![S, D]⟩ : Shape).Idx → EReal) (W1 W3 : (⟨2, ![D, F]⟩ : Shape).Idx → EReal)
  (W2 : (⟨2, ![F, D]⟩ : Shape).Idx → EReal) (DY : (⟨2, ![S, D]⟩ : Shape).Idx → EReal)

/-- silu(H W1) (H W3) -/
def act (r : Fin S) (f : Fin F) : EReal := nn H W1 r f * sg (nn H W1 r f) * nn H W3 r f
/-- The layer's result. -/
def out (r : Fin S) (d : Fin D) : EReal := ∑ f : Fin F, act H W1 W3 r f * W2 (ix2 f d)
/-- The gradients at H W3 and at H W1. -/
def grad3 (r : Fin S) (f : Fin F) : EReal := gate3 (nt DY W2 r f) (nn H W1 r f)
def grad1 (r : Fin S) (f : Fin F) : EReal := gate1 (nt DY W2 r f) (nn H W1 r f) (nn H W3 r f)
/-- The gradient at H. -/
def gradH (r : Fin S) (d : Fin D) : EReal :=
  (∑ f : Fin F, grad1 H W1 W3 W2 DY r f * W1 (ix2 d f)) + ∑ f : Fin F, grad3 H W1 W2 DY r f * W3 (ix2 d f)

/-- Products of arrays of numbers are numbers. -/
theorem nn_isNum {M N K : ℕ} {X : (⟨2, ![M, K]⟩ : Shape).Idx → EReal} {Y : (⟨2, ![K, N]⟩ : Shape).Idx → EReal}
    (hX : ∀ i, IsNum (X i)) (hY : ∀ i, IsNum (Y i)) (r : Fin M) (c : Fin N) : IsNum (nn X Y r c) :=
  IsNum.sum _ _ fun k => (hX _).mul (hY _)
theorem nt_isNum {M N K : ℕ} {X : (⟨2, ![M, K]⟩ : Shape).Idx → EReal} {Y : (⟨2, ![N, K]⟩ : Shape).Idx → EReal}
    (hX : ∀ i, IsNum (X i)) (hY : ∀ i, IsNum (Y i)) (r : Fin M) (c : Fin N) : IsNum (nt X Y r c) :=
  IsNum.sum _ _ fun k => (hX _).mul (hY _)

end Swiglu

end
-- ==== Proof.Tiles.lean ====
/- What each of the four calls of the SwiGLU layer (forward: the gated product and the outer product; backward: the
   gate's gradient and the gradient of the input) leaves in the arrays it writes, over the extended reals, as a
   function of the arrays it reads: a grid point's stores at an index, the windows' block indices, and the blocks put
   together into whole arrays. -/
module

public import proofs.«01_k».proof.Defs
public import proofs.«01_k».proof.Proof.Gen.KernelIdeal.Frame
public import proofs.«01_k».proof.Proof.Arith
public import Idealize.ShloMosaic.Lib.Pipeline.Value
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.Tiles

open Cert.KernelIdeal Cert.KernelIdeal.Gen Swiglu

theorem hz : (![0, 0] : Fin 2 → Nat) = fun _ => 0 := funext fun a => by fin_cases a <;> rfl

/-! ## What one grid point stores, at an index -/

theorem pay0_4 (x : Vec Ideal S1024x1024 .bf16) (w : Vec Ideal S256x1024 .bf16) (r : Fin 1024) (c : Fin 256) :
    k0_pay4 x w (ix2 r c) = nt x w r c := by
  unfold nt
  pointwise [k0_pay4, k0_pay2, k0_pay1]

theorem pay0_5 (x : Vec Ideal S1024x1024 .bf16) (w : Vec Ideal S256x1024 .bf16) (r : Fin 1024) (c : Fin 256) :
    k0_pay5 x w (ix2 r c) = nt x w r c := by
  unfold nt
  pointwise [k0_pay5, k0_pay3, k0_pay1]

theorem pay0_6 (x : Vec Ideal S1024x1024 .bf16) (w1 w3 : Vec Ideal S256x1024 .bf16) (r : Fin 1024) (c : Fin 256) :
    k0_pay6 x w1 w3 (ix2 r c) = nt x w1 r c * sg (nt x w1 r c) * nt x w3 r c := by
  unfold nt sg
  pointwise [k0_pay6, k0_pay2, k0_pay3, k0_pay1]
  rw [zero_sub]

theorem pay1_1 (x : Vec Ideal S512x2816 .bf16) (w : Vec Ideal S2816x512 .bf16) (r : Fin 512) (c : Fin 512) :
    k1_pay1 x w (ix2 r c) = nn x w r c := by
  unfold nn
  pointwise [k1_pay1]

theorem pay2_6 (w : Vec Ideal S256x1024 .bf16) (x : Vec Ideal S512x1024 .bf16) (r : Fin 512) (c : Fin 256) :
    k2_pay6 w x (ix2 r c) = nt x w r c := by
  unfold nt
  pointwise [k2_pay6, k2_pay5]

theorem pay2_7 (w : Vec Ideal S256x1024 .bf16) (x : Vec Ideal S512x1024 .bf16) (r : Fin 512) (c : Fin 256) :
    k2_pay7 w x (ix2 r c) = nt x w r c := by
  unfold nt
  pointwise [k2_pay7, k2_pay5]

theorem pay2_3 (da : FVec Ideal S512x256 .f32) (g : Vec Ideal S512x256 .bf16) (r : Fin 512) (c : Fin 256) :
    k2_pay3 da g (ix2 r c) = gate3 (da (ix2 r c)) (g (ix2 r c)) := by
  unfold gate3 sg
  pointwise [k2_pay3, k2_pay2, k2_pay1]
  rw [zero_sub]

theorem pay2_4 (da : FVec Ideal S512x256 .f32) (g g' : Vec Ideal S512x256 .bf16) (r : Fin 512) (c : Fin 256) :
    k2_pay4 da g g' (ix2 r c) = gate1 (da (ix2 r c)) (g (ix2 r c)) (g' (ix2 r c)) := by
  unfold gate1 sg
  pointwise [k2_pay4, k2_pay2, k2_pay1]
  rw [zero_sub]

theorem pay2_10 (w : Vec Ideal S256x1024 .bf16) (x : Vec Ideal S512x1024 .bf16) (g : Vec Ideal S512x256 .bf16) (r : Fin 512) (c : Fin 256) :
    k2_pay10 w x g (ix2 r c) = gate3 (nt x w r c) (g (ix2 r c)) := by
  unfold gate3 sg nt
  pointwise [k2_pay10, k2_pay9, k2_pay8, k2_pay6, k2_pay5]
  rw [zero_sub]

theorem pay2_11 (w : Vec Ideal S256x1024 .bf16) (x : Vec Ideal S512x1024 .bf16) (g g' : Vec Ideal S512x256 .bf16) (r : Fin 512) (c : Fin 256) :
    k2_pay11 w x g g' (ix2 r c) = gate1 (nt x w r c) (g (ix2 r c)) (g' (ix2 r c)) := by
  unfold gate1 sg nt
  pointwise [k2_pay11, k2_pay9, k2_pay8, k2_pay6, k2_pay5]
  rw [zero_sub]

theorem pay3_1 (x x' : Vec Ideal S512x2816 .bf16) (w w' : Vec Ideal S2816x512 .bf16) (r : Fin 512) (c : Fin 512) :
    k3_pay1 x w x' w' (ix2 r c) = nn x w r c + nn x' w' r c := by
  unfold nn
  pointwise [k3_pay1]

/-! ## The block of the gate's gradient, whose two halves of 512 rows are stored one after the other -/

theorem halves_cover (y : S1024x256.Idx) (hi lo : S512x256.Idx → EReal) :
    ∃ p ∈ ([⟨r2_4, hi⟩, ⟨r2_3, lo⟩] : List (View.Piece (Elt Ideal) S1024x256 .bf16)), y ∈ p.1.set := by
  have h0 : (y 0).val < 1024 := (y 0).isLt
  have h1 : (y 1).val < 256 := (y 1).isLt
  by_cases h : (y 0).val < 512
  · refine ⟨⟨r2_3, lo⟩, by simp, ?_⟩
    rw [Rect.mem_set_unit]
    intro a
    match a with
    | ⟨0, _⟩ => show 0 ≤ (y 0).val ∧ (y 0).val < 0 + 512; omega
    | ⟨1, _⟩ => show 0 ≤ (y 1).val ∧ (y 1).val < 0 + 256; omega
  · refine ⟨⟨r2_4, hi⟩, by simp, ?_⟩
    rw [Rect.mem_set_unit]
    intro a
    match a with
    | ⟨0, _⟩ => show 512 ≤ (y 0).val ∧ (y 0).val < 512 + 512; omega
    | ⟨1, _⟩ => show 0 ≤ (y 1).val ∧ (y 1).val < 0 + 256; omega

theorem out2_4_apply (x0 : Vec Ideal S1024x1024 .bf16) (x1 x2 : Vec Ideal S1024x256 .bf16) (x3 : Vec Ideal S256x1024 .bf16) (y : S1024x256.Idx) :
    out2_4 x0 x1 x2 x3 y = gate1 (nt x0 x3 (y 0) (y 1)) (x1 y) (x2 y) := by
  unfold out2_4 k2_pay12
  refine View.canon_apply_of_pieces (Val := Elt Ideal) (fun y => gate1 (nt x0 x3 (y 0) (y 1)) (x1 y) (x2 y)) _ ?_ y (halves_cover y _ _)
  intro p hp z
  simp only [List.mem_cons, List.not_mem_nil, or_false] at hp
  obtain rfl | rfl := hp
  · obtain ⟨r, q, rfl⟩ : ∃ (r : Fin 512) (q : Fin 256), z = ix2 r q := ⟨z 0, z 1, eq_ix2 z⟩
    refine (pay2_4 _ _ _ r q).trans ?_
    rw [View.ld_unit_zero (S := S256x1024) hz, pay2_7]
    refine congrArg (fun d => gate1 d _ _) (Finset.sum_congr rfl fun k _ => congrArg₂ (· * ·) ?_ ?_)
    · refine congrArg x0 (Shape.idx_ext₂ rfl ?_)
      show 0 + 1 * k.val = k.val; omega
    · refine congrArg x3 (Shape.idx_ext₂ ?_ rfl)
      show q.val = 0 + 1 * q.val; omega
  · obtain ⟨r, q, rfl⟩ : ∃ (r : Fin 512) (q : Fin 256), z = ix2 r q := ⟨z 0, z 1, eq_ix2 z⟩
    refine (pay2_11 _ _ _ _ r q).trans ?_
    rw [View.ld_unit_zero (S := S256x1024) hz]
    refine congrArg (fun d => gate1 d _ _) (Finset.sum_congr rfl fun k _ => congrArg₂ (· * ·) ?_ ?_)
    · refine congrArg x0 (Shape.idx_ext₂ rfl ?_)
      show 0 + 1 * k.val = k.val; omega
    · refine congrArg x3 (Shape.idx_ext₂ ?_ rfl)
      show q.val = 0 + 1 * q.val; omega

theorem out2_5_apply (x0 : Vec Ideal S1024x1024 .bf16) (x1 x2 : Vec Ideal S1024x256 .bf16) (x3 : Vec Ideal S256x1024 .bf16) (y : S1024x256.Idx) :
    out2_5 x0 x1 x2 x3 y = gate3 (nt x0 x3 (y 0) (y 1)) (x1 y) := by
  unfold out2_5 k2_pay12
  refine View.canon_apply_of_pieces (Val := Elt Ideal) (fun y => gate3 (nt x0 x3 (y 0) (y 1)) (x1 y)) _ ?_ y (halves_cover y _ _)
  intro p hp z
  simp only [List.mem_cons, List.not_mem_nil, or_false] at hp
  obtain rfl | rfl := hp
  · obtain ⟨r, q, rfl⟩ : ∃ (r : Fin 512) (q : Fin 256), z = ix2 r q := ⟨z 0, z 1, eq_ix2 z⟩
    refine (pay2_3 _ _ r q).trans ?_
    rw [View.ld_unit_zero (S := S256x1024) hz, pay2_7]
    refine congrArg (fun d => gate3 d _) (Finset.sum_congr rfl fun k _ => congrArg₂ (· * ·) ?_ ?_)
    · refine congrArg x0 (Shape.idx_ext₂ rfl ?_)
      show 0 + 1 * k.val = k.val; omega
    · refine congrArg x3 (Shape.idx_ext₂ ?_ rfl)
      show q.val = 0 + 1 * q.val; omega
  · obtain ⟨r, q, rfl⟩ : ∃ (r : Fin 512) (q : Fin 256), z = ix2 r q := ⟨z 0, z 1, eq_ix2 z⟩
    refine (pay2_10 _ _ _ r q).trans ?_
    rw [View.ld_unit_zero (S := S256x1024) hz]
    refine congrArg (fun d => gate3 d _) (Finset.sum_congr rfl fun k _ => congrArg₂ (· * ·) ?_ ?_)
    · refine congrArg x0 (Shape.idx_ext₂ rfl ?_)
      show 0 + 1 * k.val = k.val; omega
    · refine congrArg x3 (Shape.idx_ext₂ ?_ rfl)
      show q.val = 0 + 1 * q.val; omega

variable (V : (c : Dev nD) → (b : Ref sig .tc) → Buf (Elt Ideal) ((c : Thread nD τ).loc b))

/-! ## The block indices of the windows at a grid point -/

theorem idx0_0 : ∀ t : Fin cfg0.N, win0_0.index t (0 : Fin 2) = t.val / 11 ∧ win0_0.index t (1 : Fin 2) = 0 :=
  (by decide +kernel : ∀ t : Fin grid0.N, _)

theorem idx0_1 : ∀ t : Fin cfg0.N, win0_1.index t (0 : Fin 2) = t.val % 11 ∧ win0_1.index t (1 : Fin 2) = 0 :=
  (by decide +kernel : ∀ t : Fin grid0.N, _)

theorem idx0_2 : ∀ t : Fin cfg0.N, win0_2.index t (0 : Fin 2) = t.val % 11 ∧ win0_2.index t (1 : Fin 2) = 0 :=
  (by decide +kernel : ∀ t : Fin grid0.N, _)

theorem idx0_3 : ∀ t : Fin cfg0.N, win0_3.index t (0 : Fin 2) = t.val / 11 ∧ win0_3.index t (1 : Fin 2) = t.val % 11 :=
  (by decide +kernel : ∀ t : Fin grid0.N, _)

theorem idx0_4 : ∀ t : Fin cfg0.N, win0_4.index t (0 : Fin 2) = t.val / 11 ∧ win0_4.index t (1 : Fin 2) = t.val % 11 :=
  (by decide +kernel : ∀ t : Fin grid0.N, _)

theorem idx0_5 : ∀ t : Fin cfg0.N, win0_5.index t (0 : Fin 2) = t.val / 11 ∧ win0_5.index t (1 : Fin 2) = t.val % 11 :=
  (by decide +kernel : ∀ t : Fin grid0.N, _)

theorem idx1_0 : ∀ t : Fin cfg1.N, win1_0.index t (0 : Fin 2) = t.val / 2 ∧ win1_0.index t (1 : Fin 2) = 0 :=
  (by decide +kernel : ∀ t : Fin grid1.N, _)

theorem idx1_1 : ∀ t : Fin cfg1.N, win1_1.index t (0 : Fin 2) = 0 ∧ win1_1.index t (1 : Fin 2) = t.val % 2 :=
  (by decide +kernel : ∀ t : Fin grid1.N, _)

theorem idx1_2 : ∀ t : Fin cfg1.N, win1_2.index t (0 : Fin 2) = t.val / 2 ∧ win1_2.index t (1 : Fin 2) = t.val % 2 :=
  (by decide +kernel : ∀ t : Fin grid1.N, _)

theorem idx2_0 : ∀ t : Fin cfg2.N, win2_0.index t (0 : Fin 2) = t.val / 11 ∧ win2_0.index t (1 : Fin 2) = 0 :=
  (by decide +kernel : ∀ t : Fin grid2.N, _)

theorem idx2_1 : ∀ t : Fin cfg2.N, win2_1.index t (0 : Fin 2) = t.val / 11 ∧ win2_1.index t (1 : Fin 2) = t.val % 11 :=
  (by decide +kernel : ∀ t : Fin grid2.N, _)

theorem idx2_2 : ∀ t : Fin cfg2.N, win2_2.index t (0 : Fin 2) = t.val / 11 ∧ win2_2.index t (1 : Fin 2) = t.val % 11 :=
  (by decide +kernel : ∀ t : Fin grid2.N, _)

theorem idx2_3 : ∀ t : Fin cfg2.N, win2_3.index t (0 : Fin 2) = t.val % 11 ∧ win2_3.index t (1 : Fin 2) = 0 :=
  (by decide +kernel : ∀ t : Fin grid2.N, _)

theorem idx2_4 : ∀ t : Fin cfg2.N, win2_4.index t (0 : Fin 2) = t.val / 11 ∧ win2_4.index t (1 : Fin 2) = t.val % 11 :=
  (by decide +kernel : ∀ t : Fin grid2.N, _)

theorem idx2_5 : ∀ t : Fin cfg2.N, win2_5.index t (0 : Fin 2) = t.val / 11 ∧ win2_5.index t (1 : Fin 2) = t.val % 11 :=
  (by decide +kernel : ∀ t : Fin grid2.N, _)

theorem idx3_0 : ∀ t : Fin cfg3.N, win3_0.index t (0 : Fin 2) = t.val / 2 ∧ win3_0.index t (1 : Fin 2) = 0 :=
  (by decide +kernel : ∀ t : Fin grid3.N, _)

theorem idx3_1 : ∀ t : Fin cfg3.N, win3_1.index t (0 : Fin 2) = t.val / 2 ∧ win3_1.index t (1 : Fin 2) = 0 :=
  (by decide +kernel : ∀ t : Fin grid3.N, _)

theorem idx3_2 : ∀ t : Fin cfg3.N, win3_2.index t (0 : Fin 2) = 0 ∧ win3_2.index t (1 : Fin 2) = t.val % 2 :=
  (by decide +kernel : ∀ t : Fin grid3.N, _)

theorem idx3_3 : ∀ t : Fin cfg3.N, win3_3.index t (0 : Fin 2) = 0 ∧ win3_3.index t (1 : Fin 2) = t.val % 2 :=
  (by decide +kernel : ∀ t : Fin grid3.N, _)

theorem idx3_4 : ∀ t : Fin cfg3.N, win3_4.index t (0 : Fin 2) = t.val / 2 ∧ win3_4.index t (1 : Fin 2) = t.val % 2 :=
  (by decide +kernel : ∀ t : Fin grid3.N, _)

/-! ## An input block's entry is the array's, at the row or column of the output block's entry -/

theorem blk0_0_at_3 (c : Dev nD) (t : Fin cfg0.N) (r : Fin 1024) (q : Fin 256) (k : Fin 1024) :
    iblk0 V c 0 t (ix2 r k) = V c main_v5 (ix2 (((cfg0.win 3).blk t).view.emb (ix2 r q) 0) k) := by
  obtain ⟨a0, a1⟩ := idx0_0 t
  obtain ⟨c0, c1⟩ := idx0_3 t
  show V c main_v5 (((cfg0.win 0).blk t).view.emb (ix2 r k)) = _
  refine congrArg (V c main_v5) (Shape.idx_ext₂ ?_ ?_)
  · show win0_0.index t (0 : Fin 2) * 1024 + 1 * r.val = win0_3.index t (0 : Fin 2) * 1024 + 1 * r.val
    rw [a0, c0]
  · show win0_0.index t (1 : Fin 2) * 1024 + 1 * k.val = k.val
    rw [a1]; omega

theorem blk0_1_at_3 (c : Dev nD) (t : Fin cfg0.N) (r : Fin 1024) (q : Fin 256) (k : Fin 1024) :
    iblk0 V c 1 t (ix2 q k) = V c main_v1 (ix2 (((cfg0.win 3).blk t).view.emb (ix2 r q) 1) k) := by
  obtain ⟨a0, a1⟩ := idx0_1 t
  obtain ⟨c0, c1⟩ := idx0_3 t
  show V c main_v1 (((cfg0.win 1).blk t).view.emb (ix2 q k)) = _
  refine congrArg (V c main_v1) (Shape.idx_ext₂ ?_ ?_)
  · show win0_1.index t (0 : Fin 2) * 256 + 1 * q.val = win0_3.index t (1 : Fin 2) * 256 + 1 * q.val
    rw [a0, c1]
  · show win0_1.index t (1 : Fin 2) * 1024 + 1 * k.val = k.val
    rw [a1]; omega

theorem blk0_0_at_4 (c : Dev nD) (t : Fin cfg0.N) (r : Fin 1024) (q : Fin 256) (k : Fin 1024) :
    iblk0 V c 0 t (ix2 r k) = V c main_v5 (ix2 (((cfg0.win 4).blk t).view.emb (ix2 r q) 0) k) := by
  obtain ⟨a0, a1⟩ := idx0_0 t
  obtain ⟨c0, c1⟩ := idx0_4 t
  show V c main_v5 (((cfg0.win 0).blk t).view.emb (ix2 r k)) = _
  refine congrArg (V c main_v5) (Shape.idx_ext₂ ?_ ?_)
  · show win0_0.index t (0 : Fin 2) * 1024 + 1 * r.val = win0_4.index t (0 : Fin 2) * 1024 + 1 * r.val
    rw [a0, c0]
  · show win0_0.index t (1 : Fin 2) * 1024 + 1 * k.val = k.val
    rw [a1]; omega

theorem blk0_2_at_4 (c : Dev nD) (t : Fin cfg0.N) (r : Fin 1024) (q : Fin 256) (k : Fin 1024) :
    iblk0 V c 2 t (ix2 q k) = V c main_v3 (ix2 (((cfg0.win 4).blk t).view.emb (ix2 r q) 1) k) := by
  obtain ⟨a0, a1⟩ := idx0_2 t
  obtain ⟨c0, c1⟩ := idx0_4 t
  show V c main_v3 (((cfg0.win 2).blk t).view.emb (ix2 q k)) = _
  refine congrArg (V c main_v3) (Shape.idx_ext₂ ?_ ?_)
  · show win0_2.index t (0 : Fin 2) * 256 + 1 * q.val = win0_4.index t (1 : Fin 2) * 256 + 1 * q.val
    rw [a0, c1]
  · show win0_2.index t (1 : Fin 2) * 1024 + 1 * k.val = k.val
    rw [a1]; omega

theorem blk0_0_at_5 (c : Dev nD) (t : Fin cfg0.N) (r : Fin 1024) (q : Fin 256) (k : Fin 1024) :
    iblk0 V c 0 t (ix2 r k) = V c main_v5 (ix2 (((cfg0.win 5).blk t).view.emb (ix2 r q) 0) k) := by
  obtain ⟨a0, a1⟩ := idx0_0 t
  obtain ⟨c0, c1⟩ := idx0_5 t
  show V c main_v5 (((cfg0.win 0).blk t).view.emb (ix2 r k)) = _
  refine congrArg (V c main_v5) (Shape.idx_ext₂ ?_ ?_)
  · show win0_0.index t (0 : Fin 2) * 1024 + 1 * r.val = win0_5.index t (0 : Fin 2) * 1024 + 1 * r.val
    rw [a0, c0]
  · show win0_0.index t (1 : Fin 2) * 1024 + 1 * k.val = k.val
    rw [a1]; omega

theorem blk0_1_at_5 (c : Dev nD) (t : Fin cfg0.N) (r : Fin 1024) (q : Fin 256) (k : Fin 1024) :
    iblk0 V c 1 t (ix2 q k) = V c main_v1 (ix2 (((cfg0.win 5).blk t).view.emb (ix2 r q) 1) k) := by
  obtain ⟨a0, a1⟩ := idx0_1 t
  obtain ⟨c0, c1⟩ := idx0_5 t
  show V c main_v1 (((cfg0.win 1).blk t).view.emb (ix2 q k)) = _
  refine congrArg (V c main_v1) (Shape.idx_ext₂ ?_ ?_)
  · show win0_1.index t (0 : Fin 2) * 256 + 1 * q.val = win0_5.index t (1 : Fin 2) * 256 + 1 * q.val
    rw [a0, c1]
  · show win0_1.index t (1 : Fin 2) * 1024 + 1 * k.val = k.val
    rw [a1]; omega

theorem blk0_2_at_5 (c : Dev nD) (t : Fin cfg0.N) (r : Fin 1024) (q : Fin 256) (k : Fin 1024) :
    iblk0 V c 2 t (ix2 q k) = V c main_v3 (ix2 (((cfg0.win 5).blk t).view.emb (ix2 r q) 1) k) := by
  obtain ⟨a0, a1⟩ := idx0_2 t
  obtain ⟨c0, c1⟩ := idx0_5 t
  show V c main_v3 (((cfg0.win 2).blk t).view.emb (ix2 q k)) = _
  refine congrArg (V c main_v3) (Shape.idx_ext₂ ?_ ?_)
  · show win0_2.index t (0 : Fin 2) * 256 + 1 * q.val = win0_5.index t (1 : Fin 2) * 256 + 1 * q.val
    rw [a0, c1]
  · show win0_2.index t (1 : Fin 2) * 1024 + 1 * k.val = k.val
    rw [a1]; omega

theorem blk1_0_at_2 (c : Dev nD) (t : Fin cfg1.N) (r : Fin 512) (q : Fin 512) (k : Fin 2816) :
    iblk1 V c 0 t (ix2 r k) = V c main_v7_2 (ix2 (((cfg1.win 2).blk t).view.emb (ix2 r q) 0) k) := by
  obtain ⟨a0, a1⟩ := idx1_0 t
  obtain ⟨c0, c1⟩ := idx1_2 t
  show V c main_v7_2 (((cfg1.win 0).blk t).view.emb (ix2 r k)) = _
  refine congrArg (V c main_v7_2) (Shape.idx_ext₂ ?_ ?_)
  · show win1_0.index t (0 : Fin 2) * 512 + 1 * r.val = win1_2.index t (0 : Fin 2) * 512 + 1 * r.val
    rw [a0, c0]
  · show win1_0.index t (1 : Fin 2) * 2816 + 1 * k.val = k.val
    rw [a1]; omega

theorem blk1_1_at_2 (c : Dev nD) (t : Fin cfg1.N) (r : Fin 512) (q : Fin 512) (k : Fin 2816) :
    iblk1 V c 1 t (ix2 k q) = V c main_v4 (ix2 k (((cfg1.win 2).blk t).view.emb (ix2 r q) 1)) := by
  obtain ⟨a0, a1⟩ := idx1_1 t
  obtain ⟨c0, c1⟩ := idx1_2 t
  show V c main_v4 (((cfg1.win 1).blk t).view.emb (ix2 k q)) = _
  refine congrArg (V c main_v4) (Shape.idx_ext₂ ?_ ?_)
  · show win1_1.index t (0 : Fin 2) * 2816 + 1 * k.val = k.val
    rw [a0]; omega
  · show win1_1.index t (1 : Fin 2) * 512 + 1 * q.val = win1_2.index t (1 : Fin 2) * 512 + 1 * q.val
    rw [a1, c1]

theorem blk2_0_at_4 (c : Dev nD) (t : Fin cfg2.N) (r : Fin 1024) (q : Fin 256) (k : Fin 1024) :
    iblk2 V c 0 t (ix2 r k) = V c main_v6 (ix2 (((cfg2.win 4).blk t).view.emb (ix2 r q) 0) k) := by
  obtain ⟨a0, a1⟩ := idx2_0 t
  obtain ⟨c0, c1⟩ := idx2_4 t
  show V c main_v6 (((cfg2.win 0).blk t).view.emb (ix2 r k)) = _
  refine congrArg (V c main_v6) (Shape.idx_ext₂ ?_ ?_)
  · show win2_0.index t (0 : Fin 2) * 1024 + 1 * r.val = win2_4.index t (0 : Fin 2) * 1024 + 1 * r.val
    rw [a0, c0]
  · show win2_0.index t (1 : Fin 2) * 1024 + 1 * k.val = k.val
    rw [a1]; omega

theorem blk2_3_at_4 (c : Dev nD) (t : Fin cfg2.N) (r : Fin 1024) (q : Fin 256) (k : Fin 1024) :
    iblk2 V c 3 t (ix2 q k) = V c main_v4 (ix2 (((cfg2.win 4).blk t).view.emb (ix2 r q) 1) k) := by
  obtain ⟨a0, a1⟩ := idx2_3 t
  obtain ⟨c0, c1⟩ := idx2_4 t
  show V c main_v4 (((cfg2.win 3).blk t).view.emb (ix2 q k)) = _
  refine congrArg (V c main_v4) (Shape.idx_ext₂ ?_ ?_)
  · show win2_3.index t (0 : Fin 2) * 256 + 1 * q.val = win2_4.index t (1 : Fin 2) * 256 + 1 * q.val
    rw [a0, c1]
  · show win2_3.index t (1 : Fin 2) * 1024 + 1 * k.val = k.val
    rw [a1]; omega

theorem blk2_1_at_4 (c : Dev nD) (t : Fin cfg2.N) (r : Fin 1024) (q : Fin 256) :
    iblk2 V c 1 t (ix2 r q) = V c main_v7_0 (((cfg2.win 4).blk t).view.emb (ix2 r q)) := by
  obtain ⟨a0, a1⟩ := idx2_1 t
  obtain ⟨c0, c1⟩ := idx2_4 t
  show V c main_v7_0 (((cfg2.win 1).blk t).view.emb (ix2 r q)) = _
  refine congrArg (V c main_v7_0) (Shape.idx_ext₂ ?_ ?_)
  · show win2_1.index t (0 : Fin 2) * 1024 + 1 * r.val = win2_4.index t (0 : Fin 2) * 1024 + 1 * r.val
    rw [a0, c0]
  · show win2_1.index t (1 : Fin 2) * 256 + 1 * q.val = win2_4.index t (1 : Fin 2) * 256 + 1 * q.val
    rw [a1, c1]

theorem blk2_2_at_4 (c : Dev nD) (t : Fin cfg2.N) (r : Fin 1024) (q : Fin 256) :
    iblk2 V c 2 t (ix2 r q) = V c main_v7_1 (((cfg2.win 4).blk t).view.emb (ix2 r q)) := by
  obtain ⟨a0, a1⟩ := idx2_2 t
  obtain ⟨c0, c1⟩ := idx2_4 t
  show V c main_v7_1 (((cfg2.win 2).blk t).view.emb (ix2 r q)) = _
  refine congrArg (V c main_v7_1) (Shape.idx_ext₂ ?_ ?_)
  · show win2_2.index t (0 : Fin 2) * 1024 + 1 * r.val = win2_4.index t (0 : Fin 2) * 1024 + 1 * r.val
    rw [a0, c0]
  · show win2_2.index t (1 : Fin 2) * 256 + 1 * q.val = win2_4.index t (1 : Fin 2) * 256 + 1 * q.val
    rw [a1, c1]

theorem blk2_0_at_5 (c : Dev nD) (t : Fin cfg2.N) (r : Fin 1024) (q : Fin 256) (k : Fin 1024) :
    iblk2 V c 0 t (ix2 r k) = V c main_v6 (ix2 (((cfg2.win 5).blk t).view.emb (ix2 r q) 0) k) := by
  obtain ⟨a0, a1⟩ := idx2_0 t
  obtain ⟨c0, c1⟩ := idx2_5 t
  show V c main_v6 (((cfg2.win 0).blk t).view.emb (ix2 r k)) = _
  refine congrArg (V c main_v6) (Shape.idx_ext₂ ?_ ?_)
  · show win2_0.index t (0 : Fin 2) * 1024 + 1 * r.val = win2_5.index t (0 : Fin 2) * 1024 + 1 * r.val
    rw [a0, c0]
  · show win2_0.index t (1 : Fin 2) * 1024 + 1 * k.val = k.val
    rw [a1]; omega

theorem blk2_3_at_5 (c : Dev nD) (t : Fin cfg2.N) (r : Fin 1024) (q : Fin 256) (k : Fin 1024) :
    iblk2 V c 3 t (ix2 q k) = V c main_v4 (ix2 (((cfg2.win 5).blk t).view.emb (ix2 r q) 1) k) := by
  obtain ⟨a0, a1⟩ := idx2_3 t
  obtain ⟨c0, c1⟩ := idx2_5 t
  show V c main_v4 (((cfg2.win 3).blk t).view.emb (ix2 q k)) = _
  refine congrArg (V c main_v4) (Shape.idx_ext₂ ?_ ?_)
  · show win2_3.index t (0 : Fin 2) * 256 + 1 * q.val = win2_5.index t (1 : Fin 2) * 256 + 1 * q.val
    rw [a0, c1]
  · show win2_3.index t (1 : Fin 2) * 1024 + 1 * k.val = k.val
    rw [a1]; omega

theorem blk2_1_at_5 (c : Dev nD) (t : Fin cfg2.N) (r : Fin 1024) (q : Fin 256) :
    iblk2 V c 1 t (ix2 r q) = V c main_v7_0 (((cfg2.win 5).blk t).view.emb (ix2 r q)) := by
  obtain ⟨a0, a1⟩ := idx2_1 t
  obtain ⟨c0, c1⟩ := idx2_5 t
  show V c main_v7_0 (((cfg2.win 1).blk t).view.emb (ix2 r q)) = _
  refine congrArg (V c main_v7_0) (Shape.idx_ext₂ ?_ ?_)
  · show win2_1.index t (0 : Fin 2) * 1024 + 1 * r.val = win2_5.index t (0 : Fin 2) * 1024 + 1 * r.val
    rw [a0, c0]
  · show win2_1.index t (1 : Fin 2) * 256 + 1 * q.val = win2_5.index t (1 : Fin 2) * 256 + 1 * q.val
    rw [a1, c1]

theorem blk3_0_at_4 (c : Dev nD) (t : Fin cfg3.N) (r : Fin 512) (q : Fin 512) (k : Fin 2816) :
    iblk3 V c 0 t (ix2 r k) = V c main_v9_0 (ix2 (((cfg3.win 4).blk t).view.emb (ix2 r q) 0) k) := by
  obtain ⟨a0, a1⟩ := idx3_0 t
  obtain ⟨c0, c1⟩ := idx3_4 t
  show V c main_v9_0 (((cfg3.win 0).blk t).view.emb (ix2 r k)) = _
  refine congrArg (V c main_v9_0) (Shape.idx_ext₂ ?_ ?_)
  · show win3_0.index t (0 : Fin 2) * 512 + 1 * r.val = win3_4.index t (0 : Fin 2) * 512 + 1 * r.val
    rw [a0, c0]
  · show win3_0.index t (1 : Fin 2) * 2816 + 1 * k.val = k.val
    rw [a1]; omega

theorem blk3_1_at_4 (c : Dev nD) (t : Fin cfg3.N) (r : Fin 512) (q : Fin 512) (k : Fin 2816) :
    iblk3 V c 1 t (ix2 r k) = V c main_v9_1 (ix2 (((cfg3.win 4).blk t).view.emb (ix2 r q) 0) k) := by
  obtain ⟨a0, a1⟩ := idx3_1 t
  obtain ⟨c0, c1⟩ := idx3_4 t
  show V c main_v9_1 (((cfg3.win 1).blk t).view.emb (ix2 r k)) = _
  refine congrArg (V c main_v9_1) (Shape.idx_ext₂ ?_ ?_)
  · show win3_1.index t (0 : Fin 2) * 512 + 1 * r.val = win3_4.index t (0 : Fin 2) * 512 + 1 * r.val
    rw [a0, c0]
  · show win3_1.index t (1 : Fin 2) * 2816 + 1 * k.val = k.val
    rw [a1]; omega

theorem blk3_2_at_4 (c : Dev nD) (t : Fin cfg3.N) (r : Fin 512) (q : Fin 512) (k : Fin 2816) :
    iblk3 V c 2 t (ix2 k q) = V c main_v1 (ix2 k (((cfg3.win 4).blk t).view.emb (ix2 r q) 1)) := by
  obtain ⟨a0, a1⟩ := idx3_2 t
  obtain ⟨c0, c1⟩ := idx3_4 t
  show V c main_v1 (((cfg3.win 2).blk t).view.emb (ix2 k q)) = _
  refine congrArg (V c main_v1) (Shape.idx_ext₂ ?_ ?_)
  · show win3_2.index t (0 : Fin 2) * 2816 + 1 * k.val = k.val
    rw [a0]; omega
  · show win3_2.index t (1 : Fin 2) * 512 + 1 * q.val = win3_4.index t (1 : Fin 2) * 512 + 1 * q.val
    rw [a1, c1]

theorem blk3_3_at_4 (c : Dev nD) (t : Fin cfg3.N) (r : Fin 512) (q : Fin 512) (k : Fin 2816) :
    iblk3 V c 3 t (ix2 k q) = V c main_v3 (ix2 k (((cfg3.win 4).blk t).view.emb (ix2 r q) 1)) := by
  obtain ⟨a0, a1⟩ := idx3_3 t
  obtain ⟨c0, c1⟩ := idx3_4 t
  show V c main_v3 (((cfg3.win 3).blk t).view.emb (ix2 k q)) = _
  refine congrArg (V c main_v3) (Shape.idx_ext₂ ?_ ?_)
  · show win3_3.index t (0 : Fin 2) * 2816 + 1 * k.val = k.val
    rw [a0]; omega
  · show win3_3.index t (1 : Fin 2) * 512 + 1 * q.val = win3_4.index t (1 : Fin 2) * 512 + 1 * q.val
    rw [a1, c1]

/-! ## The arrays the calls write -/

/-- The product of h and w1. -/
def res0_3 (c : Dev nD) : S16384x2816.Idx → EReal := fun i => nt (V c main_v5) (V c main_v1) (i 0) (i 1)

theorem flushed0_3 (c : Dev nD) (t : Fin cfg0.N) :
    (dat0 V c).flushed 3 t = ((cfg0.win 3).blk t).view.read (Elt Ideal) (res0_3 V c) := by
  show (cfg0.win 3).cut (grid0.coords t) ((dat0 V c).after 3 t) = _
  rw [after0_3]
  funext y
  obtain ⟨r, q, rfl⟩ : ∃ (r : Fin 1024) (q : Fin 256), y = ix2 r q := ⟨y 0, y 1, eq_ix2 y⟩
  show out0_3 (iblk0 V c 0 t) (iblk0 V c 1 t) (iblk0 V c 2 t) (ix2 r q)
    = res0_3 V c (((cfg0.win 3).blk t).view.emb (ix2 r q))
  unfold out0_3
  rw [View.canon_unit_zero (S := S1024x256) hz, View.ld_unit_zero (S := S1024x1024) hz, View.ld_unit_zero (S := S256x1024) hz, pay0_4]
  exact (Finset.sum_congr rfl fun k _ => congrArg₂ (fun u v : EReal => u * v) (blk0_0_at_3 V c t r q k) (blk0_1_at_3 V c t r q k))

theorem final0_3 (c : Dev nD) : (dat0 V c).arrAt 3 cfg0.N = res0_3 V c :=
  (dat0 V c).arrAt_eq_of_cover 3 _ (fun t _ => flushed0_3 V c t) fun i => by
    have h0 : (i 0).val < 16384 := (i 0).isLt
    have h1 : (i 1).val < 2816 := (i 1).isLt
    have hN : cfg0.N = 176 := N_0
    let t : Fin cfg0.N := ⟨11 * ((i 0).val / 1024) + (i 1).val / 256, by omega⟩
    have ht : t.val = 11 * ((i 0).val / 1024) + (i 1).val / 256 := rfl
    obtain ⟨c0, c1⟩ := idx0_3 t
    refine ⟨t, flush0_3 t, ?_⟩
    show i ∈ ((View.whole main_v7_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 256 ≤ (i 1).val ∧ (i 1).val < win0_3.index t (1 : Fin 2) * 256 + 256; omega

/-- The product of h and w3. -/
def res0_4 (c : Dev nD) : S16384x2816.Idx → EReal := fun i => nt (V c main_v5) (V c main_v3) (i 0) (i 1)

theorem flushed0_4 (c : Dev nD) (t : Fin cfg0.N) :
    (dat0 V c).flushed 4 t = ((cfg0.win 4).blk t).view.read (Elt Ideal) (res0_4 V c) := by
  show (cfg0.win 4).cut (grid0.coords t) ((dat0 V c).after 4 t) = _
  rw [after0_4]
  funext y
  obtain ⟨r, q, rfl⟩ : ∃ (r : Fin 1024) (q : Fin 256), y = ix2 r q := ⟨y 0, y 1, eq_ix2 y⟩
  show out0_4 (iblk0 V c 0 t) (iblk0 V c 1 t) (iblk0 V c 2 t) (ix2 r q)
    = res0_4 V c (((cfg0.win 4).blk t).view.emb (ix2 r q))
  unfold out0_4
  rw [View.canon_unit_zero (S := S1024x256) hz, View.ld_unit_zero (S := S1024x1024) hz, View.ld_unit_zero (S := S256x1024) hz, pay0_5]
  exact (Finset.sum_congr rfl fun k _ => congrArg₂ (fun u v : EReal => u * v) (blk0_0_at_4 V c t r q k) (blk0_2_at_4 V c t r q k))

theorem final0_4 (c : Dev nD) : (dat0 V c).arrAt 4 cfg0.N = res0_4 V c :=
  (dat0 V c).arrAt_eq_of_cover 4 _ (fun t _ => flushed0_4 V c t) fun i => by
    have h0 : (i 0).val < 16384 := (i 0).isLt
    have h1 : (i 1).val < 2816 := (i 1).isLt
    have hN : cfg0.N = 176 := N_0
    let t : Fin cfg0.N := ⟨11 * ((i 0).val / 1024) + (i 1).val / 256, by omega⟩
    have ht : t.val = 11 * ((i 0).val / 1024) + (i 1).val / 256 := rfl
    obtain ⟨c0, c1⟩ := idx0_4 t
    refine ⟨t, flush0_4 t, ?_⟩
    show i ∈ ((View.whole main_v7_1).slice (win0_4.rect t)).set
    rw [View.set_slice_whole, Rect.mem_set_unit]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 256 ≤ (i 1).val ∧ (i 1).val < win0_4.index t (1 : Fin 2) * 256 + 256; omega

/-- The gated product silu(h w1) (h w3). -/
def res0_5 (c : Dev nD) : S16384x2816.Idx → EReal := fun i => nt (V c main_v5) (V c main_v1) (i 0) (i 1) * sg (nt (V c main_v5) (V c main_v1) (i 0) (i 1)) * nt (V c main_v5) (V c main_v3) (i 0) (i 1)

theorem flushed0_5 (c : Dev nD) (t : Fin cfg0.N) :
    (dat0 V c).flushed 5 t = ((cfg0.win 5).blk t).view.read (Elt Ideal) (res0_5 V c) := by
  show (cfg0.win 5).cut (grid0.coords t) ((dat0 V c).after 5 t) = _
  rw [after0_5]
  funext y
  obtain ⟨r, q, rfl⟩ : ∃ (r : Fin 1024) (q : Fin 256), y = ix2 r q := ⟨y 0, y 1, eq_ix2 y⟩
  show out0_5 (iblk0 V c 0 t) (iblk0 V c 1 t) (iblk0 V c 2 t) (ix2 r q)
    = res0_5 V c (((cfg0.win 5).blk t).view.emb (ix2 r q))
  unfold out0_5
  rw [View.canon_unit_zero (S := S1024x256) hz, View.ld_unit_zero (S := S1024x1024) hz, View.ld_unit_zero (S := S256x1024) hz, View.ld_unit_zero (S := S256x1024) hz, pay0_6]
  exact congrArg₂ (fun u v : EReal => u * sg u * v)
    (Finset.sum_congr rfl fun k _ => congrArg₂ (fun u v : EReal => u * v) (blk0_0_at_5 V c t r q k) (blk0_1_at_5 V c t r q k))
    (Finset.sum_congr rfl fun k _ => congrArg₂ (fun u v : EReal => u * v) (blk0_0_at_5 V c t r q k) (blk0_2_at_5 V c t r q k))

theorem final0_5 (c : Dev nD) : (dat0 V c).arrAt 5 cfg0.N = res0_5 V c :=
  (dat0 V c).arrAt_eq_of_cover 5 _ (fun t _ => flushed0_5 V c t) fun i => by
    have h0 : (i 0).val < 16384 := (i 0).isLt
    have h1 : (i 1).val < 2816 := (i 1).isLt
    have hN : cfg0.N = 176 := N_0
    let t : Fin cfg0.N := ⟨11 * ((i 0).val / 1024) + (i 1).val / 256, by omega⟩
    have ht : t.val = 11 * ((i 0).val / 1024) + (i 1).val / 256 := rfl
    obtain ⟨c0, c1⟩ := idx0_5 t
    refine ⟨t, flush0_5 t, ?_⟩
    show i ∈ ((View.whole main_v7_2).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 256 ≤ (i 1).val ∧ (i 1).val < win0_5.index t (1 : Fin 2) * 256 + 256; omega

/-- The outer product of the layer. -/
def res1_2 (c : Dev nD) : S16384x1024.Idx → EReal := fun i => nn (V c main_v7_2) (V c main_v4) (i 0) (i 1)

theorem flushed1_2 (c : Dev nD) (t : Fin cfg1.N) :
    (dat1 V c).flushed 2 t = ((cfg1.win 2).blk t).view.read (Elt Ideal) (res1_2 V c) := by
  show (cfg1.win 2).cut (grid1.coords t) ((dat1 V c).after 2 t) = _
  rw [after1_2]
  funext y
  obtain ⟨r, q, rfl⟩ : ∃ (r : Fin 512) (q : Fin 512), y = ix2 r q := ⟨y 0, y 1, eq_ix2 y⟩
  show out1_2 (iblk1 V c 0 t) (iblk1 V c 1 t) (ix2 r q)
    = res1_2 V c (((cfg1.win 2).blk t).view.emb (ix2 r q))
  unfold out1_2
  rw [View.canon_unit_zero (S := S512x512) hz, View.ld_unit_zero (S := S512x2816) hz, View.ld_unit_zero (S := S2816x512) hz, pay1_1]
  exact (Finset.sum_congr rfl fun k _ => congrArg₂ (fun u v : EReal => u * v) (blk1_0_at_2 V c t r q k) (blk1_1_at_2 V c t r q k))

theorem final1_2 (c : Dev nD) : (dat1 V c).arrAt 2 cfg1.N = res1_2 V c :=
  (dat1 V c).arrAt_eq_of_cover 2 _ (fun t _ => flushed1_2 V c t) fun i => by
    have h0 : (i 0).val < 16384 := (i 0).isLt
    have h1 : (i 1).val < 1024 := (i 1).isLt
    have hN : cfg1.N = 64 := N_1
    let t : Fin cfg1.N := ⟨2 * ((i 0).val / 512) + (i 1).val / 512, by omega⟩
    have ht : t.val = 2 * ((i 0).val / 512) + (i 1).val / 512 := rfl
    obtain ⟨c0, c1⟩ := idx1_2 t
    refine ⟨t, flush1_2 t, ?_⟩
    show i ∈ ((View.whole main_v8).slice (win1_2.rect t)).set
    rw [View.set_slice_whole, Rect.mem_set_unit]
    intro a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 512 ≤ (i 1).val ∧ (i 1).val < win1_2.index t (1 : Fin 2) * 512 + 512; omega

/-- The gradient of h w1. -/
def res2_4 (c : Dev nD) : S16384x2816.Idx → EReal := fun i => gate1 (nt (V c main_v6) (V c main_v4) (i 0) (i 1)) (V c main_v7_0 i) (V c main_v7_1 i)

theorem flushed2_4 (c : Dev nD) (t : Fin cfg2.N) :
    (dat2 V c).flushed 4 t = ((cfg2.win 4).blk t).view.read (Elt Ideal) (res2_4 V c) := by
  show (cfg2.win 4).cut (grid2.coords t) ((dat2 V c).after 4 t) = _
  rw [after2_4]
  funext y
  obtain ⟨r, q, rfl⟩ : ∃ (r : Fin 1024) (q : Fin 256), y = ix2 r q := ⟨y 0, y 1, eq_ix2 y⟩
  show out2_4 (iblk2 V c 0 t) (iblk2 V c 1 t) (iblk2 V c 2 t) (iblk2 V c 3 t) (ix2 r q)
    = res2_4 V c (((cfg2.win 4).blk t).view.emb (ix2 r q))
  rw [out2_4_apply, blk2_1_at_4 V c t r q, blk2_2_at_4 V c t r q]
  exact congrArg (fun d => gate1 d _ _) (Finset.sum_congr rfl fun k _ => congrArg₂ (fun u v : EReal => u * v) (blk2_0_at_4 V c t r q k) (blk2_3_at_4 V c t r q k))

theorem final2_4 (c : Dev nD) : (dat2 V c).arrAt 4 cfg2.N = res2_4 V c :=
  (dat2 V c).arrAt_eq_of_cover 4 _ (fun t _ => flushed2_4 V c t) fun i => by
    have h0 : (i 0).val < 16384 := (i 0).isLt
    have h1 : (i 1).val < 2816 := (i 1).isLt
    have hN : cfg2.N = 176 := N_2
    let t : Fin cfg2.N := ⟨11 * ((i 0).val / 1024) + (i 1).val / 256, by omega⟩
    have ht : t.val = 11 * ((i 0).val / 1024) + (i 1).val / 256 := rfl
    obtain ⟨c0, c1⟩ := idx2_4 t
    refine ⟨t, flush2_4 t, ?_⟩
    show i ∈ ((View.whole main_v9_0).slice (win2_4.rect t)).set
    rw [View.set_slice_whole, Rect.mem_set_unit]
    intro a
    match a with
    | ⟨0, _⟩ => show win2_4.index t (0 : Fin 2) * 1024 ≤ (i 0).val ∧ (i 0).val < win2_4.index t (0 : Fin 2) * 1024 + 1024; omega
    | ⟨1, _⟩ => show win2_4.index t (1 : Fin 2) * 256 ≤ (i 1).val ∧ (i 1).val < win2_4.index t (1 : Fin 2) * 256 + 256; omega

/-- The gradient of h w3. -/
def res2_5 (c : Dev nD) : S16384x2816.Idx → EReal := fun i => gate3 (nt (V c main_v6) (V c main_v4) (i 0) (i 1)) (V c main_v7_0 i)

theorem flushed2_5 (c : Dev nD) (t : Fin cfg2.N) :
    (dat2 V c).flushed 5 t = ((cfg2.win 5).blk t).view.read (Elt Ideal) (res2_5 V c) := by
  show (cfg2.win 5).cut (grid2.coords t) ((dat2 V c).after 5 t) = _
  rw [after2_5]
  funext y
  obtain ⟨r, q, rfl⟩ : ∃ (r : Fin 1024) (q : Fin 256), y = ix2 r q := ⟨y 0, y 1, eq_ix2 y⟩
  show out2_5 (iblk2 V c 0 t) (iblk2 V c 1 t) (iblk2 V c 2 t) (iblk2 V c 3 t) (ix2 r q)
    = res2_5 V c (((cfg2.win 5).blk t).view.emb (ix2 r q))
  rw [out2_5_apply, blk2_1_at_5 V c t r q]
  exact congrArg (fun d => gate3 d _) (Finset.sum_congr rfl fun k _ => congrArg₂ (fun u v : EReal => u * v) (blk2_0_at_5 V c t r q k) (blk2_3_at_5 V c t r q k))

theorem final2_5 (c : Dev nD) : (dat2 V c).arrAt 5 cfg2.N = res2_5 V c :=
  (dat2 V c).arrAt_eq_of_cover 5 _ (fun t _ => flushed2_5 V c t) fun i => by
    have h0 : (i 0).val < 16384 := (i 0).isLt
    have h1 : (i 1).val < 2816 := (i 1).isLt
    have hN : cfg2.N = 176 := N_2
    let t : Fin cfg2.N := ⟨11 * ((i 0).val / 1024) + (i 1).val / 256, by omega⟩
    have ht : t.val = 11 * ((i 0).val / 1024) + (i 1).val / 256 := rfl
    obtain ⟨c0, c1⟩ := idx2_5 t
    refine ⟨t, flush2_5 t, ?_⟩
    show i ∈ ((View.whole main_v9_1).slice (win2_5.rect t)).set
    rw [View.set_slice_whole, Rect.mem_set_unit]
    intro a
    match a with
    | ⟨0, _⟩ => show win2_5.index t (0 : Fin 2) * 1024 ≤ (i 0).val ∧ (i 0).val < win2_5.index t (0 : Fin 2) * 1024 + 1024; omega
    | ⟨1, _⟩ => show win2_5.index t (1 : Fin 2) * 256 ≤ (i 1).val ∧ (i 1).val < win2_5.index t (1 : Fin 2) * 256 + 256; omega

/-- The gradient of h. -/
def res3_4 (c : Dev nD) : S16384x1024.Idx → EReal := fun i => nn (V c main_v9_0) (V c main_v1) (i 0) (i 1) + nn (V c main_v9_1) (V c main_v3) (i 0) (i 1)

theorem flushed3_4 (c : Dev nD) (t : Fin cfg3.N) :
    (dat3 V c).flushed 4 t = ((cfg3.win 4).blk t).view.read (Elt Ideal) (res3_4 V c) := by
  show (cfg3.win 4).cut (grid3.coords t) ((dat3 V c).after 4 t) = _
  rw [after3_4]
  funext y
  obtain ⟨r, q, rfl⟩ : ∃ (r : Fin 512) (q : Fin 512), y = ix2 r q := ⟨y 0, y 1, eq_ix2 y⟩
  show out3_4 (iblk3 V c 0 t) (iblk3 V c 1 t) (iblk3 V c 2 t) (iblk3 V c 3 t) (ix2 r q)
    = res3_4 V c (((cfg3.win 4).blk t).view.emb (ix2 r q))
  unfold out3_4
  rw [View.canon_unit_zero (S := S512x512) hz, View.ld_unit_zero (S := S512x2816) hz, View.ld_unit_zero (S := S512x2816) hz, View.ld_unit_zero (S := S2816x512) hz, View.ld_unit_zero (S := S2816x512) hz, pay3_1]
  exact congrArg₂ (fun u v : EReal => u + v)
    (Finset.sum_congr rfl fun k _ => congrArg₂ (fun u v : EReal => u * v) (blk3_0_at_4 V c t r q k) (blk3_2_at_4 V c t r q k))
    (Finset.sum_congr rfl fun k _ => congrArg₂ (fun u v : EReal => u * v) (blk3_1_at_4 V c t r q k) (blk3_3_at_4 V c t r q k))

theorem final3_4 (c : Dev nD) : (dat3 V c).arrAt 4 cfg3.N = res3_4 V c :=
  (dat3 V c).arrAt_eq_of_cover 4 _ (fun t _ => flushed3_4 V c t) fun i => by
    have h0 : (i 0).val < 16384 := (i 0).isLt
    have h1 : (i 1).val < 1024 := (i 1).isLt
    have hN : cfg3.N = 64 := N_3
    let t : Fin cfg3.N := ⟨2 * ((i 0).val / 512) + (i 1).val / 512, by omega⟩
    have ht : t.val = 2 * ((i 0).val / 512) + (i 1).val / 512 := rfl
    obtain ⟨c0, c1⟩ := idx3_4 t
    refine ⟨t, flush3_4 t, ?_⟩
    show i ∈ ((View.whole main_v10).slice (win3_4.rect t)).set
    rw [View.set_slice_whole, Rect.mem_set_unit]
    intro a
    match a with
    | ⟨0, _⟩ => show win3_4.index t (0 : Fin 2) * 512 ≤ (i 0).val ∧ (i 0).val < win3_4.index t (0 : Fin 2) * 512 + 512; omega
    | ⟨1, _⟩ => show win3_4.index t (1 : Fin 2) * 512 ≤ (i 1).val ∧ (i 1).val < win3_4.index t (1 : Fin 2) * 512 + 512; omega

end Cert.KernelIdeal.Tiles

end
-- ==== Proof.KernelValue.lean ====
/- The five results of the SwiGLU layer's calls run one after the other, over the extended reals, as functions of
   the argument arrays: the run with its results named, and the chain of what each call reads of the ones before. -/
module

public import proofs.«01_k».proof.Proof.Tiles
public import Idealize.ShloMosaic.Lib.StableHlo.Run
public import Idealize.ShloMosaic.Lib.Claim
public import Idealize.ShloMosaic.Lib.Tactic

@[expose] public section

set_option maxRecDepth 16384

noncomputable section

namespace Cert.KernelIdeal.Value4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.Tiles Swiglu

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, keeping of every execution's last state the five results and the five arguments. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_v7_2) = W5 m ρ c (Proc.devRef .tc main_v7_2)
      ∧ r.2.mem ((c.tc : Thread nD τ).loc main_v10) = W5 m ρ c (Proc.devRef .tc main_v10)
      ∧ r.2.mem ((c.tc : Thread nD τ).loc main_v9_0) = W5 m ρ c (Proc.devRef .tc main_v9_0)
      ∧ r.2.mem ((c.tc : Thread nD τ).loc main_v9_1) = W5 m ρ c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v8 (by decide)), h c _ (mem_uc main_v7_2 (by decide)), h c _ (mem_uc main_v10 (by decide)),
       h c _ (mem_uc main_v9_0 (by decide)), h c _ (mem_uc main_v9_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Run

variable (m : (ℓ : Loc nD τ sig) → Buf (Elt Ideal) ℓ) (ρ : Dev nD → PrngReg) (c : Dev nD)

/-- The arguments: h, w1, w3, w2, dy. -/
abbrev aH : S16384x1024.Idx → EReal := m ((c.tc : Thread nD τ).loc main_arg0)
abbrev aW1 : S1024x2816.Idx → EReal := m ((c.tc : Thread nD τ).loc main_arg1)
abbrev aW3 : S1024x2816.Idx → EReal := m ((c.tc : Thread nD τ).loc main_arg2)
abbrev aW2 : S2816x1024.Idx → EReal := m ((c.tc : Thread nD τ).loc main_arg3)
abbrev aDY : S16384x1024.Idx → EReal := m ((c.tc : Thread nD τ).loc main_arg4)

/-! ## What the calls read -/

theorem in_h (i : S16384x1024.Idx) : V1 m ρ c main_v5 i = aH m c i := by
  show StableHlo.after hostOps0 (W0 m ρ c) (Proc.devRef .tc main_v5) i = _
  after_results
  rfl
theorem in_dy (i : S16384x1024.Idx) : V1 m ρ c main_v6 i = aDY m c i := by
  show StableHlo.after hostOps0 (W0 m ρ c) (Proc.devRef .tc main_v6) i = _
  after_results
  rfl
theorem in_w2 (i : S2816x1024.Idx) : V1 m ρ c main_v4 i = aW2 m c i := by
  show StableHlo.after hostOps0 (W0 m ρ c) (Proc.devRef .tc main_v4) i = _
  after_results
  rfl
theorem in_w1 (f : Fin 2816) (k : Fin 1024) : V1 m ρ c main_v1 (ix2 f k) = aW1 m c (ix2 k f) := by
  show StableHlo.after hostOps0 (W0 m ρ c) (Proc.devRef .tc main_v1) (ix2 f k) = _
  after_results
  pointwise
theorem in_w3 (f : Fin 2816) (k : Fin 1024) : V1 m ρ c main_v3 (ix2 f k) = aW3 m c (ix2 k f) := by
  show StableHlo.after hostOps0 (W0 m ρ c) (Proc.devRef .tc main_v3) (ix2 f k) = _
  after_results
  pointwise

theorem nt_w1 (r : Fin 16384) (f : Fin 2816) : nt (V1 m ρ c main_v5) (V1 m ρ c main_v1) r f = nn (aH m c) (aW1 m c) r f :=
  Finset.sum_congr rfl fun k _ => congrArg₂ (fun u v : EReal => u * v) (in_h m ρ c _) (in_w1 m ρ c f k)
theorem nt_w3 (r : Fin 16384) (f : Fin 2816) : nt (V1 m ρ c main_v5) (V1 m ρ c main_v3) r f = nn (aH m c) (aW3 m c) r f :=
  Finset.sum_congr rfl fun k _ => congrArg₂ (fun u v : EReal => u * v) (in_h m ρ c _) (in_w3 m ρ c f k)

/-! ## What each call leaves, of the arguments -/

theorem v7_0 : V2 m ρ c main_v7_0 = fun i : S16384x2816.Idx => nn (aH m c) (aW1 m c) (i 0) (i 1) :=
  (W2_arr m ρ c 3).trans ((final0_3 (V1 m ρ) c).trans (funext fun i => nt_w1 m ρ c _ _))
theorem v7_1 : V2 m ρ c main_v7_1 = fun i : S16384x2816.Idx => nn (aH m c) (aW3 m c) (i 0) (i 1) :=
  (W2_arr m ρ c 4).trans ((final0_4 (V1 m ρ) c).trans (funext fun i => nt_w3 m ρ c _ _))
theorem v7_2 : V2 m ρ c main_v7_2 = fun i : S16384x2816.Idx => act (aH m c) (aW1 m c) (aW3 m c) (i 0) (i 1) :=
  (W2_arr m ρ c 5).trans ((final0_5 (V1 m ρ) c).trans (funext fun i =>
    congrArg₂ (fun u v : EReal => u * sg u * v) (nt_w1 m ρ c _ _) (nt_w3 m ρ c _ _)))

/-- A call leaves what it does not write. -/
theorem V3_of (r : Ref sig .tc) (h : ∀ w : Fin cfg1.W, Pipeline.arrRef spec1 w = r → (cfg1.win w).isOut = false) :
    V3 m ρ c r = V2 m ρ c r := W3_of m ρ c r h
theorem V2_of (r : Ref sig .tc) (h : ∀ w : Fin cfg0.W, Pipeline.arrRef spec0 w = r → (cfg0.win w).isOut = false) :
    V2 m ρ c r = V1 m ρ c r := W2_of m ρ c r h
theorem V4_of (r : Ref sig .tc) (h : ∀ w : Fin cfg2.W, Pipeline.arrRef spec2 w = r → (cfg2.win w).isOut = false) :
    V4 m ρ c r = V3 m ρ c r := W4_of m ρ c r h
theorem V5_of (r : Ref sig .tc) (h : ∀ w : Fin cfg3.W, Pipeline.arrRef spec3 w = r → (cfg3.win w).isOut = false) :
    V5 m ρ c r = V4 m ρ c r := W5_of m ρ c r h

theorem w2_kept (i : S2816x1024.Idx) : V2 m ρ c main_v4 i = aW2 m c i :=
  (congrFun (V2_of m ρ c main_v4 (by decide +kernel)) i).trans (in_w2 m ρ c i)
theorem nn_act (r : Fin 16384) (d : Fin 1024) :
    nn (V2 m ρ c main_v7_2) (V2 m ρ c main_v4) r d = out (aH m c) (aW1 m c) (aW3 m c) (aW2 m c) r d :=
  Finset.sum_congr rfl fun f _ => congrArg₂ (fun u v : EReal => u * v) (congrFun (v7_2 m ρ c) (ix2 r f)) (w2_kept m ρ c (ix2 f d))
theorem v8 : V3 m ρ c main_v8 = fun i : S16384x1024.Idx => out (aH m c) (aW1 m c) (aW3 m c) (aW2 m c) (i 0) (i 1) :=
  (W3_arr m ρ c 2).trans ((final1_2 (V2 m ρ) c).trans (funext fun i => nn_act m ρ c (i 0) (i 1)))

theorem nt_dy (r : Fin 16384) (f : Fin 2816) : nt (V3 m ρ c main_v6) (V3 m ρ c main_v4) r f = nt (aDY m c) (aW2 m c) r f :=
  Finset.sum_congr rfl fun k _ => congrArg₂ (fun u v : EReal => u * v)
    ((congrFun ((V3_of m ρ c main_v6 (by decide +kernel)).trans (V2_of m ρ c main_v6 (by decide +kernel))) _).trans (in_dy m ρ c _))
    ((congrFun ((V3_of m ρ c main_v4 (by decide +kernel)).trans (V2_of m ρ c main_v4 (by decide +kernel))) _).trans (in_w2 m ρ c _))

theorem g1_kept (i : S16384x2816.Idx) : V3 m ρ c main_v7_0 i = nn (aH m c) (aW1 m c) (i 0) (i 1) :=
  (congrFun (V3_of m ρ c main_v7_0 (by decide +kernel)) i).trans (congrFun (v7_0 m ρ c) i)
theorem g3_kept (i : S16384x2816.Idx) : V3 m ρ c main_v7_1 i = nn (aH m c) (aW3 m c) (i 0) (i 1) :=
  (congrFun (V3_of m ρ c main_v7_1 (by decide +kernel)) i).trans (congrFun (v7_1 m ρ c) i)
theorem gate1_congr {a a' b b' d d' : EReal} (h : a = a') (h' : b = b') (h'' : d = d') : gate1 a b d = gate1 a' b' d' := by
  rw [h, h', h'']

theorem v9_0 : V4 m ρ c main_v9_0 = fun i : S16384x2816.Idx => grad1 (aH m c) (aW1 m c) (aW3 m c) (aW2 m c) (aDY m c) (i 0) (i 1) :=
  (W4_arr m ρ c 4).trans ((final2_4 (V3 m ρ) c).trans (funext fun i =>
    gate1_congr (nt_dy m ρ c (i 0) (i 1)) (g1_kept m ρ c i) (g3_kept m ρ c i)))
theorem v9_1 : V4 m ρ c main_v9_1 = fun i : S16384x2816.Idx => grad3 (aH m c) (aW1 m c) (aW2 m c) (aDY m c) (i 0) (i 1) :=
  (W4_arr m ρ c 5).trans ((final2_5 (V3 m ρ) c).trans (funext fun i =>
    congrArg₂ gate3 (nt_dy m ρ c (i 0) (i 1)) (g1_kept m ρ c i)))

theorem V4_in (r : Ref sig .tc) (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false) : V4 m ρ c r = V1 m ρ c r :=
  (V4_of m ρ c r h2).trans ((V3_of m ρ c r h1).trans (V2_of m ρ c r h0))

theorem w1_kept (d : Fin 1024) (f : Fin 2816) : V4 m ρ c main_v1 (ix2 f d) = aW1 m c (ix2 d f) :=
  (congrFun (V4_in m ρ c main_v1 (by decide +kernel) (by decide +kernel) (by decide +kernel)) (ix2 f d)).trans (in_w1 m ρ c f d)
theorem w3_kept (d : Fin 1024) (f : Fin 2816) : V4 m ρ c main_v3 (ix2 f d) = aW3 m c (ix2 d f) :=
  (congrFun (V4_in m ρ c main_v3 (by decide +kernel) (by decide +kernel) (by decide +kernel)) (ix2 f d)).trans (in_w3 m ρ c f d)
theorem nn_grads (r : Fin 16384) (d : Fin 1024) :
    nn (V4 m ρ c main_v9_0) (V4 m ρ c main_v1) r d + nn (V4 m ρ c main_v9_1) (V4 m ρ c main_v3) r d
      = gradH (aH m c) (aW1 m c) (aW3 m c) (aW2 m c) (aDY m c) r d :=
  congrArg₂ (fun u v : EReal => u + v)
    (Finset.sum_congr rfl fun f _ => congrArg₂ (fun u v : EReal => u * v) (congrFun (v9_0 m ρ c) (ix2 r f)) (w1_kept m ρ c d f))
    (Finset.sum_congr rfl fun f _ => congrArg₂ (fun u v : EReal => u * v) (congrFun (v9_1 m ρ c) (ix2 r f)) (w3_kept m ρ c d f))
theorem v10 : V5 m ρ c main_v10 = fun i : S16384x1024.Idx => gradH (aH m c) (aW1 m c) (aW3 m c) (aW2 m c) (aDY m c) (i 0) (i 1) :=
  (W5_arr m ρ c 4).trans ((final3_4 (V4 m ρ) c).trans (funext fun i => nn_grads m ρ c (i 0) (i 1)))

/-- The run over the extended reals: the results of the arguments, the arguments unchanged. -/
theorem values : θ_run defs (onTc (τ := τ) (main (F := Ideal))) ⟨m, fun _ => 0, ρ⟩ (fun r => ∀ c : Dev nD,
      r.2.mem ((c.tc : Thread nD τ).loc main_v8) = (fun i : S16384x1024.Idx => out (aH m c) (aW1 m c) (aW3 m c) (aW2 m c) (i 0) (i 1))
      ∧ r.2.mem ((c.tc : Thread nD τ).loc main_v7_2) = (fun i : S16384x2816.Idx => act (aH m c) (aW1 m c) (aW3 m c) (i 0) (i 1))
      ∧ r.2.mem ((c.tc : Thread nD τ).loc main_v10) = (fun i : S16384x1024.Idx => gradH (aH m c) (aW1 m c) (aW3 m c) (aW2 m c) (aDY m c) (i 0) (i 1))
      ∧ r.2.mem ((c.tc : Thread nD τ).loc main_v9_0) = (fun i : S16384x2816.Idx => grad1 (aH m c) (aW1 m c) (aW3 m c) (aW2 m c) (aDY m c) (i 0) (i 1))
      ∧ r.2.mem ((c.tc : Thread nD τ).loc main_v9_1) = (fun i : S16384x2816.Idx => grad3 (aH m c) (aW1 m c) (aW2 m c) (aDY m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h8, h72, h10, h90, h91, hargs⟩ := h c
    refine ⟨h8.trans ?_, h72.trans ?_, h10.trans (v10 m ρ c), h90.trans ?_, h91.trans ?_, hargs⟩
    · exact (V5_of m ρ c main_v8 (by decide +kernel)).trans ((V4_of m ρ c main_v8 (by decide +kernel)).trans (v8 m ρ c))
    · exact (V5_of m ρ c main_v7_2 (by decide +kernel)).trans ((V4_of m ρ c main_v7_2 (by decide +kernel)).trans
        ((V3_of m ρ c main_v7_2 (by decide +kernel)).trans (v7_2 m ρ c)))
    · exact (V5_of m ρ c main_v9_0 (by decide +kernel)).trans (v9_0 m ρ c)
    · exact (V5_of m ρ c main_v9_1 (by decide +kernel)).trans (v9_1 m ρ c)) (run m ρ)

end Cert.KernelIdeal.Value4

end
-- ==== Proof.ReferenceValue.lean ====
/- The reference's five results over the extended reals, as the same functions of the arguments: its gate's gradient
   is brought to the kernel's spelling by `Swiglu.gate1_eq`, which asks the arrays named by the precondition to hold
   numbers. -/
module

public import proofs.«01_k».proof.Proof.Arith
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.ReferenceIdeal.Value5

open Cert.ReferenceIdeal Swiglu

variable (m : (ℓ : Loc nD τ sig) → Buf (Elt Ideal) ℓ) (ρ : Dev nD → PrngReg)

abbrev aH (c : Dev nD) : S16384x1024.Idx → EReal := m ((c.tc : Thread nD τ).loc main_arg0)
abbrev aW1 (c : Dev nD) : S1024x2816.Idx → EReal := m ((c.tc : Thread nD τ).loc main_arg1)
abbrev aW3 (c : Dev nD) : S1024x2816.Idx → EReal := m ((c.tc : Thread nD τ).loc main_arg2)
abbrev aW2 (c : Dev nD) : S2816x1024.Idx → EReal := m ((c.tc : Thread nD τ).loc main_arg3)
abbrev aDY (c : Dev nD) : S16384x1024.Idx → EReal := m ((c.tc : Thread nD τ).loc main_arg4)

theorem values (hH : ∀ c i, IsNum (aH m c i)) (hW3 : ∀ c i, IsNum (aW3 m c i)) (hW2 : ∀ c i, IsNum (aW2 m c i)) (hDY : ∀ c i, IsNum (aDY m c i)) :
    θ_run defs (onTc (τ := τ) (main (F := Ideal))) ⟨m, fun _ => 0, ρ⟩ (fun r => ∀ c : Dev nD,
      r.2.mem ((c.tc : Thread nD τ).loc main_v4) = (fun i : S16384x1024.Idx => out (aH m c) (aW1 m c) (aW3 m c) (aW2 m c) (i 0) (i 1))
      ∧ r.2.mem ((c.tc : Thread nD τ).loc main_v9) = (fun i : S16384x2816.Idx => act (aH m c) (aW1 m c) (aW3 m c) (i 0) (i 1))
      ∧ r.2.mem ((c.tc : Thread nD τ).loc main_v12) = (fun i : S16384x1024.Idx => gradH (aH m c) (aW1 m c) (aW3 m c) (aW2 m c) (aDY m c) (i 0) (i 1))
      ∧ r.2.mem ((c.tc : Thread nD τ).loc main_v13) = (fun i : S16384x2816.Idx => grad1 (aH m c) (aW1 m c) (aW3 m c) (aW2 m c) (aDY m c) (i 0) (i 1))
      ∧ r.2.mem ((c.tc : Thread nD τ).loc main_v14) = (fun i : S16384x2816.Idx => grad3 (aH m c) (aW1 m c) (aW2 m c) (aDY m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨h4, h9, h12, h13, h14, hargs⟩ := h c
    have key : ∀ (r : Fin 16384) (f : Fin 2816), _ := fun r f =>
      gate1_eq (nt_isNum (hDY c) (hW2 c) r f) (nn_isNum (hH c) (hW3 c) r f) (nn (aH m c) (aW1 m c) r f)
    unfold nt nn sg at key
    refine ⟨h4.trans ?_, h9.trans ?_, h12.trans ?_, h13.trans ?_, h14.trans ?_, hargs⟩
    · funext i
      obtain ⟨r, d, rfl⟩ : ∃ (r : Fin 16384) (d : Fin 1024), i = ix2 r d := ⟨i 0, i 1, eq_ix2 i⟩
      show _ = out (aH m c) (aW1 m c) (aW3 m c) (aW2 m c) r d
      unfold out act nn sg
      pointwise
    · funext i
      obtain ⟨r, d, rfl⟩ : ∃ (r : Fin 16384) (d : Fin 2816), i = ix2 r d := ⟨i 0, i 1, eq_ix2 i⟩
      show _ = act (aH m c) (aW1 m c) (aW3 m c) r d
      unfold act nn sg
      pointwise
    · funext i
      obtain ⟨r, d, rfl⟩ : ∃ (r : Fin 16384) (d : Fin 1024), i = ix2 r d := ⟨i 0, i 1, eq_ix2 i⟩
      show _ = gradH (aH m c) (aW1 m c) (aW3 m c) (aW2 m c) (aDY m c) r d
      have key' : ∀ f : Fin 2816, _ = grad1 (aH m c) (aW1 m c) (aW3 m c) (aW2 m c) (aDY m c) r f := key r
      clear key
      unfold gradH grad3 gate3 nn nt sg
      pointwise
      refine (add_comm _ _).trans (congrArg₂ (fun u v : EReal => u + v) (Finset.sum_congr rfl fun f _ => ?_) (Finset.sum_congr rfl fun f _ => ?_))
      · exact congrArg (fun u : EReal => u * _) (key' f)
      · exact congrArg (fun u : EReal => u * _) (mul_comm _ _)
    · funext i
      obtain ⟨r, d, rfl⟩ : ∃ (r : Fin 16384) (d : Fin 2816), i = ix2 r d := ⟨i 0, i 1, eq_ix2 i⟩
      show _ = grad1 (aH m c) (aW1 m c) (aW3 m c) (aW2 m c) (aDY m c) r d
      refine Eq.trans ?_ (key r d)
      clear key
      pointwise
    · funext i
      obtain ⟨r, d, rfl⟩ : ∃ (r : Fin 16384) (d : Fin 2816), i = ix2 r d := ⟨i 0, i 1, eq_ix2 i⟩
      show _ = grad3 (aH m c) (aW1 m c) (aW2 m c) (aDY m c) r d
      unfold grad3 gate3 nn nt sg
      pointwise
      exact mul_comm _ _) (Value.run m ρ)

end Cert.ReferenceIdeal.Value5

end
-- ==== Proof.WeightGrad.lean ====
/- The gradient of a weight: the product a^T b summed over eight blocks of 2048 rows, a block per grid point, in a
   scratch array that the points of one output block carry between them, is over the extended reals the whole sum
   over the 16384 rows. -/
module

public import proofs.«01_k».proof.Proof.Arith
public import proofs.«01_k».proof.Proof.Gen.Kernel2Ideal.Value
public import proofs.«01_k».proof.Proof.Gen.Reference2Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Swiglu

/-- A sum of eight parts, up to the point's: the next part taken up. -/
theorem sum_upto (f : Fin 8 → EReal) (n : ℕ) (h0 : ¬(n + 1) % 8 = 0) :
    (∑ s : Fin 8, if s.val ≤ n % 8 then f s else 0) + f ⟨(n + 1) % 8, Nat.mod_lt _ (by decide)⟩
      = ∑ s : Fin 8, if s.val ≤ (n + 1) % 8 then f s else 0 := by
  have e : ∀ s : Fin 8, (if s.val ≤ (n + 1) % 8 then f s else 0)
      = (if s.val ≤ n % 8 then f s else 0) + (if s = ⟨(n + 1) % 8, Nat.mod_lt _ (by decide)⟩ then f s else 0) := by
    intro s
    by_cases h : s = ⟨(n + 1) % 8, Nat.mod_lt _ (by decide)⟩
    · have hs : s.val = (n + 1) % 8 := congrArg Fin.val h
      rw [if_pos (by omega), if_neg (by omega), if_pos h, zero_add]
    · have hs : s.val ≠ (n + 1) % 8 := fun hh => h (Fin.ext hh)
      rw [if_neg h, add_zero]
      by_cases h' : s.val ≤ n % 8
      · rw [if_pos h', if_pos (by omega)]
      · rw [if_neg h', if_neg (by omega)]
  rw [Finset.sum_congr rfl fun s _ => e s, Finset.sum_add_distrib, Finset.sum_ite_eq' Finset.univ, if_pos (Finset.mem_univ _)]

end Swiglu

namespace Cert.Kernel2Ideal.Sums

open Cert.Kernel2Ideal Cert.Kernel2Ideal.Gen Swiglu

theorem hz : (![0, 0] : Fin 2 → Nat) = fun _ => 0 := funext fun a => by fin_cases a <;> rfl

/-! ## What one point leaves in the scratch and in the output block -/

section Cases

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .bf16) (h5 : a5.IsWhole)
  (a6 : Memref sig .tc .vmem S1408x1024 .f32) (h6 : a6.IsWhole)
  (x : Vec Ideal S2048x1408 .bf16) (y : Vec Ideal S2048x1024 .bf16) (s : Vec Ideal S1408x1024 .f32)

/-- The first point of an output block starts the sum. -/
theorem first_sum (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S2048x1408) hz, View.ld_unit_zero (S := S2048x1024) hz, shapeCast_self]

/-- A later point adds its block's product. -/
theorem next_sum (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S2048x1408) hz, View.ld_unit_zero (S := S2048x1024) hz, View.ld_unit_zero (S := S1408x1024) hz, shapeCast_self]

/-- So does the last, -/
theorem last_sum (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S2048x1408) hz, View.ld_unit_zero (S := S2048x1024) hz, View.ld_unit_zero (S := S1408x1024) hz, shapeCast_self]

/-- and it stores the sum into the output block. -/
theorem last_out (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S2048x1408) hz, View.ld_unit_zero (S := S2048x1024) hz, View.ld_unit_zero (S := S1408x1024) hz, shapeCast_self]

end Cases

theorem pay_1 (x : Vec Ideal S2048x1408 .bf16) (y : Vec Ideal S2048x1024 .bf16) (r : Fin 1408) (q : Fin 1024) :
    k0_pay1 x y (ix2 r q) = ∑ k : Fin 2048, x (ix2 k r) * y (ix2 k q) := by
  pointwise [k0_pay1]

/-! ## The blocks of the two arrays -/

variable (m : (ℓ : Loc nD τ sig) → Buf (Elt Ideal) ℓ) (ρ : Dev nD → PrngReg)

abbrev aA (c : Dev nD) : S16384x2816.Idx → EReal := V m c (Pipeline.arrRef spec0 0)
abbrev aB (c : Dev nD) : S16384x1024.Idx → EReal := V m c (Pipeline.arrRef spec0 1)

theorem idx_0 : ∀ t : Fin cfg0.N, win0_0.index t (0 : Fin 2) = t.val % 8 ∧ win0_0.index t (1 : Fin 2) = t.val / 8 :=
  (by decide +kernel : ∀ t : Fin grid0.N, _)
theorem idx_1 : ∀ t : Fin cfg0.N, win0_1.index t (0 : Fin 2) = t.val % 8 ∧ win0_1.index t (1 : Fin 2) = 0 :=
  (by decide +kernel : ∀ t : Fin grid0.N, _)

theorem blk_0 (c : Dev nD) (t : Fin cfg0.N) (k : Fin 2048) (r : Fin 1408) (K : Fin 16384) (R : Fin 2816)
    (hK : t.val % 8 * 2048 + k.val = K.val) (hR : t.val / 8 * 1408 + r.val = R.val) :
    iblk m c 0 t (ix2 k r) = aA m c (ix2 K R) := by
  obtain ⟨a0, a1⟩ := idx_0 t
  show aA m c (((cfg0.win 0).blk t).view.emb (ix2 k r)) = _
  refine congrArg (aA m c) (Shape.idx_ext₂ ?_ ?_)
  · show win0_0.index t (0 : Fin 2) * 2048 + 1 * k.val = K.val
    rw [a0]; omega
  · show win0_0.index t (1 : Fin 2) * 1408 + 1 * r.val = R.val
    rw [a1]; omega

theorem blk_1 (c : Dev nD) (t : Fin cfg0.N) (k : Fin 2048) (q : Fin 1024) (K : Fin 16384)
    (hK : t.val % 8 * 2048 + k.val = K.val) :
    iblk m c 1 t (ix2 k q) = aB m c (ix2 K q) := by
  obtain ⟨a0, a1⟩ := idx_1 t
  show aB m c (((cfg0.win 1).blk t).view.emb (ix2 k q)) = _
  refine congrArg (aB m c) (Shape.idx_ext₂ ?_ ?_)
  · show win0_1.index t (0 : Fin 2) * 2048 + 1 * k.val = K.val
    rw [a0]; omega
  · show win0_1.index t (1 : Fin 2) * 1024 + 1 * q.val = q.val
    rw [a1, Nat.zero_mul, Nat.zero_add, Nat.one_mul]

/-! ## The running sum -/

/-- The product of the `s`-th block of rows, at an entry of the whole result. -/
def part (c : Dev nD) (R : Fin 2816) (q : Fin 1024) (s : Fin 8) : EReal :=
  ∑ k : Fin 2048, aA m c (ix2 (⟨s.val * 2048 + k.val, by omega⟩ : Fin 16384) R) * aB m c (ix2 (⟨s.val * 2048 + k.val, by omega⟩ : Fin 16384) q)

theorem point_part (c : Dev nD) (t : Fin cfg0.N) (r : Fin 1408) (q : Fin 1024) (R : Fin 2816) (hR : t.val / 8 * 1408 + r.val = R.val) :
    k0_pay1 (iblk m c 0 t) (iblk m c 1 t) (ix2 r q) = part m c R q ⟨t.val % 8, Nat.mod_lt _ (by decide)⟩ := by
  refine (pay_1 _ _ r q).trans ?_
  unfold part
  refine Finset.sum_congr rfl fun k _ => ?_
  have hk : k.val < 2048 := k.isLt
  have hK : t.val % 8 * 2048 + k.val < 16384 := by omega
  rw [blk_0 m c t k r ⟨t.val % 8 * 2048 + k.val, hK⟩ R rfl hR, blk_1 m c t k q ⟨t.val % 8 * 2048 + k.val, hK⟩ rfl]

/-- After point `n` the scratch holds the sum of the blocks up to that point's. -/
theorem scratch (c : Dev nD) : ∀ (n : ℕ) (hn : n < cfg0.N) (r : Fin 1408) (q : Fin 1024) (R : Fin 2816), n / 8 * 1408 + r.val = R.val →
    (outsAt0 m c n hn).2 (ix2 r q) = ∑ s : Fin 8, if s.val ≤ n % 8 then part m c R q s else 0 := by
  intro n
  induction n with
  | zero =>
    intro hn r q R hR
    rw [outsAt0_A m c ⟨0, hn⟩ rfl (by dsimp only; omega) (by dsimp only; omega)]
    dsimp only
    rw [first_sum]
    refine (point_part m c ⟨0, hn⟩ r q R hR).trans ?_
    simp [Fin.sum_univ_succ]
  | succ n ih =>
    intro hn r q R hR
    have step : ∀ (v : Vec Ideal S1408x1024 .f32), (∀ hn' : n < cfg0.N, v = (outsAt0 m c n hn').2) → ¬(n + 1) % 8 = 0 →
        addf v (k0_pay1 (iblk m c 0 ⟨n + 1, hn⟩) (iblk m c 1 ⟨n + 1, hn⟩)) (ix2 r q)
          = ∑ s : Fin 8, if s.val ≤ (n + 1) % 8 then part m c R q s else 0 := by
      intro v hv h0
      show v (ix2 r q) + k0_pay1 (iblk m c 0 ⟨n + 1, hn⟩) (iblk m c 1 ⟨n + 1, hn⟩) (ix2 r q) = _
      rw [hv (by omega), ih (by omega) r q R (by omega), point_part m c ⟨n + 1, hn⟩ r q R hR]
      exact sum_upto (part m c R q) n h0
    by_cases h0 : (n + 1) % 8 = 0
    · rw [outsAt0_A m c ⟨n + 1, hn⟩ h0 (by dsimp only; omega) (by dsimp only; omega)]
      dsimp only
      rw [first_sum]
      refine (point_part m c ⟨n + 1, hn⟩ r q R hR).trans ?_
      simp [h0, Fin.sum_univ_succ]
    · by_cases h2 : (n + 1) % 8 = 7
      · rw [outsAt0_C m c ⟨n + 1, hn⟩ h0 (by dsimp only; omega) h2]
        dsimp only
        rw [last_sum]
        exact step _ (fun _ => rfl) h0
      · rw [outsAt0_B m c ⟨n + 1, hn⟩ h0 (by dsimp only; omega) h2]
        dsimp only
        rw [next_sum]
        exact step _ (fun _ => rfl) h0

/-- At the last point of an output block all eight are there, and the block is stored. -/
theorem stored (c : Dev nD) (t : Fin cfg0.N) (h : t.val % 8 = 7) (r : Fin 1408) (q : Fin 1024) (R : Fin 2816) (hR : t.val / 8 * 1408 + r.val = R.val) :
    (outsAt0 m c t.val t.isLt).1 (ix2 r q) = ∑ k : Fin 16384, aA m c (ix2 k R) * aB m c (ix2 k q) := by
  have hs := scratch m c t.val t.isLt r q R hR
  rw [outsAt0_C m c t (by omega) (by omega) h] at hs ⊢
  dsimp only at hs ⊢
  rw [last_sum] at hs
  rw [last_out]
  refine (show k0_pay4 _ (ix2 r q) = _ from rfl).trans (hs.trans ?_)
  rw [Fin.sum_univ_tiles 8 2048 rfl]
  exact Finset.sum_congr rfl fun s _ => if_pos (by omega)

theorem whole (c : Dev nD) (i : S2816x1024.Idx) :
    Value.G2 m c i = ∑ k : Fin 16384, aA m c (ix2 k (i 0)) * aB m c (ix2 k (i 1)) := by
  have b0 : (i 0).val < 2816 := (i 0).isLt
  have b1 : (i 1).val < 1024 := (i 1).isLt
  have hp : Value.pt2Of i = 8 * ((i 0).val / 1408) + 7 := by
    show 8 * (1 * ((i 0).val / 1408 - 0) + 1 * ((i 1).val / 1024 - 0)) + 7 = _
    omega
  have hN : Value.pt2Of i < cfg0.N := by rw [show cfg0.N = 16 from N_0, hp]; omega
  unfold Value.G2
  rw [dif_pos hN, ← Value.outsAt0_sweep m c _ hN]
  have hl : Value.loc2Of i = ix2 (⟨(i 0).val % 1408, Nat.mod_lt _ (by decide)⟩ : Fin 1408) (i 1) := by
    funext a
    match a with
    | ⟨0, _⟩ => rfl
    | ⟨1, _⟩ => exact Fin.ext (Nat.mod_eq_of_lt b1)
  rw [hl]
  exact stored m c ⟨Value.pt2Of i, hN⟩ (by dsimp only; rw [hp]; omega) _ _ (i 0) (by dsimp only; rw [hp]; omega)

theorem values : θ_run defs (onTc (τ := τ) (main (F := Ideal))) ⟨m, fun _ => 0, ρ⟩ fun r => ∀ c : Dev nD,
      r.2.mem ((c.tc : Thread nD τ).loc main_v0) = (fun i : S2816x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => whole m c i), (h c).2⟩) (Value.run m ρ)

end Cert.Kernel2Ideal.Sums

namespace Cert.Reference2Ideal.Sums

open Cert.Reference2Ideal

variable (m : (ℓ : Loc nD τ sig) → Buf (Elt Ideal) ℓ) (ρ : Dev nD → PrngReg)

abbrev aA (c : Dev nD) : S16384x2816.Idx → EReal := m ((c.tc : Thread nD τ).loc main_arg0)
abbrev aB (c : Dev nD) : S16384x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v6) = (fun i : S2816x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 2816) (d : Fin 1024), i = ix2 r d := ⟨i 0, i 1, eq_ix2 i⟩
      show _ = ∑ k : Fin 16384, aA m c (ix2 k r) * aB m c (ix2 k d)
      clear h
      pointwise
      exact Finset.sum_congr rfl fun k _ => mul_comm _ _), (h c).2⟩) (Value.run m ρ)

end Cert.Reference2Ideal.Sums

end
-- ==== Proof.WeightGrad2048.lean ====
/- The gradient of a weight of 2048 rows: the sum over the 16384 rows of a and b, as for the layer's weights. -/
module

public import proofs.«01_k».proof.Proof.WeightGrad
public import proofs.«01_k».proof.Proof.Gen.Kernel4Ideal.Value
public import proofs.«01_k».proof.Proof.Gen.Reference4Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel4Ideal.Sums

open Cert.Kernel4Ideal Cert.Kernel4Ideal.Gen Swiglu

theorem hz : (![0, 0] : Fin 2 → Nat) = fun _ => 0 := funext fun a => by fin_cases a <;> rfl

/-! ## What one point leaves in the scratch and in the output block -/

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (s : Vec Ideal S1024x1024 .f32)

/-- The first point of an output block starts the sum. -/
theorem first_sum (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S2048x1024) hz, View.ld_unit_zero (S := S2048x1024) hz, shapeCast_self]

/-- A later point adds its block's product. -/
theorem next_sum (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- So does the last, -/
theorem last_sum (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- and it stores the sum into the output block. -/
theorem last_out (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

end Cases

theorem pay_1 (x : Vec Ideal S2048x1024 .bf16) (y : Vec Ideal S2048x1024 .bf16) (r : Fin 1024) (q : Fin 1024) :
    k0_pay1 x y (ix2 r q) = ∑ k : Fin 2048, x (ix2 k r) * y (ix2 k q) := by
  pointwise [k0_pay1]

/-! ## The blocks of the two arrays -/

variable (m : (ℓ : Loc nD τ sig) → Buf (Elt Ideal) ℓ) (ρ : Dev nD → PrngReg)

abbrev aA (c : Dev nD) : S16384x2048.Idx → EReal := V m c (Pipeline.arrRef spec0 0)
abbrev aB (c : Dev nD) : S16384x1024.Idx → EReal := V m c (Pipeline.arrRef spec0 1)

theorem idx_0 : ∀ t : Fin cfg0.N, win0_0.index t (0 : Fin 2) = t.val % 8 ∧ win0_0.index t (1 : Fin 2) = t.val / 8 :=
  (by decide +kernel : ∀ t : Fin grid0.N, _)
theorem idx_1 : ∀ t : Fin cfg0.N, win0_1.index t (0 : Fin 2) = t.val % 8 ∧ win0_1.index t (1 : Fin 2) = 0 :=
  (by decide +kernel : ∀ t : Fin grid0.N, _)

theorem blk_0 (c : Dev nD) (t : Fin cfg0.N) (k : Fin 2048) (r : Fin 1024) (K : Fin 16384) (R : Fin 2048)
    (hK : t.val % 8 * 2048 + k.val = K.val) (hR : t.val / 8 * 1024 + r.val = R.val) :
    iblk m c 0 t (ix2 k r) = aA m c (ix2 K R) := by
  obtain ⟨a0, a1⟩ := idx_0 t
  show aA m c (((cfg0.win 0).blk t).view.emb (ix2 k r)) = _
  refine congrArg (aA m c) (Shape.idx_ext₂ ?_ ?_)
  · show win0_0.index t (0 : Fin 2) * 2048 + 1 * k.val = K.val
    rw [a0]; omega
  · show win0_0.index t (1 : Fin 2) * 1024 + 1 * r.val = R.val
    rw [a1]; omega

theorem blk_1 (c : Dev nD) (t : Fin cfg0.N) (k : Fin 2048) (q : Fin 1024) (K : Fin 16384)
    (hK : t.val % 8 * 2048 + k.val = K.val) :
    iblk m c 1 t (ix2 k q) = aB m c (ix2 K q) := by
  obtain ⟨a0, a1⟩ := idx_1 t
  show aB m c (((cfg0.win 1).blk t).view.emb (ix2 k q)) = _
  refine congrArg (aB m c) (Shape.idx_ext₂ ?_ ?_)
  · show win0_1.index t (0 : Fin 2) * 2048 + 1 * k.val = K.val
    rw [a0]; omega
  · show win0_1.index t (1 : Fin 2) * 1024 + 1 * q.val = q.val
    rw [a1, Nat.zero_mul, Nat.zero_add, Nat.one_mul]

/-! ## The running sum -/

/-- The product of the `s`-th block of rows, at an entry of the whole result. -/
def part (c : Dev nD) (R : Fin 2048) (q : Fin 1024) (s : Fin 8) : EReal :=
  ∑ k : Fin 2048, aA m c (ix2 (⟨s.val * 2048 + k.val, by omega⟩ : Fin 16384) R) * aB m c (ix2 (⟨s.val * 2048 + k.val, by omega⟩ : Fin 16384) q)

theorem point_part (c : Dev nD) (t : Fin cfg0.N) (r : Fin 1024) (q : Fin 1024) (R : Fin 2048) (hR : t.val / 8 * 1024 + r.val = R.val) :
    k0_pay1 (iblk m c 0 t) (iblk m c 1 t) (ix2 r q) = part m c R q ⟨t.val % 8, Nat.mod_lt _ (by decide)⟩ := by
  refine (pay_1 _ _ r q).trans ?_
  unfold part
  refine Finset.sum_congr rfl fun k _ => ?_
  have hk : k.val < 2048 := k.isLt
  have hK : t.val % 8 * 2048 + k.val < 16384 := by omega
  rw [blk_0 m c t k r ⟨t.val % 8 * 2048 + k.val, hK⟩ R rfl hR, blk_1 m c t k q ⟨t.val % 8 * 2048 + k.val, hK⟩ rfl]

/-- After point `n` the scratch holds the sum of the blocks up to that point's. -/
theorem scratch (c : Dev nD) : ∀ (n : ℕ) (hn : n < cfg0.N) (r : Fin 1024) (q : Fin 1024) (R : Fin 2048), n / 8 * 1024 + r.val = R.val →
    (outsAt0 m c n hn).2 (ix2 r q) = ∑ s : Fin 8, if s.val ≤ n % 8 then part m c R q s else 0 := by
  intro n
  induction n with
  | zero =>
    intro hn r q R hR
    rw [outsAt0_A m c ⟨0, hn⟩ rfl (by dsimp only; omega) (by dsimp only; omega)]
    dsimp only
    rw [first_sum]
    refine (point_part m c ⟨0, hn⟩ r q R hR).trans ?_
    simp [Fin.sum_univ_succ]
  | succ n ih =>
    intro hn r q R hR
    have step : ∀ (v : Vec Ideal S1024x1024 .f32), (∀ hn' : n < cfg0.N, v = (outsAt0 m c n hn').2) → ¬(n + 1) % 8 = 0 →
        addf v (k0_pay1 (iblk m c 0 ⟨n + 1, hn⟩) (iblk m c 1 ⟨n + 1, hn⟩)) (ix2 r q)
          = ∑ s : Fin 8, if s.val ≤ (n + 1) % 8 then part m c R q s else 0 := by
      intro v hv h0
      show v (ix2 r q) + k0_pay1 (iblk m c 0 ⟨n + 1, hn⟩) (iblk m c 1 ⟨n + 1, hn⟩) (ix2 r q) = _
      rw [hv (by omega), ih (by omega) r q R (by omega), point_part m c ⟨n + 1, hn⟩ r q R hR]
      exact sum_upto (part m c R q) n h0
    by_cases h0 : (n + 1) % 8 = 0
    · rw [outsAt0_A m c ⟨n + 1, hn⟩ h0 (by dsimp only; omega) (by dsimp only; omega)]
      dsimp only
      rw [first_sum]
      refine (point_part m c ⟨n + 1, hn⟩ r q R hR).trans ?_
      simp [h0, Fin.sum_univ_succ]
    · by_cases h2 : (n + 1) % 8 = 7
      · rw [outsAt0_C m c ⟨n + 1, hn⟩ h0 (by dsimp only; omega) h2]
        dsimp only
        rw [last_sum]
        exact step _ (fun _ => rfl) h0
      · rw [outsAt0_B m c ⟨n + 1, hn⟩ h0 (by dsimp only; omega) h2]
        dsimp only
        rw [next_sum]
        exact step _ (fun _ => rfl) h0

/-- At the last point of an output block all eight are there, and the block is stored. -/
theorem stored (c : Dev nD) (t : Fin cfg0.N) (h : t.val % 8 = 7) (r : Fin 1024) (q : Fin 1024) (R : Fin 2048) (hR : t.val / 8 * 1024 + r.val = R.val) :
    (outsAt0 m c t.val t.isLt).1 (ix2 r q) = ∑ k : Fin 16384, aA m c (ix2 k R) * aB m c (ix2 k q) := by
  have hs := scratch m c t.val t.isLt r q R hR
  rw [outsAt0_C m c t (by omega) (by omega) h] at hs ⊢
  dsimp only at hs ⊢
  rw [last_sum] at hs
  rw [last_out]
  refine (show k0_pay4 _ (ix2 r q) = _ from rfl).trans (hs.trans ?_)
  rw [Fin.sum_univ_tiles 8 2048 rfl]
  exact Finset.sum_congr rfl fun s _ => if_pos (by omega)

theorem whole (c : Dev nD) (i : S2048x1024.Idx) :
    Value.G2 m c i = ∑ k : Fin 16384, aA m c (ix2 k (i 0)) * aB m c (ix2 k (i 1)) := by
  have b0 : (i 0).val < 2048 := (i 0).isLt
  have b1 : (i 1).val < 1024 := (i 1).isLt
  have hp : Value.pt2Of i = 8 * ((i 0).val / 1024) + 7 := by
    show 8 * (1 * ((i 0).val / 1024 - 0) + 1 * ((i 1).val / 1024 - 0)) + 7 = _
    omega
  have hN : Value.pt2Of i < cfg0.N := by rw [show cfg0.N = 16 from N_0, hp]; omega
  unfold Value.G2
  rw [dif_pos hN, ← Value.outsAt0_sweep m c _ hN]
  have hl : Value.loc2Of i = ix2 (⟨(i 0).val % 1024, Nat.mod_lt _ (by decide)⟩ : Fin 1024) (i 1) := by
    funext a
    match a with
    | ⟨0, _⟩ => rfl
    | ⟨1, _⟩ => exact Fin.ext (Nat.mod_eq_of_lt b1)
  rw [hl]
  exact stored m c ⟨Value.pt2Of i, hN⟩ (by dsimp only; rw [hp]; omega) _ _ (i 0) (by dsimp only; rw [hp]; omega)

theorem values : θ_run defs (onTc (τ := τ) (main (F := Ideal))) ⟨m, fun _ => 0, ρ⟩ fun r => ∀ c : Dev nD,
      r.2.mem ((c.tc : Thread nD τ).loc main_v0) = (fun i : S2048x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => whole m c i), (h c).2⟩) (Value.run m ρ)

end Cert.Kernel4Ideal.Sums

namespace Cert.Reference4Ideal.Sums

open Cert.Reference4Ideal

variable (m : (ℓ : Loc nD τ sig) → Buf (Elt Ideal) ℓ) (ρ : Dev nD → PrngReg)

abbrev aA (c : Dev nD) : S16384x2048.Idx → EReal := m ((c.tc : Thread nD τ).loc main_arg0)
abbrev aB (c : Dev nD) : S16384x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v6) = (fun i : S2048x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 2048) (d : Fin 1024), i = ix2 r d := ⟨i 0, i 1, eq_ix2 i⟩
      show _ = ∑ k : Fin 16384, aA m c (ix2 k r) * aB m c (ix2 k d)
      clear h
      pointwise
      exact Finset.sum_congr rfl fun k _ => mul_comm _ _), (h c).2⟩) (Value.run m ρ)

end Cert.Reference4Ideal.Sums

end
-- ==== Proof.WeightGrad3072.lean ====
/- The gradient of a weight of 3072 rows: the sum over the 16384 rows of a and b, as for the layer's weights. -/
module

public import proofs.«01_k».proof.Proof.WeightGrad
public import proofs.«01_k».proof.Proof.Gen.Kernel5Ideal.Value
public import proofs.«01_k».proof.Proof.Gen.Reference5Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel5Ideal.Sums

open Cert.Kernel5Ideal Cert.Kernel5Ideal.Gen Swiglu

theorem hz : (![0, 0] : Fin 2 → Nat) = fun _ => 0 := funext fun a => by fin_cases a <;> rfl

/-! ## What one point leaves in the scratch and in the output block -/

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (s : Vec Ideal S1024x1024 .f32)

/-- The first point of an output block starts the sum. -/
theorem first_sum (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S2048x1024) hz, View.ld_unit_zero (S := S2048x1024) hz, shapeCast_self]

/-- A later point adds its block's product. -/
theorem next_sum (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- So does the last, -/
theorem last_sum (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- and it stores the sum into the output block. -/
theorem last_out (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

end Cases

theorem pay_1 (x : Vec Ideal S2048x1024 .bf16) (y : Vec Ideal S2048x1024 .bf16) (r : Fin 1024) (q : Fin 1024) :
    k0_pay1 x y (ix2 r q) = ∑ k : Fin 2048, x (ix2 k r) * y (ix2 k q) := by
  pointwise [k0_pay1]

/-! ## The blocks of the two arrays -/

variable (m : (ℓ : Loc nD τ sig) → Buf (Elt Ideal) ℓ) (ρ : Dev nD → PrngReg)

abbrev aA (c : Dev nD) : S16384x3072.Idx → EReal := V m c (Pipeline.arrRef spec0 0)
abbrev aB (c : Dev nD) : S16384x1024.Idx → EReal := V m c (Pipeline.arrRef spec0 1)

theorem idx_0 : ∀ t : Fin cfg0.N, win0_0.index t (0 : Fin 2) = t.val % 8 ∧ win0_0.index t (1 : Fin 2) = t.val / 8 :=
  (by decide +kernel : ∀ t : Fin grid0.N, _)
theorem idx_1 : ∀ t : Fin cfg0.N, win0_1.index t (0 : Fin 2) = t.val % 8 ∧ win0_1.index t (1 : Fin 2) = 0 :=
  (by decide +kernel : ∀ t : Fin grid0.N, _)

theorem blk_0 (c : Dev nD) (t : Fin cfg0.N) (k : Fin 2048) (r : Fin 1024) (K : Fin 16384) (R : Fin 3072)
    (hK : t.val % 8 * 2048 + k.val = K.val) (hR : t.val / 8 * 1024 + r.val = R.val) :
    iblk m c 0 t (ix2 k r) = aA m c (ix2 K R) := by
  obtain ⟨a0, a1⟩ := idx_0 t
  show aA m c (((cfg0.win 0).blk t).view.emb (ix2 k r)) = _
  refine congrArg (aA m c) (Shape.idx_ext₂ ?_ ?_)
  · show win0_0.index t (0 : Fin 2) * 2048 + 1 * k.val = K.val
    rw [a0]; omega
  · show win0_0.index t (1 : Fin 2) * 1024 + 1 * r.val = R.val
    rw [a1]; omega

theorem blk_1 (c : Dev nD) (t : Fin cfg0.N) (k : Fin 2048) (q : Fin 1024) (K : Fin 16384)
    (hK : t.val % 8 * 2048 + k.val = K.val) :
    iblk m c 1 t (ix2 k q) = aB m c (ix2 K q) := by
  obtain ⟨a0, a1⟩ := idx_1 t
  show aB m c (((cfg0.win 1).blk t).view.emb (ix2 k q)) = _
  refine congrArg (aB m c) (Shape.idx_ext₂ ?_ ?_)
  · show win0_1.index t (0 : Fin 2) * 2048 + 1 * k.val = K.val
    rw [a0]; omega
  · show win0_1.index t (1 : Fin 2) * 1024 + 1 * q.val = q.val
    rw [a1, Nat.zero_mul, Nat.zero_add, Nat.one_mul]

/-! ## The running sum -/

/-- The product of the `s`-th block of rows, at an entry of the whole result. -/
def part (c : Dev nD) (R : Fin 3072) (q : Fin 1024) (s : Fin 8) : EReal :=
  ∑ k : Fin 2048, aA m c (ix2 (⟨s.val * 2048 + k.val, by omega⟩ : Fin 16384) R) * aB m c (ix2 (⟨s.val * 2048 + k.val, by omega⟩ : Fin 16384) q)

theorem point_part (c : Dev nD) (t : Fin cfg0.N) (r : Fin 1024) (q : Fin 1024) (R : Fin 3072) (hR : t.val / 8 * 1024 + r.val = R.val) :
    k0_pay1 (iblk m c 0 t) (iblk m c 1 t) (ix2 r q) = part m c R q ⟨t.val % 8, Nat.mod_lt _ (by decide)⟩ := by
  refine (pay_1 _ _ r q).trans ?_
  unfold part
  refine Finset.sum_congr rfl fun k _ => ?_
  have hk : k.val < 2048 := k.isLt
  have hK : t.val % 8 * 2048 + k.val < 16384 := by omega
  rw [blk_0 m c t k r ⟨t.val % 8 * 2048 + k.val, hK⟩ R rfl hR, blk_1 m c t k q ⟨t.val % 8 * 2048 + k.val, hK⟩ rfl]

/-- After point `n` the scratch holds the sum of the blocks up to that point's. -/
theorem scratch (c : Dev nD) : ∀ (n : ℕ) (hn : n < cfg0.N) (r : Fin 1024) (q : Fin 1024) (R : Fin 3072), n / 8 * 1024 + r.val = R.val →
    (outsAt0 m c n hn).2 (ix2 r q) = ∑ s : Fin 8, if s.val ≤ n % 8 then part m c R q s else 0 := by
  intro n
  induction n with
  | zero =>
    intro hn r q R hR
    rw [outsAt0_A m c ⟨0, hn⟩ rfl (by dsimp only; omega) (by dsimp only; omega)]
    dsimp only
    rw [first_sum]
    refine (point_part m c ⟨0, hn⟩ r q R hR).trans ?_
    simp [Fin.sum_univ_succ]
  | succ n ih =>
    intro hn r q R hR
    have step : ∀ (v : Vec Ideal S1024x1024 .f32), (∀ hn' : n < cfg0.N, v = (outsAt0 m c n hn').2) → ¬(n + 1) % 8 = 0 →
        addf v (k0_pay1 (iblk m c 0 ⟨n + 1, hn⟩) (iblk m c 1 ⟨n + 1, hn⟩)) (ix2 r q)
          = ∑ s : Fin 8, if s.val ≤ (n + 1) % 8 then part m c R q s else 0 := by
      intro v hv h0
      show v (ix2 r q) + k0_pay1 (iblk m c 0 ⟨n + 1, hn⟩) (iblk m c 1 ⟨n + 1, hn⟩) (ix2 r q) = _
      rw [hv (by omega), ih (by omega) r q R (by omega), point_part m c ⟨n + 1, hn⟩ r q R hR]
      exact sum_upto (part m c R q) n h0
    by_cases h0 : (n + 1) % 8 = 0
    · rw [outsAt0_A m c ⟨n + 1, hn⟩ h0 (by dsimp only; omega) (by dsimp only; omega)]
      dsimp only
      rw [first_sum]
      refine (point_part m c ⟨n + 1, hn⟩ r q R hR).trans ?_
      simp [h0, Fin.sum_univ_succ]
    · by_cases h2 : (n + 1) % 8 = 7
      · rw [outsAt0_C m c ⟨n + 1, hn⟩ h0 (by dsimp only; omega) h2]
        dsimp only
        rw [last_sum]
        exact step _ (fun _ => rfl) h0
      · rw [outsAt0_B m c ⟨n + 1, hn⟩ h0 (by dsimp only; omega) h2]
        dsimp only
        rw [next_sum]
        exact step _ (fun _ => rfl) h0

/-- At the last point of an output block all eight are there, and the block is stored. -/
theorem stored (c : Dev nD) (t : Fin cfg0.N) (h : t.val % 8 = 7) (r : Fin 1024) (q : Fin 1024) (R : Fin 3072) (hR : t.val / 8 * 1024 + r.val = R.val) :
    (outsAt0 m c t.val t.isLt).1 (ix2 r q) = ∑ k : Fin 16384, aA m c (ix2 k R) * aB m c (ix2 k q) := by
  have hs := scratch m c t.val t.isLt r q R hR
  rw [outsAt0_C m c t (by omega) (by omega) h] at hs ⊢
  dsimp only at hs ⊢
  rw [last_sum] at hs
  rw [last_out]
  refine (show k0_pay4 _ (ix2 r q) = _ from rfl).trans (hs.trans ?_)
  rw [Fin.sum_univ_tiles 8 2048 rfl]
  exact Finset.sum_congr rfl fun s _ => if_pos (by omega)

theorem whole (c : Dev nD) (i : S3072x1024.Idx) :
    Value.G2 m c i = ∑ k : Fin 16384, aA m c (ix2 k (i 0)) * aB m c (ix2 k (i 1)) := by
  have b0 : (i 0).val < 3072 := (i 0).isLt
  have b1 : (i 1).val < 1024 := (i 1).isLt
  have hp : Value.pt2Of i = 8 * ((i 0).val / 1024) + 7 := by
    show 8 * (1 * ((i 0).val / 1024 - 0) + 1 * ((i 1).val / 1024 - 0)) + 7 = _
    omega
  have hN : Value.pt2Of i < cfg0.N := by rw [show cfg0.N = 24 from N_0, hp]; omega
  unfold Value.G2
  rw [dif_pos hN, ← Value.outsAt0_sweep m c _ hN]
  have hl : Value.loc2Of i = ix2 (⟨(i 0).val % 1024, Nat.mod_lt _ (by decide)⟩ : Fin 1024) (i 1) := by
    funext a
    match a with
    | ⟨0, _⟩ => rfl
    | ⟨1, _⟩ => exact Fin.ext (Nat.mod_eq_of_lt b1)
  rw [hl]
  exact stored m c ⟨Value.pt2Of i, hN⟩ (by dsimp only; rw [hp]; omega) _ _ (i 0) (by dsimp only; rw [hp]; omega)

theorem values : θ_run defs (onTc (τ := τ) (main (F := Ideal))) ⟨m, fun _ => 0, ρ⟩ fun r => ∀ c : Dev nD,
      r.2.mem ((c.tc : Thread nD τ).loc main_v0) = (fun i : S3072x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => whole m c i), (h c).2⟩) (Value.run m ρ)

end Cert.Kernel5Ideal.Sums

namespace Cert.Reference5Ideal.Sums

open Cert.Reference5Ideal

variable (m : (ℓ : Loc nD τ sig) → Buf (Elt Ideal) ℓ) (ρ : Dev nD → PrngReg)

abbrev aA (c : Dev nD) : S16384x3072.Idx → EReal := m ((c.tc : Thread nD τ).loc main_arg0)
abbrev aB (c : Dev nD) : S16384x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v6) = (fun i : S3072x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 3072) (d : Fin 1024), i = ix2 r d := ⟨i 0, i 1, eq_ix2 i⟩
      show _ = ∑ k : Fin 16384, aA m c (ix2 k r) * aB m c (ix2 k d)
      clear h
      pointwise
      exact Finset.sum_congr rfl fun k _ => mul_comm _ _), (h c).2⟩) (Value.run m ρ)

end Cert.Reference5Ideal.Sums

end
-- ==== Proof.WeightGrad1024.lean ====
/- The gradient of a weight of 1024 rows: the sum over the 16384 rows of a and b, as for the layer's weights. -/
module

public import proofs.«01_k».proof.Proof.WeightGrad
public import proofs.«01_k».proof.Proof.Gen.Kernel6Ideal.Value
public import proofs.«01_k».proof.Proof.Gen.Reference6Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel6Ideal.Sums

open Cert.Kernel6Ideal Cert.Kernel6Ideal.Gen Swiglu

theorem hz : (![0, 0] : Fin 2 → Nat) = fun _ => 0 := funext fun a => by fin_cases a <;> rfl

/-! ## What one point leaves in the scratch and in the output block -/

section Cases

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .bf16) (s : Vec Ideal S1024x1024 .f32)

/-- The first point of an output block starts the sum. -/
theorem first_sum (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  unfold k0_pay2
  simp only [View.readAt_eq_ld, h3.read_unread, h4.read_unread, View.ld_unit_zero (S := S2048x1024) hz, View.ld_unit_zero (S := S2048x1024) hz, shapeCast_self]

/-- A later point adds its block's product. -/
theorem next_sum (hc0 : ¬cond0_0 i) (hc1 : cond0_1 i) (hc2 : ¬cond0_2 i) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- So does the last, -/
theorem last_sum (hc0 : ¬cond0_0 i) (hc1 : cond0_1 i) (hc2 : cond0_2 i) :
    sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

/-- and it stores the sum into the output block. -/
theorem last_out (hc0 : ¬cond0_0 i) (hc1 : cond0_1 i) (hc2 : cond0_2 i) :
    out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz, View.readCov_unit_zero (S := S1024x1024) _ hz]
  unfold k0_pay3
  simp only [View.readAt_eq_ld, h3.read_unread, h4.read_unread, h6.read_unread, View.ld_unit_zero (S := S2048x1024) hz, View.ld_unit_zero (S := S2048x1024) hz, View.ld_unit_zero (S := S1024x1024) hz, shapeCast_self]

end Cases

theorem pay_1 (x : Vec Ideal S2048x1024 .bf16) (y : Vec Ideal S2048x1024 .bf16) (r : Fin 1024) (q : Fin 1024) :
    k0_pay1 x y (ix2 r q) = ∑ k : Fin 2048, x (ix2 k r) * y (ix2 k q) := by
  pointwise [k0_pay1]

/-! ## The blocks of the two arrays -/

variable (m : (ℓ : Loc nD τ sig) → Buf (Elt Ideal) ℓ) (ρ : Dev nD → PrngReg)

abbrev aA (c : Dev nD) : S16384x1024.Idx → EReal := V m c (Pipeline.arrRef spec0 0)
abbrev aB (c : Dev nD) : S16384x1024.Idx → EReal := V m c (Pipeline.arrRef spec0 1)

theorem idx_0 : ∀ t : Fin cfg0.N, win0_0.index t (0 : Fin 2) = t.val % 8 ∧ win0_0.index t (1 : Fin 2) = t.val / 8 :=
  (by decide +kernel : ∀ t : Fin grid0.N, _)
theorem idx_1 : ∀ t : Fin cfg0.N, win0_1.index t (0 : Fin 2) = t.val % 8 ∧ win0_1.index t (1 : Fin 2) = 0 :=
  (by decide +kernel : ∀ t : Fin grid0.N, _)

theorem blk_0 (c : Dev nD) (t : Fin cfg0.N) (k : Fin 2048) (r : Fin 1024) (K : Fin 16384) (R : Fin 1024)
    (hK : t.val % 8 * 2048 + k.val = K.val) (hR : t.val / 8 * 1024 + r.val = R.val) :
    iblk m c 0 t (ix2 k r) = aA m c (ix2 K R) := by
  obtain ⟨a0, a1⟩ := idx_0 t
  show aA m c (((cfg0.win 0).blk t).view.emb (ix2 k r)) = _
  refine congrArg (aA m c) (Shape.idx_ext₂ ?_ ?_)
  · show win0_0.index t (0 : Fin 2) * 2048 + 1 * k.val = K.val
    rw [a0]; omega
  · show win0_0.index t (1 : Fin 2) * 1024 + 1 * r.val = R.val
    rw [a1]; omega

theorem blk_1 (c : Dev nD) (t : Fin cfg0.N) (k : Fin 2048) (q : Fin 1024) (K : Fin 16384)
    (hK : t.val % 8 * 2048 + k.val = K.val) :
    iblk m c 1 t (ix2 k q) = aB m c (ix2 K q) := by
  obtain ⟨a0, a1⟩ := idx_1 t
  show aB m c (((cfg0.win 1).blk t).view.emb (ix2 k q)) = _
  refine congrArg (aB m c) (Shape.idx_ext₂ ?_ ?_)
  · show win0_1.index t (0 : Fin 2) * 2048 + 1 * k.val = K.val
    rw [a0]; omega
  · show win0_1.index t (1 : Fin 2) * 1024 + 1 * q.val = q.val
    rw [a1, Nat.zero_mul, Nat.zero_add, Nat.one_mul]

/-! ## The running sum -/

/-- The product of the `s`-th block of rows, at an entry of the whole result. -/
def part (c : Dev nD) (R : Fin 1024) (q : Fin 1024) (s : Fin 8) : EReal :=
  ∑ k : Fin 2048, aA m c (ix2 (⟨s.val * 2048 + k.val, by omega⟩ : Fin 16384) R) * aB m c (ix2 (⟨s.val * 2048 + k.val, by omega⟩ : Fin 16384) q)

theorem point_part (c : Dev nD) (t : Fin cfg0.N) (r : Fin 1024) (q : Fin 1024) (R : Fin 1024) (hR : t.val / 8 * 1024 + r.val = R.val) :
    k0_pay1 (iblk m c 0 t) (iblk m c 1 t) (ix2 r q) = part m c R q ⟨t.val % 8, Nat.mod_lt _ (by decide)⟩ := by
  refine (pay_1 _ _ r q).trans ?_
  unfold part
  refine Finset.sum_congr rfl fun k _ => ?_
  have hk : k.val < 2048 := k.isLt
  have hK : t.val % 8 * 2048 + k.val < 16384 := by omega
  rw [blk_0 m c t k r ⟨t.val % 8 * 2048 + k.val, hK⟩ R rfl hR, blk_1 m c t k q ⟨t.val % 8 * 2048 + k.val, hK⟩ rfl]

/-- After point `n` the scratch holds the sum of the blocks up to that point's. -/
theorem scratch (c : Dev nD) : ∀ (n : ℕ) (hn : n < cfg0.N) (r : Fin 1024) (q : Fin 1024) (R : Fin 1024), n / 8 * 1024 + r.val = R.val →
    (outsAt0 m c n hn).2 (ix2 r q) = ∑ s : Fin 8, if s.val ≤ n % 8 then part m c R q s else 0 := by
  intro n
  induction n with
  | zero =>
    intro hn r q R hR
    rw [outsAt0_A m c ⟨0, hn⟩ rfl (by dsimp only; omega) (by dsimp only; omega)]
    dsimp only
    rw [first_sum]
    refine (point_part m c ⟨0, hn⟩ r q R hR).trans ?_
    simp [Fin.sum_univ_succ]
  | succ n ih =>
    intro hn r q R hR
    have step : ∀ (v : Vec Ideal S1024x1024 .f32), (∀ hn' : n < cfg0.N, v = (outsAt0 m c n hn').2) → ¬(n + 1) % 8 = 0 →
        addf v (k0_pay1 (iblk m c 0 ⟨n + 1, hn⟩) (iblk m c 1 ⟨n + 1, hn⟩)) (ix2 r q)
          = ∑ s : Fin 8, if s.val ≤ (n + 1) % 8 then part m c R q s else 0 := by
      intro v hv h0
      show v (ix2 r q) + k0_pay1 (iblk m c 0 ⟨n + 1, hn⟩) (iblk m c 1 ⟨n + 1, hn⟩) (ix2 r q) = _
      rw [hv (by omega), ih (by omega) r q R (by omega), point_part m c ⟨n + 1, hn⟩ r q R hR]
      exact sum_upto (part m c R q) n h0
    by_cases h0 : (n + 1) % 8 = 0
    · rw [outsAt0_A m c ⟨n + 1, hn⟩ h0 (by dsimp only; omega) (by dsimp only; omega)]
      dsimp only
      rw [first_sum]
      refine (point_part m c ⟨n + 1, hn⟩ r q R hR).trans ?_
      simp [h0, Fin.sum_univ_succ]
    · by_cases h2 : (n + 1) % 8 = 7
      · rw [outsAt0_C m c ⟨n + 1, hn⟩ h0 (by dsimp only; omega) h2]
        dsimp only
        rw [last_sum]
        exact step _ (fun _ => rfl) h0
      · rw [outsAt0_B m c ⟨n + 1, hn⟩ h0 (by dsimp only; omega) h2]
        dsimp only
        rw [next_sum]
        exact step _ (fun _ => rfl) h0

/-- At the last point of an output block all eight are there, and the block is stored. -/
theorem stored (c : Dev nD) (t : Fin cfg0.N) (h : t.val % 8 = 7) (r : Fin 1024) (q : Fin 1024) (R : Fin 1024) (hR : t.val / 8 * 1024 + r.val = R.val) :
    (outsAt0 m c t.val t.isLt).1 (ix2 r q) = ∑ k : Fin 16384, aA m c (ix2 k R) * aB m c (ix2 k q) := by
  have hs := scratch m c t.val t.isLt r q R hR
  rw [outsAt0_C m c t (by omega) (by omega) h] at hs ⊢
  dsimp only at hs ⊢
  rw [last_sum] at hs
  rw [last_out]
  refine (show k0_pay4 _ (ix2 r q) = _ from rfl).trans (hs.trans ?_)
  rw [Fin.sum_univ_tiles 8 2048 rfl]
  exact Finset.sum_congr rfl fun s _ => if_pos (by omega)

theorem whole (c : Dev nD) (i : S1024x1024.Idx) :
    Value.G2 m c i = ∑ k : Fin 16384, aA m c (ix2 k (i 0)) * aB m c (ix2 k (i 1)) := by
  have b0 : (i 0).val < 1024 := (i 0).isLt
  have b1 : (i 1).val < 1024 := (i 1).isLt
  have hp : Value.pt2Of i = 8 * ((i 0).val / 1024) + 7 := by
    show 8 * (1 * ((i 0).val / 1024 - 0) + 1 * ((i 1).val / 1024 - 0)) + 7 = _
    omega
  have hN : Value.pt2Of i < cfg0.N := by rw [show cfg0.N = 8 from N_0, hp]; omega
  unfold Value.G2
  rw [dif_pos hN, ← Value.outsAt0_sweep m c _ hN]
  have hl : Value.loc2Of i = ix2 (⟨(i 0).val % 1024, Nat.mod_lt _ (by decide)⟩ : Fin 1024) (i 1) := by
    funext a
    match a with
    | ⟨0, _⟩ => rfl
    | ⟨1, _⟩ => exact Fin.ext (Nat.mod_eq_of_lt b1)
  rw [hl]
  exact stored m c ⟨Value.pt2Of i, hN⟩ (by dsimp only; rw [hp]; omega) _ _ (i 0) (by dsimp only; rw [hp]; omega)

theorem values : θ_run defs (onTc (τ := τ) (main (F := Ideal))) ⟨m, fun _ => 0, ρ⟩ fun r => ∀ c : Dev nD,
      r.2.mem ((c.tc : Thread nD τ).loc main_v0) = (fun i : S1024x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i => whole m c i), (h c).2⟩) (Value.run m ρ)

end Cert.Kernel6Ideal.Sums

namespace Cert.Reference6Ideal.Sums

open Cert.Reference6Ideal

variable (m : (ℓ : Loc nD τ sig) → Buf (Elt Ideal) ℓ) (ρ : Dev nD → PrngReg)

abbrev aA (c : Dev nD) : S16384x1024.Idx → EReal := m ((c.tc : Thread nD τ).loc main_arg0)
abbrev aB (c : Dev nD) : S16384x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v6) = (fun i : S1024x1024.Idx => ∑ k : Fin 16384, aA m c (ix2 k (i 0)) * aB m c (ix2 k (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 1024) (d : Fin 1024), i = ix2 r d := ⟨i 0, i 1, eq_ix2 i⟩
      show _ = ∑ k : Fin 16384, aA m c (ix2 k r) * aB m c (ix2 k d)
      clear h
      pointwise
      exact Finset.sum_congr rfl fun k _ => mul_comm _ _), (h c).2⟩) (Value.run m ρ)

end Cert.Reference6Ideal.Sums

end
-- ==== Proof.Product7.lean ====
/- The convolution's first product, with its bias: a block of 512 rows and 512 columns per grid point, put together. -/
module

public import proofs.«01_k».proof.Proof.Arith
public import proofs.«01_k».proof.Proof.Gen.Kernel7Ideal.Value
public import proofs.«01_k».proof.Proof.Gen.Reference7Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel7Ideal.Whole

open Cert.Kernel7Ideal Cert.Kernel7Ideal.Gen Swiglu

theorem hz : (![0, 0] : Fin 2 → Nat) = fun _ => 0 := funext fun a => by fin_cases a <;> rfl

theorem pay (x : Vec Ideal S512x1024 .bf16) (w : Vec Ideal S512x1024 .bf16) (z : Vec Ideal S1x512 .f32) (r : Fin 512) (q : Fin 512) :
    k0_pay1 x w z (ix2 r q) = nt x w r q + z (ix2 0 q) := by
  unfold nt
  pointwise [k0_pay1]

variable (m : (ℓ : Loc nD τ sig) → Buf (Elt Ideal) ℓ) (ρ : Dev nD → PrngReg)

abbrev aX (c : Dev nD) : S16384x1024.Idx → EReal := V m c (Pipeline.arrRef spec0 0)
abbrev aW (c : Dev nD) : S2048x1024.Idx → EReal := V m c (Pipeline.arrRef spec0 1)
abbrev aB (c : Dev nD) : S1x2048.Idx → EReal := V m c (Pipeline.arrRef spec0 2)

theorem idx_0 : ∀ t : Fin cfg0.N, win0_0.index t (0 : Fin 2) = t.val / 4 ∧ win0_0.index t (1 : Fin 2) = 0 :=
  (by decide +kernel : ∀ t : Fin grid0.N, _)
theorem idx_1 : ∀ t : Fin cfg0.N, win0_1.index t (0 : Fin 2) = t.val % 4 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val % 4 :=
  (by decide +kernel : ∀ t : Fin grid0.N, _)
theorem idx_out : ∀ t : Fin cfg0.N, win0_3.index t (0 : Fin 2) = t.val / 4 ∧ win0_3.index t (1 : Fin 2) = t.val % 4 :=
  (by decide +kernel : ∀ t : Fin grid0.N, _)

/-! ## An input block's entry is the array's, at the row or column of the output block's entry -/

theorem blk_0 (c : Dev nD) (t : Fin cfg0.N) (r q : Fin 512) (k : Fin 1024) :
    iblk m c 0 t (ix2 r k) = aX m c (ix2 (((cfg0.win 3).blk t).view.emb (ix2 r q) 0) k) := by
  obtain ⟨a0, a1⟩ := idx_0 t
  obtain ⟨c0, c1⟩ := idx_out t
  show aX m c (((cfg0.win 0).blk t).view.emb (ix2 r k)) = _
  refine congrArg (aX m c) (Shape.idx_ext₂ ?_ ?_)
  · show win0_0.index t (0 : Fin 2) * 512 + 1 * r.val = win0_3.index t (0 : Fin 2) * 512 + 1 * r.val
    rw [a0, c0]
  · show win0_0.index t (1 : Fin 2) * 1024 + 1 * k.val = k.val
    rw [a1]; omega

theorem blk_1 (c : Dev nD) (t : Fin cfg0.N) (r q : Fin 512) (k : Fin 1024) :
    iblk m c 1 t (ix2 q k) = aW m c (ix2 (((cfg0.win 3).blk t).view.emb (ix2 r q) 1) k) := by
  obtain ⟨a0, a1⟩ := idx_1 t
  obtain ⟨c0, c1⟩ := idx_out t
  show aW m c (((cfg0.win 1).blk t).view.emb (ix2 q k)) = _
  refine congrArg (aW m c) (Shape.idx_ext₂ ?_ ?_)
  · show win0_1.index t (0 : Fin 2) * 512 + 1 * q.val = win0_3.index t (1 : Fin 2) * 512 + 1 * q.val
    rw [a0, c1]
  · show win0_1.index t (1 : Fin 2) * 1024 + 1 * k.val = k.val
    rw [a1]; omega

theorem blk_2 (c : Dev nD) (t : Fin cfg0.N) (r q : Fin 512) :
    iblk m c 2 t (ix2 0 q) = aB m c (ix2 0 (((cfg0.win 3).blk t).view.emb (ix2 r q) 1)) := by
  obtain ⟨a0, a1⟩ := idx_2 t
  obtain ⟨c0, c1⟩ := idx_out t
  show aB m c (((cfg0.win 2).blk t).view.emb (ix2 0 q)) = _
  refine congrArg (aB m c) (Shape.idx_ext₂ ?_ ?_)
  · show win0_2.index t (0 : Fin 2) * 1 + 1 * 0 = 0
    rw [a0]
  · show win0_2.index t (1 : Fin 2) * 512 + 1 * q.val = win0_3.index t (1 : Fin 2) * 512 + 1 * q.val
    rw [a1, c1]

/-! ## The blocks put together -/

def res (c : Dev nD) : S16384x2048.Idx → EReal := fun i => nt (aX m c) (aW m c) (i 0) (i 1) + aB m c (ix2 0 (i 1))

theorem flushed (c : Dev nD) (t : Fin cfg0.N) :
    (dats m 0 c).flushed 3 t = ((cfg0.win 3).blk t).view.read (Elt Ideal) (res m c) := by
  rw [Value.flushed3]
  funext y
  obtain ⟨r, q, rfl⟩ : ∃ (r : Fin 512) (q : Fin 512), y = ix2 r q := ⟨y 0, y 1, eq_ix2 y⟩
  show out0_3 (iblk m c 0 t) (iblk m c 1 t) (iblk m c 2 t) (ix2 r q) = res m c (((cfg0.win 3).blk t).view.emb (ix2 r q))
  unfold out0_3
  simp only [View.canon_unit_zero (S := S512x512) hz, View.ld_unit_zero (S := S512x1024) hz, View.ld_unit_zero (S := S512x1024) hz, View.ld_unit_zero (S := S1x512) hz]
  refine (pay (iblk m c 0 t) (iblk m c 1 t) (iblk m c 2 t) r q).trans ?_
  exact congrArg₂ (fun u v : EReal => u + v) (Finset.sum_congr rfl fun k _ => congrArg₂ (fun u v : EReal => u * v) (blk_0 m c t r q k) (blk_1 m c t r q k)) (blk_2 m c t r q)

theorem final (c : Dev nD) : (dats m 0 c).arrAt 3 cfg0.N = res m c :=
  (dats m 0 c).arrAt_eq_of_cover 3 _ (fun t _ => flushed m c t) fun i => by
    have h0 : (i 0).val < 16384 := (i 0).isLt
    have h1 : (i 1).val < 2048 := (i 1).isLt
    have hN : cfg0.N = 128 := N_0
    let t : Fin cfg0.N := ⟨4 * ((i 0).val / 512) + (i 1).val / 512, by omega⟩
    have ht : t.val = 4 * ((i 0).val / 512) + (i 1).val / 512 := rfl
    obtain ⟨c0, c1⟩ := idx_out t
    refine ⟨t, flush0_3 t, ?_⟩
    show i ∈ ((View.whole main_v0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 512 ≤ (i 1).val ∧ (i 1).val < win0_3.index t (1 : Fin 2) * 512 + 512; omega

theorem values : θ_run defs (onTc (τ := τ) (main (F := Ideal))) ⟨m, fun _ => 0, ρ⟩ fun r => ∀ c : Dev nD,
      r.2.mem ((c.tc : Thread nD τ).loc main_v0) = (fun i : S16384x2048.Idx => nt (aX m c) (aW m c) (i 0) (i 1) + aB m c (ix2 0 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.Kernel7Ideal.Whole

namespace Cert.Reference7Ideal.Whole

open Cert.Reference7Ideal Swiglu

variable (m : (ℓ : Loc nD τ sig) → Buf (Elt Ideal) ℓ) (ρ : Dev nD → PrngReg)

abbrev aX (c : Dev nD) : S16384x1024.Idx → EReal := m ((c.tc : Thread nD τ).loc main_arg0)
abbrev aW (c : Dev nD) : S2048x1024.Idx → EReal := m ((c.tc : Thread nD τ).loc main_arg1)
abbrev aB (c : Dev nD) : S1x2048.Idx → EReal := m ((c.tc : Thread nD τ).loc main_arg2)

theorem values : θ_run defs (onTc (τ := τ) (main (F := Ideal))) ⟨m, fun _ => 0, ρ⟩ fun r => ∀ c : Dev nD,
      r.2.mem ((c.tc : Thread nD τ).loc main_v5) = (fun i : S16384x2048.Idx => nt (aX m c) (aW m c) (i 0) (i 1) + aB m c (ix2 0 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => by
      obtain ⟨r, d, rfl⟩ : ∃ (r : Fin 16384) (d : Fin 2048), i = ix2 r d := ⟨i 0, i 1, eq_ix2 i⟩
      show _ = nt (aX m c) (aW m c) r d + aB m c (ix2 0 d)
      clear h
      unfold nt
      pointwise), (h c).2⟩) (Value.run m ρ)

end Cert.Reference7Ideal.Whole

end
-- ==== Proof.Product8.lean ====
/- The attention's first product: a block of 512 rows and 512 columns per grid point, put together. -/
module

public import proofs.«01_k».proof.Proof.Arith
public import proofs.«01_k».proof.Proof.Gen.Kernel8Ideal.Value
public import proofs.«01_k».proof.Proof.Gen.Reference8Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel8Ideal.Whole

open Cert.Kernel8Ideal Cert.Kernel8Ideal.Gen Swiglu

theorem hz : (![0, 0] : Fin 2 → Nat) = fun _ => 0 := funext fun a => by fin_cases a <;> rfl

theorem pay (x : Vec Ideal S512x1024 .bf16) (w : Vec Ideal S512x1024 .bf16) (r : Fin 512) (q : Fin 512) :
    k0_pay1 x w (ix2 r q) = nt x w r q := by
  unfold nt
  pointwise [k0_pay1]

variable (m : (ℓ : Loc nD τ sig) → Buf (Elt Ideal) ℓ) (ρ : Dev nD → PrngReg)

abbrev aX (c : Dev nD) : S16384x1024.Idx → EReal := V m c (Pipeline.arrRef spec0 0)
abbrev aW (c : Dev nD) : S3072x1024.Idx → EReal := V m c (Pipeline.arrRef spec0 1)

theorem idx_0 : ∀ t : Fin cfg0.N, win0_0.index t (0 : Fin 2) = t.val / 6 ∧ win0_0.index t (1 : Fin 2) = 0 :=
  (by decide +kernel : ∀ t : Fin grid0.N, _)
theorem idx_1 : ∀ t : Fin cfg0.N, win0_1.index t (0 : Fin 2) = t.val % 6 ∧ win0_1.index t (1 : Fin 2) = 0 :=
  (by decide +kernel : ∀ t : Fin grid0.N, _)
theorem idx_out : ∀ t : Fin cfg0.N, win0_2.index t (0 : Fin 2) = t.val / 6 ∧ win0_2.index t (1 : Fin 2) = t.val % 6 :=
  (by decide +kernel : ∀ t : Fin grid0.N, _)

/-! ## An input block's entry is the array's, at the row or column of the output block's entry -/

theorem blk_0 (c : Dev nD) (t : Fin cfg0.N) (r q : Fin 512) (k : Fin 1024) :
    iblk m c 0 t (ix2 r k) = aX m c (ix2 (((cfg0.win 2).blk t).view.emb (ix2 r q) 0) k) := by
  obtain ⟨a0, a1⟩ := idx_0 t
  obtain ⟨c0, c1⟩ := idx_out t
  show aX m c (((cfg0.win 0).blk t).view.emb (ix2 r k)) = _
  refine congrArg (aX m c) (Shape.idx_ext₂ ?_ ?_)
  · show win0_0.index t (0 : Fin 2) * 512 + 1 * r.val = win0_2.index t (0 : Fin 2) * 512 + 1 * r.val
    rw [a0, c0]
  · show win0_0.index t (1 : Fin 2) * 1024 + 1 * k.val = k.val
    rw [a1]; omega

theorem blk_1 (c : Dev nD) (t : Fin cfg0.N) (r q : Fin 512) (k : Fin 1024) :
    iblk m c 1 t (ix2 q k) = aW m c (ix2 (((cfg0.win 2).blk t).view.emb (ix2 r q) 1) k) := by
  obtain ⟨a0, a1⟩ := idx_1 t
  obtain ⟨c0, c1⟩ := idx_out t
  show aW m c (((cfg0.win 1).blk t).view.emb (ix2 q k)) = _
  refine congrArg (aW m c) (Shape.idx_ext₂ ?_ ?_)
  · show win0_1.index t (0 : Fin 2) * 512 + 1 * q.val = win0_2.index t (1 : Fin 2) * 512 + 1 * q.val
    rw [a0, c1]
  · show win0_1.index t (1 : Fin 2) * 1024 + 1 * k.val = k.val
    rw [a1]; omega

/-! ## The blocks put together -/

def res (c : Dev nD) : S16384x3072.Idx → EReal := fun i => nt (aX m c) (aW m c) (i 0) (i 1)

theorem flushed (c : Dev nD) (t : Fin cfg0.N) :
    (dats m 0 c).flushed 2 t = ((cfg0.win 2).blk t).view.read (Elt Ideal) (res m c) := by
  rw [Value.flushed2]
  funext y
  obtain ⟨r, q, rfl⟩ : ∃ (r : Fin 512) (q : Fin 512), y = ix2 r q := ⟨y 0, y 1, eq_ix2 y⟩
  show out0_2 (iblk m c 0 t) (iblk m c 1 t) (ix2 r q) = res m c (((cfg0.win 2).blk t).view.emb (ix2 r q))
  unfold out0_2
  simp only [View.canon_unit_zero (S := S512x512) hz, View.ld_unit_zero (S := S512x1024) hz, View.ld_unit_zero (S := S512x1024) hz]
  refine (pay (iblk m c 0 t) (iblk m c 1 t) r q).trans ?_
  exact Finset.sum_congr rfl fun k _ => congrArg₂ (fun u v : EReal => u * v) (blk_0 m c t r q k) (blk_1 m c t r q k)

theorem final (c : Dev nD) : (dats m 0 c).arrAt 2 cfg0.N = res m c :=
  (dats m 0 c).arrAt_eq_of_cover 2 _ (fun t _ => flushed m c t) fun i => by
    have h0 : (i 0).val < 16384 := (i 0).isLt
    have h1 : (i 1).val < 3072 := (i 1).isLt
    have hN : cfg0.N = 192 := N_0
    let t : Fin cfg0.N := ⟨6 * ((i 0).val / 512) + (i 1).val / 512, by omega⟩
    have ht : t.val = 6 * ((i 0).val / 512) + (i 1).val / 512 := rfl
    obtain ⟨c0, c1⟩ := idx_out t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 512 ≤ (i 1).val ∧ (i 1).val < win0_2.index t (1 : Fin 2) * 512 + 512; omega

theorem values : θ_run defs (onTc (τ := τ) (main (F := Ideal))) ⟨m, fun _ => 0, ρ⟩ fun r => ∀ c : Dev nD,
      r.2.mem ((c.tc : Thread nD τ).loc main_v0) = (fun i : S16384x3072.Idx => nt (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel8Ideal.Whole

namespace Cert.Reference8Ideal.Whole

open Cert.Reference8Ideal Swiglu

variable (m : (ℓ : Loc nD τ sig) → Buf (Elt Ideal) ℓ) (ρ : Dev nD → PrngReg)

abbrev aX (c : Dev nD) : S16384x1024.Idx → EReal := m ((c.tc : Thread nD τ).loc main_arg0)
abbrev aW (c : Dev nD) : S3072x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v3) = (fun i : S16384x3072.Idx => nt (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 16384) (d : Fin 3072), i = ix2 r d := ⟨i 0, i 1, eq_ix2 i⟩
      show _ = nt (aX m c) (aW m c) r d
      clear h
      unfold nt
      pointwise), (h c).2⟩) (Value.run m ρ)

end Cert.Reference8Ideal.Whole

end
-- ==== Proof.Product9.lean ====
/- The gradient of what the attention's first product multiplies: a block of 512 rows and 512 columns per grid point. -/
module

public import proofs.«01_k».proof.Proof.Arith
public import proofs.«01_k».proof.Proof.Gen.Kernel9Ideal.Value
public import proofs.«01_k».proof.Proof.Gen.Reference9Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel9Ideal.Whole

open Cert.Kernel9Ideal Cert.Kernel9Ideal.Gen Swiglu

theorem hz : (![0, 0] : Fin 2 → Nat) = fun _ => 0 := funext fun a => by fin_cases a <;> rfl

theorem pay (x : Vec Ideal S512x3072 .bf16) (w : Vec Ideal S3072x512 .bf16) (r : Fin 512) (q : Fin 512) :
    k0_pay1 x w (ix2 r q) = nn x w r q := by
  unfold nn
  pointwise [k0_pay1]

variable (m : (ℓ : Loc nD τ sig) → Buf (Elt Ideal) ℓ) (ρ : Dev nD → PrngReg)

abbrev aX (c : Dev nD) : S16384x3072.Idx → EReal := V m c (Pipeline.arrRef spec0 0)
abbrev aW (c : Dev nD) : S3072x1024.Idx → EReal := V m c (Pipeline.arrRef spec0 1)

theorem idx_0 : ∀ t : Fin cfg0.N, win0_0.index t (0 : Fin 2) = t.val / 2 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = t.val % 2 :=
  (by decide +kernel : ∀ t : Fin grid0.N, _)
theorem idx_out : ∀ t : Fin cfg0.N, win0_2.index t (0 : Fin 2) = t.val / 2 ∧ win0_2.index t (1 : Fin 2) = t.val % 2 :=
  (by decide +kernel : ∀ t : Fin grid0.N, _)

/-! ## An input block's entry is the array's, at the row or column of the output block's entry -/

theorem blk_0 (c : Dev nD) (t : Fin cfg0.N) (r q : Fin 512) (k : Fin 3072) :
    iblk m c 0 t (ix2 r k) = aX m c (ix2 (((cfg0.win 2).blk t).view.emb (ix2 r q) 0) k) := by
  obtain ⟨a0, a1⟩ := idx_0 t
  obtain ⟨c0, c1⟩ := idx_out t
  show aX m c (((cfg0.win 0).blk t).view.emb (ix2 r k)) = _
  refine congrArg (aX m c) (Shape.idx_ext₂ ?_ ?_)
  · show win0_0.index t (0 : Fin 2) * 512 + 1 * r.val = win0_2.index t (0 : Fin 2) * 512 + 1 * r.val
    rw [a0, c0]
  · show win0_0.index t (1 : Fin 2) * 3072 + 1 * k.val = k.val
    rw [a1]; omega

theorem blk_1 (c : Dev nD) (t : Fin cfg0.N) (r q : Fin 512) (k : Fin 3072) :
    iblk m c 1 t (ix2 k q) = aW m c (ix2 k (((cfg0.win 2).blk t).view.emb (ix2 r q) 1)) := by
  obtain ⟨a0, a1⟩ := idx_1 t
  obtain ⟨c0, c1⟩ := idx_out t
  show aW m c (((cfg0.win 1).blk t).view.emb (ix2 k q)) = _
  refine congrArg (aW m c) (Shape.idx_ext₂ ?_ ?_)
  · show win0_1.index t (0 : Fin 2) * 3072 + 1 * k.val = k.val
    rw [a0]; omega
  · show win0_1.index t (1 : Fin 2) * 512 + 1 * q.val = win0_2.index t (1 : Fin 2) * 512 + 1 * q.val
    rw [a1, c1]

/-! ## The blocks put together -/

def res (c : Dev nD) : S16384x1024.Idx → EReal := fun i => nn (aX m c) (aW m c) (i 0) (i 1)

theorem flushed (c : Dev nD) (t : Fin cfg0.N) :
    (dats m 0 c).flushed 2 t = ((cfg0.win 2).blk t).view.read (Elt Ideal) (res m c) := by
  rw [Value.flushed2]
  funext y
  obtain ⟨r, q, rfl⟩ : ∃ (r : Fin 512) (q : Fin 512), y = ix2 r q := ⟨y 0, y 1, eq_ix2 y⟩
  show out0_2 (iblk m c 0 t) (iblk m c 1 t) (ix2 r q) = res m c (((cfg0.win 2).blk t).view.emb (ix2 r q))
  unfold out0_2
  simp only [View.canon_unit_zero (S := S512x512) hz, View.ld_unit_zero (S := S512x3072) hz, View.ld_unit_zero (S := S3072x512) hz]
  refine (pay (iblk m c 0 t) (iblk m c 1 t) r q).trans ?_
  exact Finset.sum_congr rfl fun k _ => congrArg₂ (fun u v : EReal => u * v) (blk_0 m c t r q k) (blk_1 m c t r q k)

theorem final (c : Dev nD) : (dats m 0 c).arrAt 2 cfg0.N = res m c :=
  (dats m 0 c).arrAt_eq_of_cover 2 _ (fun t _ => flushed m c t) fun i => by
    have h0 : (i 0).val < 16384 := (i 0).isLt
    have h1 : (i 1).val < 1024 := (i 1).isLt
    have hN : cfg0.N = 64 := N_0
    let t : Fin cfg0.N := ⟨2 * ((i 0).val / 512) + (i 1).val / 512, by omega⟩
    have ht : t.val = 2 * ((i 0).val / 512) + (i 1).val / 512 := rfl
    obtain ⟨c0, c1⟩ := idx_out t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 512 ≤ (i 1).val ∧ (i 1).val < win0_2.index t (1 : Fin 2) * 512 + 512; omega

theorem values : θ_run defs (onTc (τ := τ) (main (F := Ideal))) ⟨m, fun _ => 0, ρ⟩ fun r => ∀ c : Dev nD,
      r.2.mem ((c.tc : Thread nD τ).loc main_v0) = (fun i : S16384x1024.Idx => nn (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel9Ideal.Whole

namespace Cert.Reference9Ideal.Whole

open Cert.Reference9Ideal Swiglu

variable (m : (ℓ : Loc nD τ sig) → Buf (Elt Ideal) ℓ) (ρ : Dev nD → PrngReg)

abbrev aX (c : Dev nD) : S16384x3072.Idx → EReal := m ((c.tc : Thread nD τ).loc main_arg0)
abbrev aW (c : Dev nD) : S3072x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v5) = (fun i : S16384x1024.Idx => nn (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 16384) (d : Fin 1024), i = ix2 r d := ⟨i 0, i 1, eq_ix2 i⟩
      show _ = nn (aX m c) (aW m c) r d
      clear h
      unfold nn
      pointwise), (h c).2⟩) (Value.run m ρ)

end Cert.Reference9Ideal.Whole

end
-- ==== Proof.Product10.lean ====
/- The gradient of what the convolution's first product multiplies: a block of 512 rows and 512 columns per grid point. -/
module

public import proofs.«01_k».proof.Proof.Arith
public import proofs.«01_k».proof.Proof.Gen.Kernel10Ideal.Value
public import proofs.«01_k».proof.Proof.Gen.Reference10Ideal.Run
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Kernel10Ideal.Whole

open Cert.Kernel10Ideal Cert.Kernel10Ideal.Gen Swiglu

theorem hz : (![0, 0] : Fin 2 → Nat) = fun _ => 0 := funext fun a => by fin_cases a <;> rfl

theorem pay (x : Vec Ideal S512x2048 .bf16) (w : Vec Ideal S2048x512 .bf16) (r : Fin 512) (q : Fin 512) :
    k0_pay1 x w (ix2 r q) = nn x w r q := by
  unfold nn
  pointwise [k0_pay1]

variable (m : (ℓ : Loc nD τ sig) → Buf (Elt Ideal) ℓ) (ρ : Dev nD → PrngReg)

abbrev aX (c : Dev nD) : S16384x2048.Idx → EReal := V m c (Pipeline.arrRef spec0 0)
abbrev aW (c : Dev nD) : S2048x1024.Idx → EReal := V m c (Pipeline.arrRef spec0 1)

theorem idx_0 : ∀ t : Fin cfg0.N, win0_0.index t (0 : Fin 2) = t.val / 2 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = t.val % 2 :=
  (by decide +kernel : ∀ t : Fin grid0.N, _)
theorem idx_out : ∀ t : Fin cfg0.N, win0_2.index t (0 : Fin 2) = t.val / 2 ∧ win0_2.index t (1 : Fin 2) = t.val % 2 :=
  (by decide +kernel : ∀ t : Fin grid0.N, _)

/-! ## An input block's entry is the array's, at the row or column of the output block's entry -/

theorem blk_0 (c : Dev nD) (t : Fin cfg0.N) (r q : Fin 512) (k : Fin 2048) :
    iblk m c 0 t (ix2 r k) = aX m c (ix2 (((cfg0.win 2).blk t).view.emb (ix2 r q) 0) k) := by
  obtain ⟨a0, a1⟩ := idx_0 t
  obtain ⟨c0, c1⟩ := idx_out t
  show aX m c (((cfg0.win 0).blk t).view.emb (ix2 r k)) = _
  refine congrArg (aX m c) (Shape.idx_ext₂ ?_ ?_)
  · show win0_0.index t (0 : Fin 2) * 512 + 1 * r.val = win0_2.index t (0 : Fin 2) * 512 + 1 * r.val
    rw [a0, c0]
  · show win0_0.index t (1 : Fin 2) * 2048 + 1 * k.val = k.val
    rw [a1]; omega

theorem blk_1 (c : Dev nD) (t : Fin cfg0.N) (r q : Fin 512) (k : Fin 2048) :
    iblk m c 1 t (ix2 k q) = aW m c (ix2 k (((cfg0.win 2).blk t).view.emb (ix2 r q) 1)) := by
  obtain ⟨a0, a1⟩ := idx_1 t
  obtain ⟨c0, c1⟩ := idx_out t
  show aW m c (((cfg0.win 1).blk t).view.emb (ix2 k q)) = _
  refine congrArg (aW m c) (Shape.idx_ext₂ ?_ ?_)
  · show win0_1.index t (0 : Fin 2) * 2048 + 1 * k.val = k.val
    rw [a0]; omega
  · show win0_1.index t (1 : Fin 2) * 512 + 1 * q.val = win0_2.index t (1 : Fin 2) * 512 + 1 * q.val
    rw [a1, c1]

/-! ## The blocks put together -/

def res (c : Dev nD) : S16384x1024.Idx → EReal := fun i => nn (aX m c) (aW m c) (i 0) (i 1)

theorem flushed (c : Dev nD) (t : Fin cfg0.N) :
    (dats m 0 c).flushed 2 t = ((cfg0.win 2).blk t).view.read (Elt Ideal) (res m c) := by
  rw [Value.flushed2]
  funext y
  obtain ⟨r, q, rfl⟩ : ∃ (r : Fin 512) (q : Fin 512), y = ix2 r q := ⟨y 0, y 1, eq_ix2 y⟩
  show out0_2 (iblk m c 0 t) (iblk m c 1 t) (ix2 r q) = res m c (((cfg0.win 2).blk t).view.emb (ix2 r q))
  unfold out0_2
  simp only [View.canon_unit_zero (S := S512x512) hz, View.ld_unit_zero (S := S512x2048) hz, View.ld_unit_zero (S := S2048x512) hz]
  refine (pay (iblk m c 0 t) (iblk m c 1 t) r q).trans ?_
  exact Finset.sum_congr rfl fun k _ => congrArg₂ (fun u v : EReal => u * v) (blk_0 m c t r q k) (blk_1 m c t r q k)

theorem final (c : Dev nD) : (dats m 0 c).arrAt 2 cfg0.N = res m c :=
  (dats m 0 c).arrAt_eq_of_cover 2 _ (fun t _ => flushed m c t) fun i => by
    have h0 : (i 0).val < 16384 := (i 0).isLt
    have h1 : (i 1).val < 1024 := (i 1).isLt
    have hN : cfg0.N = 64 := N_0
    let t : Fin cfg0.N := ⟨2 * ((i 0).val / 512) + (i 1).val / 512, by omega⟩
    have ht : t.val = 2 * ((i 0).val / 512) + (i 1).val / 512 := rfl
    obtain ⟨c0, c1⟩ := idx_out t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 512 ≤ (i 1).val ∧ (i 1).val < win0_2.index t (1 : Fin 2) * 512 + 512; omega

theorem values : θ_run defs (onTc (τ := τ) (main (F := Ideal))) ⟨m, fun _ => 0, ρ⟩ fun r => ∀ c : Dev nD,
      r.2.mem ((c.tc : Thread nD τ).loc main_v0) = (fun i : S16384x1024.Idx => nn (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Kernel10Ideal.Whole

namespace Cert.Reference10Ideal.Whole

open Cert.Reference10Ideal Swiglu

variable (m : (ℓ : Loc nD τ sig) → Buf (Elt Ideal) ℓ) (ρ : Dev nD → PrngReg)

abbrev aX (c : Dev nD) : S16384x2048.Idx → EReal := m ((c.tc : Thread nD τ).loc main_arg0)
abbrev aW (c : Dev nD) : S2048x1024.Idx → EReal := m ((c.tc : Thread nD τ).loc main_arg1)

theorem values : θ_run defs (onTc (τ := τ) (main (F := Ideal))) ⟨m, fun _ => 0, ρ⟩ fun r => ∀ c : Dev nD,
      r.2.mem ((c.tc : Thread nD τ).loc main_v5) = (fun i : S16384x1024.Idx => nn (aX m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (funext fun i => by
      obtain ⟨r, d, rfl⟩ : ∃ (r : Fin 16384) (d : Fin 1024), i = ix2 r d := ⟨i 0, i 1, eq_ix2 i⟩
      show _ = nn (aX m c) (aW m c) r d
      clear h
      unfold nn
      pointwise), (h c).2⟩) (Value.run m ρ)

end Cert.Reference10Ideal.Whole

end
-- ==== Proof.AttnTrip.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp

/-! One trip of the attention backward kernel's block loop, and the two loops' invariants. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

/-- The row a trip's block starts at. -/
def rowAt (i : grid0.Coords) (v : BitVec 32) (k : Fin (k0_t1_loop i v).trips) : ℕ := k0_off2 i v k 0
/-- The row the next block starts at. -/
def rowNext (i : grid0.Coords) (v : BitVec 32) (k : Fin (k0_t1_loop i v).trips) : ℕ := k0_off3 i v k 0

theorem off2_eq (i : grid0.Coords) (v : BitVec 32) (k : Fin (k0_t1_loop i v).trips) : k0_off2 i v k = ![rowAt i v k, 0] := rfl
theorem off3_eq (i : grid0.Coords) (v : BitVec 32) (k : Fin (k0_t1_loop i v).trips) : k0_off3 i v k = ![rowNext i v k, 0] := rfl
instance (i : grid0.Coords) (v : BitVec 32) (k : Fin (k0_t1_loop i v).trips) : ClosedOff (k0_off2 i v k) := ⟨![rowAt i v k, 0], rfl⟩
instance (i : grid0.Coords) (v : BitVec 32) (k : Fin (k0_t1_loop i v).trips) : ClosedOff (k0_off3 i v k) := ⟨![rowNext i v k, 0], rfl⟩

section Trip
variable (c : Dev nD) (i : grid0.Coords)
  (arg2 : Memref sig .tc .vmem S256x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S256x128 .bf16) (harg5 : arg5.IsWhole)
  (arg6 : Memref sig .tc .vmem S2x256x128 .f32) (harg6 : arg6.IsWhole)
  (arg7 : Memref sig .tc .vmem S256x128 .f32) (harg7 : arg7.IsWhole)
  (arg8 : Memref sig .tc .hbm S16384x1024 .f32) (harg8 : arg8.IsWhole)
  (arg9 : Memref sig .tc .hbm S16384x1024 .f32) (harg9 : arg9.IsWhole)
  (arg10 : Memref sig .tc .vmem S16384x128 .f32) (harg10 : arg10.IsWhole)
  (arg11 : Memref sig .tc .vmem S16384x128 .f32) (harg11 : arg11.IsWhole)
  (arg12 : Memref sig .tc .vmem S2x256x128 .f32) (harg12 : arg12.IsWhole)
  (arg13 : Memref sig .tc .vmem S2x256x128 .f32) (harg13 : arg13.IsWhole)
  (arg14 : Memref sig .tc .vmem S2x256x256 .f32) (harg14 : arg14.IsWhole)
  (arg15 : Memref sig .tc .vmem S2x256x256 .f32) (harg15 : arg15.IsWhole)
  (arg16 : DmaSems sig S2) (arg1 : BitVec 32) (v3 : IVec S1x128 32) (v9 : FVec F S256x256 .bf16) (v13 : FVec F S256x256 .bf16)
  (v25 : FVec F S256x128 .bf16) (v29 : FVec F S256x128 .bf16) (v33 : FVec F S256x128 .bf16) (v37 : FVec F S256x128 .bf16)
  (v38 : FVec F S512x128 .bf16) (v39 : FVec F S512x128 .bf16) (v66 : BitVec 32) (hw : k0_chk1 i v66)
  (v74 : FVec F S256x128 .bf16) (v75 : FVec F S256x256 .f32) (v76 : FVec F S256x256 .f32) (cst : FVec F S256x256 .f32)
  (f3 : Buf (Elt F) (arg3.view.loc (c : Thread nD τ))) (f4 : Buf (Elt F) (arg4.view.loc (c : Thread nD τ)))
  (f6 : Buf (Elt F) (arg6.view.loc (c : Thread nD τ)))

/-- What a trip touches: the keys, values and saved sums at their contents, the accumulators, carried sums and scores at `g`. -/
abbrev Held (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) : sProp 𝕄 :=
  iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15))

/-- The trip's region. -/
abbrev tripG (k : Fin (k0_t1_loop i v66).trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst k ()

set_option maxHeartbeats 4000000 in
/-- ONE TRIP, the stores it makes to be found. -/
noncomputable def tripRun (k : Fin (k0_t1_loop i v66).trips) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) :
    Σ' (L10 : List (View.Piece (Elt F) S16384x128 .f32)), Σ' (L11 : List (View.Piece (Elt F) S16384x128 .f32)), Σ' (L12 : List (View.Piece (Elt F) S2x256x128 .f32)), Σ' (L13 : List (View.Piece (Elt F) S2x256x128 .f32)), Σ' (L14 : List (View.Piece (Elt F) S2x256x256 .f32)), { L15 : List (View.Piece (Elt F) S2x256x256 .f32) //
      Held c arg3 arg4 arg6 arg10 arg11 arg12 arg13 arg14 arg15 f3 f4 f6 g10 g11 g12 g13 g14 g15
        ⊢ wp frame (wpE (defs₀ (F := F)) Variants.none (c : Thread nD τ) none) Set.univ
            (tripG i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst k)
            (fun _ => Held c arg3 arg4 arg6 arg10 arg11 arg12 arg13 arg14 arg15 f3 f4 f6 (arg10.view.writes (Elt F) g10 L10) (arg11.view.writes (Elt F) g11 L11) (arg12.view.writes (Elt F) g12 L12) (arg13.view.writes (Elt F) g13 L13) (arg14.view.writes (Elt F) g14 L14) (arg15.view.writes (Elt F) g15 L15)) } := by
  refine ⟨?_, ?_, ?_, ?_, ?_, ?_, ?run⟩
  case run =>
    unfold Held
    iintro ⟨H3, H4, H6, H10, H11, H12, H13, H14, H15⟩
    dsimp only [tripG]
    sl_unfold [k0_t1_body]
    simp only [k0_part1_eq_skeleton, k0_part2_eq_skeleton, k0_part3_eq_skeleton, k0_part4_eq_skeleton]
    sl_exec
    sl_step
    isplitl [H3]; · iexact H3
    isplitl [H4]; · iexact H4
    isplitl [H6]; · iexact H6
    isplitl [H10]; · iexact H10
    isplitl [H11]; · iexact H11
    isplitl [H12]; · iexact H12
    isplitl [H13]; · iexact H13
    isplitl [H14]; · iexact H14
    iexact H15

end Trip

end Cert.Kernel3Ideal.Attn

end
-- ==== Proof.AttnWords.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.WordSum
public import Idealize.ShloMosaic.Lib.Affine
public import Idealize.ShloMosaic.Lib.Pointwise

/-! The integer words of the attention backward kernel: the number of blocks it may skip, the loops' trip counts, the rows each block starts at. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

open Idealize.ShloMosaic.Affine

omit [FloatOps F] [Named F] in
private theorem toInt_of {x : BitVec 32} {e : Int} (h : IsInt x e) : x.toInt = e := by
  delta Affine.IsInt at h; exact h

section Words
variable (i : grid0.Coords) (v : BitVec 32) (hv : v.toNat ≤ (i 1).val)

theorem lt1 : (i 1).val < 64 := (i 1).isLt
theorem lt0 : (i 0).val < 8 := (i 0).isLt

include hv

theorem word_v : IsInt v v.toNat := by
  have h1 := lt1 i
  have h := word v
  rwa [show v.toInt = v.toNat from by have hc := BitVec.toInt_eq_toNat_cond v; split at hc <;> omega] at h
omit hv in
theorem word_q : IsInt (BitVec.ofNat 32 (i 1).val) (i 1).val := by
  have h1 := lt1 i
  exact ofNat _ ⟨rfl, by omega⟩
theorem word_len : IsInt (Scalar.subi (BitVec.ofNat 32 (i 1).val) v) ((i 1).val - v.toNat : Int) := by
  have h1 := lt1 i
  exact subi (word_q i) (word_v i v hv) ⟨rfl, by omega, by omega⟩
theorem word_len' : IsInt (Scalar.muli (Scalar.divsi (Scalar.subi (BitVec.ofNat 32 (i 1).val) v) 1#32) 1#32) ((i 1).val - v.toNat : Int) := by
  have h1 := lt1 i
  exact muli (divsi_one (e := ((i 1).val - v.toNat : Int)) (word_len i v hv) (ofNat (e := 1) 1 ⟨rfl, by decide⟩) ⟨rfl, rfl⟩)
    (ofNat (e := 1) 1 ⟨rfl, by decide⟩) ⟨by omega, by omega, by omega⟩
theorem word_ub : IsInt (Scalar.addi v (Scalar.muli (Scalar.divsi (Scalar.subi (BitVec.ofNat 32 (i 1).val) v) 1#32) 1#32)) (i 1).val := by
  have h1 := lt1 i
  exact addi (word_v i v hv) (word_len' i v hv) ⟨by omega, by omega, by omega⟩
theorem word_ub' : IsInt (Scalar.addi v (Scalar.subi (BitVec.ofNat 32 (i 1).val) v)) (i 1).val := by
  have h1 := lt1 i
  exact addi (word_v i v hv) (word_len i v hv) ⟨by omega, by omega, by omega⟩

/-- The block loop runs from the first block not skipped up to the query's own. -/
theorem trips1 : (k0_t1_loop i v).trips = (i 1).val - v.toNat := by
  show Scf.trips v (Scalar.addi v (Scalar.muli (Scalar.divsi (Scalar.subi (BitVec.ofNat 32 (i 1).val) v) 1#32) 1#32)) 1#32 = _
  unfold Scf.trips; rw [toInt_of (word_ub i v hv), toInt_of (word_v i v hv)]
  have : (1#32 : BitVec 32).toInt = 1 := rfl
  rw [this]; omega
/-- The remainder loop has no trip. -/
theorem trips2 : (k0_t2_loop i v).trips = 0 := by
  show Scf.trips (Scalar.addi v (Scalar.muli (Scalar.divsi (Scalar.subi (BitVec.ofNat 32 (i 1).val) v) 1#32) 1#32)) (Scalar.addi v (Scalar.subi (BitVec.ofNat 32 (i 1).val) v)) 1#32 = 0
  unfold Scf.trips; rw [toInt_of (word_ub i v hv), toInt_of (word_ub' i v hv)]
  have : (1#32 : BitVec 32).toInt = 1 := rfl
  rw [this]; omega

theorem word_iv (k : Fin (k0_t1_loop i v).trips) : IsInt (Scf.iv v 1#32 k.val) ((v.toNat + k.val : ℕ) : Int) := by
  have h1 := lt1 i
  have hk := Nat.lt_of_lt_of_eq k.isLt (trips1 i v hv)
  exact iv (word_v i v hv) (ofNat (e := 1) 1 ⟨rfl, by decide⟩) k.val ⟨by push_cast; omega, by omega, by omega⟩

omit hv in
theorem toNat_of {x : BitVec 32} {n : ℕ} (h : IsInt x (n : Int)) : x.toNat = n := by
  have h' := toInt_of h
  have hc := BitVec.toInt_eq_toNat_cond x; split at hc <;> omega

theorem row2 (k : Fin (k0_t1_loop i v).trips) : (k0_mult2 i v k).toNat = 256 * (v.toNat + k.val) := by
  have h1 := lt1 i
  have hk := Nat.lt_of_lt_of_eq k.isLt (trips1 i v hv)
  exact toNat_of (muli (word_iv i v hv k) (ofNat (e := 256) 256 ⟨rfl, by decide⟩) ⟨by push_cast; omega, by push_cast; omega, by push_cast; omega⟩)
theorem row3 (k : Fin (k0_t1_loop i v).trips) : (k0_mult3 i v k).toNat = 256 * (v.toNat + k.val + 1) := by
  have h1 := lt1 i
  have hk := Nat.lt_of_lt_of_eq k.isLt (trips1 i v hv)
  have e1 : IsInt (Scalar.addi (Scf.iv v 1#32 k.val) 1#32) ((v.toNat + k.val + 1 : ℕ) : Int) :=
    addi (word_iv i v hv k) (ofNat (e := 1) 1 ⟨rfl, by decide⟩) ⟨by push_cast; omega, by push_cast; omega, by push_cast; omega⟩
  have e2 : IsInt (Scalar.minsi (Scalar.addi (Scf.iv v 1#32 k.val) 1#32) (BitVec.ofNat 32 (i 1).val)) ((v.toNat + k.val + 1 : ℕ) : Int) :=
    minsi e1 (word_q i) (by push_cast; omega)
  exact toNat_of (muli e2 (ofNat (e := 256) 256 ⟨rfl, by decide⟩) ⟨by push_cast; omega, by push_cast; omega, by push_cast; omega⟩)
theorem row1 : (k0_mult1 v).toNat = 256 * v.toNat := by
  have h1 := lt1 i
  exact toNat_of (muli (word_v i v hv) (ofNat (e := 256) 256 ⟨rfl, by decide⟩) ⟨by push_cast; omega, by push_cast; omega, by push_cast; omega⟩)
omit hv in
theorem row6 : (k0_mult6 i).toNat = 256 * (i 1).val := by
  have h1 := lt1 i
  exact toNat_of (muli (word_q i) (ofNat (e := 256) 256 ⟨rfl, by decide⟩) ⟨by push_cast; omega, by push_cast; omega, by push_cast; omega⟩)
omit hv in
theorem row7 : (k0_mult7 i).toNat = 256 * (i 1).val := by
  have h1 := lt1 i
  have e1 : IsInt (Scalar.addi (BitVec.ofNat 32 (i 1).val) 1#32) (((i 1).val + 1 : ℕ) : Int) :=
    addi (word_q i) (ofNat (e := 1) 1 ⟨rfl, by decide⟩) ⟨by push_cast; omega, by push_cast; omega, by push_cast; omega⟩
  have e2 : IsInt (Scalar.minsi (Scalar.addi (BitVec.ofNat 32 (i 1).val) 1#32) (BitVec.ofNat 32 (i 1).val)) (((i 1).val : ℕ) : Int) :=
    minsi e1 (word_q i) (by push_cast; omega)
  exact toNat_of (muli e2 (ofNat (e := 256) 256 ⟨rfl, by decide⟩) ⟨by push_cast; omega, by push_cast; omega, by push_cast; omega⟩)
omit hv in
theorem row8 : (k0_mult8 i).toNat = 128 * (i 0).val := by
  have h1 := lt0 i
  exact toNat_of (muli (ofNat (e := ((i 0).val : ℕ)) (i 0).val ⟨rfl, by omega⟩) (ofNat (e := 128) 128 ⟨rfl, by decide⟩) ⟨by push_cast; omega, by push_cast; omega, by push_cast; omega⟩)

theorem off1_row : k0_off1 v = ![256 * v.toNat, 0] := by
  rw [← row1 i v hv]; rfl
theorem off2_row (k : Fin (k0_t1_loop i v).trips) : k0_off2 i v k = ![256 * (v.toNat + k.val), 0] := by
  rw [← row2 i v hv k]; rfl
theorem off3_row (k : Fin (k0_t1_loop i v).trips) : k0_off3 i v k = ![256 * (v.toNat + k.val + 1), 0] := by
  rw [← row3 i v hv k]; rfl
omit hv in
theorem off6_row : k0_off6 i = ![256 * (i 1).val, 0] := by
  rw [← row6 i]; rfl
omit hv in
theorem off7_row : k0_off7 i = ![256 * (i 1).val, 0] := by
  rw [← row7 i]; rfl
omit hv in
theorem off8_col : k0_off8 i = ![0, 128 * (i 0).val] := by
  rw [← row8 i]; rfl

omit hv in
private theorem inb_of {n : ℕ} (h : n ≤ 63) : ∀ a, (![256 * n, 0] : Fin 2 → ℕ) a + S256x128.size a ≤ S16384x128.size a := by
  intro a; fin_cases a
  · show 256 * n + 256 ≤ 16384; omega
  · show 0 + 128 ≤ 128; omega

/-- The checks the kernel makes of the number of blocks it skips hold where that is at most the query block. -/
theorem chk : k0_chk1 i v := by
  have h1 := lt1 i
  have t1 := trips1 i v hv
  have t2 := trips2 i v hv
  refine ⟨?_, ?_, ?_, ?_, ?_, ?_, ?_, ?_, ?_, ?_, ?_, ?_⟩
  · rw [row1 i v hv]; exact ⟨_, rfl⟩
  · rw [off1_row i v hv]; exact inb_of (by omega)
  · refine ⟨show 0 < (1#32 : BitVec 32).toInt by decide, ?_⟩
    show v.toInt + ((k0_t1_loop i v).trips : Int) * (1#32 : BitVec 32).toInt < 2 ^ 31
    rw [t1, toInt_of (word_v i v hv), show (1#32 : BitVec 32).toInt = 1 from rfl]; omega
  · intro k; rw [row2 i v hv]; exact ⟨_, rfl⟩
  · intro k; have hk := Nat.lt_of_lt_of_eq k.isLt t1
    rw [off2_row i v hv]; exact inb_of (by omega)
  · intro k; rw [row3 i v hv]; exact ⟨_, rfl⟩
  · intro k; have hk := Nat.lt_of_lt_of_eq k.isLt t1
    rw [off3_row i v hv]; exact inb_of (by omega)
  · refine ⟨show 0 < (1#32 : BitVec 32).toInt by decide, ?_⟩
    show (Scalar.addi v (Scalar.muli (Scalar.divsi (Scalar.subi (BitVec.ofNat 32 (i 1).val) v) 1#32) 1#32)).toInt + ((k0_t2_loop i v).trips : Int) * (1#32 : BitVec 32).toInt < 2 ^ 31
    rw [t2, toInt_of (word_ub i v hv), show (1#32 : BitVec 32).toInt = 1 from rfl]; omega
  · intro k; exact absurd (Nat.lt_of_lt_of_eq k.isLt t2) (Nat.not_lt_zero _)
  · intro k; exact absurd (Nat.lt_of_lt_of_eq k.isLt t2) (Nat.not_lt_zero _)
  · intro k; exact absurd (Nat.lt_of_lt_of_eq k.isLt t2) (Nat.not_lt_zero _)
  · intro k; exact absurd (Nat.lt_of_lt_of_eq k.isLt t2) (Nat.not_lt_zero _)

end Words

/-! ## The number of blocks skipped -/

/-- The lane numbers the kernel reads. -/
abbrev lanes : IVec S1x128 32 := iota .tc S1x128 32 [1] iota_S1x128_d1_w32

/-- The word a lane adds to the count: one where the lane is a block before the query's and its nearest weight is far. -/
def mark (q : BitVec 32) (x y : Vec F S1x256x128 .f32) : IVec S1x1x128 32 :=
  shapeCast S1x1x128 (select (andi (cmpi .slt lanes (broadcast S1x128 q))
    (cmpf .oge (shapeCast S1x128 (multiReduction .minimumf [0] S128 (minimumf (shapeCast S256x128 x shapeCasts_S1x256x128_S256x128) (shapeCast S256x128 y shapeCasts_S1x256x128_S256x128)) 0x7F800000#32 reduces_S256x128_S128 (.inl rfl) rfl) shapeCasts_S128_S1x128)
      (broadcast S1x128 (Named.named (F := F) κ "far" 0x43200000#32)))) (broadcast S1x128 1#32) (broadcast S1x128 0#32)) shapeCasts_S1x128_S1x1x128

theorem pay90_eq (q : BitVec 32) (x y : Vec F S1x256x128 .f32) :
    k0_pay90 q lanes x y = shapeCast S1x1x1 (multiReductionI .add [1, 2] S1 (mark q x y) 0#32 reduces_S1x1x128_S1 rfl) shapeCasts_S1_S1x1x1 := rfl

theorem mark_le (i : grid0.Coords) (x y : Vec F S1x256x128 .f32) (j : S1x1x128.Idx) :
    (mark (BitVec.ofNat 32 (i 1).val) x y j).toNat ≤ if (j 2).val < (i 1).val then 1 else 0 := by
  have h1 := lt1 i
  have hj : (j 2).val < 128 := (j 2).isLt
  by_cases h : (j 2).val < (i 1).val
  · rw [if_pos h]; unfold mark; pointwise
    unfold Scalar.select; split <;> decide
  · rw [if_neg h]; unfold mark; pointwise
    have e : IntOp.cmpi .slt (BitVec.ofNat 32 (j 2).val) (BitVec.ofNat 32 (i 1).val) = 0#1 := by
      have e1 : (BitVec.ofNat 32 (j 2).val).slt (BitVec.ofNat 32 (i 1).val) = false := by
        rw [BitVec.slt, decide_eq_false_iff_not, toInt_of (ofNat (e := (j 2).val) _ ⟨rfl, by omega⟩), toInt_of (word_q i)]
        omega
      show BitVec.ofBool _ = _
      rw [e1]; rfl
    rw [e]
    unfold Scalar.select
    rw [if_neg]; · decide
    show ¬ (0#1 &&& _ = 1#1)
    rw [BitVec.zero_and]; decide

/-- At most as many blocks are skipped as there are before the query's. -/
theorem skip_le (i : grid0.Coords) (x y : Vec F S1x256x128 .f32) :
    (extractAt ![0, 0, 0] (k0_pay90 (BitVec.ofNat 32 (i 1).val) lanes x y) inpos_S1x1x1_p0_0_0).toNat ≤ (i 1).val := by
  have h1 := lt1 i
  rw [pay90_eq]
  have hs : ∀ S : Finset S1x1x128.Idx, ∑ j ∈ S, (mark (BitVec.ofNat 32 (i 1).val) x y j).toNat ≤ (i 1).val := by
    intro S
    calc ∑ j ∈ S, (mark (BitVec.ofNat 32 (i 1).val) x y j).toNat
        ≤ ∑ j ∈ S, (if (j 2).val < (i 1).val then 1 else 0) := Finset.sum_le_sum fun j _ => mark_le i x y j
      _ ≤ ∑ j : S1x1x128.Idx, (if (j 2).val < (i 1).val then 1 else 0) := Finset.sum_le_sum_of_subset (Finset.subset_univ S)
      _ = ∑ l : Fin 128, (if l.val < (i 1).val then 1 else 0) := by
        rw [sum_idx3, Fin.sum_univ_one, Fin.sum_univ_one]; rfl
      _ = (i 1).val := by
        rw [Finset.sum_boole, Fin.card_filter_val_lt]; simp; omega
  show (shapeCast S1x1x1 (multiReductionI .add [1, 2] S1 (mark (BitVec.ofNat 32 (i 1).val) x y) 0#32 reduces_S1x1x128_S1 rfl) shapeCasts_S1_S1x1x1 _).toNat ≤ _
  exact (le_of_eq (WordSum.toNat_multiReductionI_add (mark (BitVec.ofNat 32 (i 1).val) x y) reduces_S1x1x128_S1 rfl _ (lt_of_le_of_lt (hs _) (by omega)))).trans (hs _)

end Cert.Kernel3Ideal.Attn

end
-- ==== Proof.AttnLoop.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import Idealize.ShloMosaic.Lib.LoopRemainder
public import proofs.«01_k».proof.Proof.AttnTrip
public import proofs.«01_k».proof.Proof.AttnWords

/-! The attention backward kernel's two loops: the contents a trip starts from, and the invariants. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

/-- The remainder loop has no trip, whatever the first block. -/
theorem noTrips (i : grid0.Coords) (v : BitVec 32) : (k0_t2_loop i v).trips = 0 :=
  Scf.rem_trips _ _

section Trip
variable (c : Dev nD) (i : grid0.Coords)
  (arg2 : Memref sig .tc .vmem S256x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S256x128 .bf16) (harg5 : arg5.IsWhole)
  (arg6 : Memref sig .tc .vmem S2x256x128 .f32) (harg6 : arg6.IsWhole)
  (arg7 : Memref sig .tc .vmem S256x128 .f32) (harg7 : arg7.IsWhole)
  (arg8 : Memref sig .tc .hbm S16384x1024 .f32) (harg8 : arg8.IsWhole)
  (arg9 : Memref sig .tc .hbm S16384x1024 .f32) (harg9 : arg9.IsWhole)
  (arg10 : Memref sig .tc .vmem S16384x128 .f32) (harg10 : arg10.IsWhole)
  (arg11 : Memref sig .tc .vmem S16384x128 .f32) (harg11 : arg11.IsWhole)
  (arg12 : Memref sig .tc .vmem S2x256x128 .f32) (harg12 : arg12.IsWhole)
  (arg13 : Memref sig .tc .vmem S2x256x128 .f32) (harg13 : arg13.IsWhole)
  (arg14 : Memref sig .tc .vmem S2x256x256 .f32) (harg14 : arg14.IsWhole)
  (arg15 : Memref sig .tc .vmem S2x256x256 .f32) (harg15 : arg15.IsWhole)
  (arg16 : DmaSems sig S2) (arg1 : BitVec 32) (v3 : IVec S1x128 32) (v9 : FVec F S256x256 .bf16) (v13 : FVec F S256x256 .bf16)
  (v25 : FVec F S256x128 .bf16) (v29 : FVec F S256x128 .bf16) (v33 : FVec F S256x128 .bf16) (v37 : FVec F S256x128 .bf16)
  (v38 : FVec F S512x128 .bf16) (v39 : FVec F S512x128 .bf16) (v66 : BitVec 32) (hw : k0_chk1 i v66)
  (v74 : FVec F S256x128 .bf16) (v75 : FVec F S256x256 .f32) (v76 : FVec F S256x256 .f32) (cst : FVec F S256x256 .f32)
  (f3 : Buf (Elt F) (arg3.view.loc (c : Thread nD τ))) (f4 : Buf (Elt F) (arg4.view.loc (c : Thread nD τ)))
  (f6 : Buf (Elt F) (arg6.view.loc (c : Thread nD τ)))

/-- What the buffers a trip stores into hold. -/
structure St where
  f10 : Buf (Elt F) (arg10.view.loc (c : Thread nD τ))
  f11 : Buf (Elt F) (arg11.view.loc (c : Thread nD τ))
  f12 : Buf (Elt F) (arg12.view.loc (c : Thread nD τ))
  f13 : Buf (Elt F) (arg13.view.loc (c : Thread nD τ))
  f14 : Buf (Elt F) (arg14.view.loc (c : Thread nD τ))
  f15 : Buf (Elt F) (arg15.view.loc (c : Thread nD τ))

/-- The contents after trip `k`, from those before it. -/
def next (k : Fin (k0_t1_loop i v66).trips) (s : St (F := F) c arg10 arg11 arg12 arg13 arg14 arg15) : St (F := F) c arg10 arg11 arg12 arg13 arg14 arg15 :=
  ⟨arg10.view.writes (Elt F) s.f10 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).1, arg11.view.writes (Elt F) s.f11 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).2.1, arg12.view.writes (Elt F) s.f12 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).2.2.1, arg13.view.writes (Elt F) s.f13 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).2.2.2.1, arg14.view.writes (Elt F) s.f14 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).2.2.2.2.1, arg15.view.writes (Elt F) s.f15 (tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15).2.2.2.2.2.1⟩

set_option maxHeartbeats 1000000 in
/-- One trip takes the contents before it to those after. -/
theorem next_step (k : Fin (k0_t1_loop i v66).trips) (s : St (F := F) c arg10 arg11 arg12 arg13 arg14 arg15) :
    Held c arg3 arg4 arg6 arg10 arg11 arg12 arg13 arg14 arg15 f3 f4 f6 (s).f10 (s).f11 (s).f12 (s).f13 (s).f14 (s).f15
      ⊢ wp frame (wpE (defs₀ (F := F)) Variants.none (c : Thread nD τ) none) Set.univ
          (tripG i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst k)
          (fun _ => Held c arg3 arg4 arg6 arg10 arg11 arg12 arg13 arg14 arg15 f3 f4 f6 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f10 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f11 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f12 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f13 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f14 (next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k s).f15) := by
  unfold next
  generalize tripRun c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (s).f10 (s).f11 (s).f12 (s).f13 (s).f14 (s).f15 = r
  obtain ⟨L10, L11, L12, L13, L14, L15, h⟩ := r
  dsimp only at h ⊢
  exact h

/-- The contents before trip `k`, from those at the loop's entry. -/
def st (s0 : St (F := F) c arg10 arg11 arg12 arg13 arg14 arg15) : ℕ → St (F := F) c arg10 arg11 arg12 arg13 arg14 arg15
  | 0 => s0
  | k + 1 =>
    if h : k < (k0_t1_loop i v66).trips then next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨k, h⟩ (st s0 k) else st s0 k

/-- A sequence given by its first value and the later ones is the sequence. -/
theorem rec_eq {α : Type} (f : ℕ → α) (n : ℕ) : (Nat.rec (motive := fun _ => α) (f 0) (fun k _ => f (k + 1)) n : α) = f n := by
  cases n <;> rfl

theorem st_succ (s0 : St (F := F) c arg10 arg11 arg12 arg13 arg14 arg15) (k : Fin (k0_t1_loop i v66).trips) :
    st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 s0 (k.val + 1) = next c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 s0 k.val) := dif_pos k.isLt

set_option warn.classDefReducibility false in
/-- The block loop's invariant: before trip `k` the contents are those after `k` trips. -/
@[sl_loop] def loopInv1 (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) :
    LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst where
  inv k _ := Held c arg3 arg4 arg6 arg10 arg11 arg12 arg13 arg14 arg15 f3 f4 f6 (Nat.rec (motive := fun _ => Buf (Elt F) (arg10.view.loc (c : Thread nD τ))) g10 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f10) k) (Nat.rec (motive := fun _ => Buf (Elt F) (arg11.view.loc (c : Thread nD τ))) g11 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f11) k) (Nat.rec (motive := fun _ => Buf (Elt F) (arg12.view.loc (c : Thread nD τ))) g12 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f12) k) (Nat.rec (motive := fun _ => Buf (Elt F) (arg13.view.loc (c : Thread nD τ))) g13 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f13) k) (Nat.rec (motive := fun _ => Buf (Elt F) (arg14.view.loc (c : Thread nD τ))) g14 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f14) k) (Nat.rec (motive := fun _ => Buf (Elt F) (arg15.view.loc (c : Thread nD τ))) g15 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f15) k)
  step k _ := by
    have e10 : ∀ n, (Nat.rec (motive := fun _ => Buf (Elt F) (arg10.view.loc (c : Thread nD τ))) g10 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f10) n : Buf (Elt F) (arg10.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f10 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f10) n
    have e11 : ∀ n, (Nat.rec (motive := fun _ => Buf (Elt F) (arg11.view.loc (c : Thread nD τ))) g11 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f11) n : Buf (Elt F) (arg11.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f11 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f11) n
    have e12 : ∀ n, (Nat.rec (motive := fun _ => Buf (Elt F) (arg12.view.loc (c : Thread nD τ))) g12 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f12) n : Buf (Elt F) (arg12.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f12 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f12) n
    have e13 : ∀ n, (Nat.rec (motive := fun _ => Buf (Elt F) (arg13.view.loc (c : Thread nD τ))) g13 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f13) n : Buf (Elt F) (arg13.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f13 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f13) n
    have e14 : ∀ n, (Nat.rec (motive := fun _ => Buf (Elt F) (arg14.view.loc (c : Thread nD τ))) g14 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f14) n : Buf (Elt F) (arg14.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f14 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f14) n
    have e15 : ∀ n, (Nat.rec (motive := fun _ => Buf (Elt F) (arg15.view.loc (c : Thread nD τ))) g15 (fun n _ => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (n + 1)).f15) n : Buf (Elt F) (arg15.view.loc (c : Thread nD τ))) = (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f15 := fun n => rec_eq (fun n => (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ n).f15) n
    simp only [e10, e11, e12, e13, e14, e15]
    show Held c arg3 arg4 arg6 arg10 arg11 arg12 arg13 arg14 arg15 f3 f4 f6 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f10 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f11 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f12 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f13 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f14 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ k.val).f15 ⊢ wp frame (wpE (defs₀ (F := F)) Variants.none (c : Thread nD τ) none) Set.univ
          (tripG i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst k) (fun _ => Held c arg3 arg4 arg6 arg10 arg11 arg12 arg13 arg14 arg15 f3 f4 f6 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f10 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f11 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f12 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f13 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f14 (st c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 ⟨g10, g11, g12, g13, g14, g15⟩ (k.val + 1)).f15)
    rw [st_succ]; exact next_step c i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst f3 f4 f6 k _

set_option warn.classDefReducibility false in
/-- The remainder loop's invariant: it makes no trip. -/
@[sl_loop] def loopInv2 (v95 : BitVec 32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) :
    LoopInvTy_k0_t2 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 arg1 v3 v9 v13 v25 v29 v33 v37 v38 v39 v66 hw v74 v75 v76 cst v95 where
  inv _ _ := Held c arg3 arg4 arg6 arg10 arg11 arg12 arg13 arg14 arg15 f3 f4 f6 g10 g11 g12 g13 g14 g15
  step k _ := (Nat.not_lt_zero _ (Nat.lt_of_lt_of_eq k.isLt (noTrips i v66))).elim

end Trip

end Cert.Kernel3Ideal.Attn

end
-- ==== Proof.AttnRuns.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import proofs.«01_k».proof.Proof.AttnLoop

/-! The attention backward kernel's branch conditions, its first block's check and its results left in HBM. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

/-! ## Names the launch and the runs share -/

/-- The point is the first of its head pair: the accumulators are zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 := fun t => by
  have ht : t.val < 512 := Nat.lt_of_lt_of_eq t.isLt N_0
  have e1 : (grid0.coords t 1).val = t.val / 1 % 64 := Pipeline.Grid.coords_val t 1 (by decide) rfl
  simp only [cond0_0, e1]
  word_cmp
/-- The point is the last of its head pair: the accumulators are copied out. -/
abbrev cond0_1 (i : grid0.Coords) : Prop := k0_cond2 i = 1#1
theorem hcond0_1 : ∀ t : Fin cfg0.N, cond0_1 (grid0.coords t) ↔ t.val % 64 = 63 := fun t => by
  have ht : t.val < 512 := Nat.lt_of_lt_of_eq t.isLt N_0
  have e1 : (grid0.coords t 1).val = t.val / 1 % 64 := Pipeline.Grid.coords_val t 1 (by decide) rfl
  simp only [cond0_1, k0_cond2, e1]
  word_cmp

/-- The first block a query block's rows reach, as the kernel reads it off the saved sums. -/
abbrev firstBlock (i : grid0.Coords) (x y : Vec F S1x256x128 .f32) : BitVec 32 :=
  extractAt ![0, 0, 0] (k0_pay90 (BitVec.ofNat 32 (i 1).val) lanes x y) inpos_S1x1x1_p0_0_0
theorem firstChk (i : grid0.Coords) (x y : Vec F S1x256x128 .f32) : k0_chk1 i (firstBlock i x y) := chk i _ (skip_le i x y)

instance (v : BitVec 32) : ClosedOff (k0_off1 v) := ⟨![k0_off1 v 0, 0], rfl⟩
instance (i : grid0.Coords) : ClosedOff (k0_off6 i) := ⟨![256 * (i 1).val, 0], off6_row i⟩
instance (i : grid0.Coords) : ClosedOff (k0_off7 i) := ⟨![256 * (i 1).val, 0], off7_row i⟩
instance (i : grid0.Coords) : ClosedOff (k0_off8 i) := ⟨![0, 128 * (i 0).val], off8_col i⟩

/-- The two results left in HBM, whole. -/
abbrev hbM0_0 : Memref sig .tc .hbm S16384x1024 .f32 := Memref.whole main_v49_1
abbrev hbM0_1 : Memref sig .tc .hbm S16384x1024 .f32 := Memref.whole main_v49_2
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

end Cert.Kernel3Ideal.Attn

end
-- ==== Proof.AttnRunA.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import proofs.«01_k».proof.Proof.AttnRuns

/-! The attention backward kernel's body at the first point of a head pair. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

set_option maxHeartbeats 4000000 in
/-- The body at the first point of a head pair: what it leaves in the query gradient's block, in the two accumulators and in the two results left in HBM. -/
noncomputable def runA (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole) (hc0 : cond0_0 i) (hc1 : ¬cond0_1 i)
    (x0 : Vec F S256x128 .bf16) (x1 : Vec F S16384x128 .bf16) (x2 : Vec F S16384x128 .bf16) (x3 : Vec F S256x128 .bf16) (x4 : Vec F S2x256x128 .f32) (fw0 : HbBuf0 (F := F) c hbM0_0) (fw1 : HbBuf0 (F := F) c hbM0_1) :
    Σ' (L5 : List (View.Piece (Elt F) S256x128 .f32)), Σ' (R10 : Buf (Elt F) (arg10.view.loc (c : Thread nD τ))), { R11 : Buf (Elt F) (arg11.view.loc (c : Thread nD τ)) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 12) 0 ∗ semVal ((c : Thread nD τ), SemLoc.dma 13) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg10.view.loc (c : Thread nD τ) ↦[arg10.view.set]{fullShare} R10) ∗ (arg11.view.loc (c : Thread nD τ) ↦[arg11.view.set]{fullShare} R11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ semVal ((c : Thread nD τ), SemLoc.dma 12) 0 ∗ semVal ((c : Thread nD τ), SemLoc.dma 13) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_attn_bwd i arg2 harg2 arg3 harg3 arg4 harg4 arg5 harg5 arg6 harg6 arg7 harg7 (Memref.whole main_v49_1) (Memref.isWhole_whole _) (Memref.whole main_v49_2) (Memref.isWhole_whole _) arg10 harg10 arg11 harg11 arg12 harg12 arg13 harg13 arg14 harg14 arg15 harg15 cc0_scratch6) K } := by
  refine ⟨?_, ?_, ?_, fun W K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact (firstChk (F := F) i _ _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hh0]; · iexact Hh0
    isplitl [Hh1]; · iexact Hh1
    iexists _; iexact HW

end Cert.Kernel3Ideal.Attn

end
-- ==== Proof.AttnRunB.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import proofs.«01_k».proof.Proof.AttnRuns

/-! The attention backward kernel's body at a point inside a head pair. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

set_option maxHeartbeats 4000000 in
/-- The body at a point inside a head pair: what it leaves in the query gradient's block, in the two accumulators and in the two results left in HBM. -/
noncomputable def runB (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole) (hc0 : ¬cond0_0 i) (hc1 : ¬cond0_1 i)
    (x0 : Vec F S256x128 .bf16) (x1 : Vec F S16384x128 .bf16) (x2 : Vec F S16384x128 .bf16) (x3 : Vec F S256x128 .bf16) (x4 : Vec F S2x256x128 .f32) (xs0 : Vec F S16384x128 .f32) (xs1 : Vec F S16384x128 .f32) (fw0 : HbBuf0 (F := F) c hbM0_0) (fw1 : HbBuf0 (F := F) c hbM0_1) :
    Σ' (L5 : List (View.Piece (Elt F) S256x128 .f32)), Σ' (R10 : Buf (Elt F) (arg10.view.loc (c : Thread nD τ))), { R11 : Buf (Elt F) (arg11.view.loc (c : Thread nD τ)) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 12) 0 ∗ semVal ((c : Thread nD τ), SemLoc.dma 13) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg10.view.loc (c : Thread nD τ) ↦[arg10.view.set]{fullShare} R10) ∗ (arg11.view.loc (c : Thread nD τ) ↦[arg11.view.set]{fullShare} R11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ semVal ((c : Thread nD τ), SemLoc.dma 12) 0 ∗ semVal ((c : Thread nD τ), SemLoc.dma 13) 0 ∗ hbPt0 c hbM0_0 fw0 ∗ hbPt0 c hbM0_1 fw1 ∗ (∃ W', owes (c : Thread nD τ) 0 W')) -∗ K ⟨⟩))
          ⊢ wp frame (wpE (defs₀ (F := F)) Variants.none c none) Set.univ (cc0_attn_bwd i arg2 harg2 arg3 harg3 arg4 harg4 arg5 harg5 arg6 harg6 arg7 harg7 (Memref.whole main_v49_1) (Memref.isWhole_whole _) (Memref.whole main_v49_2) (Memref.isWhole_whole _) arg10 harg10 arg11 harg11 arg12 harg12 arg13 harg13 arg14 harg14 arg15 harg15 cc0_scratch6) K } := by
  refine ⟨?_, ?_, ?_, fun W K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1
    sl_exec (disch := first | sl_exact hc0 | sl_exact hc1 | sl_exact (firstChk (F := F) i _ _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hh0]; · iexact Hh0
    isplitl [Hh1]; · iexact Hh1
    iexists _; iexact HW

end Cert.Kernel3Ideal.Attn

end
-- ==== Proof.AttnRunC.lean ====
module

public import proofs.«01_k».proof.Proof.Gen.Kernel3Ideal.Loops
public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import proofs.«01_k».proof.Proof.AttnRuns

/-! The attention backward kernel's body at the last point of a head pair. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F] [Named F]

local notation "𝕄" => MT nD τ sig Unit (Elt F) ℕ (Pipeline.UD sig nD τ) ℕ

set_option maxHeartbeats 4000000 in
/-- The body at the last point of a head pair: what it leaves in the query gradient's block, in the two accumulators and in the two results left in HBM. -/
noncomputable def runC (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole) (hc0 : ¬cond0_0 i) (hc1 : cond0_1 i)
    (x0 : Vec F S256x128 .bf16) (x1 : Vec F S16384x128 .bf16) (x2 : Vec F S16384x128 .bf16) (x3 : Vec F S256x128 .bf16) (x4 : Vec F S2x256x128 .f32) (xs0 : Vec F S16384x128 .f32) (xs1 : Vec F S16384x128 .f32) (fw0 : HbBuf0 (F := F) c hbM0_0) (fw1 : HbBuf0 (F := F) c hbM0_1) :
    Σ' (L5 : List (View.Piece (Elt F) S256x128 .f32)), Σ' (R10 : Buf (Elt F) (arg10.view.loc (c : Thread nD τ))), Σ' (R11 : Buf (Elt F) (arg11.view.loc (c : Thread nD τ))), Σ' (R8 : HbBuf0 (F := F) c hbM0_0), { R9 : HbBuf0 (F := F) c hbM0_1 //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 12) 0 ∗ semVal ((c : Thread nD τ), SemLoc.dma 13) 0 ∗ hbPt0 c hbM0_0 fw0 ∗ hbPt0 c hbM0_1 fw1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, (arg7.view.loc (c : Thread nD τ) ↦[arg7.view.set]{fullShare} arg7.view.writes (Elt F) f L5)) ∗ (arg10.view.loc (c : Thread nD τ) ↦[arg10.view.set]{fullShare} R10) ∗ (arg11.view.loc (c : Thread nD τ) ↦[arg11.view.set]{fullShare} R11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ semVal ((c : Thread nD τ), SemLoc.dma 12) 0 ∗ semVal ((c : Thread nD τ), SemLoc.dma 13) 0 ∗ hbPt0 c hbM0_0 R8 ∗ hbPt0 c hbM0_1 R9 ∗ (∃ W', owes (c : Thread nD τ) 0 W')) -∗ K ⟨⟩))
          ⊢ wp frame (wpE (defs₀ (F := F)) Variants.none c none) Set.univ (cc0_attn_bwd i arg2 harg2 arg3 harg3 arg4 harg4 arg5 harg5 arg6 harg6 arg7 harg7 (Memref.whole main_v49_1) (Memref.isWhole_whole _) (Memref.whole main_v49_2) (Memref.isWhole_whole _) arg10 harg10 arg11 harg11 arg12 harg12 arg13 harg13 arg14 harg14 arg15 harg15 cc0_scratch6) K } := by
  refine ⟨?_, ?_, ?_, ?_, ?_, fun W K => ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1
    sl_exec (disch := first | sl_exact hc0 | sl_exact hc1 | sl_exact (firstChk (F := F) i _ _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [Hq0]; · iexact Hq0
    isplitl [Hq1]; · iexact Hq1
    isplitl [Hh0]; · iexact Hh0
    isplitl [Hh1]; · iexact Hh1
    iexists _; iexact HW

end Cert.Kernel3Ideal.Attn

end
-- ==== Proof.AttnLaunch.lean ====
module

public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Pipeline.FrameBody
public import Idealize.ShloMosaic.Lib.Pipeline.FrameSuffix
public import Idealize.ShloMosaic.Lib.Pipeline.FrameSuffixV
public import Idealize.ShloMosaic.Lib.Ring
public import Idealize.ShloMosaic.Lib.Tactic
public import Idealize.ShloMosaic.Lib.WordCmp
public import proofs.«01_k».proof.Proof.AttnRunA
public import proofs.«01_k».proof.Proof.AttnRunB
public import proofs.«01_k».proof.Proof.AttnRunC
public import Idealize.ShloMosaic.Lib.Claim

/-! The attention backward kernel point by point: what each point leaves, the invariant between points, and the body's triple at every point. -/

@[expose] public section

set_option maxRecDepth 16384

noncomputable section

namespace Cert.Kernel3Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The region's entry and the windows' blocks -/

/-- The buffers when the region is entered: after the host's lines before it. -/
abbrev V0 (c : Dev nD) : Valuation τ sig (Elt F) := StableHlo.after (List.flatten [hostOps0, hostOps0_1, hostOps0_2, hostOps0_3, hostOps0_4]) (fun b => m (c, b))
abbrev V (c : Dev nD) (b : Ref sig .tc) : Buf (Elt F) ((c : Thread nD τ).loc b) := V0 m c (Proc.devRef .tc b)

set_option maxHeartbeats 800000 in
/-- The program is the host's lines, the region, and the host's last lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A window's block at a point, read off its array at the region's entry. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem held0_of {c : Dev nD} (dat : Dat τ (Elt F) Unit ℕ (Pipeline.UD sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1_of {c : Dev nD} (dat : Dat τ (Elt F) Unit ℕ (Pipeline.UD sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2_of {c : Dev nD} (dat : Dat τ (Elt F) Unit ℕ (Pipeline.UD sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem held3_of {c : Dev nD} (dat : Dat τ (Elt F) Unit ℕ (Pipeline.UD sig nD τ) ℕ cfg0 c) (hA : dat.A 3 = V m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem held4_of {c : Dev nD} (dat : Dat τ (Elt F) Unit ℕ (Pipeline.UD sig nD τ) ℕ cfg0 c) (hA : dat.A 4 = V m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The memrefs of a point -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S16384x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S16384x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x256x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x128 .f32 := win0_5.stage (cfg0.slots t 5)
abbrev hs5 (t : Fin cfg0.N) : (ms5 t).IsWhole := hstage0_5 ((cfg0.slots t 5).cast nbuf0_5)
abbrev sc0 : Memref sig .tc .vmem S16384x128 .f32 := Memref.whole cc0_scratch0
abbrev sc1 : Memref sig .tc .vmem S16384x128 .f32 := Memref.whole cc0_scratch1
abbrev sc2 : Memref sig .tc .vmem S2x256x128 .f32 := Memref.whole cc0_scratch2
abbrev sc3 : Memref sig .tc .vmem S2x256x128 .f32 := Memref.whole cc0_scratch3
abbrev sc4 : Memref sig .tc .vmem S2x256x256 .f32 := Memref.whole cc0_scratch4
abbrev sc5 : Memref sig .tc .vmem S2x256x256 .f32 := Memref.whole cc0_scratch5
abbrev dqView : View sig .tc .vmem S256x128 .f32 := (Memref.whole cc0_stg5_0 : Memref sig .tc .vmem S256x128 .f32).view

/-! ## What each point leaves -/

/-- What a point is entered with: the last query block's gradient, the two accumulators, the two results in HBM. -/
structure Pt (c : Dev nD) where
  dq : Vec F S256x128 .f32
  dk : Vec F S16384x128 .f32
  dv : Vec F S16384x128 .f32
  hk : HbBuf0 (F := F) c hbM0_0
  hv : HbBuf0 (F := F) c hbM0_1

/-- The run at a point of case A, at the point's memrefs and blocks. -/
abbrev runAAt (c : Dev nD) (t : Fin cfg0.N) (hc0 : cond0_0 (grid0.coords t)) (hc1 : ¬cond0_1 (grid0.coords t)) (s : Pt (F := F) c) :=
  runA c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) hc0 hc1 (blk m c 0 t) (blk m c 1 t) (blk m c 2 t) (blk m c 3 t) (blk m c 4 t) s.hk s.hv
/-- What it leaves. -/
def stepA (c : Dev nD) (t : Fin cfg0.N) (hc0 : cond0_0 (grid0.coords t)) (hc1 : ¬cond0_1 (grid0.coords t)) (s : Pt (F := F) c) : Pt (F := F) c :=
  ⟨dqView.read (Elt F) (dqView.writes (Elt F) dqView.junk (runAAt m c t hc0 hc1 s).1), sc0.view.read (Elt F) (runAAt m c t hc0 hc1 s).2.1, sc1.view.read (Elt F) (runAAt m c t hc0 hc1 s).2.2.1, s.hk, s.hv⟩
theorem coverA (c : Dev nD) (t : Fin cfg0.N) (hc0 : cond0_0 (grid0.coords t)) (hc1 : ¬cond0_1 (grid0.coords t)) (s : Pt (F := F) c) (y : S256x128.Idx) :
    ∃ pc ∈ (runAAt m c t hc0 hc1 s).1, y ∈ pc.1.set :=
  View.cover_of_tiledL (runAAt m c t hc0 hc1 s).1 S256x128.size (by sl_kernel_rfl) y

/-- The run at a point of case B, at the point's memrefs and blocks. -/
abbrev runBAt (c : Dev nD) (t : Fin cfg0.N) (hc0 : ¬cond0_0 (grid0.coords t)) (hc1 : ¬cond0_1 (grid0.coords t)) (s : Pt (F := F) c) :=
  runB c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) hc0 hc1 (blk m c 0 t) (blk m c 1 t) (blk m c 2 t) (blk m c 3 t) (blk m c 4 t) s.dk s.dv s.hk s.hv
/-- What it leaves. -/
def stepB (c : Dev nD) (t : Fin cfg0.N) (hc0 : ¬cond0_0 (grid0.coords t)) (hc1 : ¬cond0_1 (grid0.coords t)) (s : Pt (F := F) c) : Pt (F := F) c :=
  ⟨dqView.read (Elt F) (dqView.writes (Elt F) dqView.junk (runBAt m c t hc0 hc1 s).1), sc0.view.read (Elt F) (runBAt m c t hc0 hc1 s).2.1, sc1.view.read (Elt F) (runBAt m c t hc0 hc1 s).2.2.1, s.hk, s.hv⟩
theorem coverB (c : Dev nD) (t : Fin cfg0.N) (hc0 : ¬cond0_0 (grid0.coords t)) (hc1 : ¬cond0_1 (grid0.coords t)) (s : Pt (F := F) c) (y : S256x128.Idx) :
    ∃ pc ∈ (runBAt m c t hc0 hc1 s).1, y ∈ pc.1.set :=
  View.cover_of_tiledL (runBAt m c t hc0 hc1 s).1 S256x128.size (by sl_kernel_rfl) y

/-- The run at a point of case C, at the point's memrefs and blocks. -/
abbrev runCAt (c : Dev nD) (t : Fin cfg0.N) (hc0 : ¬cond0_0 (grid0.coords t)) (hc1 : cond0_1 (grid0.coords t)) (s : Pt (F := F) c) :=
  runC c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) hc0 hc1 (blk m c 0 t) (blk m c 1 t) (blk m c 2 t) (blk m c 3 t) (blk m c 4 t) s.dk s.dv s.hk s.hv
/-- What it leaves. -/
def stepC (c : Dev nD) (t : Fin cfg0.N) (hc0 : ¬cond0_0 (grid0.coords t)) (hc1 : cond0_1 (grid0.coords t)) (s : Pt (F := F) c) : Pt (F := F) c :=
  ⟨dqView.read (Elt F) (dqView.writes (Elt F) dqView.junk (runCAt m c t hc0 hc1 s).1), sc0.view.read (Elt F) (runCAt m c t hc0 hc1 s).2.1, sc1.view.read (Elt F) (runCAt m c t hc0 hc1 s).2.2.1, (runCAt m c t hc0 hc1 s).2.2.2.1, (runCAt m c t hc0 hc1 s).2.2.2.2.1⟩
theorem coverC (c : Dev nD) (t : Fin cfg0.N) (hc0 : ¬cond0_0 (grid0.coords t)) (hc1 : cond0_1 (grid0.coords t)) (s : Pt (F := F) c) (y : S256x128.Idx) :
    ∃ pc ∈ (runCAt m c t hc0 hc1 s).1, y ∈ pc.1.set :=
  View.cover_of_tiledL (runCAt m c t hc0 hc1 s).1 S256x128.size (by sl_kernel_rfl) y

/-- What a point leaves, given what it is entered with. -/
def step (c : Dev nD) (t : Fin cfg0.N) (s : Pt (F := F) c) : Pt (F := F) c :=
  if h0 : t.val % 64 = 0 then stepA m c t ((hcond0_0 t).mpr h0) (fun h => absurd ((hcond0_1 t).mp h) (by omega)) s
  else if h1 : t.val % 64 = 63 then stepC m c t (fun h => h0 ((hcond0_0 t).mp h)) ((hcond0_1 t).mpr h1) s
  else stepB m c t (fun h => h0 ((hcond0_0 t).mp h)) (fun h => h1 ((hcond0_1 t).mp h)) s
/-- What stands before point `n`. -/
def pt (c : Dev nD) : ℕ → Pt (F := F) c
  | 0 => ⟨dqView.read (Elt F) dqView.junk, sc0.view.read (Elt F) sc0.view.junk, sc1.view.read (Elt F) sc1.view.junk, V m c main_v49_1, V m c main_v49_2⟩
  | n + 1 => if h : n < cfg0.N then step m c ⟨n, h⟩ (pt c n) else pt c n
theorem pt_succ (c : Dev nD) (t : Fin cfg0.N) : pt m c (t.val + 1) = step m c t (pt m c t.val) := by
  rw [pt, dif_pos t.isLt]

/-! ## The kernel's own semaphores and buffers -/

abbrev osem0 : Fin 2 → SemLoc sig := fun j => (![SemLoc.dma 12, SemLoc.dma 13] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
def H0 : Finset (Ref sig .tc) := {}
def R0 : Finset (Ref sig .tc) := {main_v49_1, main_v49_2}
theorem H0_sub : H0 ⊆ Pipeline.restRefs sig spec0 := by decide
theorem R0_sub : R0 ⊆ Pipeline.restRefs sig spec0 \ H0 := by decide
theorem noneRead (c : Dev nD) :
    (bigSep H0 (fun b => ((c : Thread nD τ).loc b) ↦{fullShare} V m c b) : sProp 𝕄) = iprop(emp) := by
  rw [BI.bigSep_eq_bigSepL_of_eq [] (by decide) (by decide)]; rfl
theorem written (c : Dev nD) (G : (b : Ref sig .tc) → Buf (Elt F) ((c : Thread nD τ).loc b)) :
    (bigSep R0 (fun b => ((c : Thread nD τ).loc b) ↦{fullShare} G b) : sProp 𝕄) = iprop(hbPt0 c hbM0_0 (G main_v49_1) ∗ hbPt0 c hbM0_1 (G main_v49_2)) := by
  rw [BI.bigSep_eq_bigSepL_of_eq [main_v49_1, main_v49_2] (by decide) (by decide)]; rfl
/-- What the launch hands the region and takes back, listed. -/
theorem PhiV_eq (c : Dev nD) (G : (c : Dev nD) → (b : Ref sig .tc) → Buf (Elt F) ((c : Thread nD τ).loc b)) :
    (Pipeline.ΦDRV osem0 spec0 H0 R0 (V m) G c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ iprop(semVal ((c : Thread nD τ), SemLoc.dma 12) 0 ∗ semVal ((c : Thread nD τ), SemLoc.dma 13) 0) ∗ iprop(emp) ∗ iprop(hbPt0 c hbM0_0 (G c main_v49_1) ∗ hbPt0 c hbM0_1 (G c main_v49_2))) := by
  unfold Pipeline.ΦDRV; rw [scopedRest0_eq, ownSems_eq, noneRead, written]; simp only [sc0, sc1, sc2, sc3, sc4, sc5, owns_whole]; try rfl

/-- Between points: the accumulators at what the points before left (anything at a head pair's start), the other
    scratch at anything, the two results at what the points before left. -/
def Inv (c : Dev nD) (n : ℕ) : sProp 𝕄 :=
  iprop(iprop((∃ d, ⌜n % 64 ≠ 0 → d = (pt m c n).dk⌝ ∗ owns (c : Thread nD τ) sc0 fullShare d) ∗ (∃ d, ⌜n % 64 ≠ 0 → d = (pt m c n).dv⌝ ∗ owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ iprop(semVal ((c : Thread nD τ), SemLoc.dma 12) 0 ∗ semVal ((c : Thread nD τ), SemLoc.dma 13) 0) ∗ iprop(hbPt0 c hbM0_0 (pt m c n).hk ∗ hbPt0 c hbM0_1 (pt m c n).hv))

/-- The pipeline's proof data: every input's block in place, the query gradient's block at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => (pt m c (t.val + 1)).dq
  Φ t := Inv m c t.val
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val := by
  dsimp only [dats]; rfl
theorem Inv_next (c : Dev nD) (t : Fin cfg0.N) : (dats m 0 c).Φ t.succ = Inv m c (t.val + 1) := by
  dsimp only [dats]; rfl

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = (pt m c (t.val + 1)).dq := by dsimp only [dats]
theorem before0 (c : Dev nD) (t : Fin cfg0.N) (d) : (dats m 0 c).before 0 t d = blk m c 0 t :=
  held0_of m (dats m 0 c) (A_eq m c 0) (after0 m c) t d
theorem before1 (c : Dev nD) (t : Fin cfg0.N) (d) : (dats m 0 c).before 1 t d = blk m c 1 t :=
  held1_of m (dats m 0 c) (A_eq m c 1) (after1 m c) t d
theorem before2 (c : Dev nD) (t : Fin cfg0.N) (d) : (dats m 0 c).before 2 t d = blk m c 2 t :=
  held2_of m (dats m 0 c) (A_eq m c 2) (after2 m c) t d
theorem before3 (c : Dev nD) (t : Fin cfg0.N) (d) : (dats m 0 c).before 3 t d = blk m c 3 t :=
  held3_of m (dats m 0 c) (A_eq m c 3) (after3 m c) t d
theorem before4 (c : Dev nD) (t : Fin cfg0.N) (d) : (dats m 0 c).before 4 t d = blk m c 4 t :=
  held4_of m (dats m 0 c) (A_eq m c 4) (after4 m c) t d

/-! ## The body at every point -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 14400000 in
theorem bodyA (c : Dev nD) (t : Fin cfg0.N) (h0 : t.val % 64 = 0) (h1 : ¬t.val % 64 = 63) :
    bodyPre m c t ⊢ wp frame (wpE (defs₀ (F := F)) Variants.none c none) Set.univ (bodyAt0 t) (fun _ => bodyPost m c t) := by
  unfold bodyPre bodyPost bodyAt0
  simp only [before0, before1, before2, before3, before4]
  rw [Inv_next, Inv_castSucc, after0, after1, after2, after3, after4, after5]
  unfold Dat.owesAt Pipeline.owesWithin
  rw [show (dats m 0 c).owed t.castSucc = 0 from rfl, show (dats m 0 c).owed t.succ = 0 from rfl]
  unfold Inv
  rw [pt_succ m c t]; unfold step; rw [dif_pos h0]; unfold stepA; dsimp only
  iintro ⟨⟨⟨⟨%e0, %he0, HS0⟩, ⟨%e1, %he1, HS1⟩, HS2, HS3, HS4, HS5⟩, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply ((runAAt m c t ((hcond0_0 t).mpr h0) (fun h => h1 ((hcond0_1 t).mp h)) (pt m c t.val)).2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexists _; iexact HS0
  isplitl [HS1]; · iexists _; iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%e5, H5⟩, HS0, HS1, ⟨%fT2, HS2⟩, ⟨%fT3, HS3⟩, ⟨%fT4, HS4⟩, ⟨%fT5, HS5⟩, Hq0, Hq1, Hh0, Hh1, ⟨%W', HW'⟩⟩
  isplitl [HS0 HS1 HS2 HS3 HS4 HS5 Hq0 Hq1 Hh0 Hh1]
  · isplitl [HS0 HS1 HS2 HS3 HS4 HS5]
    · isplitl [HS0]
      · iexists _; isplitr
        swap
        · unfold owns; iexists _; isplitr
          swap; · iexact HS0
          ipureintro; rfl
        ipureintro; exact fun _ => rfl
      isplitl [HS1]
      · iexists _; isplitr
        swap
        · unfold owns; iexists _; isplitr
          swap; · iexact HS1
          ipureintro; rfl
        ipureintro; exact fun _ => rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverA m c t _ _ (pt m c t.val))

set_option maxHeartbeats 14400000 in
theorem bodyB (c : Dev nD) (t : Fin cfg0.N) (h0 : ¬t.val % 64 = 0) (h1 : ¬t.val % 64 = 63) :
    bodyPre m c t ⊢ wp frame (wpE (defs₀ (F := F)) Variants.none c none) Set.univ (bodyAt0 t) (fun _ => bodyPost m c t) := by
  unfold bodyPre bodyPost bodyAt0
  simp only [before0, before1, before2, before3, before4]
  rw [Inv_next, Inv_castSucc, after0, after1, after2, after3, after4, after5]
  unfold Dat.owesAt Pipeline.owesWithin
  rw [show (dats m 0 c).owed t.castSucc = 0 from rfl, show (dats m 0 c).owed t.succ = 0 from rfl]
  unfold Inv
  rw [pt_succ m c t]; unfold step; rw [dif_neg h0, dif_neg h1]; unfold stepB; dsimp only
  iintro ⟨⟨⟨⟨%e0, %he0, HS0⟩, ⟨%e1, %he1, HS1⟩, HS2, HS3, HS4, HS5⟩, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  obtain rfl := he0 h0; obtain rfl := he1 h0
  iapply ((runBAt m c t (fun h => h0 ((hcond0_0 t).mp h)) (fun h => h1 ((hcond0_1 t).mp h)) (pt m c t.val)).2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%e5, H5⟩, HS0, HS1, ⟨%fT2, HS2⟩, ⟨%fT3, HS3⟩, ⟨%fT4, HS4⟩, ⟨%fT5, HS5⟩, Hq0, Hq1, Hh0, Hh1, ⟨%W', HW'⟩⟩
  isplitl [HS0 HS1 HS2 HS3 HS4 HS5 Hq0 Hq1 Hh0 Hh1]
  · isplitl [HS0 HS1 HS2 HS3 HS4 HS5]
    · isplitl [HS0]
      · iexists _; isplitr
        swap
        · unfold owns; iexists _; isplitr
          swap; · iexact HS0
          ipureintro; rfl
        ipureintro; exact fun _ => rfl
      isplitl [HS1]
      · iexists _; isplitr
        swap
        · unfold owns; iexists _; isplitr
          swap; · iexact HS1
          ipureintro; rfl
        ipureintro; exact fun _ => rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverB m c t _ _ (pt m c t.val))

set_option maxHeartbeats 14400000 in
theorem bodyC (c : Dev nD) (t : Fin cfg0.N) (h0 : ¬t.val % 64 = 0) (h1 : t.val % 64 = 63) :
    bodyPre m c t ⊢ wp frame (wpE (defs₀ (F := F)) Variants.none c none) Set.univ (bodyAt0 t) (fun _ => bodyPost m c t) := by
  unfold bodyPre bodyPost bodyAt0
  simp only [before0, before1, before2, before3, before4]
  rw [Inv_next, Inv_castSucc, after0, after1, after2, after3, after4, after5]
  unfold Dat.owesAt Pipeline.owesWithin
  rw [show (dats m 0 c).owed t.castSucc = 0 from rfl, show (dats m 0 c).owed t.succ = 0 from rfl]
  unfold Inv
  rw [pt_succ m c t]; unfold step; rw [dif_neg h0, dif_pos h1]; unfold stepC; dsimp only
  iintro ⟨⟨⟨⟨%e0, %he0, HS0⟩, ⟨%e1, %he1, HS1⟩, HS2, HS3, HS4, HS5⟩, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  obtain rfl := he0 h0; obtain rfl := he1 h0
  iapply ((runCAt m c t (fun h => h0 ((hcond0_0 t).mp h)) ((hcond0_1 t).mpr h1) (pt m c t.val)).2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, ⟨%e5, H5⟩, HS0, HS1, ⟨%fT2, HS2⟩, ⟨%fT3, HS3⟩, ⟨%fT4, HS4⟩, ⟨%fT5, HS5⟩, Hq0, Hq1, Hh0, Hh1, ⟨%W', HW'⟩⟩
  isplitl [HS0 HS1 HS2 HS3 HS4 HS5 Hq0 Hq1 Hh0 Hh1]
  · isplitl [HS0 HS1 HS2 HS3 HS4 HS5]
    · isplitl [HS0]
      · iexists _; isplitr
        swap
        · unfold owns; iexists _; isplitr
          swap; · iexact HS0
          ipureintro; rfl
        ipureintro; exact fun _ => rfl
      isplitl [HS1]
      · iexists _; isplitr
        swap
        · unfold owns; iexists _; isplitr
          swap; · iexact HS1
          ipureintro; rfl
        ipureintro; exact fun _ => rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverC m c t _ _ (pt m c t.val))

theorem body (c : Dev nD) (t : Fin cfg0.N) :
    bodyPre m c t ⊢ wp frame (wpE (defs₀ (F := F)) Variants.none c none) Set.univ (bodyAt0 t) (fun _ => bodyPost m c t) := by
  by_cases h0 : t.val % 64 = 0
  · exact bodyA m c t h0 (by omega)
  by_cases h1 : t.val % 64 = 63
  · exact bodyC m c t h0 h1
  · exact bodyB m c t h0 h1

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (body m c t) rfl .rfl fun _ => .rfl

/-! ## The run -/

/-- The results left in HBM at the end. -/
def G (c : Dev nD) (b : Ref sig .tc) : Buf (Elt F) ((c : Thread nD τ).loc b) :=
  if h : b = main_v49_1 then h ▸ (pt m c 512).hk else if h : b = main_v49_2 then h ▸ (pt m c 512).hv else V m c b
theorem G_k (c : Dev nD) : G m c main_v49_1 = (pt m c 512).hk := by
  unfold G; rw [dif_pos rfl]
theorem G_v (c : Dev nD) : G m c main_v49_2 = (pt m c 512).hv := by
  unfold G; rw [dif_neg (by decide), dif_pos rfl]

theorem hin (c : Dev nD) : Pipeline.ΦDRV osem0 spec0 H0 R0 (V m) (V m) c ⊢ (dats m 0 c).Φ 0 := by
  rw [show (dats m 0 c).Φ 0 = Inv m c 0 from rfl, PhiV_eq]; unfold Inv; rw [pt]; dsimp only
  iintro ⟨⟨⟨%e0, HS0⟩, ⟨%e1, HS1⟩, HS2, HS3, HS4, HS5⟩, Hq, -, Hh⟩
  isplitl [HS0 HS1 HS2 HS3 HS4 HS5]
  · isplitl [HS0]
    · iexists e0; isplitr; · ipureintro; exact fun h => absurd rfl h
      iexact HS0
    isplitl [HS1]
    · iexists e1; isplitr; · ipureintro; exact fun h => absurd rfl h
      iexact HS1
    isplitl [HS2]; · iexact HS2
    isplitl [HS3]; · iexact HS3
    isplitl [HS4]; · iexact HS4
    iexact HS5
  isplitl [Hq]; · iexact Hq
  iexact Hh

theorem hout (c : Dev nD) : (dats m 0 c).Φ (Fin.last cfg0.N) ⊢ Pipeline.ΦDRV osem0 spec0 H0 R0 (V m) (G m) c := by
  rw [show (dats m 0 c).Φ (Fin.last cfg0.N) = Inv m c cfg0.N from rfl, show cfg0.N = 512 from N_0, PhiV_eq, G_k, G_v]; unfold Inv
  iintro ⟨⟨⟨%e0, -, HS0⟩, ⟨%e1, -, HS1⟩, HS2, HS3, HS4, HS5⟩, Hq, Hh⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  isplitl [Hq]; · iexact Hq
  isplitr; · iempintro
  iexact Hh

/-- Every buffer at the end: the host's last lines' outcome over the arrays as written back and the results left in HBM. -/
def Final (c : Dev nD) : Valuation τ sig (Elt F) :=
  StableHlo.after (List.flatten [hostOps1]) (Pipeline.withArrays spec0 c (Pipeline.withR (V0 m c) R0 c (G m c)) fun w => (dats m 0 c).arrAt w cfg0.N)

set_option backward.isDefEq.respectTransparency.types false in
set_option maxHeartbeats 1600000 in
/-- The whole run: every bypassing buffer ends at `Final`, and no semaphore counts anything. -/
theorem run_main : θ_run defs (onTc (τ := τ) (main (F := F))) (s₀ m ρ) (fun r => (∀ c : Dev nD, ∀ b ∈ Pipeline.restRefs sig spec0, r.2.mem ((c.tc : Thread nD τ).loc b) = Final m c (Proc.devRef .tc b)) ∧ r.2.sem = fun _ => 0) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.θ_run_frameP_dmaR_aroundV_shared (Q' := _) (fun q => (cfgs q).toPCfg (Val := Elt F)) (fun q => (cfgs q).toPCfg_adm) (dats m) (0 : Fin 1) launch₀0.toP osem0 defs₀ Variants.none ownSemFacts0 H0 R0
    (H0_sub.trans hrest) (R0_sub.trans (Finset.sdiff_subset_sdiff hrest subset_rfl)) m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (G := G m) (hmain := hmain m Variants.none) (hA := A_eq m) (hpf := fun _ k => k.elim0)
    (hin := fun c => (show _ ⊢ Pipeline.ΦDRV osem0 spec0 H0 R0 (V m) (V m) c from by iintro ⟨H, -⟩; iexact H).trans (hin m c)) (hout := hout m)
    (hQ' := fun r h => ⟨fun c b hb => (h.1 c).2 b (hrest hb), h.2⟩)

end Cert.Kernel3Ideal.Attn

end
-- ==== Proof.AttnFrame.lean ====
/- The frame of the attention's backward call, from its run: the host's lines write none of the arguments, and the call
   writes its own results only. -/
module

public import proofs.«01_k».proof.Defs
public import proofs.«01_k».proof.Proof.Gen.Kernel3Ideal.Frame
public import proofs.«01_k».proof.Proof.AttnLaunch

@[expose] public section

noncomputable section

namespace Cert.Kernel3Ideal.Attn

open Idealize.ShloMosaic Idealize.SL.Sem Gen

variable {F : FTy → Type} [FloatOps F] [Named F] (m : (ℓ : Loc nD τ sig) → Buf (Elt F) ℓ) (ρ : Dev nD → PrngReg)

theorem Final_main_arg0 (c : Dev nD) : Final m c (Proc.devRef .tc main_arg0) = m ((c.tc : Thread nD τ).loc main_arg0) := by
  unfold Final
  rw [StableHlo.after_of_forall_not_mem (b := Proc.devRef .tc main_arg0) _ _ (List.forall_iff_forall_mem.mp (by
      simp only [hostOps1, List.flatten_cons, List.flatten_nil, List.append_nil, List.Forall, StableHlo.nullary_writes,
        StableHlo.unary_writes, StableHlo.binary_writes, Finset.mem_singleton]
      repeat' apply And.intro
      all_goals exact StableHlo.devRef_ne_of_ne (by decide))),
    Pipeline.withArrays_of_ne spec0 c _ _ main_arg0 (by exact (by decide : ∀ w, Pipeline.arrRef spec0 w ≠ main_arg0))]
  exact (Pipeline.withR_of_not_mem (V0 m c) R0 c (G m c) main_arg0 (by decide)).trans (Gen.V_main_arg0 m c)

theorem Final_main_arg1 (c : Dev nD) : Final m c (Proc.devRef .tc main_arg1) = m ((c.tc : Thread nD τ).loc main_arg1) := by
  unfold Final
  rw [StableHlo.after_of_forall_not_mem (b := Proc.devRef .tc main_arg1) _ _ (List.forall_iff_forall_mem.mp (by
      simp only [hostOps1, List.flatten_cons, List.flatten_nil, List.append_nil, List.Forall, StableHlo.nullary_writes,
        StableHlo.unary_writes, StableHlo.binary_writes, Finset.mem_singleton]
      repeat' apply And.intro
      all_goals exact StableHlo.devRef_ne_of_ne (by decide))),
    Pipeline.withArrays_of_ne spec0 c _ _ main_arg1 (by exact (by decide : ∀ w, Pipeline.arrRef spec0 w ≠ main_arg1))]
  exact (Pipeline.withR_of_not_mem (V0 m c) R0 c (G m c) main_arg1 (by decide)).trans (Gen.V_main_arg1 m c)

theorem Final_main_arg2 (c : Dev nD) : Final m c (Proc.devRef .tc main_arg2) = m ((c.tc : Thread nD τ).loc main_arg2) := by
  unfold Final
  rw [StableHlo.after_of_forall_not_mem (b := Proc.devRef .tc main_arg2) _ _ (List.forall_iff_forall_mem.mp (by
      simp only [hostOps1, List.flatten_cons, List.flatten_nil, List.append_nil, List.Forall, StableHlo.nullary_writes,
        StableHlo.unary_writes, StableHlo.binary_writes, Finset.mem_singleton]
      repeat' apply And.intro
      all_goals exact StableHlo.devRef_ne_of_ne (by decide))),
    Pipeline.withArrays_of_ne spec0 c _ _ main_arg2 (by exact (by decide : ∀ w, Pipeline.arrRef spec0 w ≠ main_arg2))]
  exact (Pipeline.withR_of_not_mem (V0 m c) R0 c (G m c) main_arg2 (by decide)).trans (Gen.V_main_arg2 m c)

theorem Final_main_arg3 (c : Dev nD) : Final m c (Proc.devRef .tc main_arg3) = m ((c.tc : Thread nD τ).loc main_arg3) := by
  unfold Final
  rw [StableHlo.after_of_forall_not_mem (b := Proc.devRef .tc main_arg3) _ _ (List.forall_iff_forall_mem.mp (by
      simp only [hostOps1, List.flatten_cons, List.flatten_nil, List.append_nil, List.Forall, StableHlo.nullary_writes,
        StableHlo.unary_writes, StableHlo.binary_writes, Finset.mem_singleton]
      repeat' apply And.intro
      all_goals exact StableHlo.devRef_ne_of_ne (by decide))),
    Pipeline.withArrays_of_ne spec0 c _ _ main_arg3 (by exact (by decide : ∀ w, Pipeline.arrRef spec0 w ≠ main_arg3))]
  exact (Pipeline.withR_of_not_mem (V0 m c) R0 c (G m c) main_arg3 (by decide)).trans (Gen.V_main_arg3 m c)

/-- The call runs, its arguments end as they began, and no semaphore counts anything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨(h.1 c main_arg0 (Pipeline.mem_restRefs_of main_arg0 (by decide) (by decide))).trans (Final_main_arg0 m c),
    (h.1 c main_arg1 (Pipeline.mem_restRefs_of main_arg1 (by decide) (by decide))).trans (Final_main_arg1 m c),
    (h.1 c main_arg2 (Pipeline.mem_restRefs_of main_arg2 (by decide) (by decide))).trans (Final_main_arg2 m c),
    (h.1 c main_arg3 (Pipeline.mem_restRefs_of main_arg3 (by decide) (by decide))).trans (Final_main_arg3 m c)⟩, h.2⟩) (run_main m ρ)

end Cert.Kernel3Ideal.Attn

end
-- ==== Proof.AttnPay.lean ====
/- What the attention backward kernel's pieces of arithmetic are over the extended reals, at an index: the base-2 scores,
   their softplus and log-sigmoid, the sums within a block, the weights and the gradients of a block of scores. -/
module

public import proofs.«01_k».proof.Proof.Gen.Kernel3Ideal.Skeleton
public import Idealize.ShloMosaic.Lib.Pointwise
public import Idealize.ShloMosaic.Lib.IdealHost
public import Idealize.ShloMosaic.Lib.WordCmp

@[expose] public section

set_option maxRecDepth 16384

noncomputable section

open Idealize.ShloMosaic Idealize.ShloMosaic.TcCoe

namespace Cert.Kernel3Ideal.Attn

open Cert.Kernel3Ideal Cert.Kernel3Ideal.Gen

/-- The named constant log2 e. -/
def elog : EReal := Named.named (F := Ideal) (φ := .f32) κ "log2e" 1069066811#32
/-- 2 to the x. -/
def two (x : EReal) : EReal := FloatOps.exp2 (F := Ideal) (φ := .f32) x
/-- The base-2 softplus as the kernel takes it. -/
def Sp (z : EReal) : EReal := max z 0 + Ideal.log (1 + two (0 - FloatOps.absf (F := Ideal) (φ := .f32) z)) * elog
/-- The base-2 log-sigmoid as the kernel takes it. -/
def Ls (z : EReal) : EReal := z - Sp z

/-- The lanes' numbers. -/
abbrev laneNo : IVec S1x128 32 := iota .tc S1x128 32 [1] iota_S1x128_d1_w32
abbrev rowNo : IVec S256x256 32 := iota .tc S256x256 32 [0] iota_S256x256_d0_w32
abbrev colNo : IVec S256x256 32 := iota .tc S256x256 32 [1] iota_S256x256_d1_w32

/-! ## Masks -/

theorem lane_sum (b : ℕ) (hb : b < 128) (f : Fin 128 → EReal) :
    (∑ l : Fin 128, Scalar.select (IntOp.cmpi CmpIPredicate.eq (BitVec.ofNat 32 l.val) (BitVec.ofNat 32 b)) (f l) 0) = f ⟨b, hb⟩ := by
  have e : ∀ l : Fin 128, Scalar.select (IntOp.cmpi CmpIPredicate.eq (BitVec.ofNat 32 l.val) (BitVec.ofNat 32 b)) (f l) 0 = if l = ⟨b, hb⟩ then f l else 0 := fun l => by
    have := l.isLt
    rw [WordCmp.cmpi_eq_ofNat (by omega) (by omega)]
    by_cases h : l.val = b
    · rw [if_pos (Fin.ext h), decide_eq_true h]; rfl
    · rw [if_neg (fun e => h (congrArg Fin.val e)), decide_eq_false h]; rfl
  rw [Finset.sum_congr rfl fun l _ => e l, Finset.sum_ite_eq' Finset.univ _ f, if_pos (Finset.mem_univ _)]

/-- A bit as a number. -/
theorem bit01 (p q : Prop) [Decidable p] [Decidable q] (h : q ↔ p) :
    (FloatOps.sitofp FTy.f32 (BitVec.setWidth 32 (BitVec.ofBool (decide p))) : Ideal .f32) = if q then (1 : EReal) else 0 := by
  by_cases hp : p
  · rw [if_pos (h.2 hp), decide_eq_true hp]
    show (((BitVec.setWidth 32 (BitVec.ofBool true)).toInt : ℝ) : EReal) = 1
    rw [show (BitVec.setWidth 32 (BitVec.ofBool true)).toInt = 1 from by decide]; norm_num
  · rw [if_neg (fun a => hp (h.1 a)), decide_eq_false hp]
    show (((BitVec.setWidth 32 (BitVec.ofBool false)).toInt : ℝ) : EReal) = 0
    rw [show (BitVec.setWidth 32 (BitVec.ofBool false)).toInt = 0 from by decide]; norm_num

theorem p75 (r c : Fin 256) : (k0_pay75 : FVec Ideal S256x256 .bf16) (ix2 r c) = if c < r then 1 else 0 := by
  pointwise [k0_pay75]
  have := r.isLt; have := c.isLt
  rw [WordCmp.cmpi_sgt_ofNat (by omega) (by omega)]
  exact bit01 _ _ Fin.lt_def
theorem p76 (r c : Fin 256) : (k0_pay76 : FVec Ideal S256x256 .bf16) (ix2 r c) = if r < c then 1 else 0 := by
  pointwise [k0_pay76]
  have := r.isLt; have := c.isLt
  rw [WordCmp.cmpi_slt_ofNat (by omega) (by omega)]
  exact bit01 _ _ Fin.lt_def

/-! ## A block below the diagonal -/

section Block
variable (w : BitVec 32) (v9 v13 l l' wi g g' e e' : FVec Ideal S256x256 .f32) (u u' : FVec Ideal S256x256 .bf16) (z : Vec Ideal S1x256x256 .f32)
  (x y : Vec Ideal S1x256x128 .f32) (q : FVec Ideal S256x128 .bf16) (kb : Vec Ideal S256x128 .bf16) (q2 : FVec Ideal S512x128 .bf16) (acc : Vec Ideal S256x128 .f32) (r c : Fin 256) (d : Fin 128)

theorem p3 : k0_pay3 z (ix2 r c) = Sp (z (ix3 0 r c)) := by
  pointwise [k0_pay3, k0_pay2]; rfl
theorem p4 : k0_pay4 z (ix2 r c) = Ls (z (ix3 0 r c)) := by
  pointwise [k0_pay4, k0_pay3, k0_pay2]; rfl
theorem p5 : k0_pay5 v9 z (ix2 r c) = ∑ j : Fin 256, Sp (z (ix3 0 r j)) * v9 (ix2 j c) := by
  pointwise [k0_pay5]; exact Finset.sum_congr rfl fun j _ => congrArg (· * _) (p3 z r j)
theorem p7 : k0_pay7 z (ix2 r c) = Sp (z (ix3 0 r c)) := by
  pointwise [k0_pay7, k0_pay6]; rfl
theorem p8 : k0_pay8 z (ix2 r c) = Ls (z (ix3 0 r c)) := by
  pointwise [k0_pay8, k0_pay7, k0_pay6]; rfl
theorem p9 : k0_pay9 v9 z (ix2 r c) = ∑ j : Fin 256, Sp (z (ix3 0 r j)) * v9 (ix2 j c) := by
  pointwise [k0_pay9]; exact Finset.sum_congr rfl fun j _ => congrArg (· * _) (p7 z r j)
theorem p12 : k0_pay12 q kb (ix2 r c) = ∑ d : Fin 128, q (ix2 r d) * kb (ix2 c d) := by pointwise [k0_pay12, k0_pay10]
theorem p13 : k0_pay13 q kb (ix2 r c) = ∑ d : Fin 128, q (ix2 r d) * kb (ix2 c d) := by pointwise [k0_pay13, k0_pay10]
theorem p14 : k0_pay14 q kb (ix2 r c) = ∑ d : Fin 128, q (ix2 r d) * kb (ix2 c d) := by pointwise [k0_pay14, k0_pay11]
theorem p15 : k0_pay15 q kb (ix2 r c) = ∑ d : Fin 128, q (ix2 r d) * kb (ix2 c d) := by pointwise [k0_pay15, k0_pay11]
theorem p100 : k0_pay100 l (ix3 0 r c) = l (ix2 r c) := by pointwise [k0_pay100]
theorem p101 : k0_pay101 l (ix3 0 r c) = l (ix2 r c) := by pointwise [k0_pay101]
theorem p102 : k0_pay102 l (ix3 0 r c) = l (ix2 r c) := by pointwise [k0_pay102]
theorem p103 : k0_pay103 l (ix3 0 r c) = l (ix2 r c) := by pointwise [k0_pay103]

theorem p16 (b : ℕ) (hb : b < 128) : k0_pay16 laneNo (BitVec.ofNat 32 b) l wi x (ix2 r c) = two (l (ix2 r c) - (wi (ix2 r c) + x (ix3 0 r ⟨b, hb⟩))) := by
  rw [← lane_sum b hb fun d => x (ix3 0 r d)]
  pointwise [k0_pay16]; rfl
theorem p17 : k0_pay17 laneNo w l wi x (ix2 r c) = k0_pay16 laneNo w l wi x (ix2 r c) := by pointwise [k0_pay17]
theorem p18 : k0_pay18 laneNo w l wi x z (ix2 r c) = k0_pay16 laneNo w l wi x (ix2 r c) * z (ix3 0 r c) := by pointwise [k0_pay18]
theorem p19 : k0_pay19 laneNo v13 w l wi x z (ix2 r c) = ∑ j : Fin 256, k0_pay18 laneNo w l wi x z (ix2 r j) * v13 (ix2 j c) := by pointwise [k0_pay19]
theorem p23 (b : ℕ) (hb : b < 128) : k0_pay23 l wi (k0_pay20 x) (k0_pay21 laneNo (BitVec.ofNat 32 b)) k0_pay22 (ix2 r c) = two (l (ix2 r c) - (wi (ix2 r c) + x (ix3 0 r ⟨b, hb⟩))) := by
  rw [← lane_sum b hb fun d => x (ix3 0 r d)]
  pointwise [k0_pay23, k0_pay20, k0_pay21, k0_pay22]; rfl
variable (x0 : FVec Ideal S256x128 .f32) (m0 : IVec S256x128 1) (o0 : FVec Ideal S256x128 .f32)
theorem p24 : k0_pay24 l wi x0 m0 o0 (ix2 r c) = k0_pay23 l wi x0 m0 o0 (ix2 r c) := by pointwise [k0_pay24]
theorem p25 : k0_pay25 l wi x0 m0 o0 z (ix2 r c) = k0_pay23 l wi x0 m0 o0 (ix2 r c) * z (ix3 0 r c) := by pointwise [k0_pay25]
theorem p26 : k0_pay26 v13 l wi x0 m0 o0 z (ix2 r c) = ∑ j : Fin 256, k0_pay25 l wi x0 m0 o0 z (ix2 r j) * v13 (ix2 j c) := by pointwise [k0_pay26]

/-- Two copies of 128 lanes side by side. -/
def twice (x : Vec Ideal S1x256x128 .f32) (r c : Fin 256) : EReal := x (ix3 0 r ⟨c.val % 128, Nat.mod_lt _ (by decide)⟩)

theorem twice_eq : (if h : c.val < 128 then x (ix3 0 r ⟨c.val, h⟩) else x (ix3 0 r ⟨c.val - 128, by have := c.isLt; omega⟩)) = twice x r c := by
  have := c.isLt
  unfold twice
  split
  · exact congrArg x (congrArg (ix3 0 r) (Fin.ext (by simp only; omega)))
  · exact congrArg x (congrArg (ix3 0 r) (Fin.ext (by simp only; omega)))

theorem p28 : k0_pay28 l g e x (ix2 r c) = g (ix2 r c) - two (l (ix2 r c)) * (g (ix2 r c) + (e (ix2 r c) + twice x r c)) := by
  rw [← twice_eq]; pointwise [k0_pay28, k0_pay27]; rfl
theorem p32 : k0_pay32 l g e x (ix2 r c) = g (ix2 r c) - two (l (ix2 r c)) * (g (ix2 r c) + (e (ix2 r c) + twice x r c)) := by
  rw [← twice_eq]; pointwise [k0_pay32, k0_pay31]; rfl
theorem p29 : k0_pay29 q l g e x y (ix3 0 r d) = y (ix3 0 r d) + ∑ j : Fin 256, k0_pay28 l g e x (ix2 r j) * q (ix2 j d) := by pointwise [k0_pay29]
theorem p33 : k0_pay33 q l g e x y (ix3 0 r d) = y (ix3 0 r d) + ∑ j : Fin 256, k0_pay32 l g e x (ix2 r j) * q (ix2 j d) := by pointwise [k0_pay33]
theorem p30 : k0_pay30 g x (ix3 0 r d) = x (ix3 0 r d) + ∑ j : Fin 256, g (ix2 r j) := by pointwise [k0_pay30, k0_pay27]
theorem p34 : k0_pay34 g x (ix3 0 r d) = x (ix3 0 r d) + ∑ j : Fin 256, g (ix2 r j) := by pointwise [k0_pay34, k0_pay31]

/-- A row of the first and of the second head's half. -/
def lo (r : Fin 256) : Fin 512 := ⟨r.val, by omega⟩
def hi (r : Fin 256) : Fin 512 := ⟨256 + r.val, by omega⟩

theorem p35 : k0_pay35 q2 l g e u x acc (ix2 r d) = acc (ix2 r d) + (∑ i : Fin 256, u (ix2 i r) * q2 (ix2 (lo i) d) + ∑ i : Fin 256, k0_pay32 l g e x (ix2 i r) * q2 (ix2 (hi i) d)) := by
  pointwise [k0_pay35]; rfl
theorem p36 : k0_pay36 q2 u u' acc (ix2 r d) = acc (ix2 r d) + (∑ i : Fin 256, u (ix2 i r) * q2 (ix2 (lo i) d) + ∑ i : Fin 256, u' (ix2 i r) * q2 (ix2 (hi i) d)) := by
  pointwise [k0_pay36]; rfl
theorem p99 : k0_pay99 x0 (ix2 r d) = x0 (ix2 r d) := by pointwise [k0_pay99]
theorem p1 : k0_pay1 kb (ix2 r d) = kb (ix2 r d) := by pointwise [k0_pay1]

/-! ## The block on the diagonal -/

/-- The key is before the query. -/
theorem sel (a b : EReal) : Scalar.select (IntOp.cmpi CmpIPredicate.slt (BitVec.ofNat 32 c.val) (BitVec.ofNat 32 r.val)) a b = if c < r then a else b := by
  have := r.isLt; have := c.isLt
  rw [WordCmp.cmpi_slt_ofNat (by omega) (by omega)]
  by_cases h : c < r
  · rw [if_pos h, decide_eq_true (Fin.lt_def.1 h)]; rfl
  · rw [if_neg h, decide_eq_false (fun a => h (Fin.lt_def.2 a))]; rfl

theorem p114 : k0_pay114 (k0_pay111 z) (k0_pay112 z) k0_pay113 (ix2 r c) = Sp (z (ix3 0 r c)) := by
  pointwise [k0_pay114, k0_pay111, k0_pay112, k0_pay113, k0_pay110]; rfl
theorem p115 : k0_pay115 (k0_pay110 z) (k0_pay111 z) (k0_pay112 z) k0_pay113 (ix2 r c) = Ls (z (ix3 0 r c)) := by
  pointwise [k0_pay115, k0_pay114, k0_pay111, k0_pay112, k0_pay113, k0_pay110]; rfl
theorem p116 : k0_pay116 rowNo colNo v9 (k0_pay111 z) (k0_pay112 z) k0_pay113 (ix2 r c) = ∑ j : Fin 256, (if j < r then Sp (z (ix3 0 r j)) else 0) * v9 (ix2 j c) := by
  pointwise [k0_pay116]; simp only [sel]; exact Finset.sum_congr rfl fun j _ => by rw [p114, ite_mul, zero_mul]
theorem p118 : k0_pay118 z (ix2 r c) = Sp (z (ix3 0 r c)) := by
  pointwise [k0_pay118, k0_pay117]; rfl
theorem p119 : k0_pay119 z (ix2 r c) = Ls (z (ix3 0 r c)) := by
  pointwise [k0_pay119, k0_pay118, k0_pay117]; rfl
theorem p120 : k0_pay120 rowNo colNo v9 z (ix2 r c) = ∑ j : Fin 256, (if j < r then Sp (z (ix3 0 r j)) else 0) * v9 (ix2 j c) := by
  pointwise [k0_pay120]; simp only [sel]; exact Finset.sum_congr rfl fun j _ => by rw [p118, ite_mul, zero_mul]
theorem p127 (b : ℕ) (hb : b < 128) : k0_pay127 (BitVec.ofNat 32 b) laneNo rowNo colNo l wi x (ix2 r c) = if c < r then two (l (ix2 r c) - (wi (ix2 r c) + x (ix3 0 r ⟨b, hb⟩))) else 0 := by
  rw [← lane_sum b hb fun d => x (ix3 0 r d), ← sel]
  pointwise [k0_pay127]; rfl
theorem p128 : k0_pay128 w laneNo rowNo colNo l wi x (ix2 r c) = k0_pay127 w laneNo rowNo colNo l wi x (ix2 r c) := by pointwise [k0_pay128]
theorem p129 : k0_pay129 w laneNo rowNo colNo l wi x z (ix2 r c) = k0_pay127 w laneNo rowNo colNo l wi x (ix2 r c) * z (ix3 0 r c) := by pointwise [k0_pay129]
theorem p130 : k0_pay130 w laneNo rowNo colNo v13 l wi x z (ix2 r c) = ∑ j : Fin 256, k0_pay129 w laneNo rowNo colNo l wi x z (ix2 r j) * v13 (ix2 j c) := by pointwise [k0_pay130]
theorem p132 (b : ℕ) (hb : b < 128) : k0_pay132 rowNo colNo (k0_pay131 (BitVec.ofNat 32 b) laneNo l wi x) (ix2 r c) = if c < r then two (l (ix2 r c) - (wi (ix2 r c) + x (ix3 0 r ⟨b, hb⟩))) else 0 := by
  rw [← lane_sum b hb fun d => x (ix3 0 r d), ← sel]
  pointwise [k0_pay132, k0_pay131]; rfl
theorem p133 : k0_pay133 rowNo colNo l (ix2 r c) = k0_pay132 rowNo colNo l (ix2 r c) := by pointwise [k0_pay133]
theorem p134 : k0_pay134 rowNo colNo l z (ix2 r c) = k0_pay132 rowNo colNo l (ix2 r c) * z (ix3 0 r c) := by pointwise [k0_pay134]
theorem p135 : k0_pay135 rowNo colNo v13 l z (ix2 r c) = ∑ j : Fin 256, k0_pay134 rowNo colNo l z (ix2 r j) * v13 (ix2 j c) := by pointwise [k0_pay135]
theorem p137 : k0_pay137 rowNo colNo l g e x (ix2 r c) = if c < r then g (ix2 r c) - two (l (ix2 r c)) * (g (ix2 r c) + (e (ix2 r c) + twice x r c)) else 0 := by
  rw [← twice_eq, ← sel]; pointwise [k0_pay137, k0_pay136]; rfl
theorem p141 : k0_pay141 rowNo colNo l g e x (ix2 r c) = if c < r then g (ix2 r c) - two (l (ix2 r c)) * (g (ix2 r c) + (e (ix2 r c) + twice x r c)) else 0 := by
  rw [← twice_eq, ← sel]; pointwise [k0_pay141, k0_pay140]; rfl
theorem p138 : k0_pay138 rowNo colNo q l g e x y (ix3 0 r d) = y (ix3 0 r d) + ∑ j : Fin 256, k0_pay137 rowNo colNo l g e x (ix2 r j) * q (ix2 j d) := by pointwise [k0_pay138]
theorem p142 : k0_pay142 rowNo colNo q l g e x y (ix3 0 r d) = y (ix3 0 r d) + ∑ j : Fin 256, k0_pay141 rowNo colNo l g e x (ix2 r j) * q (ix2 j d) := by pointwise [k0_pay142]
theorem p144 : k0_pay144 rowNo colNo q2 l g e u x acc (ix2 r d) = acc (ix2 r d) + (∑ i : Fin 256, u (ix2 i r) * q2 (ix2 (lo i) d) + ∑ i : Fin 256, k0_pay141 rowNo colNo l g e x (ix2 i r) * q2 (ix2 (hi i) d)) := by
  pointwise [k0_pay144]; rfl
theorem p145 : k0_pay145 q2 u u' (ix2 r d) = ∑ i : Fin 256, u (ix2 i r) * q2 (ix2 (lo i) d) + ∑ i : Fin 256, u' (ix2 i r) * q2 (ix2 (hi i) d) := by
  pointwise [k0_pay145]; rfl
theorem p146 : k0_pay146 acc x0 (ix2 r d) = acc (ix2 r d) + x0 (ix2 r d) := by pointwise [k0_pay146]
theorem p109 : k0_pay109 kb (ix2 r d) = kb (ix2 r d) := by pointwise [k0_pay109]

/-! ## The two heads' lanes, and the first block's scores -/

theorem sel64 (a b : EReal) : Scalar.select (IntOp.cmpi CmpIPredicate.slt (BitVec.ofNat 32 d.val) 64#32) a b = if d.val < 64 then a else b := by
  have := d.isLt
  rw [WordCmp.cmpi_slt_ofNat (by omega) (by omega)]
  by_cases h : d.val < 64
  · rw [if_pos h, decide_eq_true h]; rfl
  · rw [if_neg h, decide_eq_false h]; rfl
theorem sel64' (a b : EReal) : Scalar.select (IntOp.cmpi CmpIPredicate.sge (BitVec.ofNat 32 d.val) 64#32) a b = if d.val < 64 then b else a := by
  have := d.isLt
  rw [WordCmp.cmpi_sge_ofNat (by omega) (by omega)]
  by_cases h : d.val < 64
  · rw [if_pos h, decide_eq_false (by omega)]; rfl
  · rw [if_neg h, decide_eq_true (by omega)]; rfl

theorem p81 : k0_pay81 kb (ix2 r d) = if d.val < 64 then kb (ix2 r d) else 0 := by
  rw [← sel64]; pointwise [k0_pay81, k0_pay79, k0_pay77]
theorem p82 : k0_pay82 kb (ix2 r d) = if d.val < 64 then 0 else kb (ix2 r d) := by
  rw [← sel64']; pointwise [k0_pay82, k0_pay80, k0_pay77]
theorem p83 : k0_pay83 kb (ix2 r d) = if d.val < 64 then kb (ix2 r d) else 0 := by
  rw [← sel64]; pointwise [k0_pay83, k0_pay79, k0_pay78]
theorem p84 : k0_pay84 kb (ix2 r d) = if d.val < 64 then 0 else kb (ix2 r d) := by
  rw [← sel64']; pointwise [k0_pay84, k0_pay80, k0_pay78]
theorem p85_lo : k0_pay85 kb (ix2 (lo r) d) = k0_pay81 kb (ix2 r d) := by
  pointwise [k0_pay85, lo, hi]
theorem p85_hi : k0_pay85 kb (ix2 (hi r) d) = k0_pay82 kb (ix2 r d) := by
  pointwise [k0_pay85, lo, hi]
theorem p86_lo : k0_pay86 kb (ix2 (lo r) d) = k0_pay83 kb (ix2 r d) := by
  pointwise [k0_pay86, lo, hi]
theorem p86_hi : k0_pay86 kb (ix2 (hi r) d) = k0_pay84 kb (ix2 r d) := by
  pointwise [k0_pay86, lo, hi]
theorem p93 : k0_pay95 (k0_pay93 q kb) (ix3 0 r c) = ∑ d : Fin 128, q (ix2 r d) * kb (ix2 c d) := by pointwise [k0_pay95, k0_pay93, k0_pay91]
theorem p94 : k0_pay97 (k0_pay94 q kb) (ix3 0 r c) = ∑ d : Fin 128, q (ix2 r d) * kb (ix2 c d) := by pointwise [k0_pay97, k0_pay94, k0_pay91]
theorem p96 : k0_pay96 q (k0_pay92 kb) (constant S256x256 .f32 0x00000000#32) (ix3 0 r c) = ∑ d : Fin 128, q (ix2 r d) * kb (ix2 c d) := by pointwise [k0_pay96, k0_pay92]
theorem p98 : k0_pay98 q (k0_pay92 kb) (ix3 0 r c) = ∑ d : Fin 128, q (ix2 r d) * kb (ix2 c d) := by pointwise [k0_pay98, k0_pay92]
theorem p151 : k0_pay151 (cmpi .slt laneNo (broadcast S1x128 64#32)) x y (ix2 r d) = if d.val < 64 then x (ix3 0 r d) else y (ix3 0 r d) := by
  rw [← sel64]; pointwise [k0_pay151]

end Block

end Cert.Kernel3Ideal.Attn

end
-- ==== Proof.AttnBlock.lean ====
/- The gradients the attention backward kernel computes, as functions of the query's and the key's numbers: the scores of a
   pair of heads, the weights, and the scores' gradients; and that a block's arithmetic gives them. -/
module

public import proofs.«01_k».proof.Proof.AttnPay

@[expose] public section

set_option maxRecDepth 16384

noncomputable section

open Idealize.ShloMosaic Idealize.ShloMosaic.TcCoe

namespace Cert.Kernel3Ideal.Attn

open Cert.Kernel3Ideal Cert.Kernel3Ideal.Gen

/-- What a pair of heads' lane is to one of the two heads: itself, or nothing. -/
def half (h : Fin 2) (c : ℕ) (x : EReal) : EReal := if c < 64 then (if h = 0 then x else 0) else (if h = 0 then 0 else x)

/-- A pair of heads' queries, keys, values, gradients of the result (by row and lane), and the sums beyond each block. -/
structure Pair where
  Q : ℕ → ℕ → EReal
  K : ℕ → ℕ → EReal
  V : ℕ → ℕ → EReal
  O : ℕ → ℕ → EReal
  R : Fin 2 → ℕ → ℕ → EReal

namespace Pair

variable (P : Pair) (h : Fin 2)

/-- The base-2 score of query `i` and key `j`. -/
def z (i j : ℕ) : EReal := ∑ d : Fin 128, half h d.val (P.Q i d.val) * P.K j d.val
/-- The gradient at the weight of query `i` and key `j`. -/
def da (i j : ℕ) : EReal := ∑ d : Fin 128, half h d.val (P.O i d.val) * P.V j d.val
/-- The softplus of a key before the query. -/
def sp (i j : ℕ) : EReal := if j < i then Sp (P.z h i j) else 0
/-- The sum within the key's block, of the keys after it. -/
def within (i b c : ℕ) : EReal := ∑ j : Fin 256, if c < j.val then P.sp h i (256 * b + j.val) else 0
/-- The weight. -/
def a (i j : ℕ) : EReal := if j < i then two (Ls (P.z h i j) - (P.within h i (j / 256) (j % 256) + P.R h i (j / 256))) else 0
/-- The gradient at the weight's logarithm. -/
def g (i j : ℕ) : EReal := P.a h i j * P.da h i j
/-- The sum within the key's block, of the keys before it. -/
def earlier (i b c : ℕ) : EReal := ∑ j : Fin 256, if j.val < c then P.g h i (256 * b + j.val) else 0
/-- The sum over the blocks before a block. -/
def before (i b : ℕ) : EReal := ∑ j ∈ Finset.range (256 * b), P.g h i j
/-- The gradient at the score. -/
def dz (i j : ℕ) : EReal :=
  if j < i then P.g h i j - two (Ls (P.z h i j)) * (P.g h i j + (P.earlier h i (j / 256) (j % 256) + P.before h i (j / 256))) else 0

variable {P h}

theorem a_block (qi b : ℕ) (r c : Fin 256) (m : Fin 256 → Fin 256 → Prop) [∀ r c, Decidable (m r c)]
    (hm : ∀ r c : Fin 256, m r c ↔ 256 * b + c.val < 256 * qi + r.val) :
    (if m r c then two (Ls (P.z h (256 * qi + r.val) (256 * b + c.val))
        - ((∑ j : Fin 256, (if m r j then Sp (P.z h (256 * qi + r.val) (256 * b + j.val)) else 0) * (k0_pay75 : FVec Ideal S256x256 .bf16) (ix2 j c)) + P.R h (256 * qi + r.val) b)) else 0)
      = P.a h (256 * qi + r.val) (256 * b + c.val) := by
  have hc := c.isLt
  have e1 : (256 * b + c.val) / 256 = b := by omega
  have e2 : (256 * b + c.val) % 256 = c.val := by omega
  have e : (∑ j : Fin 256, (if m r j then Sp (P.z h (256 * qi + r.val) (256 * b + j.val)) else 0) * (k0_pay75 : FVec Ideal S256x256 .bf16) (ix2 j c))
      = P.within h (256 * qi + r.val) b c.val := by
    unfold within
    refine Finset.sum_congr rfl fun j _ => ?_
    rw [p75, show (if m r j then Sp (P.z h (256 * qi + r.val) (256 * b + j.val)) else 0) = P.sp h (256 * qi + r.val) (256 * b + j.val) from
      if_congr (hm r j) rfl rfl]
    by_cases hj : c < j
    · rw [if_pos hj, mul_one, if_pos (Fin.lt_def.1 hj)]
    · rw [if_neg hj, mul_zero, if_neg (fun a => hj (Fin.lt_def.2 a))]
  rw [e]
  unfold a
  rw [e1, e2]
  by_cases hr : m r c
  · rw [if_pos hr, if_pos ((hm r c).1 hr)]
  · rw [if_neg hr, if_neg (fun a => hr ((hm r c).2 a))]

theorem earlier_block (i b : ℕ) (c : Fin 256) :
    (∑ j : Fin 256, P.g h i (256 * b + j.val) * (k0_pay76 : FVec Ideal S256x256 .bf16) (ix2 j c)) = P.earlier h i b c.val := by
  refine Finset.sum_congr rfl fun j _ => ?_
  rw [p76]
  by_cases hj : j < c
  · rw [if_pos hj, mul_one, if_pos (Fin.lt_def.1 hj)]
  · rw [if_neg hj, mul_zero, if_neg (fun a => hj (Fin.lt_def.2 a))]

theorem dz_block (i b : ℕ) (c : Fin 256) (p : Prop) [Decidable p] (hp : p ↔ 256 * b + c.val < i) :
    (if p then P.g h i (256 * b + c.val) - two (Ls (P.z h i (256 * b + c.val))) * (P.g h i (256 * b + c.val) + (P.earlier h i b c.val + P.before h i b)) else 0)
      = P.dz h i (256 * b + c.val) := by
  have hc := c.isLt
  have e1 : (256 * b + c.val) / 256 = b := by omega
  have e2 : (256 * b + c.val) % 256 = c.val := by omega
  unfold dz
  rw [e1, e2]
  exact if_congr hp rfl rfl

/-- A sum over the blocks before block `b + 1` is that before block `b` and the block's. -/
theorem sum_block (f : ℕ → EReal) (b : ℕ) :
    ∑ j ∈ Finset.range (256 * (b + 1)), f j = ∑ j ∈ Finset.range (256 * b), f j + ∑ j : Fin 256, f (256 * b + j.val) := by
  rw [show 256 * (b + 1) = 256 * b + 256 from by ring, Finset.sum_range_add, Fin.sum_univ_eq_sum_range (fun j => f (256 * b + j))]

theorem before_block (i b : ℕ) : P.before h i b + ∑ j : Fin 256, P.g h i (256 * b + j.val) = P.before h i (b + 1) :=
  (sum_block _ b).symm

/-- The query's gradient over the blocks before block `b`. -/
def dq (P : Pair) (h : Fin 2) (i b c : ℕ) : EReal := ∑ j ∈ Finset.range (256 * b), P.dz h i j * P.K j c
theorem dq_block (i b c : ℕ) : P.dq h i b c + ∑ j : Fin 256, P.dz h i (256 * b + j.val) * P.K (256 * b + j.val) c = P.dq h i (b + 1) c :=
  (sum_block (fun j => P.dz h i j * P.K j c) b).symm

/-- What a block of queries adds to the key's gradient, and to the value's. -/
def dk (P : Pair) (qi j c : ℕ) : EReal :=
  (∑ r : Fin 256, P.dz 0 (256 * qi + r.val) j * half 0 c (P.Q (256 * qi + r.val) c)) + ∑ r : Fin 256, P.dz 1 (256 * qi + r.val) j * half 1 c (P.Q (256 * qi + r.val) c)
def dv (P : Pair) (qi j c : ℕ) : EReal :=
  (∑ r : Fin 256, P.a 0 (256 * qi + r.val) j * half 0 c (P.O (256 * qi + r.val) c)) + ∑ r : Fin 256, P.a 1 (256 * qi + r.val) j * half 1 c (P.O (256 * qi + r.val) c)

end Pair

/-! ## A block's arithmetic, head by head -/

section Arith
variable (P : Pair) (qi b : ℕ) (hb : b < 128) (r c : Fin 256) (d : Fin 128)
  (z0 z1 a0 a1 : Vec Ideal S1x256x256 .f32) (R0 R1 B0 B1 D0 D1 : Vec Ideal S1x256x128 .f32) (kb : Vec Ideal S256x128 .bf16)
  (qv ov : Vec Ideal S256x128 .bf16) (acc : Vec Ideal S256x128 .f32)

/-- The scores, the weights' gradients, the sums beyond, the sums before and the keys of block `b`, of the query block `qi`. -/
structure Ready : Prop where
  z0 : ∀ r c : Fin 256, z0 (ix3 0 r c) = P.z 0 (256 * qi + r.val) (256 * b + c.val)
  z1 : ∀ r c : Fin 256, z1 (ix3 0 r c) = P.z 1 (256 * qi + r.val) (256 * b + c.val)
  a0 : ∀ r c : Fin 256, a0 (ix3 0 r c) = P.da 0 (256 * qi + r.val) (256 * b + c.val)
  a1 : ∀ r c : Fin 256, a1 (ix3 0 r c) = P.da 1 (256 * qi + r.val) (256 * b + c.val)
  R0 : ∀ (r : Fin 256) (l : Fin 128), R0 (ix3 0 r l) = P.R 0 (256 * qi + r.val) l.val
  R1 : ∀ (r : Fin 256) (l : Fin 128), R1 (ix3 0 r l) = P.R 1 (256 * qi + r.val) l.val
  B0 : ∀ (r : Fin 256) (l : Fin 128), B0 (ix3 0 r l) = P.before 0 (256 * qi + r.val) b
  B1 : ∀ (r : Fin 256) (l : Fin 128), B1 (ix3 0 r l) = P.before 1 (256 * qi + r.val) b
  K : ∀ (r : Fin 256) (d : Fin 128), kb (ix2 r d) = P.K (256 * b + r.val) d.val
  Q : ∀ (r : Fin 256) (d : Fin 128), qv (ix2 r d) = P.Q (256 * qi + r.val) d.val
  O : ∀ (r : Fin 256) (d : Fin 128), ov (ix2 r d) = P.O (256 * qi + r.val) d.val

variable {P qi b z0 z1 a0 a1 R0 R1 B0 B1 kb qv ov}
variable (H : Ready P qi b z0 z1 a0 a1 R0 R1 B0 B1 kb qv ov)
include hb H

omit hb H in
theorem below (hq : b < qi) (r c : Fin 256) : True ↔ 256 * b + c.val < 256 * qi + r.val := by
  have := c.isLt; simp only [true_iff]; omega

omit hb H in
theorem on (r c : Fin 256) : c < r ↔ 256 * b + c.val < 256 * b + r.val := by
  rw [Fin.lt_def]; omega

/-! ### Below the diagonal -/

theorem A0 (hq : b < qi) : k0_pay16 laneNo (BitVec.ofNat 32 b) (k0_pay4 z0) (k0_pay5 k0_pay75 z0) R0 (ix2 r c) = P.a 0 (256 * qi + r.val) (256 * b + c.val) := by
  rw [p16 _ _ _ _ _ b hb, p4, p5, H.R0, H.z0, ← P.a_block qi b r c (fun _ _ => True) (below hq)]
  simp only [if_true, H.z0]
theorem A1 (hq : b < qi) : k0_pay23 (k0_pay8 z1) (k0_pay9 k0_pay75 z1) (k0_pay20 R1) (k0_pay21 laneNo (BitVec.ofNat 32 b)) k0_pay22 (ix2 r c) = P.a 1 (256 * qi + r.val) (256 * b + c.val) := by
  rw [p23 _ _ _ _ _ b hb, p8, p9, H.R1, H.z1, ← P.a_block qi b r c (fun _ _ => True) (below hq)]
  simp only [if_true, H.z1]
theorem G0 (hq : b < qi) : k0_pay18 laneNo (BitVec.ofNat 32 b) (k0_pay4 z0) (k0_pay5 k0_pay75 z0) R0 a0 (ix2 r c) = P.g 0 (256 * qi + r.val) (256 * b + c.val) := by
  rw [p18, A0 hb r c H hq, H.a0]; rfl
theorem G1 (hq : b < qi) : k0_pay25 (k0_pay8 z1) (k0_pay9 k0_pay75 z1) (k0_pay20 R1) (k0_pay21 laneNo (BitVec.ofNat 32 b)) k0_pay22 a1 (ix2 r c) = P.g 1 (256 * qi + r.val) (256 * b + c.val) := by
  rw [p25, A1 hb r c H hq, H.a1]; rfl
theorem E0 (hq : b < qi) : k0_pay19 laneNo k0_pay76 (BitVec.ofNat 32 b) (k0_pay4 z0) (k0_pay5 k0_pay75 z0) R0 a0 (ix2 r c) = P.earlier 0 (256 * qi + r.val) b c.val := by
  rw [p19, ← P.earlier_block]; exact Finset.sum_congr rfl fun j _ => by rw [G0 hb r j H hq]
theorem E1 (hq : b < qi) : k0_pay26 k0_pay76 (k0_pay8 z1) (k0_pay9 k0_pay75 z1) (k0_pay20 R1) (k0_pay21 laneNo (BitVec.ofNat 32 b)) k0_pay22 a1 (ix2 r c) = P.earlier 1 (256 * qi + r.val) b c.val := by
  rw [p26, ← P.earlier_block]; exact Finset.sum_congr rfl fun j _ => by rw [G1 hb r j H hq]
/-- Head 0's gradient of a block of scores. -/
theorem Z0 (hq : b < qi) : k0_pay28 (k0_pay4 z0) (k0_pay18 laneNo (BitVec.ofNat 32 b) (k0_pay4 z0) (k0_pay5 k0_pay75 z0) R0 a0) (k0_pay19 laneNo k0_pay76 (BitVec.ofNat 32 b) (k0_pay4 z0) (k0_pay5 k0_pay75 z0) R0 a0) B0 (ix2 r c)
    = P.dz 0 (256 * qi + r.val) (256 * b + c.val) := by
  rw [p28, G0 hb r c H hq, E0 hb r c H hq, p4, H.z0, ← P.dz_block _ _ _ True (below hq r c), if_true]
  exact congrArg (fun x => _ - _ * (_ + (_ + x))) (H.B0 _ _)
/-- Head 1's gradient of a block of scores. -/
theorem Z1 (hq : b < qi) : k0_pay32 (k0_pay8 z1) (k0_pay25 (k0_pay8 z1) (k0_pay9 k0_pay75 z1) (k0_pay20 R1) (k0_pay21 laneNo (BitVec.ofNat 32 b)) k0_pay22 a1) (k0_pay26 k0_pay76 (k0_pay8 z1) (k0_pay9 k0_pay75 z1) (k0_pay20 R1) (k0_pay21 laneNo (BitVec.ofNat 32 b)) k0_pay22 a1) B1 (ix2 r c)
    = P.dz 1 (256 * qi + r.val) (256 * b + c.val) := by
  rw [p32, G1 hb r c H hq, E1 hb r c H hq, p8, H.z1, ← P.dz_block _ _ _ True (below hq r c), if_true]
  exact congrArg (fun x => _ - _ * (_ + (_ + x))) (H.B1 _ _)

/-! ### On the diagonal -/

omit H

theorem dA0 (H : Ready P b b z0 z1 a0 a1 R0 R1 B0 B1 kb qv ov) : k0_pay127 (BitVec.ofNat 32 b) laneNo rowNo colNo (k0_pay115 (k0_pay110 z0) (k0_pay111 z0) (k0_pay112 z0) k0_pay113) (k0_pay116 rowNo colNo k0_pay75 (k0_pay111 z0) (k0_pay112 z0) k0_pay113) R0 (ix2 r c)
    = P.a 0 (256 * b + r.val) (256 * b + c.val) := by
  rw [p127 _ _ _ _ _ b hb, p115, p116, H.R0, H.z0, ← P.a_block b b r c (fun r c => c < r) on]
  simp only [H.z0]
theorem dA1 (H : Ready P b b z0 z1 a0 a1 R0 R1 B0 B1 kb qv ov) : k0_pay132 rowNo colNo (k0_pay131 (BitVec.ofNat 32 b) laneNo (k0_pay119 z1) (k0_pay120 rowNo colNo k0_pay75 z1) R1) (ix2 r c)
    = P.a 1 (256 * b + r.val) (256 * b + c.val) := by
  rw [p132 _ _ _ _ _ b hb, p119, p120, H.R1, H.z1, ← P.a_block b b r c (fun r c => c < r) on]
  simp only [H.z1]
theorem dG0 (H : Ready P b b z0 z1 a0 a1 R0 R1 B0 B1 kb qv ov) : k0_pay129 (BitVec.ofNat 32 b) laneNo rowNo colNo (k0_pay115 (k0_pay110 z0) (k0_pay111 z0) (k0_pay112 z0) k0_pay113) (k0_pay116 rowNo colNo k0_pay75 (k0_pay111 z0) (k0_pay112 z0) k0_pay113) R0 a0 (ix2 r c)
    = P.g 0 (256 * b + r.val) (256 * b + c.val) := by
  rw [p129, dA0 hb r c H, H.a0]; rfl
theorem dG1 (H : Ready P b b z0 z1 a0 a1 R0 R1 B0 B1 kb qv ov) : k0_pay134 rowNo colNo (k0_pay131 (BitVec.ofNat 32 b) laneNo (k0_pay119 z1) (k0_pay120 rowNo colNo k0_pay75 z1) R1) a1 (ix2 r c)
    = P.g 1 (256 * b + r.val) (256 * b + c.val) := by
  rw [p134, dA1 hb r c H, H.a1]; rfl
theorem dE0 (H : Ready P b b z0 z1 a0 a1 R0 R1 B0 B1 kb qv ov) : k0_pay130 (BitVec.ofNat 32 b) laneNo rowNo colNo k0_pay76 (k0_pay115 (k0_pay110 z0) (k0_pay111 z0) (k0_pay112 z0) k0_pay113) (k0_pay116 rowNo colNo k0_pay75 (k0_pay111 z0) (k0_pay112 z0) k0_pay113) R0 a0 (ix2 r c)
    = P.earlier 0 (256 * b + r.val) b c.val := by
  rw [p130, ← P.earlier_block]; exact Finset.sum_congr rfl fun j _ => by rw [dG0 hb r j H]
theorem dE1 (H : Ready P b b z0 z1 a0 a1 R0 R1 B0 B1 kb qv ov) : k0_pay135 rowNo colNo k0_pay76 (k0_pay131 (BitVec.ofNat 32 b) laneNo (k0_pay119 z1) (k0_pay120 rowNo colNo k0_pay75 z1) R1) a1 (ix2 r c)
    = P.earlier 1 (256 * b + r.val) b c.val := by
  rw [p135, ← P.earlier_block]; exact Finset.sum_congr rfl fun j _ => by rw [dG1 hb r j H]
theorem dZ0 (H : Ready P b b z0 z1 a0 a1 R0 R1 B0 B1 kb qv ov) : k0_pay137 rowNo colNo (k0_pay115 (k0_pay110 z0) (k0_pay111 z0) (k0_pay112 z0) k0_pay113) (k0_pay129 (BitVec.ofNat 32 b) laneNo rowNo colNo (k0_pay115 (k0_pay110 z0) (k0_pay111 z0) (k0_pay112 z0) k0_pay113) (k0_pay116 rowNo colNo k0_pay75 (k0_pay111 z0) (k0_pay112 z0) k0_pay113) R0 a0)
      (k0_pay130 (BitVec.ofNat 32 b) laneNo rowNo colNo k0_pay76 (k0_pay115 (k0_pay110 z0) (k0_pay111 z0) (k0_pay112 z0) k0_pay113) (k0_pay116 rowNo colNo k0_pay75 (k0_pay111 z0) (k0_pay112 z0) k0_pay113) R0 a0) B0 (ix2 r c)
    = P.dz 0 (256 * b + r.val) (256 * b + c.val) := by
  rw [p137, dG0 hb r c H, dE0 hb r c H, p115, H.z0, ← P.dz_block _ _ _ (c < r) (on r c)]
  exact congrArg (fun x => if c < r then _ - _ * (_ + (_ + x)) else 0) (H.B0 _ _)
theorem dZ1 (H : Ready P b b z0 z1 a0 a1 R0 R1 B0 B1 kb qv ov) : k0_pay141 rowNo colNo (k0_pay119 z1) (k0_pay134 rowNo colNo (k0_pay131 (BitVec.ofNat 32 b) laneNo (k0_pay119 z1) (k0_pay120 rowNo colNo k0_pay75 z1) R1) a1)
      (k0_pay135 rowNo colNo k0_pay76 (k0_pay131 (BitVec.ofNat 32 b) laneNo (k0_pay119 z1) (k0_pay120 rowNo colNo k0_pay75 z1) R1) a1) B1 (ix2 r c)
    = P.dz 1 (256 * b + r.val) (256 * b + c.val) := by
  rw [p141, dG1 hb r c H, dE1 hb r c H, p119, H.z1, ← P.dz_block _ _ _ (c < r) (on r c)]
  exact congrArg (fun x => if c < r then _ - _ * (_ + (_ + x)) else 0) (H.B1 _ _)

/-! ### The two heads' queries and gradients -/

omit hb

theorem H81 : k0_pay81 kb (ix2 r d) = half 0 d.val (kb (ix2 r d)) := by rw [p81]; simp [half]
theorem H82 : k0_pay82 kb (ix2 r d) = half 1 d.val (kb (ix2 r d)) := by rw [p82]; simp [half]
theorem H83 : k0_pay83 kb (ix2 r d) = half 0 d.val (kb (ix2 r d)) := by rw [p83]; simp [half]
theorem H84 : k0_pay84 kb (ix2 r d) = half 1 d.val (kb (ix2 r d)) := by rw [p84]; simp [half]

end Arith

end Cert.Kernel3Ideal.Attn

end
-- ==== Proof.AttnStep.lean ====
/- One trip of the attention backward kernel's block loop, read as values: what each buffer holds after it. -/
module

public import proofs.«01_k».proof.Proof.AttnBlock
public import proofs.«01_k».proof.Proof.AttnLoop
public import Idealize.ShloMosaic.Lib.WritesUnit

@[expose] public section

set_option maxRecDepth 16384

noncomputable section

open Idealize.ShloMosaic Idealize.ShloMosaic.TcCoe

namespace Cert.Kernel3Ideal.Attn

open Cert.Kernel3Ideal Cert.Kernel3Ideal.Gen

/-! ## Reading a part of a buffer, and reading a buffer after a part is stored -/

/-- Two places in an array of rank three are one where their coordinates agree. -/
theorem ext3 {a b c : ℕ} {x y : (⟨3, ![a, b, c]⟩ : Shape).Idx} (h0 : (x 0).val = (y 0).val) (h1 : (x 1).val = (y 1).val) (h2 : (x 2).val = (y 2).val) : x = y := by
  funext n; refine Fin.ext ?_; fin_cases n
  · exact h0
  · exact h1
  · exact h2

section Parts
variable {c : Dev nD}

/-- Head `h`'s part of a buffer of one block of scores for each of the two heads. -/
abbrev scores0 (M : Memref sig .tc .vmem S2x256x256 .f32) (f : Buf (Elt Ideal) (M.view.loc (c : Thread nD τ))) : Vec Ideal S1x256x256 .f32 :=
  View.readAt (Elt Ideal) M.view (Rect.unit (s := S2x256x256) ![0, 0, 0] S1x256x256.size inb_S2x256x256_S1x256x256_0_0_0).toLoadRect f
abbrev scores1 (M : Memref sig .tc .vmem S2x256x256 .f32) (f : Buf (Elt Ideal) (M.view.loc (c : Thread nD τ))) : Vec Ideal S1x256x256 .f32 :=
  View.readAt (Elt Ideal) M.view (Rect.unit (s := S2x256x256) ![1, 0, 0] S1x256x256.size inb_S2x256x256_S1x256x256_1_0_0).toLoadRect f
abbrev lanes0 (M : Memref sig .tc .vmem S2x256x128 .f32) (f : Buf (Elt Ideal) (M.view.loc (c : Thread nD τ))) : Vec Ideal S1x256x128 .f32 :=
  View.readAt (Elt Ideal) M.view (Rect.unit (s := S2x256x128) ![0, 0, 0] S1x256x128.size inb_S2x256x128_S1x256x128_0_0_0).toLoadRect f
abbrev lanes1 (M : Memref sig .tc .vmem S2x256x128 .f32) (f : Buf (Elt Ideal) (M.view.loc (c : Thread nD τ))) : Vec Ideal S1x256x128 .f32 :=
  View.readAt (Elt Ideal) M.view (Rect.unit (s := S2x256x128) ![1, 0, 0] S1x256x128.size inb_S2x256x128_S1x256x128_1_0_0).toLoadRect f

variable (r : Fin 256) (x : Fin 256) (d : Fin 128)
  (M : Memref sig .tc .vmem S2x256x256 .f32) (f : Buf (Elt Ideal) (M.view.loc (c : Thread nD τ)))
  (N : Memref sig .tc .vmem S2x256x128 .f32) (g : Buf (Elt Ideal) (N.view.loc (c : Thread nD τ)))

theorem scores0_apply : scores0 M f (ix3 0 r x) = M.view.read (Elt Ideal) f (ix3 0 r x) :=
  congrArg (M.view.read (Elt Ideal) f) (ext3 (by show 0 + 1 * 0 = 0; rfl) (by show 0 + 1 * r.val = r.val; omega) (by show 0 + 1 * x.val = x.val; omega))
theorem scores1_apply : scores1 M f (ix3 0 r x) = M.view.read (Elt Ideal) f (ix3 1 r x) :=
  congrArg (M.view.read (Elt Ideal) f) (ext3 (by show 1 + 1 * 0 = 1; rfl) (by show 0 + 1 * r.val = r.val; omega) (by show 0 + 1 * x.val = x.val; omega))
theorem lanes0_apply : lanes0 N g (ix3 0 r d) = N.view.read (Elt Ideal) g (ix3 0 r d) :=
  congrArg (N.view.read (Elt Ideal) g) (ext3 (by show 0 + 1 * 0 = 0; rfl) (by show 0 + 1 * r.val = r.val; omega) (by show 0 + 1 * d.val = d.val; omega))
theorem lanes1_apply : lanes1 N g (ix3 0 r d) = N.view.read (Elt Ideal) g (ix3 1 r d) :=
  congrArg (N.view.read (Elt Ideal) g) (ext3 (by show 1 + 1 * 0 = 1; rfl) (by show 0 + 1 * r.val = r.val; omega) (by show 0 + 1 * d.val = d.val; omega))

/-- Rows `256 b …` of a buffer of all the keys. -/
theorem rows_apply {e : EltTy} (M : Memref sig .tc .vmem S16384x128 e) (f : Buf (Elt Ideal) (M.view.loc (c : Thread nD τ)))
    (off : Fin 2 → ℕ) (inb : ∀ a, off a + S256x128.size a ≤ S16384x128.size a) (b : ℕ) (hb : b < 64) (ho : off = ![256 * b, 0]) :
    View.readAt (Elt Ideal) M.view (Rect.unit (s := S16384x128) off S256x128.size inb).toLoadRect f (ix2 r d)
      = M.view.read (Elt Ideal) f (ix2 (⟨256 * b + r.val, by have := r.isLt; omega⟩ : Fin 16384) d) := by
  subst ho
  exact congrArg (M.view.read (Elt Ideal) f) (Shape.idx_ext₂ (by show 256 * b + 1 * r.val = 256 * b + r.val; omega) (by show 0 + 1 * d.val = d.val; omega))

theorem scores_put (h : Fin 2) (w1 w0 : Vec Ideal S1x256x256 .f32) :
    M.view.read (Elt Ideal) (M.view.writes (Elt Ideal) f
      [⟨Rect.unit (s := S2x256x256) ![1, 0, 0] S1x256x256.size inb_S2x256x256_S1x256x256_1_0_0, w1⟩,
       ⟨Rect.unit (s := S2x256x256) ![0, 0, 0] S1x256x256.size inb_S2x256x256_S1x256x256_0_0_0, w0⟩]) (ix3 h r x)
      = if h = 0 then w0 (ix3 0 r x) else w1 (ix3 0 r x) := by
  by_cases hh : h = 0
  · subst hh
    rw [if_pos rfl]
    refine (View.read_writes_cons_unit_of_not_mem M.view f _ w1 _ _ rfl 0 (.inl (by show 0 < 1; omega))).trans ?_
    exact View.read_writes_cons_unit_of_mem M.view f _ w0 _ _ (ix3 0 r x) rfl (fun a => by fin_cases a <;> simp)
  · obtain rfl : h = 1 := by omega
    rw [if_neg hh]
    exact View.read_writes_cons_unit_of_mem M.view f _ w1 _ _ (ix3 0 r x) rfl (fun a => by fin_cases a <;> simp)
theorem lanes_put (h : Fin 2) (w1 w0 : Vec Ideal S1x256x128 .f32) :
    N.view.read (Elt Ideal) (N.view.writes (Elt Ideal) g
      [⟨Rect.unit (s := S2x256x128) ![1, 0, 0] S1x256x128.size inb_S2x256x128_S1x256x128_1_0_0, w1⟩,
       ⟨Rect.unit (s := S2x256x128) ![0, 0, 0] S1x256x128.size inb_S2x256x128_S1x256x128_0_0_0, w0⟩]) (ix3 h r d)
      = if h = 0 then w0 (ix3 0 r d) else w1 (ix3 0 r d) := by
  by_cases hh : h = 0
  · subst hh
    rw [if_pos rfl]
    refine (View.read_writes_cons_unit_of_not_mem N.view g _ w1 _ _ rfl 0 (.inl (by show 0 < 1; omega))).trans ?_
    exact View.read_writes_cons_unit_of_mem N.view g _ w0 _ _ (ix3 0 r d) rfl (fun a => by fin_cases a <;> simp)
  · obtain rfl : h = 1 := by omega
    rw [if_neg hh]
    exact View.read_writes_cons_unit_of_mem N.view g _ w1 _ _ (ix3 0 r d) rfl (fun a => by fin_cases a <;> simp)

/-- Storing rows `256 b …` of a buffer of all the keys. -/
theorem rows_put (M : Memref sig .tc .vmem S16384x128 .f32) (f : Buf (Elt Ideal) (M.view.loc (c : Thread nD τ)))
    (off : Fin 2 → ℕ) (inb : ∀ a, off a + S256x128.size a ≤ S16384x128.size a) (b : ℕ) (ho : off = ![256 * b, 0])
    (w : Vec Ideal S256x128 .f32) (j : Fin 16384) :
    M.view.read (Elt Ideal) (M.view.writes (Elt Ideal) f [⟨Rect.unit (s := S16384x128) off S256x128.size inb, w⟩]) (ix2 j d)
      = if j.val / 256 = b then w (ix2 (⟨j.val % 256, Nat.mod_lt _ (by decide)⟩ : Fin 256) d) else M.view.read (Elt Ideal) f (ix2 j d) := by
  by_cases hj : j.val / 256 = b
  · rw [if_pos hj]
    exact View.read_writes_cons_unit_of_mem M.view f _ w _ _ (ix2 (⟨j.val % 256, Nat.mod_lt _ (by decide)⟩ : Fin 256) d) ho
      (fun a => by fin_cases a <;> simp <;> omega)
  · rw [if_neg hj]
    refine (View.read_writes_cons_unit_of_not_mem M.view f inb w _ _ ho 0 ?_).trans rfl
    show j.val < 256 * b ∨ 256 * b + 256 ≤ j.val
    omega

end Parts

section Trip
variable (c : Dev nD) (i : grid0.Coords)
  (arg2 : Memref sig .tc .vmem S256x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S256x128 .bf16) (harg5 : arg5.IsWhole)
  (arg6 : Memref sig .tc .vmem S2x256x128 .f32) (harg6 : arg6.IsWhole)
  (arg7 : Memref sig .tc .vmem S256x128 .f32) (harg7 : arg7.IsWhole)
  (arg8 : Memref sig .tc .hbm S16384x1024 .f32) (harg8 : arg8.IsWhole)
  (arg9 : Memref sig .tc .hbm S16384x1024 .f32) (harg9 : arg9.IsWhole)
  (arg10 : Memref sig .tc .vmem S16384x128 .f32) (harg10 : arg10.IsWhole)
  (arg11 : Memref sig .tc .vmem S16384x128 .f32) (harg11 : arg11.IsWhole)
  (arg12 : Memref sig .tc .vmem S2x256x128 .f32) (harg12 : arg12.IsWhole)
  (arg13 : Memref sig .tc .vmem S2x256x128 .f32) (harg13 : arg13.IsWhole)
  (arg14 : Memref sig .tc .vmem S2x256x256 .f32) (harg14 : arg14.IsWhole)
  (arg15 : Memref sig .tc .vmem S2x256x256 .f32) (harg15 : arg15.IsWhole)
  (arg16 : DmaSems sig S2) (arg1 : BitVec 32)
  (v25 : FVec Ideal S256x128 .bf16) (v29 : FVec Ideal S256x128 .bf16) (v33 : FVec Ideal S256x128 .bf16) (v37 : FVec Ideal S256x128 .bf16)
  (v38 : FVec Ideal S512x128 .bf16) (v39 : FVec Ideal S512x128 .bf16) (v66 : BitVec 32) (hw : k0_chk1 i v66)
  (v74 : FVec Ideal S256x128 .bf16) (v75 : FVec Ideal S256x256 .f32) (v76 : FVec Ideal S256x256 .f32) (cst : FVec Ideal S256x256 .f32)
  (f3 : Buf (Elt Ideal) (arg3.view.loc (c : Thread nD τ))) (f4 : Buf (Elt Ideal) (arg4.view.loc (c : Thread nD τ)))
  (f6 : Buf (Elt Ideal) (arg6.view.loc (c : Thread nD τ)))

  (P : Pair) (X10 X11 : ℕ → ℕ → EReal)

/-- What the buffers hold before trip `b`: the scores of block `b`, the sums over the blocks before it, and the keys' and values' gradients of those blocks. -/
structure Holds (qi b : ℕ) (s : St (F := Ideal) c arg10 arg11 arg12 arg13 arg14 arg15) : Prop where
  f10 : ∀ (j : Fin 16384) (d : Fin 128), arg10.view.read (Elt Ideal) s.f10 (ix2 j d) = X10 j.val d.val + if j.val / 256 < b then P.dk qi j.val d.val else 0
  f11 : ∀ (j : Fin 16384) (d : Fin 128), arg11.view.read (Elt Ideal) s.f11 (ix2 j d) = X11 j.val d.val + if j.val / 256 < b then P.dv qi j.val d.val else 0
  f12 : ∀ (h : Fin 2) (r : Fin 256) (d : Fin 128), arg12.view.read (Elt Ideal) s.f12 (ix3 h r d) = P.dq h (256 * qi + r.val) b d.val
  f13 : ∀ (h : Fin 2) (r : Fin 256) (d : Fin 128), arg13.view.read (Elt Ideal) s.f13 (ix3 h r d) = P.before h (256 * qi + r.val) b
  f14 : ∀ (h : Fin 2) (r x : Fin 256), arg14.view.read (Elt Ideal) s.f14 (ix3 h r x) = P.z h (256 * qi + r.val) (256 * b + x.val)
  f15 : ∀ (h : Fin 2) (r x : Fin 256), arg15.view.read (Elt Ideal) s.f15 (ix3 h r x) = P.da h (256 * qi + r.val) (256 * b + x.val)

/-- What a trip reads and does not change. -/
structure Given (qi : ℕ) : Prop where
  q0 : ∀ (r : Fin 256) (d : Fin 128), v25 (ix2 r d) = half 0 d.val (P.Q (256 * qi + r.val) d.val)
  q1 : ∀ (r : Fin 256) (d : Fin 128), v29 (ix2 r d) = half 1 d.val (P.Q (256 * qi + r.val) d.val)
  o0 : ∀ (r : Fin 256) (d : Fin 128), v33 (ix2 r d) = half 0 d.val (P.O (256 * qi + r.val) d.val)
  o1 : ∀ (r : Fin 256) (d : Fin 128), v37 (ix2 r d) = half 1 d.val (P.O (256 * qi + r.val) d.val)
  ql : ∀ (r : Fin 256) (d : Fin 128), v38 (ix2 (lo r) d) = half 0 d.val (P.Q (256 * qi + r.val) d.val)
  qh : ∀ (r : Fin 256) (d : Fin 128), v38 (ix2 (hi r) d) = half 1 d.val (P.Q (256 * qi + r.val) d.val)
  ol : ∀ (r : Fin 256) (d : Fin 128), v39 (ix2 (lo r) d) = half 0 d.val (P.O (256 * qi + r.val) d.val)
  oh : ∀ (r : Fin 256) (d : Fin 128), v39 (ix2 (hi r) d) = half 1 d.val (P.O (256 * qi + r.val) d.val)
  k : ∀ (j : Fin 16384) (d : Fin 128), arg3.view.read (Elt Ideal) f3 (ix2 j d) = P.K j.val d.val
  v : ∀ (j : Fin 16384) (d : Fin 128), arg4.view.read (Elt Ideal) f4 (ix2 j d) = P.V j.val d.val
  s : ∀ (h : Fin 2) (r : Fin 256) (l : Fin 128), arg6.view.read (Elt Ideal) f6 (ix3 h r l) = P.R h (256 * qi + r.val) l.val

/-- A trip's stores, written out. -/
theorem next_eq (k : Fin (k0_t1_loop i v66).trips) (s : St (F := Ideal) c arg10 arg11 arg12 arg13 arg14 arg15) :
    next c i arg2 harg2 arg3 harg3 arg4 harg4 arg5 harg5 arg6 harg6 arg7 harg7 arg8 harg8 arg9 harg9 arg10 harg10 arg11 harg11 arg12 harg12 arg13 harg13 arg14 harg14 arg15 harg15 arg16 arg1 laneNo k0_pay75 k0_pay76 v25 v29 v33 v37 v38 v39 v66 hw v74 v75 v76 cst f3 f4 f6 k s =
    (let w := Scf.iv v66 1#32 k.val
     let kb := View.readAt (Elt Ideal) arg3.view (Rect.unit (s := S16384x128) (k0_off2 i v66 k) S256x128.size (k0_off2_inb i v66 hw k)).toLoadRect f3
     let nk := View.readAt (Elt Ideal) arg3.view (Rect.unit (s := S16384x128) (k0_off3 i v66 k) S256x128.size (k0_off3_inb i v66 hw k)).toLoadRect f3
     let nv := View.readAt (Elt Ideal) arg4.view (Rect.unit (s := S16384x128) (k0_off3 i v66 k) S256x128.size (k0_off3_inb i v66 hw k)).toLoadRect f4
     let z0 := scores0 arg14 s.f14
     let z1 := scores1 arg14 s.f14
     let a0 := scores0 arg15 s.f15
     let a1 := scores1 arg15 s.f15
     let R0 := lanes0 arg6 f6
     let R1 := lanes1 arg6 f6
     let B0 := lanes0 arg13 s.f13
     let B1 := lanes1 arg13 s.f13
     let D0 := lanes0 arg12 s.f12
     let D1 := lanes1 arg12 s.f12
     let g0 := k0_pay18 laneNo w (k0_pay4 z0) (k0_pay5 k0_pay75 z0) R0 a0
     let e0 := k0_pay19 laneNo k0_pay76 w (k0_pay4 z0) (k0_pay5 k0_pay75 z0) R0 a0
     let g1 := k0_pay25 (k0_pay8 z1) (k0_pay9 k0_pay75 z1) (k0_pay20 R1) (k0_pay21 laneNo w) k0_pay22 a1
     let e1 := k0_pay26 k0_pay76 (k0_pay8 z1) (k0_pay9 k0_pay75 z1) (k0_pay20 R1) (k0_pay21 laneNo w) k0_pay22 a1
     let u0 := k0_pay17 laneNo w (k0_pay4 z0) (k0_pay5 k0_pay75 z0) R0
     let u1 := k0_pay24 (k0_pay8 z1) (k0_pay9 k0_pay75 z1) (k0_pay20 R1) (k0_pay21 laneNo w) k0_pay22
     let p10 := View.readAt (Elt Ideal) arg10.view (Rect.unit (s := S16384x128) (k0_off2 i v66 k) S256x128.size (k0_off2_inb i v66 hw k)).toLoadRect s.f10
     let p11 := View.readAt (Elt Ideal) arg11.view (Rect.unit (s := S16384x128) (k0_off2 i v66 k) S256x128.size (k0_off2_inb i v66 hw k)).toLoadRect s.f11
     ⟨arg10.view.writes (Elt Ideal) s.f10 [⟨Rect.unit (s := S16384x128) (k0_off2 i v66 k) S256x128.size (k0_off2_inb i v66 hw k), k0_pay35 v38 (k0_pay8 z1) g1 e1 (k0_pay28 (k0_pay4 z0) g0 e0 B0) B1 p10⟩],
      arg11.view.writes (Elt Ideal) s.f11 [⟨Rect.unit (s := S16384x128) (k0_off2 i v66 k) S256x128.size (k0_off2_inb i v66 hw k), k0_pay99 (k0_pay36 v39 u0 u1 p11)⟩],
      arg12.view.writes (Elt Ideal) s.f12 [⟨Rect.unit (s := S2x256x128) ![1, 0, 0] S1x256x128.size inb_S2x256x128_S1x256x128_1_0_0, k0_pay33 (k0_pay1 kb) (k0_pay8 z1) g1 e1 B1 D1⟩,
        ⟨Rect.unit (s := S2x256x128) ![0, 0, 0] S1x256x128.size inb_S2x256x128_S1x256x128_0_0_0, k0_pay29 (k0_pay1 kb) (k0_pay4 z0) g0 e0 B0 D0⟩],
      arg13.view.writes (Elt Ideal) s.f13 [⟨Rect.unit (s := S2x256x128) ![1, 0, 0] S1x256x128.size inb_S2x256x128_S1x256x128_1_0_0, k0_pay34 g1 B1⟩,
        ⟨Rect.unit (s := S2x256x128) ![0, 0, 0] S1x256x128.size inb_S2x256x128_S1x256x128_0_0_0, k0_pay30 g0 B0⟩],
      arg14.view.writes (Elt Ideal) s.f14 [⟨Rect.unit (s := S2x256x256) ![1, 0, 0] S1x256x256.size inb_S2x256x256_S1x256x256_1_0_0, k0_pay102 (k0_pay13 v29 nk)⟩,
        ⟨Rect.unit (s := S2x256x256) ![0, 0, 0] S1x256x256.size inb_S2x256x256_S1x256x256_0_0_0, k0_pay100 (k0_pay12 v25 nk)⟩],
      arg15.view.writes (Elt Ideal) s.f15 [⟨Rect.unit (s := S2x256x256) ![1, 0, 0] S1x256x256.size inb_S2x256x256_S1x256x256_1_0_0, k0_pay103 (k0_pay15 v37 nv)⟩,
        ⟨Rect.unit (s := S2x256x256) ![0, 0, 0] S1x256x256.size inb_S2x256x256_S1x256x256_0_0_0, k0_pay101 (k0_pay14 v33 nv)⟩]⟩) := rfl

set_option maxHeartbeats 4000000 in
/-- A trip takes what the buffers hold before block `b` to what they hold before the next. -/
theorem next_holds (h0 : v66 = 0#32) (G : Given c arg3 arg4 arg6 v25 v29 v33 v37 v38 v39 f3 f4 f6 P (i 1).val)
    (k : Fin (k0_t1_loop i v66).trips) (s : St (F := Ideal) c arg10 arg11 arg12 arg13 arg14 arg15)
    (H : Holds c arg10 arg11 arg12 arg13 arg14 arg15 P X10 X11 (i 1).val k.val s) : Holds c arg10 arg11 arg12 arg13 arg14 arg15 P X10 X11 (i 1).val (k.val + 1) (next c i arg2 harg2 arg3 harg3 arg4 harg4 arg5 harg5 arg6 harg6 arg7 harg7 arg8 harg8 arg9 harg9 arg10 harg10 arg11 harg11 arg12 harg12 arg13 harg13 arg14 harg14 arg15 harg15 arg16 arg1 laneNo k0_pay75 k0_pay76 v25 v29 v33 v37 v38 v39 v66 hw v74 v75 v76 cst f3 f4 f6 k s) := by
  subst h0
  have h1 := lt1 i
  have hk : k.val < (i 1).val := Nat.lt_of_lt_of_eq k.isLt (trips1 i 0#32 (by simp))
  have hb : k.val < 128 := by omega
  have o2 := (off2_row i 0#32 (by simp) k).trans (congrArg (fun n => ![256 * n, 0]) (Nat.zero_add k.val))
  have o3 : k0_off3 i 0#32 k = ![256 * (k.val + 1), 0] := (off3_row i 0#32 (by simp) k).trans (congrArg (fun n => ![256 * (n + 1), 0]) (Nat.zero_add k.val))
  have hwd : Scf.iv 0#32 1#32 k.val = BitVec.ofNat 32 k.val := by simp [Scf.iv]
  rw [next_eq]
  dsimp only
  rw [hwd]
  have R : Ready P (i 1).val k.val (scores0 arg14 s.f14) (scores1 arg14 s.f14) (scores0 arg15 s.f15) (scores1 arg15 s.f15) (lanes0 arg6 f6) (lanes1 arg6 f6)
      (lanes0 arg13 s.f13) (lanes1 arg13 s.f13)
      (View.readAt (Elt Ideal) arg3.view (Rect.unit (s := S16384x128) (k0_off2 i 0#32 k) S256x128.size (k0_off2_inb i 0#32 hw k)).toLoadRect f3)
      (fun x => P.Q (256 * (i 1).val + (x 0).val) (x 1).val) (fun x => P.O (256 * (i 1).val + (x 0).val) (x 1).val) :=
    { z0 := fun r x => (scores0_apply r x _ _).trans (H.f14 0 r x)
      z1 := fun r x => (scores1_apply r x _ _).trans (H.f14 1 r x)
      a0 := fun r x => (scores0_apply r x _ _).trans (H.f15 0 r x)
      a1 := fun r x => (scores1_apply r x _ _).trans (H.f15 1 r x)
      R0 := fun r x => (lanes0_apply r x _ _).trans (G.s 0 r x)
      R1 := fun r x => (lanes1_apply r x _ _).trans (G.s 1 r x)
      B0 := fun r x => (lanes0_apply r x _ _).trans (H.f13 0 r x)
      B1 := fun r x => (lanes1_apply r x _ _).trans (H.f13 1 r x)
      K := fun r d => (rows_apply r d arg3 f3 _ _ k.val (by omega) o2).trans (G.k _ d)
      Q := fun r d => rfl
      O := fun r d => rfl }
  refine ⟨?_, ?_, ?_, ?_, ?_, ?_⟩
  · intro j d
    refine (rows_put d arg10 s.f10 _ _ k.val o2 _ j).trans ?_
    by_cases hj : j.val / 256 = k.val
    · rw [if_pos hj, if_pos (by omega), p35, rows_apply _ _ _ _ _ _ k.val (by omega) o2, H.f10]
      have e : 256 * k.val + j.val % 256 = j.val := by omega
      simp only [Z0 hb _ _ R hk, Z1 hb _ _ R hk, G.ql, G.qh, e]
      rw [if_neg (by omega), add_zero]; rfl
    · rw [if_neg hj, H.f10]
      exact congrArg (X10 j.val d.val + ·) (if_congr (by omega) rfl rfl)
  · intro j d
    refine (rows_put d arg11 s.f11 _ _ k.val o2 _ j).trans ?_
    by_cases hj : j.val / 256 = k.val
    · rw [if_pos hj, if_pos (by omega), p99, p36, rows_apply _ _ _ _ _ _ k.val (by omega) o2, H.f11]
      have e : 256 * k.val + j.val % 256 = j.val := by omega
      simp only [p17, p24, A0 hb _ _ R hk, A1 hb _ _ R hk, G.ol, G.oh, e]
      rw [if_neg (by omega), add_zero]; rfl
    · rw [if_neg hj, H.f11]
      exact congrArg (X11 j.val d.val + ·) (if_congr (by omega) rfl rfl)
  · intro h r d
    refine (lanes_put r d arg12 s.f12 h _ _).trans ?_
    rw [← P.dq_block]
    by_cases hh : h = 0
    · subst hh
      rw [if_pos rfl, p29, lanes0_apply, H.f12]
      exact congrArg (_ + ·) (Finset.sum_congr rfl fun x _ => by rw [Z0 hb _ _ R hk, p1, R.K])
    · obtain rfl : h = 1 := by omega
      rw [if_neg hh, p33, lanes1_apply, H.f12]
      exact congrArg (_ + ·) (Finset.sum_congr rfl fun x _ => by rw [Z1 hb _ _ R hk, p1, R.K])
  · intro h r d
    refine (lanes_put r d arg13 s.f13 h _ _).trans ?_
    rw [← P.before_block]
    by_cases hh : h = 0
    · subst hh
      rw [if_pos rfl, p30, lanes0_apply, H.f13]
      exact congrArg (_ + ·) (Finset.sum_congr rfl fun x _ => by rw [G0 hb _ _ R hk])
    · obtain rfl : h = 1 := by omega
      rw [if_neg hh, p34, lanes1_apply, H.f13]
      exact congrArg (_ + ·) (Finset.sum_congr rfl fun x _ => by rw [G1 hb _ _ R hk])
  · intro h r x
    refine (scores_put r x arg14 s.f14 h _ _).trans ?_
    by_cases hh : h = 0
    · subst hh
      rw [if_pos rfl, p100, p12]
      exact Finset.sum_congr rfl fun d _ => by rw [G.q0, rows_apply _ _ _ _ _ _ (k.val + 1) (by omega) o3, G.k]
    · obtain rfl : h = 1 := by omega
      rw [if_neg hh, p102, p13]
      exact Finset.sum_congr rfl fun d _ => by rw [G.q1, rows_apply _ _ _ _ _ _ (k.val + 1) (by omega) o3, G.k]
  · intro h r x
    refine (scores_put r x arg15 s.f15 h _ _).trans ?_
    by_cases hh : h = 0
    · subst hh
      rw [if_pos rfl, p101, p14]
      exact Finset.sum_congr rfl fun d _ => by rw [G.o0, rows_apply _ _ _ _ _ _ (k.val + 1) (by omega) o3, G.v]
    · obtain rfl : h = 1 := by omega
      rw [if_neg hh, p103, p15]
      exact Finset.sum_congr rfl fun d _ => by rw [G.o1, rows_apply _ _ _ _ _ _ (k.val + 1) (by omega) o3, G.v]

/-- After `n` trips, what the buffers hold before block `n`. -/
theorem st_holds (h0 : v66 = 0#32) (G : Given c arg3 arg4 arg6 v25 v29 v33 v37 v38 v39 f3 f4 f6 P (i 1).val)
    (s : St (F := Ideal) c arg10 arg11 arg12 arg13 arg14 arg15) (H : Holds c arg10 arg11 arg12 arg13 arg14 arg15 P X10 X11 (i 1).val 0 s) (n : ℕ) (hn : n ≤ (i 1).val) :
    Holds c arg10 arg11 arg12 arg13 arg14 arg15 P X10 X11 (i 1).val n (st c i arg2 harg2 arg3 harg3 arg4 harg4 arg5 harg5 arg6 harg6 arg7 harg7 arg8 harg8 arg9 harg9 arg10 harg10 arg11 harg11 arg12 harg12 arg13 harg13 arg14 harg14 arg15 harg15 arg16 arg1 laneNo k0_pay75 k0_pay76 v25 v29 v33 v37 v38 v39 v66 hw v74 v75 v76 cst f3 f4 f6 s n) := by
  induction n with
  | zero => exact H
  | succ n ih =>
    have ht : n < (k0_t1_loop i v66).trips := by
      rw [trips1 i v66 (by rw [h0]; simp), h0]; simp; omega
    have e := st_succ c i arg2 harg2 arg3 harg3 arg4 harg4 arg5 harg5 arg6 harg6 arg7 harg7 arg8 harg8 arg9 harg9 arg10 harg10 arg11 harg11 arg12 harg12 arg13 harg13 arg14 harg14 arg15 harg15 arg16 arg1 laneNo k0_pay75 k0_pay76 v25 v29 v33 v37 v38 v39 v66 hw v74 v75 v76 cst f3 f4 f6 s ⟨n, ht⟩
    rw [show st c i arg2 harg2 arg3 harg3 arg4 harg4 arg5 harg5 arg6 harg6 arg7 harg7 arg8 harg8 arg9 harg9 arg10 harg10 arg11 harg11 arg12 harg12 arg13 harg13 arg14 harg14 arg15 harg15 arg16 arg1 laneNo k0_pay75 k0_pay76 v25 v29 v33 v37 v38 v39 v66 hw v74 v75 v76 cst f3 f4 f6 s (n + 1) = _ from e]
    exact next_holds c i arg2 harg2 arg3 harg3 arg4 harg4 arg5 harg5 arg6 harg6 arg7 harg7 arg8 harg8 arg9 harg9 arg10 harg10 arg11 harg11 arg12 harg12 arg13 harg13 arg14 harg14 arg15 harg15 arg16 arg1 v25 v29 v33 v37 v38 v39 v66 hw v74 v75 v76 cst f3 f4 f6 P X10 X11 h0 G ⟨n, ht⟩ _ (ih (by omega))

end Trip

end Cert.Kernel3Ideal.Attn

end
-- ==== Proof.AttnPoint.lean ====
/- A point of the attention backward kernel, read as values: what the two accumulators and the query gradient's block hold after it. -/
module

public import proofs.«01_k».proof.Proof.AttnStep
public import proofs.«01_k».proof.Proof.AttnRuns
public import Idealize.ShloMosaic.Lib.VecWindow

@[expose] public section

set_option maxRecDepth 16384

noncomputable section

open Idealize.ShloMosaic Idealize.ShloMosaic.TcCoe

namespace Cert.Kernel3Ideal.Attn

open Cert.Kernel3Ideal Cert.Kernel3Ideal.Gen

section Point
variable (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole)
  (x0 : Vec Ideal S256x128 .bf16) (x1 : Vec Ideal S16384x128 .bf16) (x2 : Vec Ideal S16384x128 .bf16) (x3 : Vec Ideal S256x128 .bf16) (x4 : Vec Ideal S2x256x128 .f32)
  (P : Pair) (X10 X11 : ℕ → ℕ → EReal)

/-- The contents after `n` trips, buffer by buffer, as the loop's invariant names them. -/
def after (T : ℕ → St (F := Ideal) c arg10 arg11 arg12 arg13 arg14 arg15) (n : ℕ) : St (F := Ideal) c arg10 arg11 arg12 arg13 arg14 arg15 :=
  ⟨Nat.rec (motive := fun _ => Buf (Elt Ideal) (arg10.view.loc (c : Thread nD τ))) (T 0).f10 (fun k _ => (T (k + 1)).f10) n,
   Nat.rec (motive := fun _ => Buf (Elt Ideal) (arg11.view.loc (c : Thread nD τ))) (T 0).f11 (fun k _ => (T (k + 1)).f11) n,
   Nat.rec (motive := fun _ => Buf (Elt Ideal) (arg12.view.loc (c : Thread nD τ))) (T 0).f12 (fun k _ => (T (k + 1)).f12) n,
   Nat.rec (motive := fun _ => Buf (Elt Ideal) (arg13.view.loc (c : Thread nD τ))) (T 0).f13 (fun k _ => (T (k + 1)).f13) n,
   Nat.rec (motive := fun _ => Buf (Elt Ideal) (arg14.view.loc (c : Thread nD τ))) (T 0).f14 (fun k _ => (T (k + 1)).f14) n,
   Nat.rec (motive := fun _ => Buf (Elt Ideal) (arg15.view.loc (c : Thread nD τ))) (T 0).f15 (fun k _ => (T (k + 1)).f15) n⟩
theorem after_eq (T : ℕ → St (F := Ideal) c arg10 arg11 arg12 arg13 arg14 arg15) (n : ℕ) : after c arg10 arg11 arg12 arg13 arg14 arg15 T n = T n := by
  cases n <;> rfl

/-- The number of the first block the rows reach. -/
abbrev first : BitVec 32 := firstBlock i (lanes0 (c := c) arg6 (harg6.unread x4)) (lanes1 (c := c) arg6 (harg6.unread x4))
/-- The point's block of queries, and of the result's gradients. -/
abbrev qBlk : Vec Ideal S256x128 .bf16 := (View.readAt (Elt Ideal) arg2.view (Rect.unit (s := S256x128) ![0, 0] S256x128.size inb_S256x128_S256x128_0_0).toLoadRect (harg2.unread x0))
abbrev oBlk : Vec Ideal S256x128 .bf16 := (View.readAt (Elt Ideal) arg5.view (Rect.unit (s := S256x128) ![0, 0] S256x128.size inb_S256x128_S256x128_0_0).toLoadRect (harg5.unread x3))
/-- The keys and the values of the first block. -/
abbrev kFst : Vec Ideal S256x128 .bf16 := View.readAt (Elt Ideal) arg3.view (Rect.unit (s := S16384x128) (k0_off1 (first c i arg6 harg6 x4)) S256x128.size (k0_off1_inb i _ (firstChk i _ _))).toLoadRect (harg3.unread x1)
abbrev vFst : Vec Ideal S256x128 .bf16 := View.readAt (Elt Ideal) arg4.view (Rect.unit (s := S16384x128) (k0_off1 (first c i arg6 harg6 x4)) S256x128.size (k0_off1_inb i _ (firstChk i _ _))).toLoadRect (harg4.unread x2)

/-- What the loop is entered with. -/
def entry (g10 : Buf (Elt Ideal) (arg10.view.loc (c : Thread nD τ))) (g11 : Buf (Elt Ideal) (arg11.view.loc (c : Thread nD τ))) : St (F := Ideal) c arg10 arg11 arg12 arg13 arg14 arg15 :=
  ⟨g10, g11,
   arg12.view.writes (Elt Ideal) arg12.view.junk [⟨Rect.unit (s := S2x256x128) ![0, 0, 0] S2x256x128.size inb_S2x256x128_S2x256x128_0_0_0, (k0_pay88 k0_pay87 : FVec Ideal S2x256x128 .f32)⟩],
   arg13.view.writes (Elt Ideal) arg13.view.junk [⟨Rect.unit (s := S2x256x128) ![0, 0, 0] S2x256x128.size inb_S2x256x128_S2x256x128_0_0_0, (k0_pay89 : FVec Ideal S2x256x128 .f32)⟩],
   arg14.view.writes (Elt Ideal) arg14.view.junk [⟨Rect.unit (s := S2x256x256) ![1, 0, 0] S1x256x256.size inb_S2x256x256_S1x256x256_1_0_0, k0_pay97 (k0_pay94 (k0_pay82 (qBlk arg2 harg2 x0)) (kFst c i arg3 harg3 arg6 harg6 x1 x4))⟩,
     ⟨Rect.unit (s := S2x256x256) ![0, 0, 0] S1x256x256.size inb_S2x256x256_S1x256x256_0_0_0, k0_pay95 (k0_pay93 (k0_pay81 (qBlk arg2 harg2 x0)) (kFst c i arg3 harg3 arg6 harg6 x1 x4))⟩],
   arg15.view.writes (Elt Ideal) arg15.view.junk [⟨Rect.unit (s := S2x256x256) ![1, 0, 0] S1x256x256.size inb_S2x256x256_S1x256x256_1_0_0, k0_pay98 (k0_pay84 (oBlk arg5 harg5 x3)) (k0_pay92 (vFst c i arg4 harg4 arg6 harg6 x2 x4))⟩,
     ⟨Rect.unit (s := S2x256x256) ![0, 0, 0] S1x256x256.size inb_S2x256x256_S1x256x256_0_0_0, k0_pay96 (k0_pay83 (oBlk arg5 harg5 x3)) (k0_pay92 (vFst c i arg4 harg4 arg6 harg6 x2 x4)) (constant S256x256 .f32 0x00000000#32)⟩]⟩

/-- The contents before trip `n` of the point's loop. -/
abbrev trip (g10 : Buf (Elt Ideal) (arg10.view.loc (c : Thread nD τ))) (g11 : Buf (Elt Ideal) (arg11.view.loc (c : Thread nD τ))) (n : ℕ) : St (F := Ideal) c arg10 arg11 arg12 arg13 arg14 arg15 :=
  st c i arg2 harg2 arg3 harg3 arg4 harg4 arg5 harg5 arg6 harg6 arg7 harg7 (Memref.whole main_v49_1) (Memref.isWhole_whole _) (Memref.whole main_v49_2) (Memref.isWhole_whole _) arg10 harg10 arg11 harg11 arg12 harg12 arg13 harg13 arg14 harg14 arg15 harg15 cc0_scratch6 (BitVec.ofNat 32 (i 1).val) laneNo k0_pay75 k0_pay76 (k0_pay81 (qBlk arg2 harg2 x0)) (k0_pay82 (qBlk arg2 harg2 x0)) (k0_pay83 (oBlk arg5 harg5 x3)) (k0_pay84 (oBlk arg5 harg5 x3)) (k0_pay85 (qBlk arg2 harg2 x0)) (k0_pay86 (oBlk arg5 harg5 x3))
    (first c i arg6 harg6 x4) (firstChk i _ _) (k0_pay92 (vFst c i arg4 harg4 arg6 harg6 x2 x4)) (k0_pay93 (k0_pay81 (qBlk arg2 harg2 x0)) (kFst c i arg3 harg3 arg6 harg6 x1 x4)) (k0_pay94 (k0_pay82 (qBlk arg2 harg2 x0)) (kFst c i arg3 harg3 arg6 harg6 x1 x4)) (constant S256x256 .f32 0x00000000#32)
    (harg3.unread x1) (harg4.unread x2) (harg6.unread x4) (entry c i arg2 harg2 arg3 harg3 arg4 harg4 arg5 harg5 arg6 harg6 arg10 arg11 arg12 arg13 arg14 arg15 x0 x1 x2 x3 x4 g10 g11) n

/-- What the block on the diagonal stores in the keys' gradient. -/
def put10 (s : St (F := Ideal) c arg10 arg11 arg12 arg13 arg14 arg15) : List (View.Piece (Elt Ideal) S16384x128 .f32) :=
  let z0 := scores0 arg14 s.f14
  let z1 := scores1 arg14 s.f14
  let a0 := scores0 arg15 s.f15
  let a1 := scores1 arg15 s.f15
  let R0 := lanes0 (c := c) arg6 (harg6.unread x4)
  let R1 := lanes1 (c := c) arg6 (harg6.unread x4)
  let B0 := lanes0 arg13 s.f13
  let B1 := lanes1 arg13 s.f13
  let l0 := k0_pay115 (k0_pay110 z0) (k0_pay111 z0) (k0_pay112 z0) k0_pay113
  let l1 := k0_pay119 z1
  let u1 := k0_pay131 (BitVec.ofNat 32 (i 1).val) laneNo l1 (k0_pay120 rowNo colNo k0_pay75 z1) R1
  let g0 := k0_pay129 (BitVec.ofNat 32 (i 1).val) laneNo rowNo colNo l0 (k0_pay116 rowNo colNo k0_pay75 (k0_pay111 z0) (k0_pay112 z0) k0_pay113) R0 a0
  let e0 := k0_pay130 (BitVec.ofNat 32 (i 1).val) laneNo rowNo colNo k0_pay76 l0 (k0_pay116 rowNo colNo k0_pay75 (k0_pay111 z0) (k0_pay112 z0) k0_pay113) R0 a0
  let g1 := k0_pay134 rowNo colNo u1 a1
  let e1 := k0_pay135 rowNo colNo k0_pay76 u1 a1
  [⟨Rect.unit (s := S16384x128) (k0_off6 i) S256x128.size (k0_off6_inb i), k0_pay144 rowNo colNo (k0_pay85 (qBlk arg2 harg2 x0)) l1 g1 e1 (k0_pay137 rowNo colNo l0 g0 e0 B0) B1
     (View.readAt (Elt Ideal) arg10.view (Rect.unit (s := S16384x128) (k0_off6 i) S256x128.size (k0_off6_inb i)).toLoadRect s.f10)⟩]
/-- And in the values' gradient. -/
def put11 (s : St (F := Ideal) c arg10 arg11 arg12 arg13 arg14 arg15) : List (View.Piece (Elt Ideal) S16384x128 .f32) :=
  let z0 := scores0 arg14 s.f14
  let z1 := scores1 arg14 s.f14
  let a0 := scores0 arg15 s.f15
  let a1 := scores1 arg15 s.f15
  let R0 := lanes0 (c := c) arg6 (harg6.unread x4)
  let R1 := lanes1 (c := c) arg6 (harg6.unread x4)
  let B0 := lanes0 arg13 s.f13
  let B1 := lanes1 arg13 s.f13
  let l0 := k0_pay115 (k0_pay110 z0) (k0_pay111 z0) (k0_pay112 z0) k0_pay113
  let l1 := k0_pay119 z1
  let u1 := k0_pay131 (BitVec.ofNat 32 (i 1).val) laneNo l1 (k0_pay120 rowNo colNo k0_pay75 z1) R1
  let g0 := k0_pay129 (BitVec.ofNat 32 (i 1).val) laneNo rowNo colNo l0 (k0_pay116 rowNo colNo k0_pay75 (k0_pay111 z0) (k0_pay112 z0) k0_pay113) R0 a0
  let e0 := k0_pay130 (BitVec.ofNat 32 (i 1).val) laneNo rowNo colNo k0_pay76 l0 (k0_pay116 rowNo colNo k0_pay75 (k0_pay111 z0) (k0_pay112 z0) k0_pay113) R0 a0
  let g1 := k0_pay134 rowNo colNo u1 a1
  let e1 := k0_pay135 rowNo colNo k0_pay76 u1 a1
  [⟨Rect.unit (s := S16384x128) (k0_off6 i) S256x128.size (k0_off6_inb i), k0_pay146
     (View.readAt (Elt Ideal) arg11.view (Rect.unit (s := S16384x128) (k0_off6 i) S256x128.size (k0_off6_inb i)).toLoadRect s.f11)
     (k0_pay145 (k0_pay86 (oBlk arg5 harg5 x3)) (k0_pay128 (BitVec.ofNat 32 (i 1).val) laneNo rowNo colNo l0 (k0_pay116 rowNo colNo k0_pay75 (k0_pay111 z0) (k0_pay112 z0) k0_pay113) R0) (k0_pay133 rowNo colNo u1))⟩]
/-- And in the query's. -/
def put12 (s : St (F := Ideal) c arg10 arg11 arg12 arg13 arg14 arg15) : List (View.Piece (Elt Ideal) S2x256x128 .f32) :=
  let z0 := scores0 arg14 s.f14
  let z1 := scores1 arg14 s.f14
  let a0 := scores0 arg15 s.f15
  let a1 := scores1 arg15 s.f15
  let R0 := lanes0 (c := c) arg6 (harg6.unread x4)
  let R1 := lanes1 (c := c) arg6 (harg6.unread x4)
  let B0 := lanes0 arg13 s.f13
  let B1 := lanes1 arg13 s.f13
  let l0 := k0_pay115 (k0_pay110 z0) (k0_pay111 z0) (k0_pay112 z0) k0_pay113
  let l1 := k0_pay119 z1
  let u1 := k0_pay131 (BitVec.ofNat 32 (i 1).val) laneNo l1 (k0_pay120 rowNo colNo k0_pay75 z1) R1
  let g0 := k0_pay129 (BitVec.ofNat 32 (i 1).val) laneNo rowNo colNo l0 (k0_pay116 rowNo colNo k0_pay75 (k0_pay111 z0) (k0_pay112 z0) k0_pay113) R0 a0
  let e0 := k0_pay130 (BitVec.ofNat 32 (i 1).val) laneNo rowNo colNo k0_pay76 l0 (k0_pay116 rowNo colNo k0_pay75 (k0_pay111 z0) (k0_pay112 z0) k0_pay113) R0 a0
  let g1 := k0_pay134 rowNo colNo u1 a1
  let e1 := k0_pay135 rowNo colNo k0_pay76 u1 a1
  let kb := k0_pay109 (View.readAt (Elt Ideal) arg3.view (Rect.unit (s := S16384x128) (k0_off6 i) S256x128.size (k0_off6_inb i)).toLoadRect (harg3.unread x1))
  [⟨Rect.unit (s := S2x256x128) ![1, 0, 0] S1x256x128.size inb_S2x256x128_S1x256x128_1_0_0, k0_pay142 rowNo colNo kb l1 g1 e1 B1 (lanes1 arg12 s.f12)⟩,
   ⟨Rect.unit (s := S2x256x128) ![0, 0, 0] S1x256x128.size inb_S2x256x128_S1x256x128_0_0_0, k0_pay138 rowNo colNo kb l0 g0 e0 B0 (lanes0 arg12 s.f12)⟩]
/-- The query gradient's block. -/
def putq (s : St (F := Ideal) c arg10 arg11 arg12 arg13 arg14 arg15) : List (View.Piece (Elt Ideal) S256x128 .f32) :=
  [⟨Rect.unit (s := S256x128) ![0, 0] S256x128.size inb_S256x128_S256x128_0_0, k0_pay151 (cmpi .slt laneNo (broadcast S1x128 64#32))
     (lanes0 (c := c) arg12 (arg12.view.writes (Elt Ideal) arg12.view.junk (put12 c i arg3 harg3 arg6 harg6 arg10 arg11 arg12 arg13 arg14 arg15 x1 x4 s))) (lanes1 (c := c) arg12 (arg12.view.writes (Elt Ideal) arg12.view.junk (put12 c i arg3 harg3 arg6 harg6 arg10 arg11 arg12 arg13 arg14 arg15 x1 x4 s)))⟩]

end Point

end Cert.Kernel3Ideal.Attn

end
-- ==== Proof.AttnOpen.lean ====
/- The attention backward kernel's runs at a point, written out. -/
module

public import proofs.«01_k».proof.Proof.AttnPoint
public import proofs.«01_k».proof.Proof.AttnRunA
public import proofs.«01_k».proof.Proof.AttnRunB
public import proofs.«01_k».proof.Proof.AttnRunC
public import Idealize.ShloMosaic.Lib.VecWindow

@[expose] public section

set_option maxRecDepth 16384

noncomputable section

open Idealize.ShloMosaic Idealize.ShloMosaic.TcCoe

namespace Cert.Kernel3Ideal.Attn

open Cert.Kernel3Ideal Cert.Kernel3Ideal.Gen

section Runs
variable (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole)
  (x0 : Vec Ideal S256x128 .bf16) (x1 : Vec Ideal S16384x128 .bf16) (x2 : Vec Ideal S16384x128 .bf16) (x3 : Vec Ideal S256x128 .bf16) (x4 : Vec Ideal S2x256x128 .f32) (xs0 : Vec Ideal S16384x128 .f32) (xs1 : Vec Ideal S16384x128 .f32) (fw0 : HbBuf0 (F := Ideal) c hbM0_0) (fw1 : HbBuf0 (F := Ideal) c hbM0_1)
  (P : Pair) (X10 X11 : ℕ → ℕ → EReal)

theorem runA_q (hc0 : cond0_0 i) (hc1 : ¬cond0_1 i) : (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).1 = putq c i arg3 harg3 arg6 harg6 arg10 arg11 arg12 arg13 arg14 arg15 x1 x4 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (k0_t1_loop i (first c i arg6 harg6 x4)).trips) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩])) (k0_t1_loop i (first c i arg6 harg6 x4)).trips]
  sl_kernel_rfl
theorem runA_k (hc0 : cond0_0 i) (hc1 : ¬cond0_1 i) : (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).2.1 = arg10.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (k0_t1_loop i (first c i arg6 harg6 x4)).trips).f10 (put10 c i arg2 harg2 arg6 harg6 arg10 arg11 arg12 arg13 arg14 arg15 x0 x4 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩])) (k0_t1_loop i (first c i arg6 harg6 x4)).trips]
  sl_kernel_rfl
theorem runA_v (hc0 : cond0_0 i) (hc1 : ¬cond0_1 i) : (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).2.2.1 = arg11.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (k0_t1_loop i (first c i arg6 harg6 x4)).trips).f11 (put11 c i arg5 harg5 arg6 harg6 arg10 arg11 arg12 arg13 arg14 arg15 x3 x4 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩])) (k0_t1_loop i (first c i arg6 harg6 x4)).trips]
  sl_kernel_rfl
theorem runB_q (hc0 : ¬cond0_0 i) (hc1 : ¬cond0_1 i) : (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).1 = putq c i arg3 harg3 arg6 harg6 arg10 arg11 arg12 arg13 arg14 arg15 x1 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl
theorem runB_k (hc0 : ¬cond0_0 i) (hc1 : ¬cond0_1 i) : (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1 = arg10.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips).f10 (put10 c i arg2 harg2 arg6 harg6 arg10 arg11 arg12 arg13 arg14 arg15 x0 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl
theorem runB_v (hc0 : ¬cond0_0 i) (hc1 : ¬cond0_1 i) : (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1 = arg11.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips).f11 (put11 c i arg5 harg5 arg6 harg6 arg10 arg11 arg12 arg13 arg14 arg15 x3 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl
theorem runC_q (hc0 : ¬cond0_0 i) (hc1 : cond0_1 i) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).1 = putq c i arg3 harg3 arg6 harg6 arg10 arg11 arg12 arg13 arg14 arg15 x1 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl
theorem runC_k (hc0 : ¬cond0_0 i) (hc1 : cond0_1 i) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1 = arg10.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips).f10 (put10 c i arg2 harg2 arg6 harg6 arg10 arg11 arg12 arg13 arg14 arg15 x0 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl
theorem runC_v (hc0 : ¬cond0_0 i) (hc1 : cond0_1 i) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1 = arg11.view.writes (Elt Ideal) (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips).f11 (put11 c i arg5 harg5 arg6 harg6 arg10 arg11 arg12 arg13 arg14 arg15 x3 x4 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1) (k0_t1_loop i (first c i arg6 harg6 x4)).trips)) := by
  rw [← after_eq c arg10 arg11 arg12 arg13 arg14 arg15 (trip c i arg2 harg2 arg3 harg3 arg4 harg4 arg5 harg5 arg6 harg6 arg7 harg7 arg10 harg10 arg11 harg11 arg12 harg12 arg13 harg13 arg14 harg14 arg15 harg15 x0 x1 x2 x3 x4 (harg10.unread xs0) (harg11.unread xs1)) (k0_t1_loop i (first c i arg6 harg6 x4)).trips]
  sl_kernel_rfl

end Runs

end Cert.Kernel3Ideal.Attn

end
-- ==== Proof.AttnPointValue.lean ====
/- What a point of the attention backward kernel leaves, as the gradients of its block of queries. -/
module

public import proofs.«01_k».proof.Proof.AttnPoint
public import Idealize.ShloMosaic.Lib.WholeRead

@[expose] public section

set_option maxRecDepth 16384
set_option maxHeartbeats 4000000

noncomputable section

open Idealize.ShloMosaic Idealize.ShloMosaic.TcCoe

namespace Cert.Kernel3Ideal.Attn

open Cert.Kernel3Ideal Cert.Kernel3Ideal.Gen

/-- The first block's rows start at row zero. -/
theorem row0 (i : grid0.Coords) (v : BitVec 32) (h : v = 0#32) : (k0_off1 v) = (![256 * 0, 0] : Fin 2 → ℕ) := by
  subst h; exact off1_row i _ (by simp)

section Point
variable (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole)
  (x0 : Vec Ideal S256x128 .bf16) (x1 : Vec Ideal S16384x128 .bf16) (x2 : Vec Ideal S16384x128 .bf16) (x3 : Vec Ideal S256x128 .bf16) (x4 : Vec Ideal S2x256x128 .f32)
  (P : Pair) (X10 X11 : ℕ → ℕ → EReal)

/-- The point's blocks are those of the pair of heads. -/
structure Blocks : Prop where
  q : ∀ (r : Fin 256) (d : Fin 128), x0 (ix2 r d) = P.Q (256 * (i 1).val + r.val) d.val
  k : ∀ (j : Fin 16384) (d : Fin 128), x1 (ix2 j d) = P.K j.val d.val
  v : ∀ (j : Fin 16384) (d : Fin 128), x2 (ix2 j d) = P.V j.val d.val
  o : ∀ (r : Fin 256) (d : Fin 128), x3 (ix2 r d) = P.O (256 * (i 1).val + r.val) d.val
  s : ∀ (h : Fin 2) (r : Fin 256) (l : Fin 128), x4 (ix3 h r l) = P.R h (256 * (i 1).val + r.val) l.val

theorem whole_idx (y : S256x128.Idx) : (Rect.unit (s := S256x128) ![0, 0] S256x128.size inb_S256x128_S256x128_0_0).toLoadRect.idx y = y :=
  Shape.idx_ext₂ (by show 0 + 1 * (y 0).val = (y 0).val; omega) (by show 0 + 1 * (y 1).val = (y 1).val; omega)
theorem qBlk_eq (y : S256x128.Idx) : qBlk arg2 harg2 x0 y = x0 y :=
  (Memref.IsWhole.readAt_unread harg2 x0 (Rect.unit (s := S256x128) ![0, 0] S256x128.size inb_S256x128_S256x128_0_0).toLoadRect y).trans (congrArg x0 (whole_idx y))
theorem oBlk_eq (y : S256x128.Idx) : oBlk arg5 harg5 x3 y = x3 y :=
  (Memref.IsWhole.readAt_unread harg5 x3 (Rect.unit (s := S256x128) ![0, 0] S256x128.size inb_S256x128_S256x128_0_0).toLoadRect y).trans (congrArg x3 (whole_idx y))

variable (B : Blocks i x0 x1 x2 x3 x4 P) (hf : (first c i arg6 harg6 x4) = 0#32)
include c arg2 harg2 arg3 harg3 arg4 harg4 arg5 harg5 arg6 harg6 arg7 harg7 arg10 harg10 arg11 harg11 arg12 harg12 arg13 harg13 arg14 harg14 arg15 harg15 X10 X11
include B

theorem given : Given c arg3 arg4 arg6 (k0_pay81 (qBlk arg2 harg2 x0)) (k0_pay82 (qBlk arg2 harg2 x0)) (k0_pay83 (oBlk arg5 harg5 x3)) (k0_pay84 (oBlk arg5 harg5 x3)) (k0_pay85 (qBlk arg2 harg2 x0)) (k0_pay86 (oBlk arg5 harg5 x3)) (harg3.unread x1) (harg4.unread x2) (harg6.unread x4) P (i 1).val :=
  { q0 := fun r d => by rw [H81, qBlk_eq, B.q]
    q1 := fun r d => by rw [H82, qBlk_eq, B.q]
    o0 := fun r d => by rw [H83, oBlk_eq, B.o]
    o1 := fun r d => by rw [H84, oBlk_eq, B.o]
    ql := fun r d => by rw [p85_lo, H81, qBlk_eq, B.q]
    qh := fun r d => by rw [p85_hi, H82, qBlk_eq, B.q]
    ol := fun r d => by rw [p86_lo, H83, oBlk_eq, B.o]
    oh := fun r d => by rw [p86_hi, H84, oBlk_eq, B.o]
    k := fun j d => by rw [harg3.read_unread]; exact B.k j d
    v := fun j d => by rw [harg4.read_unread]; exact B.v j d
    s := fun h r l => by rw [harg6.read_unread]; exact B.s h r l }

include hf
/-- The number of trips is the number of the query's block. -/
theorem trip_count : (k0_t1_loop i (first c i arg6 harg6 x4)).trips = (i 1).val := by
  rw [trips1 i _ (by rw [hf]; simp), hf]; rfl

variable (g10 : Buf (Elt Ideal) (arg10.view.loc (c : Thread nD τ))) (g11 : Buf (Elt Ideal) (arg11.view.loc (c : Thread nD τ)))
  (h10 : ∀ (j : Fin 16384) (d : Fin 128), arg10.view.read (Elt Ideal) g10 (ix2 j d) = X10 j.val d.val)
  (h11 : ∀ (j : Fin 16384) (d : Fin 128), arg11.view.read (Elt Ideal) g11 (ix2 j d) = X11 j.val d.val)

theorem kFst_eq (r : Fin 256) (d : Fin 128) : (kFst c i arg3 harg3 arg6 harg6 x1 x4) (ix2 r d) = P.K (256 * 0 + r.val) d.val := by
  unfold kFst; rw [rows_apply (c := c) r d arg3 (harg3.unread x1) _ _ 0 (by omega) (row0 i _ hf), harg3.read_unread]
  exact B.k _ d
theorem vFst_eq (r : Fin 256) (d : Fin 128) : (vFst c i arg4 harg4 arg6 harg6 x2 x4) (ix2 r d) = P.V (256 * 0 + r.val) d.val := by
  unfold vFst; rw [rows_apply (c := c) r d arg4 (harg4.unread x2) _ _ 0 (by omega) (row0 i _ hf), harg4.read_unread]
  exact B.v _ d

include h10 h11

theorem entry_holds : Holds c arg10 arg11 arg12 arg13 arg14 arg15 P X10 X11 (i 1).val 0 (entry c i arg2 harg2 arg3 harg3 arg4 harg4 arg5 harg5 arg6 harg6 arg10 arg11 arg12 arg13 arg14 arg15 x0 x1 x2 x3 x4 g10 g11) := by
  have G := given c i arg2 harg2 arg3 harg3 arg4 harg4 arg5 harg5 arg6 harg6 arg7 harg7 arg10 harg10 arg11 harg11 arg12 harg12 arg13 harg13 arg14 harg14 arg15 harg15 x0 x1 x2 x3 x4 P X10 X11 B
  refine ⟨fun j d => ?_, fun j d => ?_, fun h r d => ?_, fun h r d => ?_, fun h r x => ?_, fun h r x => ?_⟩
  · rw [if_neg (Nat.not_lt_zero _), add_zero]; exact h10 j d
  · rw [if_neg (Nat.not_lt_zero _), add_zero]; exact h11 j d
  · show arg12.view.read (Elt Ideal) (arg12.view.writes (Elt Ideal) arg12.view.junk _) _ = _
    refine (congrFun (View.read_writes_full arg12.view arg12.view.junk _ _ _) (ix3 h r d)).trans ?_
    rw [show P.dq h (256 * (i 1).val + r.val) 0 d.val = 0 from Finset.sum_range_zero _]
    pointwise [k0_pay88, k0_pay87]
  · show arg13.view.read (Elt Ideal) (arg13.view.writes (Elt Ideal) arg13.view.junk _) _ = _
    refine (congrFun (View.read_writes_full arg13.view arg13.view.junk _ _ _) (ix3 h r d)).trans ?_
    rw [show P.before h (256 * (i 1).val + r.val) 0 = 0 from Finset.sum_range_zero _]
    pointwise [k0_pay89]
  · show arg14.view.read (Elt Ideal) (arg14.view.writes (Elt Ideal) arg14.view.junk _) _ = _
    refine (scores_put (c := c) r x arg14 _ h _ _).trans ?_
    by_cases hh : h = 0
    · subst hh
      rw [if_pos rfl, p93]
      exact Finset.sum_congr rfl fun d _ => by rw [G.q0, kFst_eq c i arg2 harg2 arg3 harg3 arg4 harg4 arg5 harg5 arg6 harg6 arg7 harg7 arg10 harg10 arg11 harg11 arg12 harg12 arg13 harg13 arg14 harg14 arg15 harg15 x0 x1 x2 x3 x4 P X10 X11 B hf]
    · obtain rfl : h = 1 := by omega
      rw [if_neg hh, p94]
      exact Finset.sum_congr rfl fun d _ => by rw [G.q1, kFst_eq c i arg2 harg2 arg3 harg3 arg4 harg4 arg5 harg5 arg6 harg6 arg7 harg7 arg10 harg10 arg11 harg11 arg12 harg12 arg13 harg13 arg14 harg14 arg15 harg15 x0 x1 x2 x3 x4 P X10 X11 B hf]
  · show arg15.view.read (Elt Ideal) (arg15.view.writes (Elt Ideal) arg15.view.junk _) _ = _
    refine (scores_put (c := c) r x arg15 _ h _ _).trans ?_
    by_cases hh : h = 0
    · subst hh
      rw [if_pos rfl, p96]
      exact Finset.sum_congr rfl fun d _ => by rw [G.o0, vFst_eq c i arg2 harg2 arg3 harg3 arg4 harg4 arg5 harg5 arg6 harg6 arg7 harg7 arg10 harg10 arg11 harg11 arg12 harg12 arg13 harg13 arg14 harg14 arg15 harg15 x0 x1 x2 x3 x4 P X10 X11 B hf]
    · obtain rfl : h = 1 := by omega
      rw [if_neg hh, p98]
      exact Finset.sum_congr rfl fun d _ => by rw [G.o1, vFst_eq c i arg2 harg2 arg3 harg3 arg4 harg4 arg5 harg5 arg6 harg6 arg7 harg7 arg10 harg10 arg11 harg11 arg12 harg12 arg13 harg13 arg14 harg14 arg15 harg15 x0 x1 x2 x3 x4 P X10 X11 B hf]

theorem trip_holds : Holds c arg10 arg11 arg12 arg13 arg14 arg15 P X10 X11 (i 1).val (i 1).val (trip c i arg2 harg2 arg3 harg3 arg4 harg4 arg5 harg5 arg6 harg6 arg7 harg7 arg10 harg10 arg11 harg11 arg12 harg12 arg13 harg13 arg14 harg14 arg15 harg15 x0 x1 x2 x3 x4 g10 g11 (k0_t1_loop i (first c i arg6 harg6 x4)).trips) := by
  rw [trip_count c i arg2 harg2 arg3 harg3 arg4 harg4 arg5 harg5 arg6 harg6 arg7 harg7 arg10 harg10 arg11 harg11 arg12 harg12 arg13 harg13 arg14 harg14 arg15 harg15 x0 x1 x2 x3 x4 P X10 X11 B hf]
  exact st_holds (i := i) (hw := firstChk i _ _) (h0 := hf) (G := given c i arg2 harg2 arg3 harg3 arg4 harg4 arg5 harg5 arg6 harg6 arg7 harg7 arg10 harg10 arg11 harg11 arg12 harg12 arg13 harg13 arg14 harg14 arg15 harg15 x0 x1 x2 x3 x4 P X10 X11 B) (H := entry_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf g10 g11 h10 h11) (n := (i 1).val) (hn := le_rfl) ..

omit h10 h11 hf

variable (s : St (F := Ideal) c arg10 arg11 arg12 arg13 arg14 arg15) (H : Holds c arg10 arg11 arg12 arg13 arg14 arg15 P X10 X11 (i 1).val (i 1).val s)
include H

theorem ready : Ready P (i 1).val (i 1).val (scores0 arg14 s.f14) (scores1 arg14 s.f14) (scores0 arg15 s.f15) (scores1 arg15 s.f15) (lanes0 (c := c) arg6 (harg6.unread x4)) (lanes1 (c := c) arg6 (harg6.unread x4))
      (lanes0 arg13 s.f13) (lanes1 arg13 s.f13)
      (View.readAt (Elt Ideal) arg3.view (Rect.unit (s := S16384x128) (k0_off6 i) S256x128.size (k0_off6_inb i)).toLoadRect (harg3.unread x1))
      (fun x => P.Q (256 * (i 1).val + (x 0).val) (x 1).val) (fun x => P.O (256 * (i 1).val + (x 0).val) (x 1).val) := by
  have G := given c i arg2 harg2 arg3 harg3 arg4 harg4 arg5 harg5 arg6 harg6 arg7 harg7 arg10 harg10 arg11 harg11 arg12 harg12 arg13 harg13 arg14 harg14 arg15 harg15 x0 x1 x2 x3 x4 P X10 X11 B
  have h1 := lt1 i
  exact
    { z0 := fun r x => (scores0_apply r x _ _).trans (H.f14 0 r x)
      z1 := fun r x => (scores1_apply r x _ _).trans (H.f14 1 r x)
      a0 := fun r x => (scores0_apply r x _ _).trans (H.f15 0 r x)
      a1 := fun r x => (scores1_apply r x _ _).trans (H.f15 1 r x)
      R0 := fun r x => (lanes0_apply r x _ _).trans (G.s 0 r x)
      R1 := fun r x => (lanes1_apply r x _ _).trans (G.s 1 r x)
      B0 := fun r x => (lanes0_apply r x _ _).trans (H.f13 0 r x)
      B1 := fun r x => (lanes1_apply r x _ _).trans (H.f13 1 r x)
      K := fun r d => (rows_apply (c := c) r d arg3 _ _ _ (i 1).val (by omega) (off6_row i)).trans (G.k _ d)
      Q := fun r d => rfl
      O := fun r d => rfl }

/-- The keys' gradient after the block on the diagonal. -/
theorem put10_holds (j : Fin 16384) (d : Fin 128) :
    arg10.view.read (Elt Ideal) (arg10.view.writes (Elt Ideal) s.f10 (put10 c i arg2 harg2 arg6 harg6 arg10 arg11 arg12 arg13 arg14 arg15 x0 x4 s)) (ix2 j d) = X10 j.val d.val + if j.val / 256 ≤ (i 1).val then P.dk (i 1).val j.val d.val else 0 := by
  have G := given c i arg2 harg2 arg3 harg3 arg4 harg4 arg5 harg5 arg6 harg6 arg7 harg7 arg10 harg10 arg11 harg11 arg12 harg12 arg13 harg13 arg14 harg14 arg15 harg15 x0 x1 x2 x3 x4 P X10 X11 B
  have R := ready c i arg2 harg2 arg3 harg3 arg4 harg4 arg5 harg5 arg6 harg6 arg7 harg7 arg10 harg10 arg11 harg11 arg12 harg12 arg13 harg13 arg14 harg14 arg15 harg15 x0 x1 x2 x3 x4 P X10 X11 B s H
  have h1 := lt1 i
  have hb : (i 1).val < 128 := by omega
  refine (rows_put d arg10 s.f10 _ _ (i 1).val (off6_row i) _ j).trans ?_
  by_cases hj : j.val / 256 = (i 1).val
  · rw [if_pos hj, if_pos (by omega), p144, rows_apply _ _ _ _ _ _ (i 1).val (by omega) (off6_row i), H.f10]
    have e : 256 * (i 1).val + j.val % 256 = j.val := by omega
    simp only [dZ0 hb _ _ R, dZ1 hb _ _ R, G.ql, G.qh, e]
    rw [if_neg (by omega), add_zero]; rfl
  · rw [if_neg hj, H.f10]
    exact congrArg (X10 j.val d.val + ·) (if_congr (by omega) rfl rfl)
/-- The values' gradient after it. -/
theorem put11_holds (j : Fin 16384) (d : Fin 128) :
    arg11.view.read (Elt Ideal) (arg11.view.writes (Elt Ideal) s.f11 (put11 c i arg5 harg5 arg6 harg6 arg10 arg11 arg12 arg13 arg14 arg15 x3 x4 s)) (ix2 j d) = X11 j.val d.val + if j.val / 256 ≤ (i 1).val then P.dv (i 1).val j.val d.val else 0 := by
  have G := given c i arg2 harg2 arg3 harg3 arg4 harg4 arg5 harg5 arg6 harg6 arg7 harg7 arg10 harg10 arg11 harg11 arg12 harg12 arg13 harg13 arg14 harg14 arg15 harg15 x0 x1 x2 x3 x4 P X10 X11 B
  have R := ready c i arg2 harg2 arg3 harg3 arg4 harg4 arg5 harg5 arg6 harg6 arg7 harg7 arg10 harg10 arg11 harg11 arg12 harg12 arg13 harg13 arg14 harg14 arg15 harg15 x0 x1 x2 x3 x4 P X10 X11 B s H
  have h1 := lt1 i
  have hb : (i 1).val < 128 := by omega
  refine (rows_put d arg11 s.f11 _ _ (i 1).val (off6_row i) _ j).trans ?_
  by_cases hj : j.val / 256 = (i 1).val
  · rw [if_pos hj, if_pos (by omega), p146, p145, rows_apply _ _ _ _ _ _ (i 1).val (by omega) (off6_row i), H.f11]
    have e : 256 * (i 1).val + j.val % 256 = j.val := by omega
    simp only [p128, p133, dA0 hb _ _ R, dA1 hb _ _ R, G.ol, G.oh, e]
    rw [if_neg (by omega), add_zero]; rfl
  · rw [if_neg hj, H.f11]
    exact congrArg (X11 j.val d.val + ·) (if_congr (by omega) rfl rfl)
/-- The query's gradient after it. -/
theorem put12_holds (f : Buf (Elt Ideal) (arg12.view.loc (c : Thread nD τ))) (h : Fin 2) (r : Fin 256) (d : Fin 128) :
    arg12.view.read (Elt Ideal) (arg12.view.writes (Elt Ideal) f (put12 c i arg3 harg3 arg6 harg6 arg10 arg11 arg12 arg13 arg14 arg15 x1 x4 s)) (ix3 h r d) = P.dq h (256 * (i 1).val + r.val) ((i 1).val + 1) d.val := by
  have R := ready c i arg2 harg2 arg3 harg3 arg4 harg4 arg5 harg5 arg6 harg6 arg7 harg7 arg10 harg10 arg11 harg11 arg12 harg12 arg13 harg13 arg14 harg14 arg15 harg15 x0 x1 x2 x3 x4 P X10 X11 B s H
  have h1 := lt1 i
  have hb : (i 1).val < 128 := by omega
  refine (lanes_put (c := c) r d arg12 f h _ _).trans ?_
  rw [← P.dq_block]
  by_cases hh : h = 0
  · subst hh
    rw [if_pos rfl, p138, lanes0_apply, H.f12]
    exact congrArg (_ + ·) (Finset.sum_congr rfl fun x _ => by rw [dZ0 hb _ _ R, p109, R.K])
  · obtain rfl : h = 1 := by omega
    rw [if_neg hh, p142, lanes1_apply, H.f12]
    exact congrArg (_ + ·) (Finset.sum_congr rfl fun x _ => by rw [dZ1 hb _ _ R, p109, R.K])
theorem putq_holds (v : View sig .tc .vmem S256x128 .f32) (f : v.ty.Contents (Elt Ideal)) (r : Fin 256) (d : Fin 128) :
    v.read (Elt Ideal) (v.writes (Elt Ideal) f (putq c i arg3 harg3 arg6 harg6 arg10 arg11 arg12 arg13 arg14 arg15 x1 x4 s)) (ix2 r d)
      = if d.val < 64 then P.dq 0 (256 * (i 1).val + r.val) ((i 1).val + 1) d.val else P.dq 1 (256 * (i 1).val + r.val) ((i 1).val + 1) d.val := by
  refine (congrFun (View.read_writes_full v f _ _ _) (ix2 r d)).trans ?_
  rw [p151, lanes0_apply, lanes1_apply, put12_holds c i arg2 harg2 arg3 harg3 arg4 harg4 arg5 harg5 arg6 harg6 arg7 harg7 arg10 harg10 arg11 harg11 arg12 harg12 arg13 harg13 arg14 harg14 arg15 harg15 x0 x1 x2 x3 x4 P X10 X11 B s H, put12_holds c i arg2 harg2 arg3 harg3 arg4 harg4 arg5 harg5 arg6 harg6 arg7 harg7 arg10 harg10 arg11 harg11 arg12 harg12 arg13 harg13 arg14 harg14 arg15 harg15 x0 x1 x2 x3 x4 P X10 X11 B s H]

end Point

end Cert.Kernel3Ideal.Attn

end
-- ==== Proof.AttnZero.lean ====
/- No block of keys is skipped when the sums beyond the blocks are numbers. -/
module

public import proofs.«01_k».proof.Proof.AttnPoint
public import Idealize.ShloMosaic.Lib.WholeRead
public import Idealize.ShloMosaic.PureOps.Ideal.Laws

@[expose] public section

set_option maxRecDepth 16384

noncomputable section

open Idealize.ShloMosaic Idealize.ShloMosaic.TcCoe

namespace Cert.Kernel3Ideal.Attn

open Cert.Kernel3Ideal Cert.Kernel3Ideal.Gen

theorem mark_zero (i : grid0.Coords) (x y : Vec Ideal S1x256x128 .f32) (hx : ∀ l : Fin 128, x (ix3 0 0 l) ≠ ⊤) (j : S1x1x128.Idx) :
    (mark (BitVec.ofNat 32 (i 1).val) x y j).toNat = 0 := by
  have h : ¬ ((Named.named (F := Ideal) (φ := .f32) κ "far" 1126170624#32 : EReal) ≤
      Finset.fold min (Ideal.ofBits FTy.f32 2139095040#32) (fun r : Fin 256 => min (x (ix3 0 r (j 2))) (y (ix3 0 r (j 2)))) Finset.univ) := by
    intro h
    have h1 : (Named.named (F := Ideal) (φ := .f32) κ "far" 1126170624#32 : EReal) = ⊤ := rfl
    rw [h1] at h
    exact hx (j 2) (top_le_iff.mp (h.trans ((Finset.fold_min_le _).mpr (Or.inr ⟨0, Finset.mem_univ _, min_le_left _ _⟩))))
  unfold mark
  pointwise
  rw [decide_eq_false h]
  show (Scalar.select (_ &&& 0#1) 1#32 0#32).toNat = 0
  rw [BitVec.and_zero]; rfl

theorem firstBlock_zero (i : grid0.Coords) (x y : Vec Ideal S1x256x128 .f32) (hx : ∀ l : Fin 128, x (ix3 0 0 l) ≠ ⊤) :
    firstBlock i x y = 0#32 := by
  have hs : ∀ S : Finset S1x1x128.Idx, ∑ j ∈ S, (mark (BitVec.ofNat 32 (i 1).val) x y j).toNat = 0 :=
    fun S => Finset.sum_eq_zero fun j _ => mark_zero i x y hx j
  apply BitVec.eq_of_toNat_eq
  show (shapeCast S1x1x1 (multiReductionI .add [1, 2] S1 (mark (BitVec.ofNat 32 (i 1).val) x y) 0#32 reduces_S1x1x128_S1 rfl) shapeCasts_S1_S1x1x1 _).toNat = 0
  exact (WordSum.toNat_multiReductionI_add (mark (BitVec.ofNat 32 (i 1).val) x y) reduces_S1x1x128_S1 rfl _ (by rw [hs]; decide)).trans (hs _)

theorem first_zero (c : Dev nD) (i : grid0.Coords) (arg6 : Memref sig .tc .vmem S2x256x128 .f32) (harg6 : arg6.IsWhole) (x4 : Vec Ideal S2x256x128 .f32)
    (hx : ∀ l : Fin 128, x4 (ix3 0 0 l) ≠ ⊤) : first c i arg6 harg6 x4 = 0#32 := by
  refine firstBlock_zero i _ _ fun l => ?_
  rw [lanes0_apply, harg6.read_unread]
  exact hx l

end Cert.Kernel3Ideal.Attn

end
-- ==== Proof.AttnLeaves.lean ====
/- What a point of the attention backward kernel leaves: the gradients of its queries, the accumulated gradients of the keys
   and values, and, at a head pair's last point, the copy of these into the results. -/
module

public import proofs.«01_k».proof.Proof.AttnOpen
public import proofs.«01_k».proof.Proof.AttnPointValue
public import proofs.«01_k».proof.Proof.AttnZero

@[expose] public section

set_option maxRecDepth 16384
set_option maxHeartbeats 4000000

noncomputable section

open Idealize.ShloMosaic Idealize.ShloMosaic.TcCoe

namespace Cert.Kernel3Ideal.Attn

open Cert.Kernel3Ideal Cert.Kernel3Ideal.Gen

/-- The copy of an accumulator into a head pair's columns of the result. -/
theorem copiedk (i : grid0.Coords) (hc1 : cond0_1 i) (f : main_v49_1.ty.Contents (Elt Ideal)) (w : S16384x128.Idx → EReal) (j : Fin 16384) (x : Fin 1024) :
    View.write (Elt Ideal) ((Memref.whole main_v49_1 : Memref sig .tc .hbm S16384x1024 .f32).slice (Rect.unit (s := S16384x1024) (k0_off8 i) S16384x128.size (k0_off8_inb i hc1)) (fun _ => rfl)).view f w Finset.univ (ix2 j x)
      = if x.val / 128 = (i 0).val then w (ix2 j ⟨x.val % 128, Nat.mod_lt _ (by decide)⟩) else f (ix2 j x) := by
  have ho := off8_col i
  have e0 : k0_off8 i 0 = 0 := congrFun ho 0
  have e1 : k0_off8 i 1 = 128 * (i 0).val := congrFun ho 1
  by_cases h : x.val / 128 = (i 0).val
  · rw [if_pos h]
    have e : ((Memref.whole main_v49_1 : Memref sig .tc .hbm S16384x1024 .f32).slice (Rect.unit (s := S16384x1024) (k0_off8 i) S16384x128.size (k0_off8_inb i hc1)) (fun _ => rfl)).view.emb (ix2 j ⟨x.val % 128, Nat.mod_lt _ (by decide)⟩) = ix2 j x :=
      Shape.idx_ext₂ (by show k0_off8 i 0 + 1 * j.val = j.val; omega) (by show k0_off8 i 1 + 1 * (x.val % 128) = x.val; omega)
    rw [← e]
    exact View.write_emb_of_mem _ _ (Finset.mem_univ _)
  · rw [if_neg h]
    refine View.write_of_not_mem _ _ _ ?_
    intro hm
    have hm' : ix2 j x ∈ ((View.whole main_v49_1).slice (Rect.unit (s := S16384x1024) (k0_off8 i) S16384x128.size (k0_off8_inb i hc1))).set := by rw [View.setOn_univ] at hm; exact hm
    rw [View.set_slice_whole, Rect.mem_set_unit] at hm'
    have := hm' 1
    have h2 : k0_off8 i 1 ≤ x.val ∧ x.val < k0_off8 i 1 + 128 := this
    omega

/-- The copy of an accumulator into a head pair's columns of the result. -/
theorem copiedv (i : grid0.Coords) (hc1 : cond0_1 i) (f : main_v49_2.ty.Contents (Elt Ideal)) (w : S16384x128.Idx → EReal) (j : Fin 16384) (x : Fin 1024) :
    View.write (Elt Ideal) ((Memref.whole main_v49_2 : Memref sig .tc .hbm S16384x1024 .f32).slice (Rect.unit (s := S16384x1024) (k0_off8 i) S16384x128.size (k0_off8_inb i hc1)) (fun _ => rfl)).view f w Finset.univ (ix2 j x)
      = if x.val / 128 = (i 0).val then w (ix2 j ⟨x.val % 128, Nat.mod_lt _ (by decide)⟩) else f (ix2 j x) := by
  have ho := off8_col i
  have e0 : k0_off8 i 0 = 0 := congrFun ho 0
  have e1 : k0_off8 i 1 = 128 * (i 0).val := congrFun ho 1
  by_cases h : x.val / 128 = (i 0).val
  · rw [if_pos h]
    have e : ((Memref.whole main_v49_2 : Memref sig .tc .hbm S16384x1024 .f32).slice (Rect.unit (s := S16384x1024) (k0_off8 i) S16384x128.size (k0_off8_inb i hc1)) (fun _ => rfl)).view.emb (ix2 j ⟨x.val % 128, Nat.mod_lt _ (by decide)⟩) = ix2 j x :=
      Shape.idx_ext₂ (by show k0_off8 i 0 + 1 * j.val = j.val; omega) (by show k0_off8 i 1 + 1 * (x.val % 128) = x.val; omega)
    rw [← e]
    exact View.write_emb_of_mem _ _ (Finset.mem_univ _)
  · rw [if_neg h]
    refine View.write_of_not_mem _ _ _ ?_
    intro hm
    have hm' : ix2 j x ∈ ((View.whole main_v49_2).slice (Rect.unit (s := S16384x1024) (k0_off8 i) S16384x128.size (k0_off8_inb i hc1))).set := by rw [View.setOn_univ] at hm; exact hm
    rw [View.set_slice_whole, Rect.mem_set_unit] at hm'
    have := hm' 1
    have h2 : k0_off8 i 1 ≤ x.val ∧ x.val < k0_off8 i 1 + 128 := this
    omega

section Runs
variable (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S256x128 .f32) (harg7 : arg7.IsWhole) (arg10 : Memref sig .tc .vmem S16384x128 .f32) (harg10 : arg10.IsWhole) (arg11 : Memref sig .tc .vmem S16384x128 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x256 .f32) (harg14 : arg14.IsWhole) (arg15 : Memref sig .tc .vmem S2x256x256 .f32) (harg15 : arg15.IsWhole)
  (x0 : Vec Ideal S256x128 .bf16) (x1 : Vec Ideal S16384x128 .bf16) (x2 : Vec Ideal S16384x128 .bf16) (x3 : Vec Ideal S256x128 .bf16) (x4 : Vec Ideal S2x256x128 .f32) (xs0 : Vec Ideal S16384x128 .f32) (xs1 : Vec Ideal S16384x128 .f32) (fw0 : HbBuf0 (F := Ideal) c hbM0_0) (fw1 : HbBuf0 (F := Ideal) c hbM0_1)
  (P : Pair) (X10 X11 : ℕ → ℕ → EReal)

/-- The query gradients a point leaves. -/
def LeavesQ (L : List (View.Piece (Elt Ideal) S256x128 .f32)) : Prop :=
  ∀ (v : View sig .tc .vmem S256x128 .f32) (f : v.ty.Contents (Elt Ideal)) (r : Fin 256) (d : Fin 128),
    v.read (Elt Ideal) (v.writes (Elt Ideal) f L) (ix2 r d)
      = if d.val < 64 then P.dq 0 (256 * (i 1).val + r.val) ((i 1).val + 1) d.val else P.dq 1 (256 * (i 1).val + r.val) ((i 1).val + 1) d.val

theorem zeros_read (v : View sig .tc .vmem S16384x128 .f32) (j : Fin 16384) (d : Fin 128) :
    v.read (Elt Ideal) (v.writes (Elt Ideal) v.junk [⟨Rect.unit (s := S16384x128) ![0, 0] S16384x128.size inb_S16384x128_S16384x128_0_0, (k0_pay73 : FVec Ideal S16384x128 .f32)⟩]) (ix2 j d) = 0 := by
  refine (congrFun (View.read_writes_full v v.junk _ _ _) (ix2 j d)).trans ?_
  pointwise [k0_pay73]

variable (B : Blocks i x0 x1 x2 x3 x4 P) (hf : (first c i arg6 harg6 x4) = 0#32)

include B hf in
theorem runA_leaves_q (hc0 : cond0_0 i) (hc1 : ¬cond0_1 i) : LeavesQ i P (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).1 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B hf (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (fun j d => zeros_read _ j d) (fun j d => zeros_read _ j d)
  intro v f r d
  rw [runA_q]
  exact putq_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B _ H v f r d
include B hf in
theorem runA_leaves_k (hc0 : cond0_0 i) (hc1 : ¬cond0_1 i) (j : Fin 16384) (d : Fin 128) : arg10.view.read (Elt Ideal) (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).2.1 (ix2 j d) = if j.val / 256 ≤ (i 1).val then P.dk (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B hf (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (fun j d => zeros_read _ j d) (fun j d => zeros_read _ j d)
  rw [runA_k]
  exact (put10_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B _ H j d).trans (zero_add _)
include B hf in
theorem runA_leaves_v (hc0 : cond0_0 i) (hc1 : ¬cond0_1 i) (j : Fin 16384) (d : Fin 128) : arg11.view.read (Elt Ideal) (runA c i arg2 harg2 arg3 harg3 arg4 harg4 arg5 harg5 arg6 harg6 arg7 harg7 arg10 harg10 arg11 harg11 arg12 harg12 arg13 harg13 arg14 harg14 arg15 harg15 hc0 hc1 x0 x1 x2 x3 x4 fw0 fw1).2.2.1 (ix2 j d) = if j.val / 256 ≤ (i 1).val then P.dv (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B hf (arg10.view.writes (Elt Ideal) arg10.view.junk [⟨Rect.unit (s := S16384x128) ![0, 0] S16384x128.size inb_S16384x128_S16384x128_0_0, (k0_pay73 : FVec Ideal S16384x128 .f32)⟩]) (arg11.view.writes (Elt Ideal) arg11.view.junk [⟨Rect.unit (s := S16384x128) ![0, 0] S16384x128.size inb_S16384x128_S16384x128_0_0, (k0_pay73 : FVec Ideal S16384x128 .f32)⟩]) (fun j d => zeros_read _ j d) (fun j d => zeros_read _ j d)
  rw [runA_v]
  exact (put11_holds c i arg2 harg2 arg3 harg3 arg4 harg4 arg5 harg5 arg6 harg6 arg7 harg7 arg10 harg10 arg11 harg11 arg12 harg12 arg13 harg13 arg14 harg14 arg15 harg15 x0 x1 x2 x3 x4 P (fun _ _ => 0) (fun _ _ => 0) B _ H j d).trans (zero_add _)

include B hf in
theorem runB_leaves_q (hc0 : ¬cond0_0 i) (hc1 : ¬cond0_1 i) (hs0 : ∀ (j : Fin 16384) (d : Fin 128), xs0 (ix2 j d) = X10 j.val d.val) (hs1 : ∀ (j : Fin 16384) (d : Fin 128), xs1 (ix2 j d) = X11 j.val d.val) : LeavesQ i P (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).1 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  intro v f r d
  rw [runB_q]
  exact putq_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H v f r d
include B hf in
theorem runB_leaves_k (hc0 : ¬cond0_0 i) (hc1 : ¬cond0_1 i) (hs0 : ∀ (j : Fin 16384) (d : Fin 128), xs0 (ix2 j d) = X10 j.val d.val) (hs1 : ∀ (j : Fin 16384) (d : Fin 128), xs1 (ix2 j d) = X11 j.val d.val) (j : Fin 16384) (d : Fin 128) : arg10.view.read (Elt Ideal) (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1 (ix2 j d) = X10 j.val d.val + if j.val / 256 ≤ (i 1).val then P.dk (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  rw [runB_k]
  exact (put10_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H j d)
include B hf in
theorem runB_leaves_v (hc0 : ¬cond0_0 i) (hc1 : ¬cond0_1 i) (hs0 : ∀ (j : Fin 16384) (d : Fin 128), xs0 (ix2 j d) = X10 j.val d.val) (hs1 : ∀ (j : Fin 16384) (d : Fin 128), xs1 (ix2 j d) = X11 j.val d.val) (j : Fin 16384) (d : Fin 128) : arg11.view.read (Elt Ideal) (runB c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1 (ix2 j d) = X11 j.val d.val + if j.val / 256 ≤ (i 1).val then P.dv (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  rw [runB_v]
  exact (put11_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H j d)

include B hf in
theorem runC_leaves_q (hc0 : ¬cond0_0 i) (hc1 : cond0_1 i) (hs0 : ∀ (j : Fin 16384) (d : Fin 128), xs0 (ix2 j d) = X10 j.val d.val) (hs1 : ∀ (j : Fin 16384) (d : Fin 128), xs1 (ix2 j d) = X11 j.val d.val) : LeavesQ i P (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).1 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  intro v f r d
  rw [runC_q]
  exact putq_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H v f r d
include B hf in
theorem runC_leaves_k (hc0 : ¬cond0_0 i) (hc1 : cond0_1 i) (hs0 : ∀ (j : Fin 16384) (d : Fin 128), xs0 (ix2 j d) = X10 j.val d.val) (hs1 : ∀ (j : Fin 16384) (d : Fin 128), xs1 (ix2 j d) = X11 j.val d.val) (j : Fin 16384) (d : Fin 128) : arg10.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1 (ix2 j d) = X10 j.val d.val + if j.val / 256 ≤ (i 1).val then P.dk (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  rw [runC_k]
  exact (put10_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H j d)
include B hf in
theorem runC_leaves_v (hc0 : ¬cond0_0 i) (hc1 : cond0_1 i) (hs0 : ∀ (j : Fin 16384) (d : Fin 128), xs0 (ix2 j d) = X10 j.val d.val) (hs1 : ∀ (j : Fin 16384) (d : Fin 128), xs1 (ix2 j d) = X11 j.val d.val) (j : Fin 16384) (d : Fin 128) : arg11.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1 (ix2 j d) = X11 j.val d.val + if j.val / 256 ≤ (i 1).val then P.dv (i 1).val j.val d.val else 0 := by
  have H := trip_holds c i arg2 harg2 arg3 harg3 arg4 harg4 arg5 harg5 arg6 harg6 arg7 harg7 arg10 harg10 arg11 harg11 arg12 harg12 arg13 harg13 arg14 harg14 arg15 harg15 x0 x1 x2 x3 x4 P X10 X11 B hf (harg10.unread xs0) (harg11.unread xs1) (fun j d => by rw [harg10.read_unread]; exact hs0 j d) (fun j d => by rw [harg11.read_unread]; exact hs1 j d)
  rw [runC_v]
  exact (put11_holds c i arg2 harg2 arg3 harg3 arg4 harg4 arg5 harg5 arg6 harg6 arg7 harg7 arg10 harg10 arg11 harg11 arg12 harg12 arg13 harg13 arg14 harg14 arg15 harg15 x0 x1 x2 x3 x4 P X10 X11 B _ H j d)

theorem runC_hk (hc0 : ¬cond0_0 i) (hc1 : cond0_1 i) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.2.1
    = View.write (Elt Ideal) ((Memref.whole main_v49_1 : Memref sig .tc .hbm S16384x1024 .f32).slice (Rect.unit (s := S16384x1024) (k0_off8 i) S16384x128.size (k0_off8_inb i hc1)) (fun _ => rfl)).view fw0 (arg10.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1) Finset.univ := by
  sl_kernel_rfl
theorem runC_hk_apply (hc0 : ¬cond0_0 i) (hc1 : cond0_1 i) (j : Fin 16384) (x : Fin 1024) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.2.1 (ix2 j x)
    = if x.val / 128 = (i 0).val then arg10.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.1 (ix2 j ⟨x.val % 128, Nat.mod_lt _ (by decide)⟩) else fw0 (ix2 j x) := by
  rw [runC_hk]
  exact copiedk i hc1 fw0 _ j x

theorem runC_hv (hc0 : ¬cond0_0 i) (hc1 : cond0_1 i) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.2.2.1
    = View.write (Elt Ideal) ((Memref.whole main_v49_2 : Memref sig .tc .hbm S16384x1024 .f32).slice (Rect.unit (s := S16384x1024) (k0_off8 i) S16384x128.size (k0_off8_inb i hc1)) (fun _ => rfl)).view fw1 (arg11.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1) Finset.univ := by
  sl_kernel_rfl
theorem runC_hv_apply (hc0 : ¬cond0_0 i) (hc1 : cond0_1 i) (j : Fin 16384) (x : Fin 1024) : (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.2.2.1 (ix2 j x)
    = if x.val / 128 = (i 0).val then arg11.view.read (Elt Ideal) (runC c i arg2 harg2 arg3 harg3 arg4 harg4 arg5 harg5 arg6 harg6 arg7 harg7 arg10 harg10 arg11 harg11 arg12 harg12 arg13 harg13 arg14 harg14 arg15 harg15 hc0 hc1 x0 x1 x2 x3 x4 xs0 xs1 fw0 fw1).2.2.1 (ix2 j ⟨x.val % 128, Nat.mod_lt _ (by decide)⟩) else fw1 (ix2 j x) := by
  rw [runC_hv]
  exact copiedv i hc1 fw1 _ j x

end Runs

end Cert.Kernel3Ideal.Attn

end
-- ==== Proof.AttnReal.lean ====
/- The attention backward's gradients over the real numbers, and that the kernel's base-2 arithmetic, block by block and head
   pair by head pair, comes to them. -/
module

public import proofs.«01_k».proof.Proof.AttnBlock

@[expose] public section

set_option maxRecDepth 16384
set_option maxHeartbeats 1000000

noncomputable section

open Idealize.ShloMosaic

namespace Attn

/-- A finite sum of numbers. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : ((max x y : ℝ) : EReal) = max (x : EReal) (y : EReal) := EReal.coe_strictMono.monotone.map_max

theorem coe_ite (p : Prop) [Decidable p] (x : ℝ) : (if p then ((x : ℝ) : EReal) else 0) = ((if p then x else 0 : ℝ) : EReal) := by
  split_ifs <;> simp

/-- The softplus. -/
def spr (x : ℝ) : ℝ := max x 0 + Real.log (1 + Real.exp (-|x|))

theorem spr_neg (x : ℝ) : spr (-x) = spr x - x := by
  unfold spr
  rw [abs_neg]
  rcases le_total 0 x with h | h
  · rw [max_eq_right (by linarith), max_eq_left h]; ring
  · rw [max_eq_left (by linarith), max_eq_right h]; ring

theorem exp_spr (x : ℝ) : Real.exp (spr x) = 1 + Real.exp x := by
  unfold spr
  have hp : 0 < 1 + Real.exp (-|x|) := by positivity
  rw [Real.exp_add, Real.exp_log hp]
  rcases le_total 0 x with h | h
  · rw [max_eq_left h, abs_of_nonneg h, mul_add, ← Real.exp_add]; simp; ring
  · rw [max_eq_right h, abs_of_nonpos h]; simp

/-- The sigmoid and its complement add to one. -/
theorem sig_compl (x : ℝ) : Real.exp (-x - spr (-x)) = 1 - Real.exp (x - spr x) := by
  rw [spr_neg, show -x - (spr x - x) = -spr x from by ring, Real.exp_sub, Real.exp_neg, exp_spr]
  have : 0 < 1 + Real.exp x := by positivity
  field_simp
  ring

section Grads
variable (q k v o : ℕ → ℕ → ℝ) (H : ℕ)

/-- The score of query `i` and key `j` in head `H`. -/
def Z (i j : ℕ) : ℝ := ∑ d ∈ Finset.range 64, (q i (64 * H + d) * (1 / 8)) * k j (64 * H + d)
/-- The gradient at the weight. -/
def DA (i j : ℕ) : ℝ := ∑ d ∈ Finset.range 64, o i (64 * H + d) * v j (64 * H + d)
/-- The sum over the keys between key `j` and the query. -/
def Rest (i j : ℕ) : ℝ := ∑ l ∈ Finset.range i, if j < l then spr (Z q k H i l) else 0
/-- The weight. -/
def A (i j : ℕ) : ℝ := if j < i then Real.exp (Z q k H i j - spr (Z q k H i j) - Rest q k H i j) else 0
/-- The gradient at the weight's logarithm. -/
def G (i j : ℕ) : ℝ := A q k H i j * DA v o H i j
def Before (i j : ℕ) : ℝ := ∑ l ∈ Finset.range j, G q k v o H i l
/-- The gradient at the score. -/
def DZ (i j : ℕ) : ℝ := if j < i then G q k v o H i j - Real.exp (Z q k H i j - spr (Z q k H i j)) * (G q k v o H i j + Before q k v o H i j) else 0

def DQ (i x : ℕ) : ℝ := (∑ j ∈ Finset.range 16384, DZ q k v o (x / 64) i j * k j x) * (1 / 8)
def DK (j x : ℕ) : ℝ := ∑ i ∈ Finset.range 16384, DZ q k v o (x / 64) i j * (q i x * (1 / 8))
def DV (j x : ℕ) : ℝ := ∑ i ∈ Finset.range 16384, A q k (x / 64) i j * o i x
end Grads

end Attn

namespace Cert.Kernel3Ideal.Attn

open Cert.Kernel3Ideal _root_.Attn

/-- The logarithm of 2. -/
def L : ℝ := Real.log 2
theorem L_pos : 0 < L := Real.log_pos (by norm_num)
theorem elog_eq : elog = ((L⁻¹ : ℝ) : EReal) := rfl

theorem two_coe (x : ℝ) : two ((x / L : ℝ) : EReal) = ((Real.exp x : ℝ) : EReal) := by
  show ((Real.rpow 2 (x / L) : ℝ) : EReal) = _
  refine congrArg (fun x : ℝ => (x : EReal)) ?_
  show (2 : ℝ) ^ (x / L) = _
  rw [Real.rpow_def_of_pos (by norm_num)]
  congr 1
  have := L_pos.ne'
  show L * (x / L) = x
  field_simp

theorem abs_coe (x : ℝ) : FloatOps.absf (F := Ideal) (φ := .f32) ((x : ℝ) : EReal) = ((|x| : ℝ) : EReal) := by
  show max ((x : ℝ) : EReal) (-((x : ℝ) : EReal)) = _
  rw [← EReal.coe_neg, ← coe_max]; rfl

theorem Sp_coe (x : ℝ) : Sp ((x / L : ℝ) : EReal) = ((spr x / L : ℝ) : EReal) := by
  have hL := L_pos
  unfold Sp
  rw [abs_coe, zero_sub, ← EReal.coe_neg, show -|x / L| = (-|x|) / L from by rw [abs_div, abs_of_pos hL]; ring, two_coe,
    ← EReal.coe_zero, ← coe_max, ← EReal.coe_one, ← EReal.coe_add, elog_eq]
  have hp : 0 < 1 + Real.exp (-|x|) := by positivity
  rw [show Ideal.log ((1 + Real.exp (-|x|) : ℝ) : EReal) = ((Real.log (1 + Real.exp (-|x|)) : ℝ) : EReal) from if_neg (not_le.2 hp),
    ← EReal.coe_mul, ← EReal.coe_add]
  refine congrArg (fun x : ℝ => (x : EReal)) ?_
  unfold spr
  rw [add_div, ← div_eq_mul_inv]
  congr 1
  rw [← max_div_div_right hL.le]; simp

theorem Ls_coe (x : ℝ) : Ls ((x / L : ℝ) : EReal) = (((x - spr x) / L : ℝ) : EReal) := by
  unfold Ls
  rw [Sp_coe, ← EReal.coe_sub]; congr 1; ring

section Pairs
variable (q k v o : ℕ → ℕ → ℝ) (p : ℕ)

/-- The head pair `p` of the kernel's arrays where the arguments' entries are these numbers. -/
def pairOf : Pair where
  Q := fun r d => ((q r (128 * p + d) * (1 / 8 / L) : ℝ) : EReal)
  K := fun r d => ((k r (128 * p + d) : ℝ) : EReal)
  V := fun r d => ((v r (128 * p + d) : ℝ) : EReal)
  O := fun r d => ((o r (128 * p + d) : ℝ) : EReal)
  R := fun h i b => (((∑ l ∈ Finset.range i, if 256 * (b + 1) ≤ l then spr (Z q k (2 * p + h.val) i l) else 0) / L : ℝ) : EReal)

local notation "P" => pairOf q k v o p

theorem half_sum (h : Fin 2) (f : ℕ → ℝ) (g : ℕ → ℝ) :
    (∑ d : Fin 128, half h d.val ((f d.val : ℝ) : EReal) * ((g d.val : ℝ) : EReal))
      = ((∑ d ∈ Finset.range 64, f (64 * h.val + d) * g (64 * h.val + d) : ℝ) : EReal) := by
  have e : ∀ d : Fin 128, half h d.val ((f d.val : ℝ) : EReal) * ((g d.val : ℝ) : EReal)
      = (((fun d : ℕ => if d < 64 then (if h = 0 then f d * g d else 0) else (if h = 0 then 0 else f d * g d)) d.val : ℝ) : EReal) := by
    intro d; unfold half; dsimp only
    split_ifs <;> simp [EReal.coe_mul]
  rw [Finset.sum_congr rfl fun d _ => e d, coe_sum,
    Fin.sum_univ_eq_sum_range (fun d : ℕ => if d < 64 then (if h = 0 then f d * g d else 0) else (if h = 0 then 0 else f d * g d)) 128,
    show (128 : ℕ) = 64 + 64 from rfl, Finset.sum_range_add]
  refine congrArg (fun x : ℝ => (x : EReal)) ?_
  obtain rfl | rfl : h = 0 ∨ h = 1 := by omega
  · have e1 : (∑ d ∈ Finset.range 64, if d < 64 then (if (0 : Fin 2) = 0 then f d * g d else 0) else (if (0 : Fin 2) = 0 then 0 else f d * g d)) = ∑ d ∈ Finset.range 64, f d * g d :=
      Finset.sum_congr rfl fun d hd => by rw [if_pos (Finset.mem_range.1 hd), if_pos rfl]
    have e2 : (∑ d ∈ Finset.range 64, if 64 + d < 64 then (if (0 : Fin 2) = 0 then f (64 + d) * g (64 + d) else 0) else (if (0 : Fin 2) = 0 then 0 else f (64 + d) * g (64 + d))) = 0 :=
      Finset.sum_eq_zero fun d _ => by rw [if_neg (by omega), if_pos rfl]
    rw [e1, e2, add_zero]
    simp
  · have e1 : (∑ d ∈ Finset.range 64, if d < 64 then (if (1 : Fin 2) = 0 then f d * g d else 0) else (if (1 : Fin 2) = 0 then 0 else f d * g d)) = 0 :=
      Finset.sum_eq_zero fun d hd => by rw [if_pos (Finset.mem_range.1 hd), if_neg (by decide)]
    have e2 : (∑ d ∈ Finset.range 64, if 64 + d < 64 then (if (1 : Fin 2) = 0 then f (64 + d) * g (64 + d) else 0) else (if (1 : Fin 2) = 0 then 0 else f (64 + d) * g (64 + d))) = ∑ d ∈ Finset.range 64, f (64 + d) * g (64 + d) :=
      Finset.sum_congr rfl fun d _ => by rw [if_neg (by omega), if_neg (by decide)]
    rw [e1, e2, zero_add]
    simp

theorem z_coe (h : Fin 2) (i j : ℕ) : (P).z h i j = ((Z q k (2 * p + h.val) i j / L : ℝ) : EReal) := by
  unfold Pair.z
  refine (half_sum h (fun d => q i (128 * p + d) * (1 / 8 / L)) (fun d => k j (128 * p + d))).trans ?_
  refine congrArg (fun x : ℝ => (x : EReal)) ?_
  unfold Z
  rw [Finset.sum_div]
  refine Finset.sum_congr rfl fun d _ => ?_
  rw [show 128 * p + (64 * h.val + d) = 64 * (2 * p + h.val) + d from by ring]; ring

theorem da_coe (h : Fin 2) (i j : ℕ) : (P).da h i j = ((DA v o (2 * p + h.val) i j : ℝ) : EReal) := by
  unfold Pair.da
  refine (half_sum h (fun d => o i (128 * p + d)) (fun d => v j (128 * p + d))).trans ?_
  refine congrArg (fun x : ℝ => (x : EReal)) ?_
  unfold DA
  refine Finset.sum_congr rfl fun d _ => ?_
  rw [show 128 * p + (64 * h.val + d) = 64 * (2 * p + h.val) + d from by ring]

/-- The sums within the key's block and beyond it are the sum over the keys between. -/
theorem split_sum (f : ℕ → ℝ) (i b c : ℕ) (hc : c < 256) :
    (∑ j : Fin 256, if c < j.val then (if 256 * b + j.val < i then f (256 * b + j.val) else 0) else 0) + (∑ l ∈ Finset.range i, if 256 * (b + 1) ≤ l then f l else 0)
      = ∑ l ∈ Finset.range i, if 256 * b + c < l then f l else 0 := by
  have ext : ∀ (w : ℕ → ℝ), ∑ l ∈ Finset.range i, w l = ∑ l ∈ Finset.range (256 * b + 256 + i), if l < i then w l else 0 := fun w => by
    rw [← Finset.sum_filter]
    refine Finset.sum_congr ?_ fun _ _ => rfl
    ext l; simp only [Finset.mem_range, Finset.mem_filter]; omega
  rw [ext, ext, Fin.sum_univ_eq_sum_range (fun j => if c < j then (if 256 * b + j < i then f (256 * b + j) else 0) else 0) 256,
    Finset.sum_range_add _ (256 * b + 256) i, Finset.sum_range_add _ (256 * b + 256) i, Finset.sum_range_add _ (256 * b) 256, Finset.sum_range_add _ (256 * b) 256]
  have z1 : (∑ l ∈ Finset.range (256 * b), if l < i then (if 256 * (b + 1) ≤ l then f l else 0) else 0) = 0 :=
    Finset.sum_eq_zero fun l hl => by have := Finset.mem_range.1 hl; rw [if_neg (show ¬256 * (b + 1) ≤ l by omega)]; simp
  have z2 : (∑ l ∈ Finset.range 256, if 256 * b + l < i then (if 256 * (b + 1) ≤ 256 * b + l then f (256 * b + l) else 0) else 0) = 0 :=
    Finset.sum_eq_zero fun l hl => by have := Finset.mem_range.1 hl; rw [if_neg (show ¬256 * (b + 1) ≤ 256 * b + l by omega)]; simp
  have z3 : (∑ l ∈ Finset.range (256 * b), if l < i then (if 256 * b + c < l then f l else 0) else 0) = 0 :=
    Finset.sum_eq_zero fun l hl => by have := Finset.mem_range.1 hl; rw [if_neg (show ¬256 * b + c < l by omega)]; simp
  rw [z1, z2, z3]
  have s1 : (∑ l ∈ Finset.range 256, if 256 * b + l < i then (if 256 * b + c < 256 * b + l then f (256 * b + l) else 0) else 0)
      = ∑ j ∈ Finset.range 256, if c < j then (if 256 * b + j < i then f (256 * b + j) else 0) else 0 :=
    Finset.sum_congr rfl fun l _ => by
      by_cases h : c < l
      · rw [if_pos (show 256 * b + c < 256 * b + l by omega), if_pos h]
      · rw [if_neg (show ¬256 * b + c < 256 * b + l by omega), if_neg h]; simp
  have s2 : (∑ l ∈ Finset.range i, if 256 * b + 256 + l < i then (if 256 * (b + 1) ≤ 256 * b + 256 + l then f (256 * b + 256 + l) else 0) else 0)
      = ∑ l ∈ Finset.range i, if 256 * b + 256 + l < i then (if 256 * b + c < 256 * b + 256 + l then f (256 * b + 256 + l) else 0) else 0 :=
    Finset.sum_congr rfl fun l _ => by rw [if_pos (show 256 * (b + 1) ≤ 256 * b + 256 + l by omega), if_pos (show 256 * b + c < 256 * b + 256 + l by omega)]
  rw [s1, s2]; ring

theorem rest_coe (h : Fin 2) (i j : ℕ) : (P).within h i (j / 256) (j % 256) + (P).R h i (j / 256) = ((Rest q k (2 * p + h.val) i j / L : ℝ) : EReal) := by
  have e : (P).within h i (j / 256) (j % 256) = (((∑ c : Fin 256, if j % 256 < c.val then (if 256 * (j / 256) + c.val < i then spr (Z q k (2 * p + h.val) i (256 * (j / 256) + c.val)) else 0) else 0) / L : ℝ) : EReal) := by
    unfold Pair.within Pair.sp
    rw [Finset.sum_div, ← coe_sum]
    refine Finset.sum_congr rfl fun c _ => ?_
    rw [z_coe, Sp_coe]
    split_ifs <;> simp
  rw [e]
  show _ + (((∑ l ∈ Finset.range i, if 256 * (j / 256 + 1) ≤ l then spr (Z q k (2 * p + h.val) i l) else 0) / L : ℝ) : EReal) = _
  rw [← EReal.coe_add, ← add_div, split_sum (fun l => spr (Z q k (2 * p + h.val) i l)) _ _ _ (Nat.mod_lt _ (by norm_num)), Nat.div_add_mod]
  rfl

theorem a_coe (h : Fin 2) (i j : ℕ) : (P).a h i j = ((A q k (2 * p + h.val) i j : ℝ) : EReal) := by
  unfold Pair.a A
  rw [rest_coe, z_coe, Ls_coe, ← EReal.coe_sub, ← sub_div, two_coe, coe_ite]

theorem g_coe (h : Fin 2) (i j : ℕ) : (P).g h i j = ((G q k v o (2 * p + h.val) i j : ℝ) : EReal) := by
  unfold Pair.g G
  rw [a_coe, da_coe, ← EReal.coe_mul]

theorem before_coe (h : Fin 2) (i j : ℕ) : (P).earlier h i (j / 256) (j % 256) + (P).before h i (j / 256) = ((Before q k v o (2 * p + h.val) i j : ℝ) : EReal) := by
  unfold Pair.earlier Pair.before Before
  simp only [g_coe, coe_ite, coe_sum]
  rw [← EReal.coe_add]
  refine congrArg (fun x : ℝ => (x : EReal)) ?_
  have hj : j = 256 * (j / 256) + j % 256 := (Nat.div_add_mod j 256).symm
  conv_rhs => rw [hj, Finset.sum_range_add]
  rw [add_comm]
  congr 1
  rw [Fin.sum_univ_eq_sum_range (fun c => if c < j % 256 then G q k v o (2 * p + h.val) i (256 * (j / 256) + c) else 0) 256, ← Finset.sum_filter]
  refine Finset.sum_congr ?_ fun _ _ => rfl
  ext l; simp only [Finset.mem_range, Finset.mem_filter]; omega

theorem dz_coe (h : Fin 2) (i j : ℕ) : (P).dz h i j = ((DZ q k v o (2 * p + h.val) i j : ℝ) : EReal) := by
  unfold Pair.dz DZ
  rw [before_coe, g_coe, z_coe, Ls_coe, two_coe, ← EReal.coe_add, ← EReal.coe_mul, ← EReal.coe_sub, coe_ite]

/-- The query's gradient, before the host's scaling. -/
theorem dq_coe (h : Fin 2) (i c : ℕ) (hi : i < 16384) :
    (P).dq h i (i / 256 + 1) c = ((∑ j ∈ Finset.range 16384, DZ q k v o (2 * p + h.val) i j * k j (128 * p + c) : ℝ) : EReal) := by
  unfold Pair.dq
  simp only [dz_coe]
  show (∑ j ∈ _, _ * ((k j (128 * p + c) : ℝ) : EReal)) = _
  simp only [← EReal.coe_mul, coe_sum]
  refine congrArg (fun x : ℝ => (x : EReal)) ?_
  refine Finset.sum_subset (fun l hl => by have := Finset.mem_range.1 hl; exact Finset.mem_range.2 (by omega)) fun l _ hl => ?_
  unfold DZ
  have hn := mt Finset.mem_range.2 hl
  rw [if_neg (by omega), zero_mul]

theorem half_coe (h : Fin 2) (c : ℕ) (x : ℝ) : half h c ((x : ℝ) : EReal) = ((if c < 64 then (if h = 0 then x else 0) else (if h = 0 then 0 else x) : ℝ) : EReal) := by
  unfold half; split_ifs <;> simp

theorem blocks_sum (f : ℕ → ℝ) (j n : ℕ) (hf : ∀ i, i ≤ j → f i = 0) :
    (∑ qi ∈ Finset.range n, if j / 256 ≤ qi then ∑ r : Fin 256, f (256 * qi + r.val) else 0) = ∑ i ∈ Finset.range (256 * n), f i := by
  induction n with
  | zero => simp
  | succ n ih =>
    rw [Finset.sum_range_succ, ih, show 256 * (n + 1) = 256 * n + 256 from by ring, Finset.sum_range_add, ← Fin.sum_univ_eq_sum_range (fun r => f (256 * n + r)) 256]
    congr 1
    split_ifs with h
    · rfl
    · exact (Finset.sum_eq_zero fun r _ => hf _ (by have := r.isLt; omega)).symm

theorem dk_coe (j c : ℕ) (hc : c < 128) :
    (∑ qi ∈ Finset.range 64, if j / 256 ≤ qi then (P).dk qi j c else 0)
      = ((∑ i ∈ Finset.range 16384, DZ q k v o (2 * p + c / 64) i j * (q i (128 * p + c) * (1 / 8 / L)) : ℝ) : EReal) := by
  have e : ∀ qi, (P).dk qi j c = ((∑ r : Fin 256, DZ q k v o (2 * p + c / 64) (256 * qi + r.val) j * (q (256 * qi + r.val) (128 * p + c) * (1 / 8 / L)) : ℝ) : EReal) := by
    intro qi
    unfold Pair.dk
    simp only [dz_coe]
    show (∑ r : Fin 256, _ * half 0 c ((q (256 * qi + r.val) (128 * p + c) * (1 / 8 / L) : ℝ) : EReal)) + (∑ r : Fin 256, _ * half 1 c ((q (256 * qi + r.val) (128 * p + c) * (1 / 8 / L) : ℝ) : EReal)) = _
    simp only [half_coe, ← EReal.coe_mul, coe_sum]
    rw [← EReal.coe_add]
    refine congrArg (fun x : ℝ => (x : EReal)) ?_
    by_cases h : c < 64
    · rw [show c / 64 = 0 from by omega]; simp [h]
    · rw [show c / 64 = 1 from by omega]; simp [h]
  simp only [e, coe_ite, coe_sum]
  refine congrArg (fun x : ℝ => (x : EReal)) ?_
  exact blocks_sum (fun i => DZ q k v o (2 * p + c / 64) i j * (q i (128 * p + c) * (1 / 8 / L))) j 64 fun i hi => by unfold DZ; rw [if_neg (by omega), zero_mul]

theorem dv_coe (j c : ℕ) (hc : c < 128) :
    (∑ qi ∈ Finset.range 64, if j / 256 ≤ qi then (P).dv qi j c else 0)
      = ((∑ i ∈ Finset.range 16384, A q k (2 * p + c / 64) i j * o i (128 * p + c) : ℝ) : EReal) := by
  have e : ∀ qi, (P).dv qi j c = ((∑ r : Fin 256, A q k (2 * p + c / 64) (256 * qi + r.val) j * o (256 * qi + r.val) (128 * p + c) : ℝ) : EReal) := by
    intro qi
    unfold Pair.dv
    simp only [a_coe]
    show (∑ r : Fin 256, _ * half 0 c ((o (256 * qi + r.val) (128 * p + c) : ℝ) : EReal)) + (∑ r : Fin 256, _ * half 1 c ((o (256 * qi + r.val) (128 * p + c) : ℝ) : EReal)) = _
    simp only [half_coe, ← EReal.coe_mul, coe_sum]
    rw [← EReal.coe_add]
    refine congrArg (fun x : ℝ => (x : EReal)) ?_
    by_cases h : c < 64
    · rw [show c / 64 = 0 from by omega]; simp [h]
    · rw [show c / 64 = 1 from by omega]; simp [h]
  simp only [e, coe_ite, coe_sum]
  refine congrArg (fun x : ℝ => (x : EReal)) ?_
  exact blocks_sum (fun i => A q k (2 * p + c / 64) i j * o i (128 * p + c)) j 64 fun i hi => by unfold A; rw [if_neg (by omega), zero_mul]

end Pairs

end Cert.Kernel3Ideal.Attn

end
-- ==== Proof.AttnGrid.lean ====
/- What the attention backward kernel's grid leaves: the accumulated gradients of the keys and values after each point, and
   the three arrays at the end, where the arrays it is called with hold given numbers. -/
module

public import proofs.«01_k».proof.Proof.AttnLeaves
public import proofs.«01_k».proof.Proof.AttnLaunch
public import proofs.«01_k».proof.Proof.AttnReal
public import Idealize.ShloMosaic.Lib.Pipeline.Value

@[expose] public section

set_option maxRecDepth 16384
set_option maxHeartbeats 4000000

noncomputable section

open Idealize.ShloMosaic Idealize.ShloMosaic.TcCoe
open Idealize.ShloMosaic.Pipeline (Dat)

namespace Cert.Kernel3Ideal.Attn

open Cert.Kernel3Ideal Cert.Kernel3Ideal.Gen _root_.Attn

theorem coords1 (t : Fin cfg0.N) : (grid0.coords t 1).val = t.val % 64 := by
  have h : (grid0.coords t 1).val = t.val / 1 % 64 := Pipeline.Grid.coords_val t 1 (by decide) rfl
  omega
theorem coords0 (t : Fin cfg0.N) : (grid0.coords t 0).val = t.val / 64 := by
  have h : (grid0.coords t 0).val = t.val / 64 % 8 := Pipeline.Grid.coords_val t 0 (by decide) rfl
  have hN : t.val < 512 := lt_of_lt_of_eq t.isLt N_0
  omega

theorem idx0 : ∀ t : Fin cfg0.N, win0_0.index t (0 : Fin 2) = t.val % 64 ∧ win0_0.index t (1 : Fin 2) = t.val / 64 := (by decide +kernel : ∀ t : Fin grid0.N, _)
theorem idx1 : ∀ t : Fin cfg0.N, win0_1.index t (0 : Fin 2) = 0 ∧ win0_1.index t (1 : Fin 2) = 8 + t.val / 64 := (by decide +kernel : ∀ t : Fin grid0.N, _)
theorem idx2 : ∀ t : Fin cfg0.N, win0_2.index t (0 : Fin 2) = 0 ∧ win0_2.index t (1 : Fin 2) = 16 + t.val / 64 := (by decide +kernel : ∀ t : Fin grid0.N, _)
theorem idx3 : ∀ t : Fin cfg0.N, win0_3.index t (0 : Fin 2) = t.val % 64 ∧ win0_3.index t (1 : Fin 2) = t.val / 64 := (by decide +kernel : ∀ t : Fin grid0.N, _)
theorem idx4 : ∀ t : Fin cfg0.N, win0_4.index t (0 : Fin 3) = t.val / 64 ∧ win0_4.index t (1 : Fin 3) = t.val % 64 ∧ win0_4.index t (2 : Fin 3) = 0 := (by decide +kernel : ∀ t : Fin grid0.N, _)
theorem idx5 : ∀ t : Fin cfg0.N, win0_5.index t (0 : Fin 2) = t.val % 64 ∧ win0_5.index t (1 : Fin 2) = t.val / 64 := (by decide +kernel : ∀ t : Fin grid0.N, _)

variable (m : (ℓ : Loc nD τ sig) → Buf (Elt Ideal) ℓ) (c : Dev nD) (q k v o : ℕ → ℕ → ℝ)

/-- The arrays the kernel is called with, entry by entry. -/
structure Entry : Prop where
  hq : ∀ (i : Fin 16384) (x : Fin 1024), (V m c main_v5 : S16384x3072.Idx → EReal) (ix2 i ⟨x.val, by have := x.isLt; omega⟩) = ((q i.val x.val * (1 / 8 / L) : ℝ) : EReal)
  hk : ∀ (i : Fin 16384) (x : Fin 1024), (V m c main_v5 : S16384x3072.Idx → EReal) (ix2 i ⟨1024 + x.val, by have := x.isLt; omega⟩) = ((k i.val x.val : ℝ) : EReal)
  hv : ∀ (i : Fin 16384) (x : Fin 1024), (V m c main_v5 : S16384x3072.Idx → EReal) (ix2 i ⟨2048 + x.val, by have := x.isLt; omega⟩) = ((v i.val x.val : ℝ) : EReal)
  ho : ∀ (i : Fin 16384) (x : Fin 1024), (V m c main_v48 : S16384x1024.Idx → EReal) (ix2 i x) = ((o i.val x.val : ℝ) : EReal)
  hs : ∀ (h : Fin 16) (i : Fin 16384) (l : Fin 128), (V m c main_v47 : S16x16384x128.Idx → EReal) (ix3 h i l)
        = (((∑ j ∈ Finset.range i.val, if 256 * (l.val + 1) ≤ j then spr (Z q k h.val i.val j) else 0) / L : ℝ) : EReal)

variable {m c q k v o}

theorem Entry.blocks (E : Entry m c q k v o) (t : Fin cfg0.N) :
    Blocks (grid0.coords t) (blk m c 0 t) (blk m c 1 t) (blk m c 2 t) (blk m c 3 t) (blk m c 4 t) (pairOf q k v o (t.val / 64)) := by
  have hN : t.val < 512 := lt_of_lt_of_eq t.isLt N_0
  have h1 := coords1 t
  constructor
  · intro r d
    have hr := r.isLt; have hd := d.isLt
    obtain ⟨a0, a1⟩ := idx0 t
    refine Eq.trans ?_ ((E.hq ⟨256 * (t.val % 64) + r.val, by omega⟩ ⟨128 * (t.val / 64) + d.val, by omega⟩).trans (by rw [h1]; rfl))
    show (V m c main_v5 : S16384x3072.Idx → EReal) (((cfg0.win 0).blk t).view.emb (ix2 r d)) = _
    refine congrArg (V m c main_v5 : S16384x3072.Idx → EReal) (Shape.idx_ext₂ ?_ ?_)
    · show win0_0.index t (0 : Fin 2) * 256 + 1 * r.val = 256 * (t.val % 64) + r.val; omega
    · show win0_0.index t (1 : Fin 2) * 128 + 1 * d.val = 128 * (t.val / 64) + d.val; omega
  · intro r d
    have hr := r.isLt; have hd := d.isLt
    obtain ⟨a0, a1⟩ := idx1 t
    refine Eq.trans ?_ (E.hk r ⟨128 * (t.val / 64) + d.val, by omega⟩)
    show (V m c main_v5 : S16384x3072.Idx → EReal) (((cfg0.win 1).blk t).view.emb (ix2 r d)) = _
    refine congrArg (V m c main_v5 : S16384x3072.Idx → EReal) (Shape.idx_ext₂ ?_ ?_)
    · show win0_1.index t (0 : Fin 2) * 16384 + 1 * r.val = r.val; omega
    · show win0_1.index t (1 : Fin 2) * 128 + 1 * d.val = 1024 + (128 * (t.val / 64) + d.val); omega
  · intro r d
    have hr := r.isLt; have hd := d.isLt
    obtain ⟨a0, a1⟩ := idx2 t
    refine Eq.trans ?_ (E.hv r ⟨128 * (t.val / 64) + d.val, by omega⟩)
    show (V m c main_v5 : S16384x3072.Idx → EReal) (((cfg0.win 2).blk t).view.emb (ix2 r d)) = _
    refine congrArg (V m c main_v5 : S16384x3072.Idx → EReal) (Shape.idx_ext₂ ?_ ?_)
    · show win0_2.index t (0 : Fin 2) * 16384 + 1 * r.val = r.val; omega
    · show win0_2.index t (1 : Fin 2) * 128 + 1 * d.val = 2048 + (128 * (t.val / 64) + d.val); omega
  · intro r d
    have hr := r.isLt; have hd := d.isLt
    obtain ⟨a0, a1⟩ := idx3 t
    refine Eq.trans ?_ ((E.ho ⟨256 * (t.val % 64) + r.val, by omega⟩ ⟨128 * (t.val / 64) + d.val, by omega⟩).trans (by rw [h1]; rfl))
    show (V m c main_v48 : S16384x1024.Idx → EReal) (((cfg0.win 3).blk t).view.emb (ix2 r d)) = _
    refine congrArg (V m c main_v48 : S16384x1024.Idx → EReal) (Shape.idx_ext₂ ?_ ?_)
    · show win0_3.index t (0 : Fin 2) * 256 + 1 * r.val = 256 * (t.val % 64) + r.val; omega
    · show win0_3.index t (1 : Fin 2) * 128 + 1 * d.val = 128 * (t.val / 64) + d.val; omega
  · intro h r l
    have hr := r.isLt; have hh := h.isLt; have hl := l.isLt
    obtain ⟨a0, a1, a2⟩ := idx4 t
    refine Eq.trans ?_ ((E.hs ⟨2 * (t.val / 64) + h.val, by omega⟩ ⟨256 * (t.val % 64) + r.val, by omega⟩ l).trans (by rw [h1]; rfl))
    show (V m c main_v47 : S16x16384x128.Idx → EReal) (((cfg0.win 4).blk t).view.emb (ix3 h r l)) = _
    refine congrArg (V m c main_v47 : S16x16384x128.Idx → EReal) (funext fun a => ?_)
    match a with
    | ⟨0, _⟩ => exact Fin.ext (by show win0_4.index t (0 : Fin 3) * 2 + 1 * h.val = 2 * (t.val / 64) + h.val; omega)
    | ⟨1, _⟩ => exact Fin.ext (by show win0_4.index t (1 : Fin 3) * 256 + 1 * r.val = 256 * (t.val % 64) + r.val; omega)
    | ⟨2, _⟩ => exact Fin.ext (by show win0_4.index t (2 : Fin 3) * 128 + 1 * l.val = l.val; omega)

theorem Entry.first0 (E : Entry m c q k v o) (t : Fin cfg0.N) : first c (grid0.coords t) (ms4 t) (hs4 t) (blk m c 4 t) = 0#32 :=
  first_zero c (grid0.coords t) (ms4 t) (hs4 t) (blk m c 4 t) fun l => by
    rw [(E.blocks t).s 0 0 l]; exact EReal.coe_ne_top _

variable (q k v o)

/-- What the query blocks before the `n`-th add to key `j`'s gradient, of the head pair `p`. -/
def accK (p n j d : ℕ) : EReal := ∑ qi ∈ Finset.range n, if j / 256 ≤ qi then (pairOf q k v o p).dk qi j d else 0
def accV (p n j d : ℕ) : EReal := ∑ qi ∈ Finset.range n, if j / 256 ≤ qi then (pairOf q k v o p).dv qi j d else 0
/-- A query's gradient, of the head pair `p`. -/
def outQ (p i d : ℕ) : EReal := if d < 64 then (pairOf q k v o p).dq 0 i (i / 256 + 1) d else (pairOf q k v o p).dq 1 i (i / 256 + 1) d

/-- What a point leaves. -/
structure Good (t : Fin cfg0.N) (s : Pt (F := Ideal) c) : Prop where
  dq : ∀ (r : Fin 256) (d : Fin 128), s.dq (ix2 r d) = outQ q k v o (t.val / 64) (256 * (t.val % 64) + r.val) d.val
  dk : ∀ (j : Fin 16384) (d : Fin 128), s.dk (ix2 j d) = accK q k v o (t.val / 64) (t.val % 64 + 1) j.val d.val
  dv : ∀ (j : Fin 16384) (d : Fin 128), s.dv (ix2 j d) = accV q k v o (t.val / 64) (t.val % 64 + 1) j.val d.val

variable {q k v o}

theorem outQ_of (t : Fin cfg0.N) (r : Fin 256) (d : Fin 128) :
    (if d.val < 64 then (pairOf q k v o (t.val / 64)).dq 0 (256 * (grid0.coords t 1).val + r.val) ((grid0.coords t 1).val + 1) d.val
      else (pairOf q k v o (t.val / 64)).dq 1 (256 * (grid0.coords t 1).val + r.val) ((grid0.coords t 1).val + 1) d.val)
      = outQ q k v o (t.val / 64) (256 * (t.val % 64) + r.val) d.val := by
  have hr := r.isLt
  unfold outQ
  rw [coords1 t, show (256 * (t.val % 64) + r.val) / 256 = t.val % 64 from by omega]

theorem goodA (E : Entry m c q k v o) (t : Fin cfg0.N) (h0 : t.val % 64 = 0) (hc0 : cond0_0 (grid0.coords t)) (hc1 : ¬cond0_1 (grid0.coords t)) (s : Pt (F := Ideal) c) :
    Good q k v o t (stepA m c t hc0 hc1 s) := by
  constructor
  · intro r d
    exact (runA_leaves_q c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.hk s.hv (pairOf q k v o (t.val / 64)) (E.blocks t) (E.first0 t) hc0 hc1 dqView dqView.junk r d).trans (outQ_of t r d)
  · intro j d
    refine (runA_leaves_k c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.hk s.hv (pairOf q k v o (t.val / 64)) (E.blocks t) (E.first0 t) hc0 hc1 j d).trans ?_
    unfold accK
    rw [coords1 t, h0, Finset.sum_range_one]
  · intro j d
    refine (runA_leaves_v c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.hk s.hv (pairOf q k v o (t.val / 64)) (E.blocks t) (E.first0 t) hc0 hc1 j d).trans ?_
    unfold accV
    rw [coords1 t, h0, Finset.sum_range_one]

theorem goodB (E : Entry m c q k v o) (t : Fin cfg0.N) (hc0 : ¬cond0_0 (grid0.coords t)) (hc1 : ¬cond0_1 (grid0.coords t)) (s : Pt (F := Ideal) c)
    (hk : ∀ (j : Fin 16384) (d : Fin 128), s.dk (ix2 j d) = accK q k v o (t.val / 64) (t.val % 64) j.val d.val)
    (hv : ∀ (j : Fin 16384) (d : Fin 128), s.dv (ix2 j d) = accV q k v o (t.val / 64) (t.val % 64) j.val d.val) :
    Good q k v o t (stepB m c t hc0 hc1 s) := by
  constructor
  · intro r d
    exact (runB_leaves_q c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv dqView dqView.junk r d).trans (outQ_of t r d)
  · intro j d
    refine (runB_leaves_k c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv j d).trans ?_
    rw [coords1 t]; exact (Finset.sum_range_succ _ _).symm
  · intro j d
    refine (runB_leaves_v c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv j d).trans ?_
    rw [coords1 t]; exact (Finset.sum_range_succ _ _).symm

theorem goodC (E : Entry m c q k v o) (t : Fin cfg0.N) (hc0 : ¬cond0_0 (grid0.coords t)) (hc1 : cond0_1 (grid0.coords t)) (s : Pt (F := Ideal) c)
    (hk : ∀ (j : Fin 16384) (d : Fin 128), s.dk (ix2 j d) = accK q k v o (t.val / 64) (t.val % 64) j.val d.val)
    (hv : ∀ (j : Fin 16384) (d : Fin 128), s.dv (ix2 j d) = accV q k v o (t.val / 64) (t.val % 64) j.val d.val) :
    Good q k v o t (stepC m c t hc0 hc1 s) := by
  constructor
  · intro r d
    exact (runC_leaves_q c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv dqView dqView.junk r d).trans (outQ_of t r d)
  · intro j d
    refine (runC_leaves_k c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv j d).trans ?_
    rw [coords1 t]; exact (Finset.sum_range_succ _ _).symm
  · intro j d
    refine (runC_leaves_v c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv (pairOf q k v o (t.val / 64)) (accK q k v o (t.val / 64) (t.val % 64)) (accV q k v o (t.val / 64) (t.val % 64)) (E.blocks t) (E.first0 t) hc0 hc1 hk hv j d).trans ?_
    rw [coords1 t]; exact (Finset.sum_range_succ _ _).symm

/-- Every point leaves what it should. -/
theorem good (E : Entry m c q k v o) : ∀ (n : ℕ) (h : n < cfg0.N), Good q k v o ⟨n, h⟩ (pt m c (n + 1))
  | 0, h => by
    rw [show pt m c (0 + 1) = step m c ⟨0, h⟩ (pt m c 0) from pt_succ m c ⟨0, h⟩]
    unfold step; rw [dif_pos (show (⟨0, h⟩ : Fin cfg0.N).val % 64 = 0 from rfl)]
    exact goodA E _ rfl _ _ _
  | n + 1, h => by
    have ih := good E n (Nat.lt_of_succ_lt h)
    rw [show pt m c (n + 1 + 1) = step m c ⟨n + 1, h⟩ (pt m c (n + 1)) from pt_succ m c ⟨n + 1, h⟩]
    unfold step
    by_cases h0 : (⟨n + 1, h⟩ : Fin cfg0.N).val % 64 = 0
    · rw [dif_pos h0]; exact goodA E _ h0 _ _ _
    · have h0' : ¬(n + 1) % 64 = 0 := h0
      have e1 : (n + 1) / 64 = n / 64 := by omega
      have e2 : (n + 1) % 64 = n % 64 + 1 := by omega
      have hk : ∀ (j : Fin 16384) (d : Fin 128), (pt m c (n + 1)).dk (ix2 j d) = accK q k v o ((n + 1) / 64) ((n + 1) % 64) j.val d.val := by
        rw [e1, e2]; exact ih.dk
      have hv : ∀ (j : Fin 16384) (d : Fin 128), (pt m c (n + 1)).dv (ix2 j d) = accV q k v o ((n + 1) / 64) ((n + 1) % 64) j.val d.val := by
        rw [e1, e2]; exact ih.dv
      rw [dif_neg h0]
      by_cases h1 : (⟨n + 1, h⟩ : Fin cfg0.N).val % 64 = 63
      · rw [dif_pos h1]; exact goodC E ⟨n + 1, h⟩ _ _ _ hk hv
      · rw [dif_neg h1]; exact goodB E ⟨n + 1, h⟩ _ _ _ hk hv

theorem stepC_hk (t : Fin cfg0.N) (hc0 : ¬cond0_0 (grid0.coords t)) (hc1 : cond0_1 (grid0.coords t)) (s : Pt (F := Ideal) c) : (stepC m c t hc0 hc1 s).hk = (runCAt m c t hc0 hc1 s).2.2.2.1 := by
  sl_kernel_rfl
theorem stepC_dk (t : Fin cfg0.N) (hc0 : ¬cond0_0 (grid0.coords t)) (hc1 : cond0_1 (grid0.coords t)) (s : Pt (F := Ideal) c) : (stepC m c t hc0 hc1 s).dk = sc0.view.read (Elt Ideal) (runCAt m c t hc0 hc1 s).2.1 := by
  sl_kernel_rfl
/-- The last query block's copy: its own columns from the accumulator, the others kept. -/
theorem stepC_hk_apply (t : Fin cfg0.N) (hc0 : ¬cond0_0 (grid0.coords t)) (hc1 : cond0_1 (grid0.coords t)) (s : Pt (F := Ideal) c) (j : Fin 16384) (x : Fin 1024) :
    ((stepC m c t hc0 hc1 s).hk : S16384x1024.Idx → EReal) (ix2 j x)
      = if x.val / 128 = t.val / 64 then ((stepC m c t hc0 hc1 s).dk : S16384x128.Idx → EReal) (ix2 j ⟨x.val % 128, Nat.mod_lt _ (by decide)⟩) else (s.hk : S16384x1024.Idx → EReal) (ix2 j x) := by
  rw [stepC_hk, stepC_dk, ← coords0 t]
  exact runC_hk_apply c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv hc0 hc1 j x
theorem stepC_hv (t : Fin cfg0.N) (hc0 : ¬cond0_0 (grid0.coords t)) (hc1 : cond0_1 (grid0.coords t)) (s : Pt (F := Ideal) c) : (stepC m c t hc0 hc1 s).hv = (runCAt m c t hc0 hc1 s).2.2.2.2.1 := by
  sl_kernel_rfl
theorem stepC_dv (t : Fin cfg0.N) (hc0 : ¬cond0_0 (grid0.coords t)) (hc1 : cond0_1 (grid0.coords t)) (s : Pt (F := Ideal) c) : (stepC m c t hc0 hc1 s).dv = sc1.view.read (Elt Ideal) (runCAt m c t hc0 hc1 s).2.2.1 := by
  sl_kernel_rfl
/-- The last query block's copy: its own columns from the accumulator, the others kept. -/
theorem stepC_hv_apply (t : Fin cfg0.N) (hc0 : ¬cond0_0 (grid0.coords t)) (hc1 : cond0_1 (grid0.coords t)) (s : Pt (F := Ideal) c) (j : Fin 16384) (x : Fin 1024) :
    ((stepC m c t hc0 hc1 s).hv : S16384x1024.Idx → EReal) (ix2 j x)
      = if x.val / 128 = t.val / 64 then ((stepC m c t hc0 hc1 s).dv : S16384x128.Idx → EReal) (ix2 j ⟨x.val % 128, Nat.mod_lt _ (by decide)⟩) else (s.hv : S16384x1024.Idx → EReal) (ix2 j x) := by
  rw [stepC_hv, stepC_dv, ← coords0 t]
  exact runC_hv_apply c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _) sc2 (Memref.isWhole_whole _) sc3 (Memref.isWhole_whole _) sc4 (Memref.isWhole_whole _) sc5 (Memref.isWhole_whole _) (blk m c 0 t) (blk m c 1 t) (blk m c 2 t) (blk m c 3 t) (blk m c 4 t) s.dk s.dv s.hk s.hv hc0 hc1 j x

theorem copiedC (t : Fin cfg0.N) (hc0 : ¬cond0_0 (grid0.coords t)) (hc1 : cond0_1 (grid0.coords t)) (s : Pt (F := Ideal) c)
    (g : Good q k v o t (stepC m c t hc0 hc1 s)) (h1 : t.val % 64 = 63) (j : Fin 16384) (x : Fin 1024) (hx : x.val / 128 ≤ t.val / 64)
    (ih : x.val / 128 < t.val / 64 → (s.hk : S16384x1024.Idx → EReal) (ix2 j x) = accK q k v o (x.val / 128) 64 j.val (x.val % 128)
      ∧ (s.hv : S16384x1024.Idx → EReal) (ix2 j x) = accV q k v o (x.val / 128) 64 j.val (x.val % 128)) :
    ((stepC m c t hc0 hc1 s).hk : S16384x1024.Idx → EReal) (ix2 j x) = accK q k v o (x.val / 128) 64 j.val (x.val % 128)
      ∧ ((stepC m c t hc0 hc1 s).hv : S16384x1024.Idx → EReal) (ix2 j x) = accV q k v o (x.val / 128) 64 j.val (x.val % 128) := by
  have ek := stepC_hk_apply (m := m) t hc0 hc1 s j x
  have ev := stepC_hv_apply (m := m) t hc0 hc1 s j x
  by_cases hq : x.val / 128 = t.val / 64
  · have gk := g.dk j ⟨x.val % 128, Nat.mod_lt _ (by decide)⟩
    have gv := g.dv j ⟨x.val % 128, Nat.mod_lt _ (by decide)⟩
    rw [h1, ← hq] at gk gv
    rw [ek, ev, if_pos hq, if_pos hq]
    exact ⟨gk, gv⟩
  · rw [ek, ev, if_neg hq, if_neg hq]
    exact ih (by omega)

/-- The results in HBM after `n` points: the columns of the head pairs done. -/
theorem copied (E : Entry m c q k v o) : ∀ n : ℕ, n ≤ 512 → ∀ (j : Fin 16384) (x : Fin 1024), x.val / 128 < n / 64 →
    ((pt m c n).hk : S16384x1024.Idx → EReal) (ix2 j x) = accK q k v o (x.val / 128) 64 j.val (x.val % 128)
      ∧ ((pt m c n).hv : S16384x1024.Idx → EReal) (ix2 j x) = accV q k v o (x.val / 128) 64 j.val (x.val % 128)
  | 0, _, j, x, hx => absurd hx (by omega)
  | n + 1, hn, j, x, hx => by
    have h : n < cfg0.N := lt_of_lt_of_eq (by omega) N_0.symm
    have ih := copied E n (by omega) j x
    have g := good E n h
    rw [show pt m c (n + 1) = step m c ⟨n, h⟩ (pt m c n) from pt_succ m c ⟨n, h⟩] at g ⊢
    unfold step at g ⊢
    by_cases h0 : (⟨n, h⟩ : Fin cfg0.N).val % 64 = 0
    · have h0' : n % 64 = 0 := h0
      rw [dif_pos h0]; exact ih (by omega)
    · rw [dif_neg h0] at g ⊢
      by_cases h1 : (⟨n, h⟩ : Fin cfg0.N).val % 64 = 63
      · have h1' : n % 64 = 63 := h1
        rw [dif_pos h1] at g ⊢
        exact copiedC ⟨n, h⟩ _ _ _ g h1' j x (by show x.val / 128 ≤ n / 64; omega) ih
      · rw [dif_neg h1]
        have h1' : ¬n % 64 = 63 := h1
        exact ih (by omega)

/-- The query gradients as the grid leaves them. -/
def resQ (q k v o : ℕ → ℕ → ℝ) : S16384x1024.Idx → EReal := fun i => outQ q k v o ((i 1).val / 128) (i 0).val ((i 1).val % 128)

theorem flushed5 (E : Entry m c q k v o) (t : Fin cfg0.N) : (dats m 0 c).flushed 5 t = ((cfg0.win 5).blk t).view.read (Elt Ideal) (resQ q k v o) := by
  show (cfg0.win 5).cut (grid0.coords t) ((dats m 0 c).after 5 t) = _
  rw [after5]
  funext y
  obtain ⟨r, d, rfl⟩ : ∃ (r : Fin 256) (d : Fin 128), y = ix2 r d := ⟨y 0, y 1, eq_ix2 y⟩
  obtain ⟨a0, a1⟩ := idx5 t
  have hr := r.isLt; have hd := d.isLt
  show (pt m c (t.val + 1)).dq (ix2 r d) = resQ q k v o (((cfg0.win 5).blk t).view.emb (ix2 r d))
  refine ((good E t.val t.isLt).dq r d).trans ?_
  have e0 : ((((cfg0.win 5).blk t).view.emb (ix2 r d) : S16384x1024.Idx) 0).val = 256 * (t.val % 64) + r.val := by
    show win0_5.index t (0 : Fin 2) * 256 + 1 * r.val = _; omega
  have e1 : ((((cfg0.win 5).blk t).view.emb (ix2 r d) : S16384x1024.Idx) 1).val = 128 * (t.val / 64) + d.val := by
    show win0_5.index t (1 : Fin 2) * 128 + 1 * d.val = _; omega
  unfold resQ
  rw [e0, e1, show (128 * (t.val / 64) + d.val) / 128 = t.val / 64 from by omega, show (128 * (t.val / 64) + d.val) % 128 = d.val from by omega]

theorem final5 (E : Entry m c q k v o) : (dats m 0 c).arrAt 5 cfg0.N = resQ q k v o :=
  (dats m 0 c).arrAt_eq_of_cover 5 _ (fun t _ => flushed5 E t) fun i => by
    have h0 : (i 0).val < 16384 := (i 0).isLt
    have h1 : (i 1).val < 1024 := (i 1).isLt
    have hN : cfg0.N = 512 := N_0
    let t : Fin cfg0.N := ⟨64 * ((i 1).val / 128) + (i 0).val / 256, by omega⟩
    have ht : t.val = 64 * ((i 1).val / 128) + (i 0).val / 256 := rfl
    obtain ⟨c0, c1⟩ := idx5 t
    refine ⟨t, flush0_5 t, ?_⟩
    show i ∈ ((View.whole main_v49_0).slice (win0_5.rect t)).set
    rw [View.set_slice_whole, Rect.mem_set_unit]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 128 ≤ (i 1).val ∧ (i 1).val < win0_5.index t (1 : Fin 2) * 128 + 128; omega

end Cert.Kernel3Ideal.Attn

end
-- ==== Proof.AttnHostArr.lean ====
/- The arrays the attention's backward call is handed, as compositions of named arrays: the packed queries, keys and values, the
   upstream gradient, and the sums of the softplus from each key block on. -/
module

public import proofs.«01_k».proof.Proof.AttnFrame
public import Idealize.ShloMosaic.Lib.Pointwise
public import Idealize.ShloMosaic.Lib.IdealHost
public import Idealize.ShloMosaic.Lib.Ring
public import Idealize.ShloMosaic.Lib.Claim

@[expose] public section

set_option maxRecDepth 16384
set_option maxHeartbeats 4000000

noncomputable section

open Idealize.ShloMosaic Idealize.ShloMosaic.TcCoe

namespace Cert.Kernel3Ideal.Host

open Cert.Kernel3Ideal Cert.Kernel3Ideal.Gen

abbrev T := FVec Ideal S16x16384x16384 .f32
abbrev W := FVec Ideal S16384x1024 .f32

/-- The logarithm of two. -/
def ln : FVec Ideal S_ .f32 := Host.log (constant S_ .f32 0x40000000#32)
/-- The queries, scaled, beside the keys and the values. -/
def packed (q k v : W) : FVec Ideal S16384x3072 .bf16 :=
  truncf .bf16 (concatenate S16384x3072 1 [⟨S16384x1024, (mulf q (broadcastInDim S16384x1024 ![] bcast_S_S16384x1024 (Host.divf (constant S_ .f32 0x3E000000#32 : FVec Ideal S_ .f32) ln)) : W)⟩,
    ⟨S16384x1024, k⟩, ⟨S16384x1024, v⟩] concatenates_S16384x1024_S16384x1024_S16384x1024_S16384x3072_d1 : FVec Ideal S16384x3072 .f32) bitsLt_bf16_f32
/-- The heads of the packed queries and of the packed keys. -/
def headQ (w : FVec Ideal S16384x3072 .bf16) : FVec Ideal S16384x16x64 .f32 :=
  shapeCast S16384x16x64 (extf .f32 (extractStridedSlice S16384x1024 ![0, 0] w slices_S16384x3072_S16384x1024_0_0) bitsLt_bf16_f32) shapeCasts_S16384x1024_S16384x16x64
def headK (w : FVec Ideal S16384x3072 .bf16) : FVec Ideal S16384x16x64 .f32 :=
  shapeCast S16384x16x64 (extf .f32 (extractStridedSlice S16384x1024 ![0, 1024] w slices_S16384x3072_S16384x1024_0_1024) bitsLt_bf16_f32) shapeCasts_S16384x1024_S16384x16x64
def scores (w : FVec Ideal S16384x3072 .bf16) : T := Host.dotGeneral dot_S16384x16x64_S16384x16x64_S16x16384x16384_2_2_0_0_1_1 none (headQ w) (headK w)
def lns : T := broadcastInDim S16x16384x16384 ![] bcast_S_S16x16384x16384 ln
/-- The softplus, in the logarithm's base two. -/
def soft (z : T) : T :=
  addf (maximumf z (broadcastInDim S16x16384x16384 ![] bcast_S_S16x16384x16384 (constant S_ .f32 0x00000000#32)))
    (Host.divf (Host.log (addf (broadcastInDim S16x16384x16384 ![] bcast_S_S16x16384x16384 (constant S_ .f32 0x3F800000#32)) (Host.exp (mulf (Host.negf (Host.absf z)) lns)))) lns)
/-- Which keys come before the query. -/
def mask : IVec S16x16384x16384 1 :=
  broadcastInDim S16x16384x16384 ![0, 1, 2] bcast_S1x16384x16384_S16x16384x16384_0_1_2 (broadcastInDim S1x16384x16384 ![1, 2] bcast_S16384x16384_S1x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))))
def kept (z : T) : T := select mask z (broadcastInDim S16x16384x16384 ![] bcast_S_S16x16384x16384 (constant S_ .f32 0x00000000#32))
/-- Which keys come from a key block's end on. -/
def from_ : IVec S16384x128 1 :=
  cmpi .sge (broadcastInDim S16384x128 ![0, 1] bcast_S16384x1_S16384x128_0_1 (broadcastInDim S16384x1 ![0] bcast_S16384_S16384x1_0 (iotaInDim S16384 32 0)))
    (broadcastInDim S16384x128 ![0, 1] bcast_S1x128_S16384x128_0_1 (muli (broadcastInDim S1x128 ![] bcast_S_S1x128 (constantI S_ 32 256#32))
      (addi (broadcastInDim S1x128 ![1] bcast_S128_S1x128_1 (iotaInDim S128 32 0)) (broadcastInDim S1x128 ![] bcast_S_S1x128 (constantI S_ 32 1#32)))))
def parts (z : T) : FVec Ideal S16x16384x16384x128 .f32 :=
  select (broadcastInDim S16x16384x16384x128 ![0, 1, 2, 3] bcast_S1x1x16384x128_S16x16384x16384x128_0_1_2_3 (broadcastInDim S1x1x16384x128 ![2, 3] bcast_S16384x128_S1x1x16384x128_2_3 from_))
    (broadcastInDim S16x16384x16384x128 ![0, 1, 2, 3] bcast_S16x16384x16384x1_S16x16384x16384x128_0_1_2_3 (broadcastInDim S16x16384x16384x1 ![0, 1, 2] bcast_S16x16384x16384_S16x16384x16384x1_0_1_2 z))
    (broadcastInDim S16x16384x16384x128 ![] bcast_S_S16x16384x16384x128 (constant S_ .f32 0x00000000#32))
/-- The sums of the softplus from each key block's end on. -/
def sums (w : FVec Ideal S16384x3072 .bf16) : FVec Ideal S16x16384x128 .f32 :=
  Host.reduceAdd (parts (kept (soft (scores w)))) (constant S_ .f32 0x00000000#32) reducesTo_S16x16384x16384x128_S16x16384x128_d2 h_S_

variable (m : (ℓ : Loc nD τ sig) → Buf (Elt Ideal) ℓ) (c : Dev nD)

abbrev q0 : W := m ((c.tc : Thread nD τ).loc main_arg0)
abbrev k0 : W := m ((c.tc : Thread nD τ).loc main_arg1)
abbrev v0 : W := m ((c.tc : Thread nD τ).loc main_arg2)
abbrev o0 : W := m ((c.tc : Thread nD τ).loc main_arg3)

variable (f : Valuation τ sig (Elt Ideal))

/-! ## The host's lines, segment by segment, from any contents -/

theorem seg4_v47 : StableHlo.after hostOps0_4 f (Proc.devRef .tc main_v47) = (Host.reduceAdd (f (Proc.devRef .tc main_v46) : FVec Ideal S16x16384x16384x128 .f32) (constant S_ .f32 0x00000000#32 : FVec Ideal S_ .f32) reducesTo_S16x16384x16384x128_S16x16384x128_d2 h_S_ : FVec Ideal S16x16384x128 .f32) := by
  simp only [hostOps0_4]
  after_results_simp
  all_goals rfl
theorem seg4_v48 : StableHlo.after hostOps0_4 f (Proc.devRef .tc main_v48) = (truncf .bf16 (f (Proc.devRef .tc main_arg3) : W) bitsLt_bf16_f32 : FVec Ideal S16384x1024 .bf16) := by
  simp only [hostOps0_4]
  after_results_simp
  all_goals rfl

/-- The pieces the sums are of, from the masks and the values. -/
def choose (a : IVec S1x1x16384x128 1) (z : FVec Ideal S16x16384x16384x1 .f32) (e : FVec Ideal S_ .f32) : FVec Ideal S16x16384x16384x128 .f32 :=
  select (broadcastInDim S16x16384x16384x128 ![0, 1, 2, 3] bcast_S1x1x16384x128_S16x16384x16384x128_0_1_2_3 a)
    (broadcastInDim S16x16384x16384x128 ![0, 1, 2, 3] bcast_S16x16384x16384x1_S16x16384x16384x128_0_1_2_3 z) (broadcastInDim S16x16384x16384x128 ![] bcast_S_S16x16384x16384x128 e)
theorem seg3_v46 : StableHlo.after hostOps0_3 f (Proc.devRef .tc main_v46) = choose (f (Proc.devRef .tc main_v44)) (f (Proc.devRef .tc main_v45)) (f (Proc.devRef .tc main_cst_5)) := by
  simp only [hostOps0_3, StableHlo.TRef.binary, StableHlo.TRef.nullary, StableHlo.TRef.ternary, StableHlo.TRef.unary, StableHlo.TRef.toBuf, StableHlo.TRef.ofBuf, cast_eq]
  after_results_simp
  all_goals rfl
theorem seg3_arg3 : StableHlo.after hostOps0_3 f (Proc.devRef .tc main_arg3) = f (Proc.devRef .tc main_arg3) := by
  simp only [hostOps0_3, StableHlo.TRef.binary, StableHlo.TRef.nullary, StableHlo.TRef.ternary, StableHlo.TRef.unary, StableHlo.TRef.toBuf, StableHlo.TRef.ofBuf, cast_eq]
  after_results_simp
theorem seg2_v44 (hi : f (Proc.devRef .tc main_v13) = (iotaInDim S16384 32 0 : IVec S16384 32)) : StableHlo.after hostOps0_2 f (Proc.devRef .tc main_v44) = (broadcastInDim S1x1x16384x128 ![2, 3] bcast_S16384x128_S1x1x16384x128_2_3 from_ : IVec S1x1x16384x128 1) := by
  simp only [hostOps0_2]
  after_results_simp
  all_goals (simp only [hi]; rfl)
theorem seg2_v45 : StableHlo.after hostOps0_2 f (Proc.devRef .tc main_v45) = (broadcastInDim S16x16384x16384x1 ![0, 1, 2] bcast_S16x16384x16384_S16x16384x16384x1_0_1_2 (f (Proc.devRef .tc main_v33) : T) : FVec Ideal S16x16384x16384x1 .f32) := by
  simp only [hostOps0_2]
  after_results_simp
  all_goals rfl
theorem seg2_cst : StableHlo.after hostOps0_2 f (Proc.devRef .tc main_cst_5) = (constant S_ .f32 0x00000000#32 : FVec Ideal S_ .f32) := by
  simp only [hostOps0_2]
  after_results_simp
  all_goals rfl
theorem seg2_arg3 : StableHlo.after hostOps0_2 f (Proc.devRef .tc main_arg3) = f (Proc.devRef .tc main_arg3) := by
  simp only [hostOps0_2]
  after_results_simp
theorem seg1_v33 : StableHlo.after hostOps0_1 f (Proc.devRef .tc main_v33) = (select (broadcastInDim S16x16384x16384 ![0, 1, 2] bcast_S1x16384x16384_S16x16384x16384_0_1_2 (f (Proc.devRef .tc main_v32) : IVec S1x16384x16384 1) : IVec S16x16384x16384 1)
      (f (Proc.devRef .tc main_v26) : T) (broadcastInDim S16x16384x16384 ![] bcast_S_S16x16384x16384 (f (Proc.devRef .tc main_cst_3) : FVec Ideal S_ .f32)) : T) := by
  simp only [hostOps0_1, StableHlo.TRef.binary, StableHlo.TRef.nullary, StableHlo.TRef.ternary, StableHlo.TRef.unary, StableHlo.TRef.toBuf, StableHlo.TRef.ofBuf, cast_eq]
  after_results_simp
  all_goals rfl
theorem seg1_v13 : StableHlo.after hostOps0_1 f (Proc.devRef .tc main_v13) = f (Proc.devRef .tc main_v13) := by
  simp only [hostOps0_1, StableHlo.TRef.binary, StableHlo.TRef.nullary, StableHlo.TRef.ternary, StableHlo.TRef.unary, StableHlo.TRef.toBuf, StableHlo.TRef.ofBuf, cast_eq]
  after_results_simp
theorem seg1_arg3 : StableHlo.after hostOps0_1 f (Proc.devRef .tc main_arg3) = f (Proc.devRef .tc main_arg3) := by
  simp only [hostOps0_1, StableHlo.TRef.binary, StableHlo.TRef.nullary, StableHlo.TRef.ternary, StableHlo.TRef.unary, StableHlo.TRef.toBuf, StableHlo.TRef.ofBuf, cast_eq]
  after_results_simp

/-- The lines up to the packing, those up to the scores, and those after. -/
abbrev opsA : List (HloOp τ sig (Elt Ideal)) := hostOps0.take 6
abbrev opsP : List (HloOp τ sig (Elt Ideal)) := (hostOps0.drop 6).take 2
abbrev opsB : List (HloOp τ sig (Elt Ideal)) := (hostOps0.drop 8).take 7
abbrev opsC : List (HloOp τ sig (Elt Ideal)) := hostOps0.drop 15

theorem ops_eq : (hostOps0 : List (HloOp τ sig (Elt Ideal))) = opsA ++ (opsP ++ (opsB ++ opsC)) := rfl

theorem segC_v26 (w : FVec Ideal S_ .f32) (hw : f (Proc.devRef .tc main_v0) = w) (hl : w = ln) : StableHlo.after opsC f (Proc.devRef .tc main_v26) = soft (f (Proc.devRef .tc main_v12)) := by
  simp only [opsC, hostOps0, List.drop_succ_cons, List.drop_zero]
  after_results_simp
  simp only [hw, hl]
  rfl
theorem segC_v32 : StableHlo.after opsC f (Proc.devRef .tc main_v32) = (broadcastInDim S1x16384x16384 ![1, 2] bcast_S16384x16384_S1x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))) : IVec S1x16384x16384 1) := by
  simp only [opsC, hostOps0, List.drop_succ_cons, List.drop_zero]
  after_results_simp
  all_goals rfl
theorem segC_v13 : StableHlo.after opsC f (Proc.devRef .tc main_v13) = (iotaInDim S16384 32 0 : IVec S16384 32) := by
  simp only [opsC, hostOps0, List.drop_succ_cons, List.drop_zero]
  after_results_simp
  all_goals rfl
theorem segC_cst : StableHlo.after opsC f (Proc.devRef .tc main_cst_3) = (constant S_ .f32 0x00000000#32 : FVec Ideal S_ .f32) := by
  simp only [opsC, hostOps0, List.drop_succ_cons, List.drop_zero]
  after_results_simp
  all_goals rfl
theorem segB_v12 : StableHlo.after opsB f (Proc.devRef .tc main_v12) = scores (f (Proc.devRef .tc main_v5)) := by
  simp only [opsB, hostOps0, List.drop_succ_cons, List.drop_zero, List.take_succ_cons, List.take_zero]
  after_results_simp
  all_goals rfl
theorem segB_v0 : StableHlo.after opsB f (Proc.devRef .tc main_v0) = f (Proc.devRef .tc main_v0) := by
  simp only [opsB, hostOps0, List.drop_succ_cons, List.drop_zero, List.take_succ_cons, List.take_zero]
  after_results_simp
theorem segA_v0 : StableHlo.after opsA f (Proc.devRef .tc main_v0) = ln := by
  simp only [opsA, hostOps0, List.take_succ_cons, List.take_zero]
  after_results_simp
  all_goals rfl
theorem segP_v5 : StableHlo.after opsP f (Proc.devRef .tc main_v5)
    = (truncf .bf16 (concatenate S16384x3072 1 [⟨S16384x1024, (f (Proc.devRef .tc main_v3) : W)⟩, ⟨S16384x1024, (f (Proc.devRef .tc main_arg1) : W)⟩, ⟨S16384x1024, (f (Proc.devRef .tc main_arg2) : W)⟩]
        concatenates_S16384x1024_S16384x1024_S16384x1024_S16384x3072_d1 : FVec Ideal S16384x3072 .f32) bitsLt_bf16_f32 : FVec Ideal S16384x3072 .bf16) := by
  simp only [opsP, hostOps0, List.drop_succ_cons, List.drop_zero, List.take_succ_cons, List.take_zero]
  rw [StableHlo.after_cons, StableHlo.after_cons, StableHlo.after_nil, StableHlo.unary_result, StableHlo.nary_result]
  rfl
theorem segP_v0 : StableHlo.after opsP f (Proc.devRef .tc main_v0) = f (Proc.devRef .tc main_v0) := by
  simp only [opsP, hostOps0, List.drop_succ_cons, List.drop_zero, List.take_succ_cons, List.take_zero]
  rw [StableHlo.after_cons, StableHlo.after_cons, StableHlo.after_nil, StableHlo.unary_result_ne _ _ _ _ _ _ (by decide), StableHlo.nary_result_ne _ _ _ _ _ _ (by decide)]
theorem segA_v3 : StableHlo.after opsA f (Proc.devRef .tc main_v3)
    = (mulf (f (Proc.devRef .tc main_arg0) : W) (broadcastInDim S16384x1024 ![] bcast_S_S16384x1024 (Host.divf (constant S_ .f32 0x3E000000#32 : FVec Ideal S_ .f32) ln)) : W) := by
  simp only [opsA, hostOps0, List.take_succ_cons, List.take_zero]
  after_results_simp
  all_goals rfl
theorem segA_arg1 : StableHlo.after opsA f (Proc.devRef .tc main_arg1) = f (Proc.devRef .tc main_arg1) := by
  simp only [opsA, hostOps0, List.take_succ_cons, List.take_zero]
  after_results_simp
theorem segA_arg2 : StableHlo.after opsA f (Proc.devRef .tc main_arg2) = f (Proc.devRef .tc main_arg2) := by
  simp only [opsA, hostOps0, List.take_succ_cons, List.take_zero]
  after_results_simp

theorem seg4_v0 : StableHlo.after hostOps0_4 f (Proc.devRef .tc main_v0) = f (Proc.devRef .tc main_v0) := by
  simp only [hostOps0_4]
  after_results_simp
theorem seg4_v5 : StableHlo.after hostOps0_4 f (Proc.devRef .tc main_v5) = f (Proc.devRef .tc main_v5) := by
  simp only [hostOps0_4]
  after_results_simp
theorem seg3_v0 : StableHlo.after hostOps0_3 f (Proc.devRef .tc main_v0) = f (Proc.devRef .tc main_v0) := by
  simp only [hostOps0_3, StableHlo.TRef.binary, StableHlo.TRef.nullary, StableHlo.TRef.ternary, StableHlo.TRef.unary, StableHlo.TRef.toBuf, StableHlo.TRef.ofBuf, cast_eq]
  after_results_simp
theorem seg3_v5 : StableHlo.after hostOps0_3 f (Proc.devRef .tc main_v5) = f (Proc.devRef .tc main_v5) := by
  simp only [hostOps0_3, StableHlo.TRef.binary, StableHlo.TRef.nullary, StableHlo.TRef.ternary, StableHlo.TRef.unary, StableHlo.TRef.toBuf, StableHlo.TRef.ofBuf, cast_eq]
  after_results_simp
theorem seg2_v0 : StableHlo.after hostOps0_2 f (Proc.devRef .tc main_v0) = f (Proc.devRef .tc main_v0) := by
  simp only [hostOps0_2]
  after_results_simp
theorem seg2_v5 : StableHlo.after hostOps0_2 f (Proc.devRef .tc main_v5) = f (Proc.devRef .tc main_v5) := by
  simp only [hostOps0_2]
  after_results_simp
theorem seg1_v0 : StableHlo.after hostOps0_1 f (Proc.devRef .tc main_v0) = f (Proc.devRef .tc main_v0) := by
  simp only [hostOps0_1, StableHlo.TRef.binary, StableHlo.TRef.nullary, StableHlo.TRef.ternary, StableHlo.TRef.unary, StableHlo.TRef.toBuf, StableHlo.TRef.ofBuf, cast_eq]
  after_results_simp
theorem seg1_v5 : StableHlo.after hostOps0_1 f (Proc.devRef .tc main_v5) = f (Proc.devRef .tc main_v5) := by
  simp only [hostOps0_1, StableHlo.TRef.binary, StableHlo.TRef.nullary, StableHlo.TRef.ternary, StableHlo.TRef.unary, StableHlo.TRef.toBuf, StableHlo.TRef.ofBuf, cast_eq]
  after_results_simp
theorem segC_v0 : StableHlo.after opsC f (Proc.devRef .tc main_v0) = f (Proc.devRef .tc main_v0) := by
  simp only [opsC, hostOps0, List.drop_succ_cons, List.drop_zero]
  after_results_simp
theorem segC_v5 : StableHlo.after opsC f (Proc.devRef .tc main_v5) = f (Proc.devRef .tc main_v5) := by
  simp only [opsC, hostOps0, List.drop_succ_cons, List.drop_zero]
  after_results_simp
theorem segB_v5 : StableHlo.after opsB f (Proc.devRef .tc main_v5) = f (Proc.devRef .tc main_v5) := by
  simp only [opsB, hostOps0, List.drop_succ_cons, List.drop_zero, List.take_succ_cons, List.take_zero]
  after_results_simp
theorem seg4_arg3 : StableHlo.after hostOps0_4 f (Proc.devRef .tc main_arg3) = f (Proc.devRef .tc main_arg3) := by
  simp only [hostOps0_4]
  after_results_simp

/-! ## What the call is handed -/

theorem after_app (l₁ l₂ : List (HloOp τ sig (Elt Ideal))) (g : Valuation τ sig (Elt Ideal)) : StableHlo.after (l₁ ++ l₂) g = StableHlo.after l₂ (StableHlo.after l₁ g) := by
  induction l₁ generalizing g with
  | nil => rfl
  | cons op l ih => rw [List.cons_append, StableHlo.after_cons, StableHlo.after_cons, ih]

/-- What stands after the packing, after the scores, and before the last lines. -/
def atP : Valuation τ sig (Elt Ideal) := StableHlo.after opsP (StableHlo.after opsA (fun b => m (c, b)))
def atC : Valuation τ sig (Elt Ideal) := StableHlo.after opsC (StableHlo.after opsB (atP m c))
def at3 : Valuation τ sig (Elt Ideal) := StableHlo.after hostOps0_3 (StableHlo.after hostOps0_2 (StableHlo.after hostOps0_1 (atC m c)))

theorem V0_eq : Attn.V0 m c = StableHlo.after hostOps0_4 (at3 m c) := by
  refine (show _ = StableHlo.after ((opsA ++ (opsP ++ (opsB ++ opsC))) ++ (hostOps0_1 ++ (hostOps0_2 ++ (hostOps0_3 ++ (hostOps0_4 ++ []))))) (fun b => m (c, b)) from rfl).trans ?_
  rw [after_app, after_app, after_app, after_app, after_app, after_app, after_app, after_app, StableHlo.after_nil]
  rfl

theorem atP_v0 : atP m c (Proc.devRef .tc main_v0) = ln := by
  unfold atP
  rw [segP_v0, segA_v0]
theorem atP_v5 : atP m c (Proc.devRef .tc main_v5) = packed (q0 m c) (k0 m c) (v0 m c) := by
  unfold atP
  rw [segP_v5, segA_v3, segA_arg1, segA_arg2]
  rfl

theorem V_v0 : Attn.V m c main_v0 = ln := by
  refine (congrFun (V0_eq m c) _).trans ?_
  unfold at3 atC
  rw [seg4_v0, seg3_v0, seg2_v0, seg1_v0, segC_v0, segB_v0, atP_v0]

theorem V_v5 : Attn.V m c main_v5 = packed (q0 m c) (k0 m c) (v0 m c) := by
  refine (congrFun (V0_eq m c) _).trans ?_
  unfold at3 atC
  rw [seg4_v5, seg3_v5, seg2_v5, seg1_v5, segC_v5, segB_v5, atP_v5]

theorem V_v48 : Attn.V m c main_v48 = truncf .bf16 (o0 m c) bitsLt_bf16_f32 := by
  have h := Gen.V_main_arg3 m c
  have h' : at3 m c (Proc.devRef .tc main_arg3) = o0 m c := (seg4_arg3 _).symm.trans ((congrFun (V0_eq m c) _).symm.trans h)
  refine (congrFun (V0_eq m c) _).trans ?_
  rw [seg4_v48, h']

theorem V_v47 : Attn.V m c main_v47 = sums (packed (q0 m c) (k0 m c) (v0 m c)) := by
  refine (congrFun (V0_eq m c) _).trans ?_
  have e0 : StableHlo.after opsB (atP m c) (Proc.devRef .tc main_v0) = ln := (segB_v0 _).trans (atP_v0 m c)
  unfold at3 atC
  rw [seg4_v47, seg3_v46, seg2_v44 _ ((seg1_v13 _).trans (segC_v13 _)), seg2_v45, seg2_cst, seg1_v33, segC_v32, segC_cst, segC_v26 _ _ e0 rfl, segB_v12, atP_v5]
  rfl

end Cert.Kernel3Ideal.Host

end
-- ==== Proof.AttnRefArr.lean ====
/- The reference's three results as compositions of named arrays: the heads, the scores, the softplus and its derivative, the
   weights, and the scores' gradients. -/
module

public import proofs.«01_k».proof.Proof.Gen.Reference3Ideal.Run
public import Idealize.ShloMosaic.Lib.Pointwise
public import Idealize.ShloMosaic.Lib.IdealHost
public import Idealize.ShloMosaic.Lib.Ring

@[expose] public section

set_option maxRecDepth 16384
set_option maxHeartbeats 4000000

noncomputable section

open Idealize.ShloMosaic Idealize.ShloMosaic.TcCoe

namespace Cert.Reference3Ideal.Arr

open Cert.Reference3Ideal Cert.Reference3Ideal.Gen

abbrev T := FVec Ideal S16x16384x16384 .f32
abbrev W := FVec Ideal S16384x1024 .f32

/-- An array's heads. -/
def heads (x : W) : FVec Ideal S16x16384x64 .f32 := transpose S16x16384x64 [1, 0, 2] (shapeCast S16384x16x64 x shapeCasts_S16384x1024_S16384x16x64) transposes_S16384x16x64_S16x16384x64_1_0_2
/-- The heads back in one array. -/
def merge (x : FVec Ideal S16x16384x64 .f32) : W := shapeCast S16384x1024 (transpose S16384x16x64 [1, 0, 2] x transposes_S16x16384x64_S16384x16x64_1_0_2) shapeCasts_S16384x16x64_S16384x1024
/-- The number the queries are scaled by, everywhere. -/
def eighth : FVec Ideal S16x16384x64 .f32 := broadcastInDim S16x16384x64 ![] bcast_S_S16x16384x64 (constant S_ .f32 0x3E000000#32)
def scaled (q : W) : FVec Ideal S16x16384x64 .f32 := mulf (heads q) eighth
def scores (x y : FVec Ideal S16x16384x64 .f32) : T := Host.dotGeneral dot_S16x16384x64_S16x16384x64_S16x16384x16384_2_2_1_1_0_0 none x y
/-- Which keys come before the query. -/
def mask : IVec S16x16384x16384 1 :=
  broadcastInDim S16x16384x16384 ![0, 1, 2] bcast_S1x16384x16384_S16x16384x16384_0_1_2 (broadcastInDim S1x16384x16384 ![1, 2] bcast_S16384x16384_S1x16384x16384_1_2
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))))
def zeros : T := broadcastInDim S16x16384x16384 ![] bcast_S_S16x16384x16384 (constant S_ .f32 0x00000000#32)
def infs : T := broadcastInDim S16x16384x16384 ![] bcast_S_S16x16384x16384 (constant S_ .f32 0x7F800000#32)
def zero : FVec Ideal S_ .f32 := broadcastInDim S_ ![] bcast_S_S_ (constant S_ .f32 0x00000000#32)
/-- The softplus. -/
def soft (z : T) : T :=
  select (cmpf .une (subf z zeros) (subf z zeros)) (addf z zeros) (addf (maximumf z zeros) (Host.log1p (Host.exp (Host.negf (Host.absf (subf z zeros))))))
/-- Its derivative. -/
def dsoft (z : T) : T := Host.exp (subf (select (cmpf .oeq z infs) zeros z) (select (cmpf .oeq (soft z) infs) zeros (soft z)))
/-- The sums from each key on. -/
def onward (z : T) : T :=
  Host.reduceWindowAdd ![1, 1, 16384] ![1, 1, 1] ![0, 0, 0] ![0, 0, 16383] (select mask (soft z) zeros) zero reduceWindows_S16x16384x16384_S16x16384x16384_w1s1p0_0_w1s1p0_0_w16384s1p0_16383 h_S_
/-- The sums beyond each key. -/
def beyond (z : T) : T :=
  concatenate S16x16384x16384 2 [⟨S16x16384x16383, (extractStridedSlice S16x16384x16383 ![0, 0, 1] (onward z) slices_S16x16384x16384_S16x16384x16383_0_0_1 : FVec Ideal S16x16384x16383 .f32)⟩,
    ⟨S16x16384x1, (broadcastInDim S16x16384x1 ![] bcast_S_S16x16384x1 (constant S_ .f32 0x00000000#32) : FVec Ideal S16x16384x1 .f32)⟩] concatenates_S16x16384x16383_S16x16384x1_S16x16384x16384_d2
def weight (z : T) : T := Host.exp (subf (Host.negf (soft (Host.negf z))) (beyond z))
def kept (z : T) : T := select mask (weight z) zeros
/-- The gradient at a weight's logarithm. -/
def grad (z d : T) : T := mulf (select mask d zeros) (weight z)
/-- The sums of the keys before each, of the negated. -/
def earlier (g : T) : T :=
  Host.reduceWindowAdd ![1, 1, 16384] ![1, 1, 1] ![0, 0, 16383] ![0, 0, 0]
    (pad S16x16384x16384 ![0, 0, 1] ![0, 0, 0] ![0, 0, 0] (extractStridedSlice S16x16384x16383 ![0, 0, 0] (Host.negf g) slices_S16x16384x16384_S16x16384x16383_0_0_0 : FVec Ideal S16x16384x16383 .f32) (constant S_ .f32 0x00000000#32 : FVec Ideal S_ .f32) pads_S16x16384x16383_S16x16384x16384_000_000_100 h_S_)
    zero reduceWindows_S16x16384x16384_S16x16384x16384_w1s1p0_0_w1s1p0_0_w16384s1p16383_0 h_S_
/-- The scores' gradient. -/
def dscore (z d : T) : T := addf (Host.negf (mulf (Host.negf (grad z d)) (dsoft (Host.negf z)))) (mulf (select mask (earlier (grad z d)) zeros) (dsoft z))

def sc (q k : W) : T := scores (scaled q) (heads k)
def dw (o v : W) : T := scores (heads o) (heads v)
def dV (q k v o : W) : W := merge (transpose S16x16384x64 [0, 2, 1] (Host.dotGeneral dot_S16x16384x64_S16x16384x16384_S16x64x16384_1_1_2_2_0_0 none (heads o) (kept (sc q k)) : FVec Ideal S16x64x16384 .f32) transposes_S16x64x16384_S16x16384x64_0_2_1)
def dK (q k v o : W) : W := merge (Host.dotGeneral dot_S16x16384x16384_S16x16384x64_S16x16384x64_1_1_2_2_0_0 none (dscore (sc q k) (dw o v)) (scaled q))
def dQ (q k v o : W) : W := merge (mulf (Host.dotGeneral dot_S16x16384x16384_S16x16384x64_S16x16384x64_2_1_1_2_0_0 none (dscore (sc q k) (dw o v)) (heads k)) eighth)

variable (m : (ℓ : Loc nD τ sig) → Buf (Elt Ideal) ℓ) (c : Dev nD)

abbrev q0 : W := m ((c.tc : Thread nD τ).loc main_arg0)
abbrev k0 : W := m ((c.tc : Thread nD τ).loc main_arg1)
abbrev v0 : W := m ((c.tc : Thread nD τ).loc main_arg2)
abbrev o0 : W := m ((c.tc : Thread nD τ).loc main_arg3)

theorem res2 : Cert.Reference3Ideal.Value.res_main_v50 m c = dV (q0 m c) (k0 m c) (v0 m c) (o0 m c) := by sl_kernel_rfl
theorem res1 : Cert.Reference3Ideal.Value.res_main_v52 m c = dK (q0 m c) (k0 m c) (v0 m c) (o0 m c) := by sl_kernel_rfl
theorem res0 : Cert.Reference3Ideal.Value.res_main_v56 m c = dQ (q0 m c) (k0 m c) (v0 m c) (o0 m c) := by sl_kernel_rfl

end Cert.Reference3Ideal.Arr

end
-- ==== Proof.AttnRefVal.lean ====
/- The reference's arrays over the extended reals, entry by entry. -/
module

public import proofs.«01_k».proof.Proof.AttnRefArr
public import proofs.«01_k».proof.Proof.AttnReal

@[expose] public section

set_option maxRecDepth 16384
set_option maxHeartbeats 4000000

noncomputable section

open Idealize.ShloMosaic Idealize.ShloMosaic.TcCoe

namespace Cert.Reference3Ideal.Arr

open Cert.Reference3Ideal Cert.Reference3Ideal.Gen _root_.Attn

theorem eighth_word : Ideal.ofBits .f32 0x3E000000#32 = ((1 / 8 : ℝ) : EReal) := by
  simp [Ideal.ofBits, Ideal.ieee]
  rw [← EReal.coe_mul]; congr 1; norm_num

theorem inf_word : Ideal.ofBits .f32 0x7F800000#32 = ⊤ := by
  simp [Ideal.ofBits, Ideal.ieee]

/-! ## Sums over windows -/

theorem foldl_add {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- A sum over windows as a sum over the places of one window. -/
theorem windows_sum {s t : Shape} (window strides lo hi : Fin s.rank → ℕ) (h : s.ReduceWindows window strides lo hi t) (x : s.Idx → EReal) (j : t.Idx) :
    Ideal.hostReduceWindowAdd window strides lo hi h x 0 j = ∑ w : (⟨s.rank, window⟩ : Shape).Idx,
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  refine (foldl_add _ _ _).trans ((zero_add _).trans ((Fin.sum_univ_def _).symm.trans ?_))
  refine Eq.trans (Finset.sum_congr rfl fun n _ => ?_) <| Equiv.sum_comp (Shape.rowMajor (⟨s.rank, window⟩ : Shape)).symm (fun w : (⟨s.rank, window⟩ : Shape).Idx =>
    if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0)
  dsimp only
  congr

/-- A sum over the places of a row. -/
theorem row_sum (n : ℕ) (f : (⟨3, ![1, 1, n]⟩ : Shape).Idx → EReal) : ∑ w, f w = ∑ l : Fin n, f (ix3 0 0 l) := by
  refine Fintype.sum_equiv ⟨fun w => (w 2 : Fin n), fun l => ix3 0 0 l, fun w => ?_, fun l => rfl⟩ _ _ fun w => ?_
  · funext a
    match a with
    | ⟨0, _⟩ => exact Subsingleton.elim (α := Fin 1) _ _
    | ⟨1, _⟩ => exact Subsingleton.elim (α := Fin 1) _ _
    | ⟨2, _⟩ => rfl
  · refine congrArg _ ?_
    funext a
    match a with
    | ⟨0, _⟩ => exact Subsingleton.elim (α := Fin 1) _ _
    | ⟨1, _⟩ => exact Subsingleton.elim (α := Fin 1) _ _
    | ⟨2, _⟩ => rfl

/-- A sum over windows along the last axis alone. -/
theorem window_sum {A B N : ℕ} (lo hi : Fin 3 → ℕ) (h : (⟨3, ![A, B, N]⟩ : Shape).ReduceWindows ![1, 1, N] ![1, 1, 1] lo hi ⟨3, ![A, B, N]⟩) (x : (⟨3, ![A, B, N]⟩ : Shape).Idx → EReal) (z : FVec Ideal S_ .f32) (hz : z (Shape.Idx.first h_S_) = 0)
    (j : (⟨3, ![A, B, N]⟩ : Shape).Idx) : (Host.reduceWindowAdd (F := Ideal) (φ := .f32) ![1, 1, N] ![1, 1, 1] lo hi x z h h_S_ : FVec Ideal ⟨3, ![A, B, N]⟩ .f32) j
      = ∑ l : Fin N, (fun w : (⟨3, ![1, 1, N]⟩ : Shape).Idx =>
          if hin : ∀ a : Fin 3, lo a ≤ (j a).val * (![1, 1, 1] : Fin 3 → ℕ) a + (w a).val ∧ (j a).val * (![1, 1, 1] : Fin 3 → ℕ) a + (w a).val - lo a < (⟨3, ![A, B, N]⟩ : Shape).size a
            then x (fun a => ⟨(j a).val * (![1, 1, 1] : Fin 3 → ℕ) a + (w a).val - lo a, (hin a).2⟩) else 0) (ix3 0 0 l) := by
  show Ideal.hostReduceWindowAdd ![1, 1, N] ![1, 1, 1] lo hi h x (z (Shape.Idx.first h_S_)) j = _
  rw [hz]
  exact (windows_sum _ _ _ _ h x j).trans (row_sum N _)

/-- The sum from a place on, and the sum before a place, as the windows take them. -/
theorem from_sum (s : ℕ → ℝ) (i j N : ℕ) (hi : i ≤ N) :
    (∑ l ∈ Finset.range N, if j + l < N then (if j + l < i then s (j + l) else 0) else 0) = ∑ l ∈ Finset.range i, if j ≤ l then s l else 0 := by
  have e : (∑ l ∈ Finset.range N, if j + l < N then (if j + l < i then s (j + l) else 0) else 0) = ∑ l ∈ Finset.range (i - j), s (j + l) := by
    rw [← Finset.sum_subset (s₁ := Finset.range (i - j)) (s₂ := Finset.range N)]
    · refine Finset.sum_congr rfl fun l hl => ?_
      have := Finset.mem_range.1 hl
      rw [if_pos (by omega), if_pos (by omega)]
    · intro l hl; have := Finset.mem_range.1 hl; exact Finset.mem_range.2 (by omega)
    · intro l _ hl
      have := mt Finset.mem_range.2 hl
      rw [if_neg (show ¬j + l < i by omega)]; simp
  rw [e]
  by_cases h : j ≤ i
  · conv_rhs => rw [show i = j + (i - j) from by omega, Finset.sum_range_add]
    rw [Finset.sum_eq_zero (s := Finset.range j) (fun l hl => by have := Finset.mem_range.1 hl; rw [if_neg (by omega)]), zero_add]
    exact Finset.sum_congr rfl fun l _ => by rw [if_pos (by omega)]
  · rw [show i - j = 0 from by omega, Finset.range_zero, Finset.sum_empty]
    exact (Finset.sum_eq_zero fun l hl => by have := Finset.mem_range.1 hl; rw [if_neg (by omega)]).symm

theorem before_sum (y : ℕ → ℝ) (j M : ℕ) (hj : j ≤ M) :
    (∑ l ∈ Finset.range (M + 1), if M ≤ j + l then (if 1 ≤ j + l - M then y (j + l - M - 1) else 0) else 0) = ∑ l ∈ Finset.range j, y l := by
  rw [show M + 1 = (M + 1 - j) + j from by omega, Finset.sum_range_add, Finset.sum_eq_zero, zero_add]
  · refine Finset.sum_congr rfl fun l hl => ?_
    rw [if_pos (by omega), if_pos (by omega)]
    congr 1; omega
  · intro l hl
    have := Finset.mem_range.1 hl
    by_cases h : M ≤ j + l
    · rw [if_neg (show ¬1 ≤ j + l - M by omega)]; simp
    · rw [if_neg h]

/-! ## The arrays -/

theorem heads_apply (x : W) (h : Fin 16) (i : Fin 16384) (d : Fin 64) : heads x (ix3 h i d) = x (ix2 i ⟨64 * h.val + d.val, by have := h.isLt; have := d.isLt; omega⟩) := by
  pointwise [heads]
  exact congrArg x (congrArg (ix2 i) (Fin.ext (by show h.val * 64 + d.val = 64 * h.val + d.val; omega)))

theorem merge_apply (x : FVec Ideal S16x16384x64 .f32) (i : Fin 16384) (c : Fin 1024) :
    merge x (ix2 i c) = x (ix3 ⟨c.val / 64, by have := c.isLt; omega⟩ i ⟨c.val % 64, Nat.mod_lt _ (by decide)⟩) := by
  pointwise [merge]

theorem eighth_apply (j : S16x16384x64.Idx) : eighth j = ((1 / 8 : ℝ) : EReal) := by
  pointwise [eighth]
  exact eighth_word

theorem scores_apply (x y : FVec Ideal S16x16384x64 .f32) (h : Fin 16) (i j : Fin 16384) : scores x y (ix3 h i j) = ∑ d : Fin 64, x (ix3 h i d) * y (ix3 h j d) := by
  pointwise [scores]

theorem slt_small (i j : Fin 16384) : IntOp.cmpi .slt (BitVec.ofNat 32 j.val) (BitVec.ofNat 32 i.val) = if j.val < i.val then 1#1 else 0#1 := by
  have hi := i.isLt; have hj := j.isLt
  have e : (BitVec.ofNat 32 j.val).slt (BitVec.ofNat 32 i.val) = decide (j.val < i.val) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    exact decide_eq_decide.2 (by omega)
  show BitVec.ofBool ((BitVec.ofNat 32 j.val).slt (BitVec.ofNat 32 i.val)) = _
  rw [e]
  by_cases h : j.val < i.val <;> simp [h]

theorem mask_apply (h : Fin 16) (i j : Fin 16384) : mask (ix3 h i j) = if j.val < i.val then 1#1 else 0#1 := by
  pointwise [mask]
  exact slt_small i j

theorem zeros_apply (j : S16x16384x16384.Idx) : zeros j = 0 := by
  pointwise [zeros]
theorem infs_apply (j : S16x16384x16384.Idx) : infs j = ⊤ := by
  pointwise [infs]
  exact inf_word

/-- A choice by the mask. -/
theorem sel_apply (x : T) (h : Fin 16) (i j : Fin 16384) : (select mask x zeros : T) (ix3 h i j) = if j.val < i.val then x (ix3 h i j) else 0 := by
  show (if mask (ix3 h i j) = 1#1 then x (ix3 h i j) else zeros (ix3 h i j)) = _
  rw [mask_apply, zeros_apply]
  by_cases hj : j.val < i.val <;> simp [hj]

theorem beyond_apply (z : T) (h : Fin 16) (i j : Fin 16384) :
    beyond z (ix3 h i j) = if hj : j.val < 16383 then onward z (ix3 h i ⟨1 + j.val, by omega⟩) else 0 := by
  pointwise [beyond]

theorem soft_apply (z : T) (j : S16x16384x16384.Idx) (x : ℝ) (hz : z j = (x : EReal)) : soft z j = ((spr x : ℝ) : EReal) := by
  pointwise [soft, zeros]
  rw [if_neg (fun h => h rfl), hz, Cert.Kernel3Ideal.Attn.abs_coe, ← EReal.coe_neg, ← EReal.coe_zero, ← coe_max]
  have hp : 0 < 1 + Real.exp (-|x|) := by positivity
  have e : Ideal.log1p (Ideal.exp ((-|x| : ℝ) : EReal)) = ((Real.log (1 + Real.exp (-|x|)) : ℝ) : EReal) := by
    show Ideal.log (1 + ((Real.exp (-|x|) : ℝ) : EReal)) = _
    rw [← EReal.coe_one, ← EReal.coe_add]
    exact if_neg (not_le.2 hp)
  rw [e, ← EReal.coe_add]
  rfl

theorem neg_apply (z : T) (j : S16x16384x16384.Idx) (x : ℝ) (hz : z j = (x : EReal)) : Host.negf z j = ((-x : ℝ) : EReal) := by
  rw [EReal.coe_neg, ← hz]; rfl

theorem dsoft_apply (z : T) (j : S16x16384x16384.Idx) (x : ℝ) (hz : z j = (x : EReal)) : dsoft z j = ((Real.exp (x - spr x) : ℝ) : EReal) := by
  have hs := soft_apply z j x hz
  pointwise [dsoft, infs_apply, zeros_apply]
  rw [hs, hz, if_neg (EReal.coe_ne_top _), if_neg (EReal.coe_ne_top _), ← EReal.coe_sub]
  rfl

theorem onward_apply (z : T) (h : Fin 16) (i j : Fin 16384) (s : ℕ → ℝ) (hs : ∀ l : Fin 16384, soft z (ix3 h i l) = ((s l.val : ℝ) : EReal)) :
    onward z (ix3 h i j) = ((∑ l ∈ Finset.range i.val, if j.val ≤ l then s l else 0 : ℝ) : EReal) := by
  have hz : zero (Shape.Idx.first h_S_) = 0 := by pointwise [zero]
  unfold onward
  refine (window_sum _ _ _ _ zero hz _).trans ?_
  rw [← from_sum s i.val j.val 16384 i.isLt.le, ← Fin.sum_univ_eq_sum_range (fun l => if j.val + l < 16384 then (if j.val + l < i.val then s (j.val + l) else 0) else 0) 16384, ← coe_sum]
  refine Finset.sum_congr rfl fun l _ => ?_
  dsimp only
  by_cases hl : j.val + l.val < 16384
  · have hin : ∀ a : Fin 3, (![0, 0, 0] : Fin 3 → ℕ) a ≤ ((ix3 h i j : S16x16384x16384.Idx) a).val * (![1, 1, 1] : Fin 3 → ℕ) a + ((ix3 0 0 l : (⟨3, ![1, 1, 16384]⟩ : Shape).Idx) a).val
        ∧ ((ix3 h i j : S16x16384x16384.Idx) a).val * (![1, 1, 1] : Fin 3 → ℕ) a + ((ix3 0 0 l : (⟨3, ![1, 1, 16384]⟩ : Shape).Idx) a).val - (![0, 0, 0] : Fin 3 → ℕ) a < S16x16384x16384.size a := by
      intro a
      have := h.isLt; have := i.isLt
      match a with
      | ⟨0, _⟩ => exact ⟨Nat.zero_le _, by show h.val * 1 + 0 - 0 < 16; omega⟩
      | ⟨1, _⟩ => exact ⟨Nat.zero_le _, by show i.val * 1 + 0 - 0 < 16384; omega⟩
      | ⟨2, _⟩ => exact ⟨Nat.zero_le _, by show j.val * 1 + l.val - 0 < 16384; omega⟩
    rw [dif_pos hin, if_pos hl]
    refine (congrArg (select mask (soft z) zeros : T) (show _ = (ix3 h i ⟨j.val + l.val, hl⟩ : S16x16384x16384.Idx) from ?_)).trans ?_
    · funext a
      match a with
      | ⟨0, _⟩ => exact Fin.ext (by show h.val * 1 + 0 - 0 = h.val; omega)
      | ⟨1, _⟩ => exact Fin.ext (by show i.val * 1 + 0 - 0 = i.val; omega)
      | ⟨2, _⟩ => exact Fin.ext (by show j.val * 1 + l.val - 0 = j.val + l.val; omega)
    · rw [sel_apply, hs, coe_ite]
  · rw [if_neg hl, dif_neg, EReal.coe_zero]
    intro hin
    have : j.val * 1 + l.val - 0 < 16384 := (hin 2).2
    omega

theorem shifted_apply (g : T) (h : Fin 16) (i n : Fin 16384) :
    (pad S16x16384x16384 ![0, 0, 1] ![0, 0, 0] ![0, 0, 0] (extractStridedSlice S16x16384x16383 ![0, 0, 0] (Host.negf g) slices_S16x16384x16384_S16x16384x16383_0_0_0 : FVec Ideal S16x16384x16383 .f32) (constant S_ .f32 0x00000000#32 : FVec Ideal S_ .f32) pads_S16x16384x16383_S16x16384x16384_000_000_100 h_S_ : T) (ix3 h i n)
      = if hn : 1 ≤ n.val then -g (ix3 h i ⟨n.val - 1, by omega⟩) else 0 := by
  pointwise []
  have hn' := n.isLt
  by_cases hn : 1 ≤ n.val
  · rw [dif_pos hn, dif_pos ⟨hn, by omega⟩]
  · rw [dif_neg hn, dif_neg (fun hh => hn hh.1)]

theorem earlier_apply (g : T) (h : Fin 16) (i j : Fin 16384) (y : ℕ → ℝ) (hy : ∀ l : Fin 16384, g (ix3 h i l) = ((y l.val : ℝ) : EReal)) :
    earlier g (ix3 h i j) = ((∑ l ∈ Finset.range j.val, -y l : ℝ) : EReal) := by
  have hz : zero (Shape.Idx.first h_S_) = 0 := by pointwise [zero]
  unfold earlier
  refine (window_sum _ _ _ _ zero hz _).trans ?_
  rw [← before_sum (fun l => -y l) j.val 16383 (by have := j.isLt; omega),
    ← Fin.sum_univ_eq_sum_range (fun l => if 16383 ≤ j.val + l then (if 1 ≤ j.val + l - 16383 then -y (j.val + l - 16383 - 1) else 0) else 0) (16383 + 1), ← coe_sum]
  refine Finset.sum_congr rfl fun l _ => ?_
  dsimp only
  have hl' := l.isLt; have hj' := j.isLt
  by_cases hl : 16383 ≤ j.val + l.val
  · have hin : ∀ a : Fin 3, (![0, 0, 16383] : Fin 3 → ℕ) a ≤ ((ix3 h i j : S16x16384x16384.Idx) a).val * (![1, 1, 1] : Fin 3 → ℕ) a + ((ix3 0 0 l : (⟨3, ![1, 1, 16384]⟩ : Shape).Idx) a).val
        ∧ ((ix3 h i j : S16x16384x16384.Idx) a).val * (![1, 1, 1] : Fin 3 → ℕ) a + ((ix3 0 0 l : (⟨3, ![1, 1, 16384]⟩ : Shape).Idx) a).val - (![0, 0, 16383] : Fin 3 → ℕ) a < S16x16384x16384.size a := by
      intro a
      have := h.isLt; have := i.isLt
      match a with
      | ⟨0, _⟩ => exact ⟨Nat.zero_le _, by show h.val * 1 + 0 - 0 < 16; omega⟩
      | ⟨1, _⟩ => exact ⟨Nat.zero_le _, by show i.val * 1 + 0 - 0 < 16384; omega⟩
      | ⟨2, _⟩ => exact ⟨by show 16383 ≤ j.val * 1 + l.val; omega, by show j.val * 1 + l.val - 16383 < 16384; omega⟩
    rw [dif_pos hin, if_pos hl]
    refine (congrArg _ (show _ = (ix3 h i ⟨j.val + l.val - 16383, by omega⟩ : S16x16384x16384.Idx) from ?_)).trans ((shifted_apply g h i ⟨j.val + l.val - 16383, by omega⟩).trans ?_)
    · funext a
      match a with
      | ⟨0, _⟩ => exact Fin.ext (by show h.val * 1 + 0 - 0 = h.val; omega)
      | ⟨1, _⟩ => exact Fin.ext (by show i.val * 1 + 0 - 0 = i.val; omega)
      | ⟨2, _⟩ => exact Fin.ext (by show j.val * 1 + l.val - 16383 = j.val + l.val - 16383; omega)
    · dsimp only
      by_cases h1 : 1 ≤ j.val + l.val - 16383
      · rw [dif_pos h1, if_pos h1, hy, EReal.coe_neg]
      · rw [dif_neg h1, if_neg h1, EReal.coe_zero]
  · rw [if_neg hl, dif_neg, EReal.coe_zero]
    intro hin
    have : 16383 ≤ j.val * 1 + l.val := (hin 2).1
    omega

/-! ## The scores' gradient and the results -/

section Nums
variable (aq ak av ao : W) (q k v o : ℕ → ℕ → ℝ)
  (hq : ∀ (i : Fin 16384) (x : Fin 1024), aq (ix2 i x) = ((q i.val x.val : ℝ) : EReal)) (hk : ∀ (i : Fin 16384) (x : Fin 1024), ak (ix2 i x) = ((k i.val x.val : ℝ) : EReal))
  (hv : ∀ (i : Fin 16384) (x : Fin 1024), av (ix2 i x) = ((v i.val x.val : ℝ) : EReal)) (ho : ∀ (i : Fin 16384) (x : Fin 1024), ao (ix2 i x) = ((o i.val x.val : ℝ) : EReal))

include hq hk in
theorem sc_apply (h : Fin 16) (i j : Fin 16384) : sc aq ak (ix3 h i j) = ((Z q k h.val i.val j.val : ℝ) : EReal) := by
  unfold sc Z
  rw [scores_apply, ← Fin.sum_univ_eq_sum_range (fun d => (q i.val (64 * h.val + d) * (1 / 8)) * k j.val (64 * h.val + d)) 64, ← coe_sum]
  refine Finset.sum_congr rfl fun d _ => ?_
  show heads aq (ix3 h i d) * eighth (ix3 h i d) * heads ak (ix3 h j d) = _
  rw [heads_apply, heads_apply, eighth_apply, hq, hk, ← EReal.coe_mul, ← EReal.coe_mul]

include hv ho in
theorem dw_apply (h : Fin 16) (i j : Fin 16384) : dw ao av (ix3 h i j) = ((DA v o h.val i.val j.val : ℝ) : EReal) := by
  unfold dw DA
  rw [scores_apply, ← Fin.sum_univ_eq_sum_range (fun d => o i.val (64 * h.val + d) * v j.val (64 * h.val + d)) 64, ← coe_sum]
  refine Finset.sum_congr rfl fun d _ => ?_
  rw [heads_apply, heads_apply, ho, hv, ← EReal.coe_mul]

theorem beyond_num (z : T) (h : Fin 16) (i j : Fin 16384) (s : ℕ → ℝ) (hs : ∀ l : Fin 16384, soft z (ix3 h i l) = ((s l.val : ℝ) : EReal)) :
    beyond z (ix3 h i j) = ((∑ l ∈ Finset.range i.val, if j.val < l then s l else 0 : ℝ) : EReal) := by
  rw [beyond_apply]
  have hi := i.isLt
  by_cases hj : j.val < 16383
  · rw [dif_pos hj, onward_apply z h i _ s hs]
    refine congrArg (fun x : ℝ => (x : EReal)) (Finset.sum_congr rfl fun l _ => ?_)
    exact if_congr (by show 1 + j.val ≤ l ↔ j.val < l; omega) rfl rfl
  · rw [dif_neg hj, Finset.sum_eq_zero, EReal.coe_zero]
    intro l hl
    have := Finset.mem_range.1 hl
    exact if_neg (by omega)

include hq hk in
theorem weight_apply (h : Fin 16) (i j : Fin 16384) :
    weight (sc aq ak) (ix3 h i j) = ((Real.exp (Z q k h.val i.val j.val - spr (Z q k h.val i.val j.val) - Rest q k h.val i.val j.val) : ℝ) : EReal) := by
  have hz := sc_apply aq ak q k hq hk h i
  have hs : ∀ l : Fin 16384, soft (sc aq ak) (ix3 h i l) = ((spr (Z q k h.val i.val l.val) : ℝ) : EReal) := fun l => soft_apply _ _ _ (hz l)
  have hb := beyond_num (sc aq ak) h i j (fun l => spr (Z q k h.val i.val l)) hs
  have hn := soft_apply (Host.negf (sc aq ak)) (ix3 h i j) _ (neg_apply _ _ _ (hz j))
  show Ideal.exp (-(soft (Host.negf (sc aq ak)) (ix3 h i j)) - beyond (sc aq ak) (ix3 h i j)) = _
  rw [hn, hb, ← EReal.coe_neg, ← EReal.coe_sub]
  show ((Real.exp _ : ℝ) : EReal) = _
  rw [spr_neg, neg_sub]
  rfl

include hq hk in
theorem kept_apply (h : Fin 16) (i j : Fin 16384) : kept (sc aq ak) (ix3 h i j) = ((A q k h.val i.val j.val : ℝ) : EReal) := by
  unfold kept A
  rw [sel_apply, weight_apply aq ak q k hq hk, coe_ite]

include hq hk hv ho in
theorem grad_apply (h : Fin 16) (i j : Fin 16384) : grad (sc aq ak) (dw ao av) (ix3 h i j) = ((G q k v o h.val i.val j.val : ℝ) : EReal) := by
  show (select mask (dw ao av) zeros : T) (ix3 h i j) * weight (sc aq ak) (ix3 h i j) = _
  rw [sel_apply, weight_apply aq ak q k hq hk, dw_apply av ao v o hv ho]
  unfold G A
  by_cases hj : j.val < i.val
  · rw [if_pos hj, if_pos hj, ← EReal.coe_mul, mul_comm]
  · rw [if_neg hj, if_neg hj, zero_mul, zero_mul, EReal.coe_zero]

include hq hk hv ho in
theorem dscore_apply (h : Fin 16) (i j : Fin 16384) : dscore (sc aq ak) (dw ao av) (ix3 h i j) = ((DZ q k v o h.val i.val j.val : ℝ) : EReal) := by
  have hz := sc_apply aq ak q k hq hk h i j
  have hg := grad_apply aq ak av ao q k v o hq hk hv ho h i
  show -((-(grad (sc aq ak) (dw ao av) (ix3 h i j))) * dsoft (Host.negf (sc aq ak)) (ix3 h i j))
    + (select mask (earlier (grad (sc aq ak) (dw ao av))) zeros : T) (ix3 h i j) * dsoft (sc aq ak) (ix3 h i j) = _
  rw [sel_apply, hg, dsoft_apply _ _ _ hz, dsoft_apply _ _ _ (neg_apply _ _ _ hz), earlier_apply _ h i j _ hg, coe_ite, ← EReal.coe_neg, ← EReal.coe_mul, ← EReal.coe_neg,
    ← EReal.coe_mul, ← EReal.coe_add, sig_compl]
  refine congrArg (fun x : ℝ => (x : EReal)) ?_
  unfold DZ Before
  by_cases hj : j.val < i.val
  · rw [if_pos hj, if_pos hj, Finset.sum_neg_distrib]; ring
  · have g0 : G q k v o h.val i.val j.val = 0 := by unfold G A; rw [if_neg hj, zero_mul]
    rw [if_neg hj, if_neg hj, g0]; ring

include hq hk hv ho in
theorem dV_num (j : Fin 16384) (c : Fin 1024) : dV aq ak av ao (ix2 j c) = ((DV q k o j.val c.val : ℝ) : EReal) := by
  pointwise [dV, merge_apply]
  unfold DV
  rw [← Fin.sum_univ_eq_sum_range (fun i => A q k (c.val / 64) i j.val * o i c.val) 16384, ← coe_sum]
  refine Finset.sum_congr rfl fun i _ => ?_
  rw [heads_apply, kept_apply aq ak q k hq hk, ho, ← EReal.coe_mul, mul_comm]
  dsimp only
  rw [Nat.div_add_mod]

include hq hk hv ho in
theorem dK_num (j : Fin 16384) (c : Fin 1024) : dK aq ak av ao (ix2 j c) = ((DK q k v o j.val c.val : ℝ) : EReal) := by
  pointwise [dK, merge_apply]
  unfold DK
  rw [← Fin.sum_univ_eq_sum_range (fun i => DZ q k v o (c.val / 64) i j.val * (q i c.val * (1 / 8))) 16384, ← coe_sum]
  refine Finset.sum_congr rfl fun i _ => ?_
  show _ * (heads aq (ix3 _ i _) * eighth (ix3 _ i _)) = _
  rw [heads_apply, eighth_apply, dscore_apply aq ak av ao q k v o hq hk hv ho, hq, ← EReal.coe_mul, ← EReal.coe_mul]
  dsimp only
  rw [Nat.div_add_mod]

include hq hk hv ho in
theorem dQ_num (i : Fin 16384) (c : Fin 1024) : dQ aq ak av ao (ix2 i c) = ((DQ q k v o i.val c.val : ℝ) : EReal) := by
  pointwise [dQ, merge_apply, eighth_apply]
  unfold DQ
  rw [← Fin.sum_univ_eq_sum_range (fun j => DZ q k v o (c.val / 64) i.val j * k j c.val) 16384, EReal.coe_mul, ← coe_sum]
  refine congrArg₂ (fun x y : EReal => x * y) (Finset.sum_congr rfl fun j _ => ?_) rfl
  rw [heads_apply, dscore_apply aq ak av ao q k v o hq hk hv ho, hk, ← EReal.coe_mul]
  dsimp only
  rw [Nat.div_add_mod]

end Nums

end Cert.Reference3Ideal.Arr

end
-- ==== Proof.AttnHost.lean ====
/- The arrays the attention's backward call is handed over the extended reals, entry by entry, and with them its three results. -/
module

public import proofs.«01_k».proof.Proof.AttnGrid
public import proofs.«01_k».proof.Proof.AttnHostArr
public import proofs.«01_k».proof.Proof.AttnRefVal
public import proofs.«01_k».proof.Proof.Arith

@[expose] public section

set_option maxRecDepth 16384
set_option maxHeartbeats 4000000

noncomputable section

open Idealize.ShloMosaic Idealize.ShloMosaic.TcCoe Idealize.SL.Sem

namespace Cert.Kernel3Ideal.Host

open Cert.Kernel3Ideal Cert.Kernel3Ideal.Gen _root_.Attn
open Cert.Kernel3Ideal.Attn (L L_pos abs_coe)

theorem two_word : Ideal.ofBits .f32 0x40000000#32 = ((2 : ℝ) : EReal) := by
  simp [Ideal.ofBits, Ideal.ieee]
  rw [← EReal.coe_mul]; norm_num

theorem log_pos' (x : ℝ) (h : 0 < x) : Ideal.log ((x : ℝ) : EReal) = ((Real.log x : ℝ) : EReal) := if_neg (not_le.2 h)

theorem div_L (x : ℝ) : Ideal.div ((x : ℝ) : EReal) ((L : ℝ) : EReal) = ((x / L : ℝ) : EReal) := by
  have h : ((L : ℝ) : EReal) ≠ 0 := by
    rw [← EReal.coe_zero]; exact fun e => L_pos.ne' (EReal.coe_injective e)
  unfold Ideal.div
  rw [if_neg h, ← EReal.coe_inv, ← EReal.coe_mul, div_eq_mul_inv]

theorem ln_apply (j : S_.Idx) : ln j = ((L : ℝ) : EReal) := by
  pointwise [ln]
  rw [two_word]; exact log_pos' 2 (by norm_num)

theorem packed_q (q k v : W) (i : Fin 16384) (x : Fin 1024) (a : ℝ) (ha : q (ix2 i x) = (a : EReal)) :
    packed q k v (ix2 i ⟨x.val, by have := x.isLt; omega⟩) = ((a * (1 / 8 / L) : ℝ) : EReal) := by
  have hx := x.isLt
  pointwise [packed, ln_apply]
  rw [ha, Cert.Reference3Ideal.Arr.eighth_word, div_L, ← EReal.coe_mul]
theorem packed_k (q k v : W) (i : Fin 16384) (x : Fin 1024) : packed q k v (ix2 i ⟨1024 + x.val, by have := x.isLt; omega⟩) = k (ix2 i x) := by
  have hx := x.isLt
  pointwise [packed]
theorem packed_v (q k v : W) (i : Fin 16384) (x : Fin 1024) : packed q k v (ix2 i ⟨2048 + x.val, by have := x.isLt; omega⟩) = v (ix2 i x) := by
  have hx := x.isLt
  pointwise [packed]
  rw [dif_neg (by omega), dif_neg (by omega)]
  exact congrArg v (congrArg (ix2 i) (Fin.ext (by show 2048 + x.val - 1024 - 1024 = x.val; omega)))

theorem headQ_apply (w : FVec Ideal S16384x3072 .bf16) (i : Fin 16384) (h : Fin 16) (d : Fin 64) :
    headQ w (ix3 i h d) = w (ix2 i ⟨64 * h.val + d.val, by have := h.isLt; have := d.isLt; omega⟩) := by
  pointwise [headQ]
  exact congrArg w (congrArg (ix2 i) (Fin.ext (by show h.val * 64 + d.val = 64 * h.val + d.val; omega)))
theorem headK_apply (w : FVec Ideal S16384x3072 .bf16) (i : Fin 16384) (h : Fin 16) (d : Fin 64) :
    headK w (ix3 i h d) = w (ix2 i ⟨1024 + (64 * h.val + d.val), by have := h.isLt; have := d.isLt; omega⟩) := by
  pointwise [headK]
  exact congrArg w (congrArg (ix2 i) (Fin.ext (by show 1024 + (h.val * 64 + d.val) = 1024 + (64 * h.val + d.val); omega)))
theorem scores_apply (w : FVec Ideal S16384x3072 .bf16) (h : Fin 16) (i j : Fin 16384) : scores w (ix3 h i j) = ∑ d : Fin 64, headQ w (ix3 i h d) * headK w (ix3 j h d) := by
  pointwise [scores]

theorem soft_apply (z : T) (j : S16x16384x16384.Idx) (x : ℝ) (hz : z j = ((x / L : ℝ) : EReal)) : soft z j = ((spr x / L : ℝ) : EReal) := by
  have hL := L_pos
  have hp : 0 < 1 + Real.exp (-|x / L| * L) := by positivity
  pointwise [soft, lns, ln_apply]
  rw [hz, abs_coe, ← EReal.coe_neg, ← EReal.coe_mul, ← EReal.coe_zero, ← coe_max]
  have e : Ideal.log (1 + Ideal.exp ((-|x / L| * L : ℝ) : EReal)) = ((Real.log (1 + Real.exp (-|x / L| * L)) : ℝ) : EReal) := by
    show Ideal.log (1 + ((Real.exp (-|x / L| * L) : ℝ) : EReal)) = _
    rw [← EReal.coe_one, ← EReal.coe_add]
    exact log_pos' _ hp
  rw [e, div_L, ← EReal.coe_add]
  refine congrArg (fun y : ℝ => (y : EReal)) ?_
  have h1 : |x / L| * L = |x| := by rw [abs_div, abs_of_pos hL, div_mul_cancel₀ _ hL.ne']
  have h2 : max (x / L) 0 = max x 0 / L := by
    rcases le_total x 0 with h | h
    · rw [max_eq_right h, max_eq_right (div_nonpos_of_nonpos_of_nonneg h hL.le), zero_div]
    · rw [max_eq_left h, max_eq_left (div_nonneg h hL.le)]
  unfold spr
  rw [neg_mul, h1, h2, add_div]

theorem mask_apply (h : Fin 16) (i j : Fin 16384) : mask (ix3 h i j) = if j.val < i.val then 1#1 else 0#1 := by
  pointwise [mask]
  exact Cert.Reference3Ideal.Arr.slt_small i j

theorem kept_apply (z : T) (h : Fin 16) (i j : Fin 16384) : kept z (ix3 h i j) = if j.val < i.val then z (ix3 h i j) else 0 := by
  have e : (broadcastInDim S16x16384x16384 ![] bcast_S_S16x16384x16384 (constant S_ .f32 0x00000000#32 : FVec Ideal S_ .f32) : T) (ix3 h i j) = 0 := by pointwise []
  show (if mask (ix3 h i j) = 1#1 then z (ix3 h i j) else _) = _
  rw [mask_apply, e]
  by_cases hj : j.val < i.val <;> simp [hj]

theorem sge_small (j : Fin 16384) (l : Fin 128) :
    IntOp.cmpi .sge (BitVec.ofNat 32 j.val) (IntOp.muli (256#32) (IntOp.addi (BitVec.ofNat 32 l.val) 1#32)) = if 256 * (l.val + 1) ≤ j.val then 1#1 else 0#1 := by
  have hl := l.isLt; have hj := j.isLt
  have e0 : IntOp.muli (256#32) (IntOp.addi (BitVec.ofNat 32 l.val) 1#32) = BitVec.ofNat 32 (256 * (l.val + 1)) := by
    show 256#32 * (BitVec.ofNat 32 l.val + 1#32) = _
    apply BitVec.eq_of_toNat_eq
    simp only [BitVec.toNat_mul, BitVec.toNat_add, BitVec.toNat_ofNat]
    omega
  rw [e0]
  have e : (BitVec.ofNat 32 (256 * (l.val + 1))).sle (BitVec.ofNat 32 j.val) = decide (256 * (l.val + 1) ≤ j.val) := by
    rw [BitVec.sle_eq_decide, BitVec.toInt_eq_toNat_of_lt (by simp only [BitVec.toNat_ofNat]; omega), BitVec.toInt_eq_toNat_of_lt (by simp only [BitVec.toNat_ofNat]; omega)]
    simp only [BitVec.toNat_ofNat]
    rw [Nat.mod_eq_of_lt (by omega), Nat.mod_eq_of_lt (by omega)]
    exact decide_eq_decide.2 (by omega)
  show BitVec.ofBool ((BitVec.ofNat 32 (256 * (l.val + 1))).sle (BitVec.ofNat 32 j.val)) = _
  rw [e]
  by_cases h : 256 * (l.val + 1) ≤ j.val <;> simp [h]

theorem from_apply (j : Fin 16384) (l : Fin 128) : from_ (ix2 j l) = if 256 * (l.val + 1) ≤ j.val then 1#1 else 0#1 := by
  pointwise [from_]
  exact sge_small j l

theorem parts_apply (z : T) (h : Fin 16) (i j : Fin 16384) (l : Fin 128) : parts z (ix4 h i j l) = if 256 * (l.val + 1) ≤ j.val then z (ix3 h i j) else 0 := by
  pointwise [parts, from_apply]
  by_cases hj : 256 * (l.val + 1) ≤ j.val
  · rw [if_pos hj, if_pos hj]; rfl
  · rw [if_neg hj, if_neg hj]; rfl

theorem sums_apply (w : FVec Ideal S16384x3072 .bf16) (h : Fin 16) (i : Fin 16384) (l : Fin 128) :
    sums w (ix3 h i l) = ∑ j : Fin 16384, parts (kept (soft (scores w))) (ix4 h i j l) := by
  pointwise [sums]

/-- A masked sum over all keys is one over the keys before the query. -/
theorem sum_cut (s : ℕ → ℝ) (r : ℕ → Prop) [DecidablePred r] (a : ℝ) (i N : ℕ) (hi : i ≤ N) :
    (∑ j ∈ Finset.range N, if r j then (if j < i then s j / a else 0) else 0) = (∑ j ∈ Finset.range i, if r j then s j else 0) / a := by
  rw [Finset.sum_div, ← Finset.sum_subset (Finset.range_subset_range.2 hi)]
  · refine Finset.sum_congr rfl fun j hj => ?_
    rw [if_pos (Finset.mem_range.1 hj)]
    by_cases h : r j
    · rw [if_pos h, if_pos h]
    · rw [if_neg h, if_neg h, zero_div]
  · intro j _ hj
    rw [if_neg (mt Finset.mem_range.2 hj), ite_self]

section Nums
variable (m : (ℓ : Loc nD τ sig) → Buf (Elt Ideal) ℓ) (c : Dev nD) (q k v o : ℕ → ℕ → ℝ)
  (hq : ∀ (i : Fin 16384) (x : Fin 1024), q0 m c (ix2 i x) = ((q i.val x.val : ℝ) : EReal)) (hk : ∀ (i : Fin 16384) (x : Fin 1024), k0 m c (ix2 i x) = ((k i.val x.val : ℝ) : EReal))
  (hv : ∀ (i : Fin 16384) (x : Fin 1024), v0 m c (ix2 i x) = ((v i.val x.val : ℝ) : EReal)) (ho : ∀ (i : Fin 16384) (x : Fin 1024), o0 m c (ix2 i x) = ((o i.val x.val : ℝ) : EReal))

include hq hk in
theorem scores_num (h : Fin 16) (i j : Fin 16384) :
    scores (packed (q0 m c) (k0 m c) (v0 m c)) (ix3 h i j) = ((Z q k h.val i.val j.val / L : ℝ) : EReal) := by
  rw [scores_apply]
  unfold Z
  rw [← Fin.sum_univ_eq_sum_range (fun d => (q i.val (64 * h.val + d) * (1 / 8)) * k j.val (64 * h.val + d)) 64, Finset.sum_div, ← coe_sum]
  refine Finset.sum_congr rfl fun d _ => ?_
  have hx : 64 * h.val + d.val < 1024 := by have := h.isLt; have := d.isLt; omega
  rw [headQ_apply, headK_apply, packed_q _ _ _ i ⟨64 * h.val + d.val, hx⟩ _ (hq i ⟨64 * h.val + d.val, hx⟩), packed_k _ _ _ j ⟨64 * h.val + d.val, hx⟩, hk, ← EReal.coe_mul]
  refine congrArg (fun y : ℝ => (y : EReal)) ?_
  dsimp only
  ring

include hq hk hv ho in
theorem entry : Attn.Entry m c q k v o where
  hq i x := by rw [V_v5]; exact packed_q _ _ _ i x _ (hq i x)
  hk i x := by rw [V_v5]; exact (packed_k _ _ _ i x).trans (hk i x)
  hv i x := by rw [V_v5]; exact (packed_v _ _ _ i x).trans (hv i x)
  ho i x := by rw [V_v48]; exact ho i x
  hs h i l := by
    rw [V_v47]
    refine (sums_apply _ h i l).trans ?_
    rw [← sum_cut (fun j => spr (Z q k h.val i.val j)) (fun j => 256 * (l.val + 1) ≤ j) L i.val 16384 i.isLt.le,
      ← Fin.sum_univ_eq_sum_range (fun j => if 256 * (l.val + 1) ≤ j then (if j < i.val then spr (Z q k h.val i.val j) / L else 0) else 0) 16384, ← coe_sum]
    refine Finset.sum_congr rfl fun j _ => ?_
    rw [parts_apply, kept_apply, soft_apply _ _ _ (scores_num m c q k hq hk h i j), coe_ite, coe_ite]

end Nums

/-! ## The last lines, and the results -/

section Last
variable (f : Valuation τ sig (Elt Ideal))

theorem last_v51 : StableHlo.after (List.flatten [hostOps1]) f (Proc.devRef .tc main_v51)
    = (mulf (f (Proc.devRef .tc main_v49_0) : W) (broadcastInDim S16384x1024 ![] bcast_S_S16384x1024 (constant S_ .f32 0x3E000000#32 : FVec Ideal S_ .f32)) : W) := by
  simp only [hostOps1, List.flatten_cons, List.flatten_nil, List.append_nil]
  after_results_simp
  all_goals rfl
theorem last_v53 : StableHlo.after (List.flatten [hostOps1]) f (Proc.devRef .tc main_v53)
    = (mulf (f (Proc.devRef .tc main_v49_1) : W) (broadcastInDim S16384x1024 ![] bcast_S_S16384x1024 (f (Proc.devRef .tc main_v0) : FVec Ideal S_ .f32)) : W) := by
  simp only [hostOps1, List.flatten_cons, List.flatten_nil, List.append_nil]
  after_results_simp
  all_goals rfl
theorem last_v49_2 : StableHlo.after (List.flatten [hostOps1]) f (Proc.devRef .tc main_v49_2) = f (Proc.devRef .tc main_v49_2) := by
  simp only [hostOps1, List.flatten_cons, List.flatten_nil, List.append_nil]
  after_results_simp
end Last

section Results
variable (m : (ℓ : Loc nD τ sig) → Buf (Elt Ideal) ℓ) (c : Dev nD)

/-- What the last lines are run on. -/
abbrev done : Valuation τ sig (Elt Ideal) := Pipeline.withArrays spec0 c (Pipeline.withR (Attn.V0 m c) Attn.R0 c (Attn.G m c)) fun w => (Attn.dats m 0 c).arrAt w cfg0.N

theorem done_q : done m c (Proc.devRef .tc main_v49_0) = (Attn.dats m 0 c).arrAt 5 cfg0.N :=
  Pipeline.withArrays_arr_shared spec0 c (Pipeline.withR (Attn.V0 m c) Attn.R0 c (Attn.G m c)) (fun w => (Attn.dats m 0 c).arrAt w cfg0.N) (fun w w' hne he => by
      have hw : w ≠ 5 := fun e => absurd he (by subst e; exact (by decide : ∀ w' : Fin 6, (5 : Fin 6) ≠ w' → Pipeline.arrRef spec0 5 ≠ Pipeline.arrRef spec0 w') w' hne)
      rw [(Attn.dats m 0 c).arrAt_in w ((by decide : ∀ w : Fin 6, w ≠ 5 → (cfg0.win w).isOut = false) w hw), Attn.A_eq m c w]
      exact (Pipeline.withR_of_not_mem (Attn.V0 m c) Attn.R0 c (Attn.G m c) (Pipeline.arrRef spec0 w) ((by decide : ∀ w : Fin 6, Pipeline.arrRef spec0 w ∉ Attn.R0) w)).symm) 5
theorem done_k : done m c (Proc.devRef .tc main_v49_1) = (Attn.pt m c 512).hk :=
  (Pipeline.withArrays_of_ne spec0 c _ _ main_v49_1 (by exact (by decide : ∀ w, Pipeline.arrRef spec0 w ≠ main_v49_1))).trans
    ((Pipeline.withR_of_mem (Attn.V0 m c) Attn.R0 c (Attn.G m c) main_v49_1 (by decide)).trans (Attn.G_k m c))
theorem done_v : done m c (Proc.devRef .tc main_v49_2) = (Attn.pt m c 512).hv :=
  (Pipeline.withArrays_of_ne spec0 c _ _ main_v49_2 (by exact (by decide : ∀ w, Pipeline.arrRef spec0 w ≠ main_v49_2))).trans
    ((Pipeline.withR_of_mem (Attn.V0 m c) Attn.R0 c (Attn.G m c) main_v49_2 (by decide)).trans (Attn.G_v m c))
theorem done_ln : done m c (Proc.devRef .tc main_v0) = ln :=
  (Pipeline.withArrays_of_ne spec0 c _ _ main_v0 (by exact (by decide : ∀ w, Pipeline.arrRef spec0 w ≠ main_v0))).trans
    ((Pipeline.withR_of_not_mem (Attn.V0 m c) Attn.R0 c (Attn.G m c) main_v0 (by decide)).trans (V_v0 m c))

variable {m c} {q k v o : ℕ → ℕ → ℝ} (E : Attn.Entry m c q k v o)

theorem final_q (i : Fin 16384) (x : Fin 1024) (E : Attn.Entry m c q k v o) : (Attn.Final m c (Proc.devRef .tc main_v51) : W) (ix2 i x) = ((DQ q k v o i.val x.val : ℝ) : EReal) := by
  have e : (Attn.Final m c (Proc.devRef .tc main_v51) : W) = _ := last_v51 (done m c)
  rw [e, done_q, Attn.final5 E]
  pointwise []
  show Attn.outQ q k v o (x.val / 128) i.val (x.val % 128) * _ = _
  have hx : 128 * (x.val / 128) + x.val % 128 = x.val := Nat.div_add_mod _ _
  have hh : x.val / 64 = 2 * (x.val / 128) + (if x.val % 128 < 64 then 0 else 1) := by split <;> omega
  rw [Cert.Reference3Ideal.Arr.eighth_word]
  unfold Attn.outQ DQ
  rw [hh]
  by_cases h : x.val % 128 < 64
  · rw [if_pos h, if_pos h, Attn.dq_coe _ _ _ _ _ 0 i.val _ i.isLt, hx, EReal.coe_mul]; rfl
  · rw [if_neg h, if_neg h, Attn.dq_coe _ _ _ _ _ 1 i.val _ i.isLt, hx, EReal.coe_mul]; rfl

theorem half (x : ℕ) : 2 * (x / 128) + x % 128 / 64 = x / 64 := by omega

theorem final_k (j : Fin 16384) (x : Fin 1024) (E : Attn.Entry m c q k v o) : (Attn.Final m c (Proc.devRef .tc main_v53) : W) (ix2 j x) = ((DK q k v o j.val x.val : ℝ) : EReal) := by
  have e : (Attn.Final m c (Proc.devRef .tc main_v53) : W) = _ := last_v53 (done m c)
  have hx := x.isLt
  have g := (Attn.copied E 512 le_rfl j x (by omega)).1
  unfold Attn.accK at g
  rw [Attn.dk_coe _ _ _ _ _ _ _ (Nat.mod_lt _ (by decide)), half, Nat.div_add_mod] at g
  rw [e, done_k, done_ln]
  pointwise [ln_apply]
  rw [g, ← EReal.coe_mul]
  refine congrArg (fun y : ℝ => (y : EReal)) ?_
  unfold DK
  rw [Finset.sum_mul]
  refine Finset.sum_congr rfl fun i _ => ?_
  have hL := L_pos.ne'
  field_simp

theorem final_v (j : Fin 16384) (x : Fin 1024) (E : Attn.Entry m c q k v o) : (Attn.Final m c (Proc.devRef .tc main_v49_2) : W) (ix2 j x) = ((DV q k o j.val x.val : ℝ) : EReal) := by
  have e : (Attn.Final m c (Proc.devRef .tc main_v49_2) : W) = _ := last_v49_2 (done m c)
  have hx := x.isLt
  have g := (Attn.copied E 512 le_rfl j x (by omega)).2
  unfold Attn.accV at g
  rw [Attn.dv_coe _ _ _ _ _ _ _ (Nat.mod_lt _ (by decide)), half, Nat.div_add_mod] at g
  rw [e, done_v]
  exact g

/-- The number at an entry, and zero outside the array. -/
def num (x : W) (i j : ℕ) : ℝ := if h : i < 16384 ∧ j < 1024 then (x (ix2 ⟨i, h.1⟩ ⟨j, h.2⟩)).toReal else 0
theorem num_apply (x : W) (hx : ∀ i, Swiglu.IsNum (x i)) (i : Fin 16384) (j : Fin 1024) : x (ix2 i j) = ((num x i.val j.val : ℝ) : EReal) := by
  unfold num
  rw [dif_pos ⟨i.isLt, j.isLt⟩]
  obtain ⟨r, hr⟩ := hx (ix2 i j)
  exact hr.trans (congrArg (fun y : EReal => (y.toReal : EReal)) hr.symm)

/-- The gradients the call's host program ends with, of arguments that are numbers. -/
abbrev outQ (q k v o : W) : W := fun i => ((DQ (num q) (num k) (num v) (num o) (i 0).val (i 1).val : ℝ) : EReal)
abbrev outK (q k v o : W) : W := fun i => ((DK (num q) (num k) (num v) (num o) (i 0).val (i 1).val : ℝ) : EReal)
abbrev outV (q k v o : W) : W := fun i => ((DV (num q) (num k) (num o) (i 0).val (i 1).val : ℝ) : EReal)

theorem values (m : (ℓ : Loc nD τ sig) → Buf (Elt Ideal) ℓ) (ρ : Dev nD → PrngReg) (hq : ∀ c i, Swiglu.IsNum (q0 m c i)) (hk : ∀ c i, Swiglu.IsNum (k0 m c i)) (hv : ∀ c i, Swiglu.IsNum (v0 m c i)) (ho : ∀ c i, Swiglu.IsNum (o0 m c i)) :
    θ_run defs (onTc (τ := τ) (main (F := Ideal))) ⟨m, fun _ => 0, ρ⟩ (fun r => ∀ c : Dev nD,
      r.2.mem ((c.tc : Thread nD τ).loc main_v51) = outQ (q0 m c) (k0 m c) (v0 m c) (o0 m c)
      ∧ r.2.mem ((c.tc : Thread nD τ).loc main_v53) = outK (q0 m c) (k0 m c) (v0 m c) (o0 m c)
      ∧ r.2.mem ((c.tc : Thread nD τ).loc main_v49_2) = outV (q0 m c) (k0 m c) (v0 m c) (o0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have E := fun c => entry m c _ _ _ _ (num_apply _ (hq c)) (num_apply _ (hk c)) (num_apply _ (hv c)) (num_apply _ (ho c))
  refine (θ_run defs _ _).mono (fun r h c => ⟨?_, ?_, ?_,
    (h.1 c main_arg0 (Pipeline.mem_restRefs_of main_arg0 (by decide) (by decide))).trans (Attn.Final_main_arg0 m c),
    (h.1 c main_arg1 (Pipeline.mem_restRefs_of main_arg1 (by decide) (by decide))).trans (Attn.Final_main_arg1 m c),
    (h.1 c main_arg2 (Pipeline.mem_restRefs_of main_arg2 (by decide) (by decide))).trans (Attn.Final_main_arg2 m c),
    (h.1 c main_arg3 (Pipeline.mem_restRefs_of main_arg3 (by decide) (by decide))).trans (Attn.Final_main_arg3 m c)⟩) (Attn.run_main m ρ)
  · refine (h.1 c main_v51 (Pipeline.mem_restRefs_of main_v51 (by decide) (by decide))).trans (funext fun i => ?_)
    obtain ⟨r, d, rfl⟩ : ∃ (r : Fin 16384) (d : Fin 1024), i = ix2 r d := ⟨i 0, i 1, eq_ix2 i⟩
    exact final_q r d (E c)
  · refine (h.1 c main_v53 (Pipeline.mem_restRefs_of main_v53 (by decide) (by decide))).trans (funext fun i => ?_)
    obtain ⟨r, d, rfl⟩ : ∃ (r : Fin 16384) (d : Fin 1024), i = ix2 r d := ⟨i 0, i 1, eq_ix2 i⟩
    exact final_k r d (E c)
  · refine (h.1 c main_v49_2 (Pipeline.mem_restRefs_of main_v49_2 (by decide) (by decide))).trans (funext fun i => ?_)
    obtain ⟨r, d, rfl⟩ : ∃ (r : Fin 16384) (d : Fin 1024), i = ix2 r d := ⟨i 0, i 1, eq_ix2 i⟩
    exact final_v r d (E c)

end Results

end Cert.Kernel3Ideal.Host

namespace Cert.Reference3Ideal.Arr

open Cert.Reference3Ideal
open Cert.Kernel3Ideal.Host (num num_apply outQ outK outV)

theorem values (m : (ℓ : Loc nD τ sig) → Buf (Elt Ideal) ℓ) (ρ : Dev nD → PrngReg) (hq : ∀ c i, Swiglu.IsNum (q0 m c i)) (hk : ∀ c i, Swiglu.IsNum (k0 m c i)) (hv : ∀ c i, Swiglu.IsNum (v0 m c i)) (ho : ∀ c i, Swiglu.IsNum (o0 m c i)) :
    θ_run defs (onTc (τ := τ) (main (F := Ideal))) ⟨m, fun _ => 0, ρ⟩ (fun r => ∀ c : Dev nD,
      r.2.mem ((c.tc : Thread nD τ).loc main_v56) = outQ (q0 m c) (k0 m c) (v0 m c) (o0 m c)
      ∧ r.2.mem ((c.tc : Thread nD τ).loc main_v52) = outK (q0 m c) (k0 m c) (v0 m c) (o0 m c)
      ∧ r.2.mem ((c.tc : Thread nD τ).loc main_v50) = outV (q0 m c) (k0 m c) (v0 m c) (o0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, (h c).2.2.2⟩) (Cert.Reference3Ideal.Value.run m ρ)
  · refine (h c).1.trans ((res0 m c).trans (funext fun i => ?_))
    obtain ⟨r, d, rfl⟩ : ∃ (r : Fin 16384) (d : Fin 1024), i = ix2 r d := ⟨i 0, i 1, eq_ix2 i⟩
    exact dQ_num _ _ _ _ _ _ _ _ (num_apply _ (hq c)) (num_apply _ (hk c)) (num_apply _ (hv c)) (num_apply _ (ho c)) r d
  · refine (h c).2.1.trans ((res1 m c).trans (funext fun i => ?_))
    obtain ⟨r, d, rfl⟩ : ∃ (r : Fin 16384) (d : Fin 1024), i = ix2 r d := ⟨i 0, i 1, eq_ix2 i⟩
    exact dK_num _ _ _ _ _ _ _ _ (num_apply _ (hq c)) (num_apply _ (hk c)) (num_apply _ (hv c)) (num_apply _ (ho c)) r d
  · refine (h c).2.2.1.trans ((res2 m c).trans (funext fun i => ?_))
    obtain ⟨r, d, rfl⟩ : ∃ (r : Fin 16384) (d : Fin 1024), i = ix2 r d := ⟨i 0, i 1, eq_ix2 i⟩
    exact dV_num _ _ _ _ _ _ _ _ (num_apply _ (hq c)) (num_apply _ (hk c)) (num_apply _ (hv c)) (num_apply _ (ho c)) r d

end Cert.Reference3Ideal.Arr

end
-- ==== Proof.lean ====
/- The certificate of the SwiGLU layer's forward and backward calls and of the weight gradient's call: the frames are
   the generated ones; the values are `Cert.KernelIdeal.Value4.values` against `Cert.ReferenceIdeal.Value5.values`, and
   `Cert.Kernel2Ideal.Sums.values` against `Cert.Reference2Ideal.Sums.values`. The attention's backward call has its frame
   from its own run, `Cert.Kernel3Ideal.Attn.run_main`, and its values are `Cert.Kernel3Ideal.Host.values` against
   `Cert.Reference3Ideal.Arr.values`. The other weight gradients and the products with weights are one call each. -/
module

public import proofs.«01_k».proof.Defs
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite
public import proofs.«01_k».proof.Proof.Gen.Pre_finite3
public import proofs.«01_k».proof.Proof.KernelValue
public import proofs.«01_k».proof.Proof.ReferenceValue
public import proofs.«01_k».proof.Proof.WeightGrad
public import proofs.«01_k».proof.Proof.WeightGrad2048
public import proofs.«01_k».proof.Proof.WeightGrad3072
public import proofs.«01_k».proof.Proof.WeightGrad1024
public import proofs.«01_k».proof.Proof.Product7
public import proofs.«01_k».proof.Proof.Product8
public import proofs.«01_k».proof.Proof.Product9
public import proofs.«01_k».proof.Proof.Product10
public import proofs.«01_k».proof.Proof.AttnFrame
public import proofs.«01_k».proof.Proof.AttnWordFrame
public import proofs.«01_k».proof.Proof.AttnHost
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Swiglu

/-! ## What the precondition says -/

instance : Subsingleton Cert.Pre_finite.S_.Idx := ⟨fun _ _ => funext fun a => a.elim0⟩

/-- One array's part: every entry less itself is zero. -/
theorem part_isNum {s : Shape} (x : FVec Ideal s .f32) (hb : Cert.Pre_finite.S_.BroadcastsInDim s (![] : Fin 0 → Fin s.rank))
    {axes : List (Fin s.rank)} (hr : s.ReducesTo axes Cert.Pre_finite.S_) (hn : 0 < Cert.Pre_finite.S_.numel) (j : Cert.Pre_finite.S_.Idx)
    (e : Host.reduce IntOp.andi (cmpf .oeq (subf x x) (broadcastInDim s ![] hb (constant (F := Ideal) Cert.Pre_finite.S_ .f32 0x00000000#32)))
      (constantI Cert.Pre_finite.S_ 1 1#1) hr hn j = 1#1) (i : s.Idx) : IsNum (x i) := by
  have h := Host.reduce_andi_all _ _ hr hn j e i
  have h' : Ideal.cmp .oeq (x i - x i) (Ideal.ofBits .f32 0x00000000#32) = 1#1 := h
  exact IsNum.of_sub_self (((Ideal.cmp_oeq_eq_one _ _).1 h').trans Ideal.ofBits_zero_f32)

open Cert.Pre_finite.Gen in
theorem finite_isNum (a0 : FVec Ideal Cert.Pre_finite.S16384x1024 .f32) (a1 a2 : FVec Ideal Cert.Pre_finite.S1024x2816 .f32)
    (a3 : FVec Ideal Cert.Pre_finite.S2816x1024 .f32) (a4 : FVec Ideal Cert.Pre_finite.S16384x1024 .f32)
    (h : Cert.Pre_finite.fn (F := Ideal) a0 a1 a2 a3 a4 = fun _ => 1#1) :
    (∀ i, IsNum (a0 i)) ∧ (∀ i, IsNum (a2 i)) ∧ (∀ i, IsNum (a3 i)) ∧ (∀ i, IsNum (a4 i)) := by
  have j : Cert.Pre_finite.S_.Idx := fun a => a.elim0
  have h' := congrFun h j
  obtain ⟨h1, h4⟩ := IntOp.andi_eq_one.1 h'
  obtain ⟨h2, h3⟩ := IntOp.andi_eq_one.1 h1
  obtain ⟨h0, h2⟩ := IntOp.andi_eq_one.1 h2
  exact ⟨part_isNum a0 bcast_S_S16384x1024 reducesTo_S16384x1024_S_d0_1 h_S_ j h0,
    part_isNum a2 bcast_S_S1024x2816 reducesTo_S1024x2816_S_d0_1 h_S_ j h2,
    part_isNum a3 bcast_S_S2816x1024 reducesTo_S2816x1024_S_d0_1 h_S_ j h3,
    part_isNum a4 bcast_S_S16384x1024 reducesTo_S16384x1024_S_d0_1 h_S_ j h4⟩

instance : Subsingleton Cert.Pre_finite3.S_.Idx := ⟨fun _ _ => funext fun a => a.elim0⟩

open Cert.Pre_finite3.Gen in
theorem finite3_isNum (a0 a1 a2 a3 : FVec Ideal Cert.Pre_finite3.S16384x1024 .f32)
    (h : Cert.Pre_finite3.fn (F := Ideal) a0 a1 a2 a3 = fun _ => 1#1) :
    (∀ i, IsNum (a0 i)) ∧ (∀ i, IsNum (a1 i)) ∧ (∀ i, IsNum (a2 i)) ∧ (∀ i, IsNum (a3 i)) := by
  have j : Cert.Pre_finite3.S_.Idx := fun a => a.elim0
  have h' := congrFun h j
  obtain ⟨h2, h3⟩ := IntOp.andi_eq_one.1 h'
  obtain ⟨h1, h2⟩ := IntOp.andi_eq_one.1 h2
  obtain ⟨h0, h1⟩ := IntOp.andi_eq_one.1 h1
  exact ⟨part_isNum a0 bcast_S_S16384x1024 reducesTo_S16384x1024_S_d0_1 h_S_ j h0,
    part_isNum a1 bcast_S_S16384x1024 reducesTo_S16384x1024_S_d0_1 h_S_ j h1,
    part_isNum a2 bcast_S_S16384x1024 reducesTo_S16384x1024_S_d0_1 h_S_ j h2,
    part_isNum a3 bcast_S_S16384x1024 reducesTo_S16384x1024_S_d0_1 h_S_ j h3⟩

/-! ## The frames of the references -/

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-! ## The attention's named constants -/

theorem named : Cert.preserves_Kernel3_Kernel3Ideal :=
  ⟨IdealRules.named_const.statement Cert.Kernel3Ideal.κ "far" .f32 0x43200000#32 ⊤ rfl,
    IdealRules.named_const.statement Cert.Kernel3Ideal.κ "log2e" .f32 0x3FB8AA3B#32 (((Real.log 2)⁻¹ : ℝ) : EReal) rfl⟩

/-! ## The values -/

theorem layer : Cert.algebraic_KernelIdeal_ReferenceIdeal_pre_finite := by
  intro m ρ m' ρ' hpre hagree
  have num := fun c => finite_isNum _ _ _ _ _ (hpre c)
  refine ⟨_, _, _, _, _, Cert.KernelIdeal.Value4.values m ρ,
    (θ_run Cert.ReferenceIdeal.defs _ _).mono (fun r h c => ?_) (Cert.ReferenceIdeal.Value5.values m' ρ' ?_ ?_ ?_ ?_)⟩
  · obtain ⟨e0, e1, e2, e3, e4⟩ := hagree c
    obtain ⟨h4, h9, h12, h13, h14, hargs⟩ := h c
    dsimp only [Cert.ReferenceIdeal.Value5.aH, Cert.ReferenceIdeal.Value5.aW1, Cert.ReferenceIdeal.Value5.aW3,
      Cert.ReferenceIdeal.Value5.aW2, Cert.ReferenceIdeal.Value5.aDY] at h4 h9 h12 h13 h14
    rw [e0, e1, e2, e3] at h4
    rw [e0, e1, e2] at h9
    rw [e0, e1, e2, e3, e4] at h12 h13
    rw [e0, e1, e3, e4] at h14
    exact ⟨h4, h9, h12, h13, h14, hargs⟩
  · intro c i; dsimp only [Cert.ReferenceIdeal.Value5.aH]; rw [(hagree c).1]; exact (num c).1 i
  · intro c i; dsimp only [Cert.ReferenceIdeal.Value5.aW3]; rw [(hagree c).2.2.1]; exact (num c).2.1 i
  · intro c i; dsimp only [Cert.ReferenceIdeal.Value5.aW2]; rw [(hagree c).2.2.2.1]; exact (num c).2.2.1 i
  · intro c i; dsimp only [Cert.ReferenceIdeal.Value5.aDY]; rw [(hagree c).2.2.2.2]; exact (num c).2.2.2 i

theorem weight : Cert.algebraic_Kernel2Ideal_Reference2Ideal := by
  intro m ρ m' ρ' _ hagree
  refine ⟨_, Cert.Kernel2Ideal.Sums.values m ρ,
    (θ_run Cert.Reference2Ideal.defs _ _).mono (fun r h c => ?_) (Cert.Reference2Ideal.Sums.values m' ρ')⟩
  obtain ⟨e0, e1⟩ := hagree c
  obtain ⟨h6, hargs⟩ := h c
  dsimp only [Cert.Reference2Ideal.Sums.aA, Cert.Reference2Ideal.Sums.aB] at h6
  rw [e0, e1] at h6
  exact ⟨h6, hargs⟩

theorem weight2048 : Cert.algebraic_Kernel4Ideal_Reference4Ideal := by
  intro m ρ m' ρ' _ hagree
  refine ⟨_, Cert.Kernel4Ideal.Sums.values m ρ,
    (θ_run Cert.Reference4Ideal.defs _ _).mono (fun r h c => ?_) (Cert.Reference4Ideal.Sums.values m' ρ')⟩
  obtain ⟨e0, e1⟩ := hagree c
  obtain ⟨h6, hargs⟩ := h c
  dsimp only [Cert.Reference4Ideal.Sums.aA, Cert.Reference4Ideal.Sums.aB] at h6
  rw [e0, e1] at h6
  exact ⟨h6, hargs⟩

theorem weight3072 : Cert.algebraic_Kernel5Ideal_Reference5Ideal := by
  intro m ρ m' ρ' _ hagree
  refine ⟨_, Cert.Kernel5Ideal.Sums.values m ρ,
    (θ_run Cert.Reference5Ideal.defs _ _).mono (fun r h c => ?_) (Cert.Reference5Ideal.Sums.values m' ρ')⟩
  obtain ⟨e0, e1⟩ := hagree c
  obtain ⟨h6, hargs⟩ := h c
  dsimp only [Cert.Reference5Ideal.Sums.aA, Cert.Reference5Ideal.Sums.aB] at h6
  rw [e0, e1] at h6
  exact ⟨h6, hargs⟩

theorem weight1024 : Cert.algebraic_Kernel6Ideal_Reference6Ideal := by
  intro m ρ m' ρ' _ hagree
  refine ⟨_, Cert.Kernel6Ideal.Sums.values m ρ,
    (θ_run Cert.Reference6Ideal.defs _ _).mono (fun r h c => ?_) (Cert.Reference6Ideal.Sums.values m' ρ')⟩
  obtain ⟨e0, e1⟩ := hagree c
  obtain ⟨h6, hargs⟩ := h c
  dsimp only [Cert.Reference6Ideal.Sums.aA, Cert.Reference6Ideal.Sums.aB] at h6
  rw [e0, e1] at h6
  exact ⟨h6, hargs⟩

theorem product7 : Cert.algebraic_Kernel7Ideal_Reference7Ideal := by
  intro m ρ m' ρ' _ hagree
  refine ⟨_, Cert.Kernel7Ideal.Whole.values m ρ,
    (θ_run Cert.Reference7Ideal.defs _ _).mono (fun r h c => ?_) (Cert.Reference7Ideal.Whole.values m' ρ')⟩
  obtain ⟨e0, e1, e2⟩ := hagree c
  obtain ⟨hv, hargs⟩ := h c
  dsimp only [Cert.Reference7Ideal.Whole.aX, Cert.Reference7Ideal.Whole.aW, Cert.Reference7Ideal.Whole.aB] at hv
  rw [e0, e1, e2] at hv
  exact ⟨hv, hargs⟩

theorem product8 : Cert.algebraic_Kernel8Ideal_Reference8Ideal := by
  intro m ρ m' ρ' _ hagree
  refine ⟨_, Cert.Kernel8Ideal.Whole.values m ρ,
    (θ_run Cert.Reference8Ideal.defs _ _).mono (fun r h c => ?_) (Cert.Reference8Ideal.Whole.values m' ρ')⟩
  obtain ⟨e0, e1⟩ := hagree c
  obtain ⟨hv, hargs⟩ := h c
  dsimp only [Cert.Reference8Ideal.Whole.aX, Cert.Reference8Ideal.Whole.aW] at hv
  rw [e0, e1] at hv
  exact ⟨hv, hargs⟩

theorem product9 : Cert.algebraic_Kernel9Ideal_Reference9Ideal := by
  intro m ρ m' ρ' _ hagree
  refine ⟨_, Cert.Kernel9Ideal.Whole.values m ρ,
    (θ_run Cert.Reference9Ideal.defs _ _).mono (fun r h c => ?_) (Cert.Reference9Ideal.Whole.values m' ρ')⟩
  obtain ⟨e0, e1⟩ := hagree c
  obtain ⟨hv, hargs⟩ := h c
  dsimp only [Cert.Reference9Ideal.Whole.aX, Cert.Reference9Ideal.Whole.aW] at hv
  rw [e0, e1] at hv
  exact ⟨hv, hargs⟩

theorem product10 : Cert.algebraic_Kernel10Ideal_Reference10Ideal := by
  intro m ρ m' ρ' _ hagree
  refine ⟨_, Cert.Kernel10Ideal.Whole.values m ρ,
    (θ_run Cert.Reference10Ideal.defs _ _).mono (fun r h c => ?_) (Cert.Reference10Ideal.Whole.values m' ρ')⟩
  obtain ⟨e0, e1⟩ := hagree c
  obtain ⟨hv, hargs⟩ := h c
  dsimp only [Cert.Reference10Ideal.Whole.aX, Cert.Reference10Ideal.Whole.aW] at hv
  rw [e0, e1] at hv
  exact ⟨hv, hargs⟩

theorem attention : Cert.algebraic_Kernel3Ideal_Reference3Ideal_pre_finite3 := by
  intro m ρ m' ρ' hpre hagree
  have nums := fun c => finite3_isNum _ _ _ _ (hpre c)
  refine ⟨_, _, _, Cert.Kernel3Ideal.Host.values m ρ (fun c => (nums c).1) (fun c => (nums c).2.1) (fun c => (nums c).2.2.1) (fun c => (nums c).2.2.2),
    (θ_run Cert.Reference3Ideal.defs _ _).mono (fun r h c => ?_) (Cert.Reference3Ideal.Arr.values m' ρ' ?_ ?_ ?_ ?_)⟩
  · obtain ⟨e0, e1, e2, e3⟩ := hagree c
    obtain ⟨hq, hk, hv, hargs⟩ := h c
    dsimp only [Cert.Reference3Ideal.Arr.q0, Cert.Reference3Ideal.Arr.k0, Cert.Reference3Ideal.Arr.v0, Cert.Reference3Ideal.Arr.o0] at hq hk hv
    rw [e0, e1, e2, e3] at hq hk hv
    exact ⟨hq, hk, hv, hargs⟩
  · intro c i; dsimp only [Cert.Reference3Ideal.Arr.q0]; rw [(hagree c).1]; exact (nums c).1 i
  · intro c i; dsimp only [Cert.Reference3Ideal.Arr.k0]; rw [(hagree c).2.1]; exact (nums c).2.1 i
  · intro c i; dsimp only [Cert.Reference3Ideal.Arr.v0]; rw [(hagree c).2.2.1]; exact (nums c).2.2.1 i
  · intro c i; dsimp only [Cert.Reference3Ideal.Arr.o0]; rw [(hagree c).2.2.2]; exact (nums c).2.2.2 i

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_finite3.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Attn.frame m ρ,
  fun m ρ _ => Cert.Kernel3Ideal.Attn.frame m ρ,
  fun m ρ _ => Cert.Kernel3Ideal.Attn.frame m ρ,
  frame_reference3,
  fun m ρ _ => frame_reference3 m ρ trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  trivial, layer, trivial, weight, named, attention, trivial, weight2048, trivial, weight3072, trivial, weight1024,
  trivial, product7, trivial, product8, trivial, product9, trivial, product10⟩

end Cert.Proof

end
